-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_MmIn (m : (ℓ : Loc Cert.MmIn.nD Cert.MmIn.τ Cert.MmIn.sig) → Buf (Elt Bits) ℓ) : Prop :=
  True

def Pre_MmInIdeal (m : (ℓ : Loc Cert.MmInIdeal.nD Cert.MmInIdeal.τ Cert.MmInIdeal.sig) → Buf (Elt Ideal) ℓ) : Prop :=
  True

def Pre_RefMmInIdeal (m : (ℓ : Loc Cert.RefMmInIdeal.nD Cert.RefMmInIdeal.τ Cert.RefMmInIdeal.sig) → Buf (Elt Ideal) ℓ) : Prop :=
  True

def Pre_MmOut (m : (ℓ : Loc Cert.MmOut.nD Cert.MmOut.τ Cert.MmOut.sig) → Buf (Elt Bits) ℓ) : Prop :=
  True

def Pre_MmOutIdeal (m : (ℓ : Loc Cert.MmOutIdeal.nD Cert.MmOutIdeal.τ Cert.MmOutIdeal.sig) → Buf (Elt Ideal) ℓ) : Prop :=
  True

def Pre_RefMmOutIdeal (m : (ℓ : Loc Cert.RefMmOutIdeal.nD Cert.RefMmOutIdeal.τ Cert.RefMmOutIdeal.sig) → Buf (Elt Ideal) ℓ) : Prop :=
  True

def Pre_MmUp (m : (ℓ : Loc Cert.MmUp.nD Cert.MmUp.τ Cert.MmUp.sig) → Buf (Elt Bits) ℓ) : Prop :=
  True

def Pre_MmUpIdeal (m : (ℓ : Loc Cert.MmUpIdeal.nD Cert.MmUpIdeal.τ Cert.MmUpIdeal.sig) → Buf (Elt Ideal) ℓ) : Prop :=
  True

def Pre_RefMmUpIdeal (m : (ℓ : Loc Cert.RefMmUpIdeal.nD Cert.RefMmUpIdeal.τ Cert.RefMmUpIdeal.sig) → Buf (Elt Ideal) ℓ) : Prop :=
  True

def Pre_MmDown (m : (ℓ : Loc Cert.MmDown.nD Cert.MmDown.τ Cert.MmDown.sig) → Buf (Elt Bits) ℓ) : Prop :=
  True

def Pre_MmDownIdeal (m : (ℓ : Loc Cert.MmDownIdeal.nD Cert.MmDownIdeal.τ Cert.MmDownIdeal.sig) → Buf (Elt Ideal) ℓ) : Prop :=
  True

def Pre_RefMmDownIdeal (m : (ℓ : Loc Cert.RefMmDownIdeal.nD Cert.RefMmDownIdeal.τ Cert.RefMmDownIdeal.sig) → Buf (Elt Ideal) ℓ) : Prop :=
  True

def Pre_DAct (m : (ℓ : Loc Cert.DAct.nD Cert.DAct.τ Cert.DAct.sig) → Buf (Elt Bits) ℓ) : Prop :=
  True

def Pre_DActIdeal (m : (ℓ : Loc Cert.DActIdeal.nD Cert.DActIdeal.τ Cert.DActIdeal.sig) → Buf (Elt Ideal) ℓ) : Prop :=
  True

def Pre_RefDActIdeal (m : (ℓ : Loc Cert.RefDActIdeal.nD Cert.RefDActIdeal.τ Cert.RefDActIdeal.sig) → Buf (Elt Ideal) ℓ) : Prop :=
  True

def Pre_GwDown (m : (ℓ : Loc Cert.GwDown.nD Cert.GwDown.τ Cert.GwDown.sig) → Buf (Elt Bits) ℓ) : Prop :=
  True

def Pre_GwDownIdeal (m : (ℓ : Loc Cert.GwDownIdeal.nD Cert.GwDownIdeal.τ Cert.GwDownIdeal.sig) → Buf (Elt Ideal) ℓ) : Prop :=
  True

def Pre_RefGwDownIdeal (m : (ℓ : Loc Cert.RefGwDownIdeal.nD Cert.RefGwDownIdeal.τ Cert.RefGwDownIdeal.sig) → Buf (Elt Ideal) ℓ) : Prop :=
  True

def Pre_DH2 (m : (ℓ : Loc Cert.DH2.nD Cert.DH2.τ Cert.DH2.sig) → Buf (Elt Bits) ℓ) : Prop :=
  True

def Pre_DH2Ideal (m : (ℓ : Loc Cert.DH2Ideal.nD Cert.DH2Ideal.τ Cert.DH2Ideal.sig) → Buf (Elt Ideal) ℓ) : Prop :=
  True

def Pre_RefDH2Ideal (m : (ℓ : Loc Cert.RefDH2Ideal.nD Cert.RefDH2Ideal.τ Cert.RefDH2Ideal.sig) → Buf (Elt Ideal) ℓ) : Prop :=
  True

def Pre_GwUp (m : (ℓ : Loc Cert.GwUp.nD Cert.GwUp.τ Cert.GwUp.sig) → Buf (Elt Bits) ℓ) : Prop :=
  True

def Pre_GwUpIdeal (m : (ℓ : Loc Cert.GwUpIdeal.nD Cert.GwUpIdeal.τ Cert.GwUpIdeal.sig) → Buf (Elt Ideal) ℓ) : Prop :=
  True

def Pre_RefGwUpIdeal (m : (ℓ : Loc Cert.RefGwUpIdeal.nD Cert.RefGwUpIdeal.τ Cert.RefGwUpIdeal.sig) → Buf (Elt Ideal) ℓ) : Prop :=
  True

def Pre_DYcat (m : (ℓ : Loc Cert.DYcat.nD Cert.DYcat.τ Cert.DYcat.sig) → Buf (Elt Bits) ℓ) : Prop :=
  True

def Pre_DYcatIdeal (m : (ℓ : Loc Cert.DYcatIdeal.nD Cert.DYcatIdeal.τ Cert.DYcatIdeal.sig) → Buf (Elt Ideal) ℓ) : Prop :=
  True

def Pre_RefDYcatIdeal (m : (ℓ : Loc Cert.RefDYcatIdeal.nD Cert.RefDYcatIdeal.τ Cert.RefDYcatIdeal.sig) → Buf (Elt Ideal) ℓ) : Prop :=
  True

def Pre_GwOut (m : (ℓ : Loc Cert.GwOut.nD Cert.GwOut.τ Cert.GwOut.sig) → Buf (Elt Bits) ℓ) : Prop :=
  True

def Pre_GwOutIdeal (m : (ℓ : Loc Cert.GwOutIdeal.nD Cert.GwOutIdeal.τ Cert.GwOutIdeal.sig) → Buf (Elt Ideal) ℓ) : Prop :=
  True

def Pre_RefGwOutIdeal (m : (ℓ : Loc Cert.RefGwOutIdeal.nD Cert.RefGwOutIdeal.τ Cert.RefGwOutIdeal.sig) → Buf (Elt Ideal) ℓ) : Prop :=
  True

def Pre_DH1 (m : (ℓ : Loc Cert.DH1.nD Cert.DH1.τ Cert.DH1.sig) → Buf (Elt Bits) ℓ) : Prop :=
  True

def Pre_DH1Ideal (m : (ℓ : Loc Cert.DH1Ideal.nD Cert.DH1Ideal.τ Cert.DH1Ideal.sig) → Buf (Elt Ideal) ℓ) : Prop :=
  True

def Pre_RefDH1Ideal (m : (ℓ : Loc Cert.RefDH1Ideal.nD Cert.RefDH1Ideal.τ Cert.RefDH1Ideal.sig) → Buf (Elt Ideal) ℓ) : Prop :=
  True

def Pre_GwIn (m : (ℓ : Loc Cert.GwIn.nD Cert.GwIn.τ Cert.GwIn.sig) → Buf (Elt Bits) ℓ) : Prop :=
  True

def Pre_GwInIdeal (m : (ℓ : Loc Cert.GwInIdeal.nD Cert.GwInIdeal.τ Cert.GwInIdeal.sig) → Buf (Elt Ideal) ℓ) : Prop :=
  True

def Pre_RefGwInIdeal (m : (ℓ : Loc Cert.RefGwInIdeal.nD Cert.RefGwInIdeal.τ Cert.RefGwInIdeal.sig) → Buf (Elt Ideal) ℓ) : Prop :=
  True

def Pre_Wada (m : (ℓ : Loc Cert.Wada.nD Cert.Wada.τ Cert.Wada.sig) → Buf (Elt Bits) ℓ) : Prop :=
  True

def Pre_WadaIdeal (m : (ℓ : Loc Cert.WadaIdeal.nD Cert.WadaIdeal.τ Cert.WadaIdeal.sig) → Buf (Elt Ideal) ℓ) : Prop :=
  True

def Pre_RefWadaIdeal (m : (ℓ : Loc Cert.RefWadaIdeal.nD Cert.RefWadaIdeal.τ Cert.RefWadaIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_RefAdamInIdeal (m : (ℓ : Loc Cert.RefAdamInIdeal.nD Cert.RefAdamInIdeal.τ Cert.RefAdamInIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_RefAdamUpIdeal (m : (ℓ : Loc Cert.RefAdamUpIdeal.nD Cert.RefAdamUpIdeal.τ Cert.RefAdamUpIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_RefAdamOutIdeal (m : (ℓ : Loc Cert.RefAdamOutIdeal.nD Cert.RefAdamOutIdeal.τ Cert.RefAdamOutIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_RefAdamDownIdeal (m : (ℓ : Loc Cert.RefAdamDownIdeal.nD Cert.RefAdamDownIdeal.τ Cert.RefAdamDownIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_MmIn [hMmIn : Cert.MmIn.Facts] : Prop :=
  ∀ (m : (ℓ : Loc Cert.MmIn.nD Cert.MmIn.τ Cert.MmIn.sig) → Buf (Elt Bits) ℓ) (g : Dev Cert.MmIn.nD → PrngReg), Pre_MmIn m →
    θ_run (Cert.MmIn.defs (F := Bits)) (onTc (τ := Cert.MmIn.τ) (Cert.MmIn.main (F := Bits))) ⟨m, fun _ => 0, g⟩ (fun r => (∀ c : Dev Cert.MmIn.nD,
      r.2.mem ((c.tc : Thread Cert.MmIn.nD Cert.MmIn.τ).loc Cert.MmIn.main_arg0) = m ((c.tc : Thread Cert.MmIn.nD Cert.MmIn.τ).loc Cert.MmIn.main_arg0)
      ∧ r.2.mem ((c.tc : Thread Cert.MmIn.nD Cert.MmIn.τ).loc Cert.MmIn.main_arg1) = m ((c.tc : Thread Cert.MmIn.nD Cert.MmIn.τ).loc Cert.MmIn.main_arg1))
      ∧ r.2.sem = fun _ => 0)

def quiescent_MmInIdeal [hMmInIdeal : Cert.MmInIdeal.Facts] : Prop :=
  ∀ (m : (ℓ : Loc Cert.MmInIdeal.nD Cert.MmInIdeal.τ Cert.MmInIdeal.sig) → Buf (Elt Ideal) ℓ) (g : Dev Cert.MmInIdeal.nD → PrngReg), Pre_MmInIdeal m →
    θ_run (Cert.MmInIdeal.defs (F := Ideal)) (onTc (τ := Cert.MmInIdeal.τ) (Cert.MmInIdeal.main (F := Ideal))) ⟨m, fun _ => 0, g⟩ (fun r => (∀ c : Dev Cert.MmInIdeal.nD,
      r.2.mem ((c.tc : Thread Cert.MmInIdeal.nD Cert.MmInIdeal.τ).loc Cert.MmInIdeal.main_arg0) = m ((c.tc : Thread Cert.MmInIdeal.nD Cert.MmInIdeal.τ).loc Cert.MmInIdeal.main_arg0)
      ∧ r.2.mem ((c.tc : Thread Cert.MmInIdeal.nD Cert.MmInIdeal.τ).loc Cert.MmInIdeal.main_arg1) = m ((c.tc : Thread Cert.MmInIdeal.nD Cert.MmInIdeal.τ).loc Cert.MmInIdeal.main_arg1))
      ∧ r.2.sem = fun _ => 0)

def quiescent_RefMmInIdeal [hRefMmInIdeal : Cert.RefMmInIdeal.Facts] : Prop :=
  ∀ (m : (ℓ : Loc Cert.RefMmInIdeal.nD Cert.RefMmInIdeal.τ Cert.RefMmInIdeal.sig) → Buf (Elt Ideal) ℓ) (g : Dev Cert.RefMmInIdeal.nD → PrngReg), Pre_RefMmInIdeal m →
    θ_run (Cert.RefMmInIdeal.defs (F := Ideal)) (onTc (τ := Cert.RefMmInIdeal.τ) (Cert.RefMmInIdeal.main (F := Ideal))) ⟨m, fun _ => 0, g⟩ (fun r => (∀ c : Dev Cert.RefMmInIdeal.nD,
      r.2.mem ((c.tc : Thread Cert.RefMmInIdeal.nD Cert.RefMmInIdeal.τ).loc Cert.RefMmInIdeal.main_arg0) = m ((c.tc : Thread Cert.RefMmInIdeal.nD Cert.RefMmInIdeal.τ).loc Cert.RefMmInIdeal.main_arg0)
      ∧ r.2.mem ((c.tc : Thread Cert.RefMmInIdeal.nD Cert.RefMmInIdeal.τ).loc Cert.RefMmInIdeal.main_arg1) = m ((c.tc : Thread Cert.RefMmInIdeal.nD Cert.RefMmInIdeal.τ).loc Cert.RefMmInIdeal.main_arg1))
      ∧ r.2.sem = fun _ => 0)

def quiescent_MmOut [hMmOut : Cert.MmOut.Facts] : Prop :=
  ∀ (m : (ℓ : Loc Cert.MmOut.nD Cert.MmOut.τ Cert.MmOut.sig) → Buf (Elt Bits) ℓ) (g : Dev Cert.MmOut.nD → PrngReg), Pre_MmOut m →
    θ_run (Cert.MmOut.defs (F := Bits)) (onTc (τ := Cert.MmOut.τ) (Cert.MmOut.main (F := Bits))) ⟨m, fun _ => 0, g⟩ (fun r => (∀ c : Dev Cert.MmOut.nD,
      r.2.mem ((c.tc : Thread Cert.MmOut.nD Cert.MmOut.τ).loc Cert.MmOut.main_arg0) = m ((c.tc : Thread Cert.MmOut.nD Cert.MmOut.τ).loc Cert.MmOut.main_arg0)
      ∧ r.2.mem ((c.tc : Thread Cert.MmOut.nD Cert.MmOut.τ).loc Cert.MmOut.main_arg1) = m ((c.tc : Thread Cert.MmOut.nD Cert.MmOut.τ).loc Cert.MmOut.main_arg1))
      ∧ r.2.sem = fun _ => 0)

def quiescent_MmOutIdeal [hMmOutIdeal : Cert.MmOutIdeal.Facts] : Prop :=
  ∀ (m : (ℓ : Loc Cert.MmOutIdeal.nD Cert.MmOutIdeal.τ Cert.MmOutIdeal.sig) → Buf (Elt Ideal) ℓ) (g : Dev Cert.MmOutIdeal.nD → PrngReg), Pre_MmOutIdeal m →
    θ_run (Cert.MmOutIdeal.defs (F := Ideal)) (onTc (τ := Cert.MmOutIdeal.τ) (Cert.MmOutIdeal.main (F := Ideal))) ⟨m, fun _ => 0, g⟩ (fun r => (∀ c : Dev Cert.MmOutIdeal.nD,
      r.2.mem ((c.tc : Thread Cert.MmOutIdeal.nD Cert.MmOutIdeal.τ).loc Cert.MmOutIdeal.main_arg0) = m ((c.tc : Thread Cert.MmOutIdeal.nD Cert.MmOutIdeal.τ).loc Cert.MmOutIdeal.main_arg0)
      ∧ r.2.mem ((c.tc : Thread Cert.MmOutIdeal.nD Cert.MmOutIdeal.τ).loc Cert.MmOutIdeal.main_arg1) = m ((c.tc : Thread Cert.MmOutIdeal.nD Cert.MmOutIdeal.τ).loc Cert.MmOutIdeal.main_arg1))
      ∧ r.2.sem = fun _ => 0)

def quiescent_RefMmOutIdeal [hRefMmOutIdeal : Cert.RefMmOutIdeal.Facts] : Prop :=
  ∀ (m : (ℓ : Loc Cert.RefMmOutIdeal.nD Cert.RefMmOutIdeal.τ Cert.RefMmOutIdeal.sig) → Buf (Elt Ideal) ℓ) (g : Dev Cert.RefMmOutIdeal.nD → PrngReg), Pre_RefMmOutIdeal m →
    θ_run (Cert.RefMmOutIdeal.defs (F := Ideal)) (onTc (τ := Cert.RefMmOutIdeal.τ) (Cert.RefMmOutIdeal.main (F := Ideal))) ⟨m, fun _ => 0, g⟩ (fun r => (∀ c : Dev Cert.RefMmOutIdeal.nD,
      r.2.mem ((c.tc : Thread Cert.RefMmOutIdeal.nD Cert.RefMmOutIdeal.τ).loc Cert.RefMmOutIdeal.main_arg0) = m ((c.tc : Thread Cert.RefMmOutIdeal.nD Cert.RefMmOutIdeal.τ).loc Cert.RefMmOutIdeal.main_arg0)
      ∧ r.2.mem ((c.tc : Thread Cert.RefMmOutIdeal.nD Cert.RefMmOutIdeal.τ).loc Cert.RefMmOutIdeal.main_arg1) = m ((c.tc : Thread Cert.RefMmOutIdeal.nD Cert.RefMmOutIdeal.τ).loc Cert.RefMmOutIdeal.main_arg1))
      ∧ r.2.sem = fun _ => 0)

def quiescent_MmUp [hMmUp : Cert.MmUp.Facts] : Prop :=
  ∀ (m : (ℓ : Loc Cert.MmUp.nD Cert.MmUp.τ Cert.MmUp.sig) → Buf (Elt Bits) ℓ) (g : Dev Cert.MmUp.nD → PrngReg), Pre_MmUp m →
    θ_run (Cert.MmUp.defs (F := Bits)) (onTc (τ := Cert.MmUp.τ) (Cert.MmUp.main (F := Bits))) ⟨m, fun _ => 0, g⟩ (fun r => (∀ c : Dev Cert.MmUp.nD,
      r.2.mem ((c.tc : Thread Cert.MmUp.nD Cert.MmUp.τ).loc Cert.MmUp.main_arg0) = m ((c.tc : Thread Cert.MmUp.nD Cert.MmUp.τ).loc Cert.MmUp.main_arg0)
      ∧ r.2.mem ((c.tc : Thread Cert.MmUp.nD Cert.MmUp.τ).loc Cert.MmUp.main_arg1) = m ((c.tc : Thread Cert.MmUp.nD Cert.MmUp.τ).loc Cert.MmUp.main_arg1))
      ∧ r.2.sem = fun _ => 0)

def quiescent_MmUpIdeal [hMmUpIdeal : Cert.MmUpIdeal.Facts] : Prop :=
  ∀ (m : (ℓ : Loc Cert.MmUpIdeal.nD Cert.MmUpIdeal.τ Cert.MmUpIdeal.sig) → Buf (Elt Ideal) ℓ) (g : Dev Cert.MmUpIdeal.nD → PrngReg), Pre_MmUpIdeal m →
    θ_run (Cert.MmUpIdeal.defs (F := Ideal)) (onTc (τ := Cert.MmUpIdeal.τ) (Cert.MmUpIdeal.main (F := Ideal))) ⟨m, fun _ => 0, g⟩ (fun r => (∀ c : Dev Cert.MmUpIdeal.nD,
      r.2.mem ((c.tc : Thread Cert.MmUpIdeal.nD Cert.MmUpIdeal.τ).loc Cert.MmUpIdeal.main_arg0) = m ((c.tc : Thread Cert.MmUpIdeal.nD Cert.MmUpIdeal.τ).loc Cert.MmUpIdeal.main_arg0)
      ∧ r.2.mem ((c.tc : Thread Cert.MmUpIdeal.nD Cert.MmUpIdeal.τ).loc Cert.MmUpIdeal.main_arg1) = m ((c.tc : Thread Cert.MmUpIdeal.nD Cert.MmUpIdeal.τ).loc Cert.MmUpIdeal.main_arg1))
      ∧ r.2.sem = fun _ => 0)

def quiescent_RefMmUpIdeal [hRefMmUpIdeal : Cert.RefMmUpIdeal.Facts] : Prop :=
  ∀ (m : (ℓ : Loc Cert.RefMmUpIdeal.nD Cert.RefMmUpIdeal.τ Cert.RefMmUpIdeal.sig) → Buf (Elt Ideal) ℓ) (g : Dev Cert.RefMmUpIdeal.nD → PrngReg), Pre_RefMmUpIdeal m →
    θ_run (Cert.RefMmUpIdeal.defs (F := Ideal)) (onTc (τ := Cert.RefMmUpIdeal.τ) (Cert.RefMmUpIdeal.main (F := Ideal))) ⟨m, fun _ => 0, g⟩ (fun r => (∀ c : Dev Cert.RefMmUpIdeal.nD,
      r.2.mem ((c.tc : Thread Cert.RefMmUpIdeal.nD Cert.RefMmUpIdeal.τ).loc Cert.RefMmUpIdeal.main_arg0) = m ((c.tc : Thread Cert.RefMmUpIdeal.nD Cert.RefMmUpIdeal.τ).loc Cert.RefMmUpIdeal.main_arg0)
      ∧ r.2.mem ((c.tc : Thread Cert.RefMmUpIdeal.nD Cert.RefMmUpIdeal.τ).loc Cert.RefMmUpIdeal.main_arg1) = m ((c.tc : Thread Cert.RefMmUpIdeal.nD Cert.RefMmUpIdeal.τ).loc Cert.RefMmUpIdeal.main_arg1))
      ∧ r.2.sem = fun _ => 0)

def quiescent_MmDown [hMmDown : Cert.MmDown.Facts] : Prop :=
  ∀ (m : (ℓ : Loc Cert.MmDown.nD Cert.MmDown.τ Cert.MmDown.sig) → Buf (Elt Bits) ℓ) (g : Dev Cert.MmDown.nD → PrngReg), Pre_MmDown m →
    θ_run (Cert.MmDown.defs (F := Bits)) (onTc (τ := Cert.MmDown.τ) (Cert.MmDown.main (F := Bits))) ⟨m, fun _ => 0, g⟩ (fun r => (∀ c : Dev Cert.MmDown.nD,
      r.2.mem ((c.tc : Thread Cert.MmDown.nD Cert.MmDown.τ).loc Cert.MmDown.main_arg0) = m ((c.tc : Thread Cert.MmDown.nD Cert.MmDown.τ).loc Cert.MmDown.main_arg0)
      ∧ r.2.mem ((c.tc : Thread Cert.MmDown.nD Cert.MmDown.τ).loc Cert.MmDown.main_arg1) = m ((c.tc : Thread Cert.MmDown.nD Cert.MmDown.τ).loc Cert.MmDown.main_arg1))
      ∧ r.2.sem = fun _ => 0)

def quiescent_MmDownIdeal [hMmDownIdeal : Cert.MmDownIdeal.Facts] : Prop :=
  ∀ (m : (ℓ : Loc Cert.MmDownIdeal.nD Cert.MmDownIdeal.τ Cert.MmDownIdeal.sig) → Buf (Elt Ideal) ℓ) (g : Dev Cert.MmDownIdeal.nD → PrngReg), Pre_MmDownIdeal m →
    θ_run (Cert.MmDownIdeal.defs (F := Ideal)) (onTc (τ := Cert.MmDownIdeal.τ) (Cert.MmDownIdeal.main (F := Ideal))) ⟨m, fun _ => 0, g⟩ (fun r => (∀ c : Dev Cert.MmDownIdeal.nD,
      r.2.mem ((c.tc : Thread Cert.MmDownIdeal.nD Cert.MmDownIdeal.τ).loc Cert.MmDownIdeal.main_arg0) = m ((c.tc : Thread Cert.MmDownIdeal.nD Cert.MmDownIdeal.τ).loc Cert.MmDownIdeal.main_arg0)
      ∧ r.2.mem ((c.tc : Thread Cert.MmDownIdeal.nD Cert.MmDownIdeal.τ).loc Cert.MmDownIdeal.main_arg1) = m ((c.tc : Thread Cert.MmDownIdeal.nD Cert.MmDownIdeal.τ).loc Cert.MmDownIdeal.main_arg1))
      ∧ r.2.sem = fun _ => 0)

def quiescent_RefMmDownIdeal [hRefMmDownIdeal : Cert.RefMmDownIdeal.Facts] : Prop :=
  ∀ (m : (ℓ : Loc Cert.RefMmDownIdeal.nD Cert.RefMmDownIdeal.τ Cert.RefMmDownIdeal.sig) → Buf (Elt Ideal) ℓ) (g : Dev Cert.RefMmDownIdeal.nD → PrngReg), Pre_RefMmDownIdeal m →
    θ_run (Cert.RefMmDownIdeal.defs (F := Ideal)) (onTc (τ := Cert.RefMmDownIdeal.τ) (Cert.RefMmDownIdeal.main (F := Ideal))) ⟨m, fun _ => 0, g⟩ (fun r => (∀ c : Dev Cert.RefMmDownIdeal.nD,
      r.2.mem ((c.tc : Thread Cert.RefMmDownIdeal.nD Cert.RefMmDownIdeal.τ).loc Cert.RefMmDownIdeal.main_arg0) = m ((c.tc : Thread Cert.RefMmDownIdeal.nD Cert.RefMmDownIdeal.τ).loc Cert.RefMmDownIdeal.main_arg0)
      ∧ r.2.mem ((c.tc : Thread Cert.RefMmDownIdeal.nD Cert.RefMmDownIdeal.τ).loc Cert.RefMmDownIdeal.main_arg1) = m ((c.tc : Thread Cert.RefMmDownIdeal.nD Cert.RefMmDownIdeal.τ).loc Cert.RefMmDownIdeal.main_arg1))
      ∧ r.2.sem = fun _ => 0)

def quiescent_DAct [hDAct : Cert.DAct.Facts] : Prop :=
  ∀ (m : (ℓ : Loc Cert.DAct.nD Cert.DAct.τ Cert.DAct.sig) → Buf (Elt Bits) ℓ) (g : Dev Cert.DAct.nD → PrngReg), Pre_DAct m →
    θ_run (Cert.DAct.defs (F := Bits)) (onTc (τ := Cert.DAct.τ) (Cert.DAct.main (F := Bits))) ⟨m, fun _ => 0, g⟩ (fun r => (∀ c : Dev Cert.DAct.nD,
      r.2.mem ((c.tc : Thread Cert.DAct.nD Cert.DAct.τ).loc Cert.DAct.main_arg0) = m ((c.tc : Thread Cert.DAct.nD Cert.DAct.τ).loc Cert.DAct.main_arg0)
      ∧ r.2.mem ((c.tc : Thread Cert.DAct.nD Cert.DAct.τ).loc Cert.DAct.main_arg1) = m ((c.tc : Thread Cert.DAct.nD Cert.DAct.τ).loc Cert.DAct.main_arg1))
      ∧ r.2.sem = fun _ => 0)

def quiescent_DActIdeal [hDActIdeal : Cert.DActIdeal.Facts] : Prop :=
  ∀ (m : (ℓ : Loc Cert.DActIdeal.nD Cert.DActIdeal.τ Cert.DActIdeal.sig) → Buf (Elt Ideal) ℓ) (g : Dev Cert.DActIdeal.nD → PrngReg), Pre_DActIdeal m →
    θ_run (Cert.DActIdeal.defs (F := Ideal)) (onTc (τ := Cert.DActIdeal.τ) (Cert.DActIdeal.main (F := Ideal))) ⟨m, fun _ => 0, g⟩ (fun r => (∀ c : Dev Cert.DActIdeal.nD,
      r.2.mem ((c.tc : Thread Cert.DActIdeal.nD Cert.DActIdeal.τ).loc Cert.DActIdeal.main_arg0) = m ((c.tc : Thread Cert.DActIdeal.nD Cert.DActIdeal.τ).loc Cert.DActIdeal.main_arg0)
      ∧ r.2.mem ((c.tc : Thread Cert.DActIdeal.nD Cert.DActIdeal.τ).loc Cert.DActIdeal.main_arg1) = m ((c.tc : Thread Cert.DActIdeal.nD Cert.DActIdeal.τ).loc Cert.DActIdeal.main_arg1))
      ∧ r.2.sem = fun _ => 0)

def quiescent_RefDActIdeal [hRefDActIdeal : Cert.RefDActIdeal.Facts] : Prop :=
  ∀ (m : (ℓ : Loc Cert.RefDActIdeal.nD Cert.RefDActIdeal.τ Cert.RefDActIdeal.sig) → Buf (Elt Ideal) ℓ) (g : Dev Cert.RefDActIdeal.nD → PrngReg), Pre_RefDActIdeal m →
    θ_run (Cert.RefDActIdeal.defs (F := Ideal)) (onTc (τ := Cert.RefDActIdeal.τ) (Cert.RefDActIdeal.main (F := Ideal))) ⟨m, fun _ => 0, g⟩ (fun r => (∀ c : Dev Cert.RefDActIdeal.nD,
      r.2.mem ((c.tc : Thread Cert.RefDActIdeal.nD Cert.RefDActIdeal.τ).loc Cert.RefDActIdeal.main_arg0) = m ((c.tc : Thread Cert.RefDActIdeal.nD Cert.RefDActIdeal.τ).loc Cert.RefDActIdeal.main_arg0)
      ∧ r.2.mem ((c.tc : Thread Cert.RefDActIdeal.nD Cert.RefDActIdeal.τ).loc Cert.RefDActIdeal.main_arg1) = m ((c.tc : Thread Cert.RefDActIdeal.nD Cert.RefDActIdeal.τ).loc Cert.RefDActIdeal.main_arg1))
      ∧ r.2.sem = fun _ => 0)

def quiescent_GwDown [hGwDown : Cert.GwDown.Facts] : Prop :=
  ∀ (m : (ℓ : Loc Cert.GwDown.nD Cert.GwDown.τ Cert.GwDown.sig) → Buf (Elt Bits) ℓ) (g : Dev Cert.GwDown.nD → PrngReg), Pre_GwDown m →
    θ_run (Cert.GwDown.defs (F := Bits)) (onTc (τ := Cert.GwDown.τ) (Cert.GwDown.main (F := Bits))) ⟨m, fun _ => 0, g⟩ (fun r => (∀ c : Dev Cert.GwDown.nD,
      r.2.mem ((c.tc : Thread Cert.GwDown.nD Cert.GwDown.τ).loc Cert.GwDown.main_arg0) = m ((c.tc : Thread Cert.GwDown.nD Cert.GwDown.τ).loc Cert.GwDown.main_arg0)
      ∧ r.2.mem ((c.tc : Thread Cert.GwDown.nD Cert.GwDown.τ).loc Cert.GwDown.main_arg1) = m ((c.tc : Thread Cert.GwDown.nD Cert.GwDown.τ).loc Cert.GwDown.main_arg1))
      ∧ r.2.sem = fun _ => 0)

def quiescent_GwDownIdeal [hGwDownIdeal : Cert.GwDownIdeal.Facts] : Prop :=
  ∀ (m : (ℓ : Loc Cert.GwDownIdeal.nD Cert.GwDownIdeal.τ Cert.GwDownIdeal.sig) → Buf (Elt Ideal) ℓ) (g : Dev Cert.GwDownIdeal.nD → PrngReg), Pre_GwDownIdeal m →
    θ_run (Cert.GwDownIdeal.defs (F := Ideal)) (onTc (τ := Cert.GwDownIdeal.τ) (Cert.GwDownIdeal.main (F := Ideal))) ⟨m, fun _ => 0, g⟩ (fun r => (∀ c : Dev Cert.GwDownIdeal.nD,
      r.2.mem ((c.tc : Thread Cert.GwDownIdeal.nD Cert.GwDownIdeal.τ).loc Cert.GwDownIdeal.main_arg0) = m ((c.tc : Thread Cert.GwDownIdeal.nD Cert.GwDownIdeal.τ).loc Cert.GwDownIdeal.main_arg0)
      ∧ r.2.mem ((c.tc : Thread Cert.GwDownIdeal.nD Cert.GwDownIdeal.τ).loc Cert.GwDownIdeal.main_arg1) = m ((c.tc : Thread Cert.GwDownIdeal.nD Cert.GwDownIdeal.τ).loc Cert.GwDownIdeal.main_arg1))
      ∧ r.2.sem = fun _ => 0)

def quiescent_RefGwDownIdeal [hRefGwDownIdeal : Cert.RefGwDownIdeal.Facts] : Prop :=
  ∀ (m : (ℓ : Loc Cert.RefGwDownIdeal.nD Cert.RefGwDownIdeal.τ Cert.RefGwDownIdeal.sig) → Buf (Elt Ideal) ℓ) (g : Dev Cert.RefGwDownIdeal.nD → PrngReg), Pre_RefGwDownIdeal m →
    θ_run (Cert.RefGwDownIdeal.defs (F := Ideal)) (onTc (τ := Cert.RefGwDownIdeal.τ) (Cert.RefGwDownIdeal.main (F := Ideal))) ⟨m, fun _ => 0, g⟩ (fun r => (∀ c : Dev Cert.RefGwDownIdeal.nD,
      r.2.mem ((c.tc : Thread Cert.RefGwDownIdeal.nD Cert.RefGwDownIdeal.τ).loc Cert.RefGwDownIdeal.main_arg0) = m ((c.tc : Thread Cert.RefGwDownIdeal.nD Cert.RefGwDownIdeal.τ).loc Cert.RefGwDownIdeal.main_arg0)
      ∧ r.2.mem ((c.tc : Thread Cert.RefGwDownIdeal.nD Cert.RefGwDownIdeal.τ).loc Cert.RefGwDownIdeal.main_arg1) = m ((c.tc : Thread Cert.RefGwDownIdeal.nD Cert.RefGwDownIdeal.τ).loc Cert.RefGwDownIdeal.main_arg1))
      ∧ r.2.sem = fun _ => 0)

def quiescent_DH2 [hDH2 : Cert.DH2.Facts] : Prop :=
  ∀ (m : (ℓ : Loc Cert.DH2.nD Cert.DH2.τ Cert.DH2.sig) → Buf (Elt Bits) ℓ) (g : Dev Cert.DH2.nD → PrngReg), Pre_DH2 m →
    θ_run (Cert.DH2.defs (F := Bits)) (onTc (τ := Cert.DH2.τ) (Cert.DH2.main (F := Bits))) ⟨m, fun _ => 0, g⟩ (fun r => (∀ c : Dev Cert.DH2.nD,
      r.2.mem ((c.tc : Thread Cert.DH2.nD Cert.DH2.τ).loc Cert.DH2.main_arg0) = m ((c.tc : Thread Cert.DH2.nD Cert.DH2.τ).loc Cert.DH2.main_arg0)
      ∧ r.2.mem ((c.tc : Thread Cert.DH2.nD Cert.DH2.τ).loc Cert.DH2.main_arg1) = m ((c.tc : Thread Cert.DH2.nD Cert.DH2.τ).loc Cert.DH2.main_arg1)
      ∧ r.2.mem ((c.tc : Thread Cert.DH2.nD Cert.DH2.τ).loc Cert.DH2.main_arg2) = m ((c.tc : Thread Cert.DH2.nD Cert.DH2.τ).loc Cert.DH2.main_arg2))
      ∧ r.2.sem = fun _ => 0)

def quiescent_DH2Ideal [hDH2Ideal : Cert.DH2Ideal.Facts] : Prop :=
  ∀ (m : (ℓ : Loc Cert.DH2Ideal.nD Cert.DH2Ideal.τ Cert.DH2Ideal.sig) → Buf (Elt Ideal) ℓ) (g : Dev Cert.DH2Ideal.nD → PrngReg), Pre_DH2Ideal m →
    θ_run (Cert.DH2Ideal.defs (F := Ideal)) (onTc (τ := Cert.DH2Ideal.τ) (Cert.DH2Ideal.main (F := Ideal))) ⟨m, fun _ => 0, g⟩ (fun r => (∀ c : Dev Cert.DH2Ideal.nD,
      r.2.mem ((c.tc : Thread Cert.DH2Ideal.nD Cert.DH2Ideal.τ).loc Cert.DH2Ideal.main_arg0) = m ((c.tc : Thread Cert.DH2Ideal.nD Cert.DH2Ideal.τ).loc Cert.DH2Ideal.main_arg0)
      ∧ r.2.mem ((c.tc : Thread Cert.DH2Ideal.nD Cert.DH2Ideal.τ).loc Cert.DH2Ideal.main_arg1) = m ((c.tc : Thread Cert.DH2Ideal.nD Cert.DH2Ideal.τ).loc Cert.DH2Ideal.main_arg1)
      ∧ r.2.mem ((c.tc : Thread Cert.DH2Ideal.nD Cert.DH2Ideal.τ).loc Cert.DH2Ideal.main_arg2) = m ((c.tc : Thread Cert.DH2Ideal.nD Cert.DH2Ideal.τ).loc Cert.DH2Ideal.main_arg2))
      ∧ r.2.sem = fun _ => 0)

def quiescent_RefDH2Ideal [hRefDH2Ideal : Cert.RefDH2Ideal.Facts] : Prop :=
  ∀ (m : (ℓ : Loc Cert.RefDH2Ideal.nD Cert.RefDH2Ideal.τ Cert.RefDH2Ideal.sig) → Buf (Elt Ideal) ℓ) (g : Dev Cert.RefDH2Ideal.nD → PrngReg), Pre_RefDH2Ideal m →
    θ_run (Cert.RefDH2Ideal.defs (F := Ideal)) (onTc (τ := Cert.RefDH2Ideal.τ) (Cert.RefDH2Ideal.main (F := Ideal))) ⟨m, fun _ => 0, g⟩ (fun r => (∀ c : Dev Cert.RefDH2Ideal.nD,
      r.2.mem ((c.tc : Thread Cert.RefDH2Ideal.nD Cert.RefDH2Ideal.τ).loc Cert.RefDH2Ideal.main_arg0) = m ((c.tc : Thread Cert.RefDH2Ideal.nD Cert.RefDH2Ideal.τ).loc Cert.RefDH2Ideal.main_arg0)
      ∧ r.2.mem ((c.tc : Thread Cert.RefDH2Ideal.nD Cert.RefDH2Ideal.τ).loc Cert.RefDH2Ideal.main_arg1) = m ((c.tc : Thread Cert.RefDH2Ideal.nD Cert.RefDH2Ideal.τ).loc Cert.RefDH2Ideal.main_arg1)
      ∧ r.2.mem ((c.tc : Thread Cert.RefDH2Ideal.nD Cert.RefDH2Ideal.τ).loc Cert.RefDH2Ideal.main_arg2) = m ((c.tc : Thread Cert.RefDH2Ideal.nD Cert.RefDH2Ideal.τ).loc Cert.RefDH2Ideal.main_arg2))
      ∧ r.2.sem = fun _ => 0)

def quiescent_GwUp [hGwUp : Cert.GwUp.Facts] : Prop :=
  ∀ (m : (ℓ : Loc Cert.GwUp.nD Cert.GwUp.τ Cert.GwUp.sig) → Buf (Elt Bits) ℓ) (g : Dev Cert.GwUp.nD → PrngReg), Pre_GwUp m →
    θ_run (Cert.GwUp.defs (F := Bits)) (onTc (τ := Cert.GwUp.τ) (Cert.GwUp.main (F := Bits))) ⟨m, fun _ => 0, g⟩ (fun r => (∀ c : Dev Cert.GwUp.nD,
      r.2.mem ((c.tc : Thread Cert.GwUp.nD Cert.GwUp.τ).loc Cert.GwUp.main_arg0) = m ((c.tc : Thread Cert.GwUp.nD Cert.GwUp.τ).loc Cert.GwUp.main_arg0)
      ∧ r.2.mem ((c.tc : Thread Cert.GwUp.nD Cert.GwUp.τ).loc Cert.GwUp.main_arg1) = m ((c.tc : Thread Cert.GwUp.nD Cert.GwUp.τ).loc Cert.GwUp.main_arg1))
      ∧ r.2.sem = fun _ => 0)

def quiescent_GwUpIdeal [hGwUpIdeal : Cert.GwUpIdeal.Facts] : Prop :=
  ∀ (m : (ℓ : Loc Cert.GwUpIdeal.nD Cert.GwUpIdeal.τ Cert.GwUpIdeal.sig) → Buf (Elt Ideal) ℓ) (g : Dev Cert.GwUpIdeal.nD → PrngReg), Pre_GwUpIdeal m →
    θ_run (Cert.GwUpIdeal.defs (F := Ideal)) (onTc (τ := Cert.GwUpIdeal.τ) (Cert.GwUpIdeal.main (F := Ideal))) ⟨m, fun _ => 0, g⟩ (fun r => (∀ c : Dev Cert.GwUpIdeal.nD,
      r.2.mem ((c.tc : Thread Cert.GwUpIdeal.nD Cert.GwUpIdeal.τ).loc Cert.GwUpIdeal.main_arg0) = m ((c.tc : Thread Cert.GwUpIdeal.nD Cert.GwUpIdeal.τ).loc Cert.GwUpIdeal.main_arg0)
      ∧ r.2.mem ((c.tc : Thread Cert.GwUpIdeal.nD Cert.GwUpIdeal.τ).loc Cert.GwUpIdeal.main_arg1) = m ((c.tc : Thread Cert.GwUpIdeal.nD Cert.GwUpIdeal.τ).loc Cert.GwUpIdeal.main_arg1))
      ∧ r.2.sem = fun _ => 0)

def quiescent_RefGwUpIdeal [hRefGwUpIdeal : Cert.RefGwUpIdeal.Facts] : Prop :=
  ∀ (m : (ℓ : Loc Cert.RefGwUpIdeal.nD Cert.RefGwUpIdeal.τ Cert.RefGwUpIdeal.sig) → Buf (Elt Ideal) ℓ) (g : Dev Cert.RefGwUpIdeal.nD → PrngReg), Pre_RefGwUpIdeal m →
    θ_run (Cert.RefGwUpIdeal.defs (F := Ideal)) (onTc (τ := Cert.RefGwUpIdeal.τ) (Cert.RefGwUpIdeal.main (F := Ideal))) ⟨m, fun _ => 0, g⟩ (fun r => (∀ c : Dev Cert.RefGwUpIdeal.nD,
      r.2.mem ((c.tc : Thread Cert.RefGwUpIdeal.nD Cert.RefGwUpIdeal.τ).loc Cert.RefGwUpIdeal.main_arg0) = m ((c.tc : Thread Cert.RefGwUpIdeal.nD Cert.RefGwUpIdeal.τ).loc Cert.RefGwUpIdeal.main_arg0)
      ∧ r.2.mem ((c.tc : Thread Cert.RefGwUpIdeal.nD Cert.RefGwUpIdeal.τ).loc Cert.RefGwUpIdeal.main_arg1) = m ((c.tc : Thread Cert.RefGwUpIdeal.nD Cert.RefGwUpIdeal.τ).loc Cert.RefGwUpIdeal.main_arg1))
      ∧ r.2.sem = fun _ => 0)

def quiescent_DYcat [hDYcat : Cert.DYcat.Facts] : Prop :=
  ∀ (m : (ℓ : Loc Cert.DYcat.nD Cert.DYcat.τ Cert.DYcat.sig) → Buf (Elt Bits) ℓ) (g : Dev Cert.DYcat.nD → PrngReg), Pre_DYcat m →
    θ_run (Cert.DYcat.defs (F := Bits)) (onTc (τ := Cert.DYcat.τ) (Cert.DYcat.main (F := Bits))) ⟨m, fun _ => 0, g⟩ (fun r => (∀ c : Dev Cert.DYcat.nD,
      r.2.mem ((c.tc : Thread Cert.DYcat.nD Cert.DYcat.τ).loc Cert.DYcat.main_arg0) = m ((c.tc : Thread Cert.DYcat.nD Cert.DYcat.τ).loc Cert.DYcat.main_arg0)
      ∧ r.2.mem ((c.tc : Thread Cert.DYcat.nD Cert.DYcat.τ).loc Cert.DYcat.main_arg1) = m ((c.tc : Thread Cert.DYcat.nD Cert.DYcat.τ).loc Cert.DYcat.main_arg1)
      ∧ r.2.mem ((c.tc : Thread Cert.DYcat.nD Cert.DYcat.τ).loc Cert.DYcat.main_arg2) = m ((c.tc : Thread Cert.DYcat.nD Cert.DYcat.τ).loc Cert.DYcat.main_arg2))
      ∧ r.2.sem = fun _ => 0)

def quiescent_DYcatIdeal [hDYcatIdeal : Cert.DYcatIdeal.Facts] : Prop :=
  ∀ (m : (ℓ : Loc Cert.DYcatIdeal.nD Cert.DYcatIdeal.τ Cert.DYcatIdeal.sig) → Buf (Elt Ideal) ℓ) (g : Dev Cert.DYcatIdeal.nD → PrngReg), Pre_DYcatIdeal m →
    θ_run (Cert.DYcatIdeal.defs (F := Ideal)) (onTc (τ := Cert.DYcatIdeal.τ) (Cert.DYcatIdeal.main (F := Ideal))) ⟨m, fun _ => 0, g⟩ (fun r => (∀ c : Dev Cert.DYcatIdeal.nD,
      r.2.mem ((c.tc : Thread Cert.DYcatIdeal.nD Cert.DYcatIdeal.τ).loc Cert.DYcatIdeal.main_arg0) = m ((c.tc : Thread Cert.DYcatIdeal.nD Cert.DYcatIdeal.τ).loc Cert.DYcatIdeal.main_arg0)
      ∧ r.2.mem ((c.tc : Thread Cert.DYcatIdeal.nD Cert.DYcatIdeal.τ).loc Cert.DYcatIdeal.main_arg1) = m ((c.tc : Thread Cert.DYcatIdeal.nD Cert.DYcatIdeal.τ).loc Cert.DYcatIdeal.main_arg1)
      ∧ r.2.mem ((c.tc : Thread Cert.DYcatIdeal.nD Cert.DYcatIdeal.τ).loc Cert.DYcatIdeal.main_arg2) = m ((c.tc : Thread Cert.DYcatIdeal.nD Cert.DYcatIdeal.τ).loc Cert.DYcatIdeal.main_arg2))
      ∧ r.2.sem = fun _ => 0)

def quiescent_RefDYcatIdeal [hRefDYcatIdeal : Cert.RefDYcatIdeal.Facts] : Prop :=
  ∀ (m : (ℓ : Loc Cert.RefDYcatIdeal.nD Cert.RefDYcatIdeal.τ Cert.RefDYcatIdeal.sig) → Buf (Elt Ideal) ℓ) (g : Dev Cert.RefDYcatIdeal.nD → PrngReg), Pre_RefDYcatIdeal m →
    θ_run (Cert.RefDYcatIdeal.defs (F := Ideal)) (onTc (τ := Cert.RefDYcatIdeal.τ) (Cert.RefDYcatIdeal.main (F := Ideal))) ⟨m, fun _ => 0, g⟩ (fun r => (∀ c : Dev Cert.RefDYcatIdeal.nD,
      r.2.mem ((c.tc : Thread Cert.RefDYcatIdeal.nD Cert.RefDYcatIdeal.τ).loc Cert.RefDYcatIdeal.main_arg0) = m ((c.tc : Thread Cert.RefDYcatIdeal.nD Cert.RefDYcatIdeal.τ).loc Cert.RefDYcatIdeal.main_arg0)
      ∧ r.2.mem ((c.tc : Thread Cert.RefDYcatIdeal.nD Cert.RefDYcatIdeal.τ).loc Cert.RefDYcatIdeal.main_arg1) = m ((c.tc : Thread Cert.RefDYcatIdeal.nD Cert.RefDYcatIdeal.τ).loc Cert.RefDYcatIdeal.main_arg1)
      ∧ r.2.mem ((c.tc : Thread Cert.RefDYcatIdeal.nD Cert.RefDYcatIdeal.τ).loc Cert.RefDYcatIdeal.main_arg2) = m ((c.tc : Thread Cert.RefDYcatIdeal.nD Cert.RefDYcatIdeal.τ).loc Cert.RefDYcatIdeal.main_arg2))
      ∧ r.2.sem = fun _ => 0)

def quiescent_GwOut [hGwOut : Cert.GwOut.Facts] : Prop :=
  ∀ (m : (ℓ : Loc Cert.GwOut.nD Cert.GwOut.τ Cert.GwOut.sig) → Buf (Elt Bits) ℓ) (g : Dev Cert.GwOut.nD → PrngReg), Pre_GwOut m →
    θ_run (Cert.GwOut.defs (F := Bits)) (onTc (τ := Cert.GwOut.τ) (Cert.GwOut.main (F := Bits))) ⟨m, fun _ => 0, g⟩ (fun r => (∀ c : Dev Cert.GwOut.nD,
      r.2.mem ((c.tc : Thread Cert.GwOut.nD Cert.GwOut.τ).loc Cert.GwOut.main_arg0) = m ((c.tc : Thread Cert.GwOut.nD Cert.GwOut.τ).loc Cert.GwOut.main_arg0)
      ∧ r.2.mem ((c.tc : Thread Cert.GwOut.nD Cert.GwOut.τ).loc Cert.GwOut.main_arg1) = m ((c.tc : Thread Cert.GwOut.nD Cert.GwOut.τ).loc Cert.GwOut.main_arg1))
      ∧ r.2.sem = fun _ => 0)

def quiescent_GwOutIdeal [hGwOutIdeal : Cert.GwOutIdeal.Facts] : Prop :=
  ∀ (m : (ℓ : Loc Cert.GwOutIdeal.nD Cert.GwOutIdeal.τ Cert.GwOutIdeal.sig) → Buf (Elt Ideal) ℓ) (g : Dev Cert.GwOutIdeal.nD → PrngReg), Pre_GwOutIdeal m →
    θ_run (Cert.GwOutIdeal.defs (F := Ideal)) (onTc (τ := Cert.GwOutIdeal.τ) (Cert.GwOutIdeal.main (F := Ideal))) ⟨m, fun _ => 0, g⟩ (fun r => (∀ c : Dev Cert.GwOutIdeal.nD,
      r.2.mem ((c.tc : Thread Cert.GwOutIdeal.nD Cert.GwOutIdeal.τ).loc Cert.GwOutIdeal.main_arg0) = m ((c.tc : Thread Cert.GwOutIdeal.nD Cert.GwOutIdeal.τ).loc Cert.GwOutIdeal.main_arg0)
      ∧ r.2.mem ((c.tc : Thread Cert.GwOutIdeal.nD Cert.GwOutIdeal.τ).loc Cert.GwOutIdeal.main_arg1) = m ((c.tc : Thread Cert.GwOutIdeal.nD Cert.GwOutIdeal.τ).loc Cert.GwOutIdeal.main_arg1))
      ∧ r.2.sem = fun _ => 0)

def quiescent_RefGwOutIdeal [hRefGwOutIdeal : Cert.RefGwOutIdeal.Facts] : Prop :=
  ∀ (m : (ℓ : Loc Cert.RefGwOutIdeal.nD Cert.RefGwOutIdeal.τ Cert.RefGwOutIdeal.sig) → Buf (Elt Ideal) ℓ) (g : Dev Cert.RefGwOutIdeal.nD → PrngReg), Pre_RefGwOutIdeal m →
    θ_run (Cert.RefGwOutIdeal.defs (F := Ideal)) (onTc (τ := Cert.RefGwOutIdeal.τ) (Cert.RefGwOutIdeal.main (F := Ideal))) ⟨m, fun _ => 0, g⟩ (fun r => (∀ c : Dev Cert.RefGwOutIdeal.nD,
      r.2.mem ((c.tc : Thread Cert.RefGwOutIdeal.nD Cert.RefGwOutIdeal.τ).loc Cert.RefGwOutIdeal.main_arg0) = m ((c.tc : Thread Cert.RefGwOutIdeal.nD Cert.RefGwOutIdeal.τ).loc Cert.RefGwOutIdeal.main_arg0)
      ∧ r.2.mem ((c.tc : Thread Cert.RefGwOutIdeal.nD Cert.RefGwOutIdeal.τ).loc Cert.RefGwOutIdeal.main_arg1) = m ((c.tc : Thread Cert.RefGwOutIdeal.nD Cert.RefGwOutIdeal.τ).loc Cert.RefGwOutIdeal.main_arg1))
      ∧ r.2.sem = fun _ => 0)

def quiescent_DH1 [hDH1 : Cert.DH1.Facts] : Prop :=
  ∀ (m : (ℓ : Loc Cert.DH1.nD Cert.DH1.τ Cert.DH1.sig) → Buf (Elt Bits) ℓ) (g : Dev Cert.DH1.nD → PrngReg), Pre_DH1 m →
    θ_run (Cert.DH1.defs (F := Bits)) (onTc (τ := Cert.DH1.τ) (Cert.DH1.main (F := Bits))) ⟨m, fun _ => 0, g⟩ (fun r => (∀ c : Dev Cert.DH1.nD,
      r.2.mem ((c.tc : Thread Cert.DH1.nD Cert.DH1.τ).loc Cert.DH1.main_arg0) = m ((c.tc : Thread Cert.DH1.nD Cert.DH1.τ).loc Cert.DH1.main_arg0)
      ∧ r.2.mem ((c.tc : Thread Cert.DH1.nD Cert.DH1.τ).loc Cert.DH1.main_arg1) = m ((c.tc : Thread Cert.DH1.nD Cert.DH1.τ).loc Cert.DH1.main_arg1))
      ∧ r.2.sem = fun _ => 0)

def quiescent_DH1Ideal [hDH1Ideal : Cert.DH1Ideal.Facts] : Prop :=
  ∀ (m : (ℓ : Loc Cert.DH1Ideal.nD Cert.DH1Ideal.τ Cert.DH1Ideal.sig) → Buf (Elt Ideal) ℓ) (g : Dev Cert.DH1Ideal.nD → PrngReg), Pre_DH1Ideal m →
    θ_run (Cert.DH1Ideal.defs (F := Ideal)) (onTc (τ := Cert.DH1Ideal.τ) (Cert.DH1Ideal.main (F := Ideal))) ⟨m, fun _ => 0, g⟩ (fun r => (∀ c : Dev Cert.DH1Ideal.nD,
      r.2.mem ((c.tc : Thread Cert.DH1Ideal.nD Cert.DH1Ideal.τ).loc Cert.DH1Ideal.main_arg0) = m ((c.tc : Thread Cert.DH1Ideal.nD Cert.DH1Ideal.τ).loc Cert.DH1Ideal.main_arg0)
      ∧ r.2.mem ((c.tc : Thread Cert.DH1Ideal.nD Cert.DH1Ideal.τ).loc Cert.DH1Ideal.main_arg1) = m ((c.tc : Thread Cert.DH1Ideal.nD Cert.DH1Ideal.τ).loc Cert.DH1Ideal.main_arg1))
      ∧ r.2.sem = fun _ => 0)

def quiescent_RefDH1Ideal [hRefDH1Ideal : Cert.RefDH1Ideal.Facts] : Prop :=
  ∀ (m : (ℓ : Loc Cert.RefDH1Ideal.nD Cert.RefDH1Ideal.τ Cert.RefDH1Ideal.sig) → Buf (Elt Ideal) ℓ) (g : Dev Cert.RefDH1Ideal.nD → PrngReg), Pre_RefDH1Ideal m →
    θ_run (Cert.RefDH1Ideal.defs (F := Ideal)) (onTc (τ := Cert.RefDH1Ideal.τ) (Cert.RefDH1Ideal.main (F := Ideal))) ⟨m, fun _ => 0, g⟩ (fun r => (∀ c : Dev Cert.RefDH1Ideal.nD,
      r.2.mem ((c.tc : Thread Cert.RefDH1Ideal.nD Cert.RefDH1Ideal.τ).loc Cert.RefDH1Ideal.main_arg0) = m ((c.tc : Thread Cert.RefDH1Ideal.nD Cert.RefDH1Ideal.τ).loc Cert.RefDH1Ideal.main_arg0)
      ∧ r.2.mem ((c.tc : Thread Cert.RefDH1Ideal.nD Cert.RefDH1Ideal.τ).loc Cert.RefDH1Ideal.main_arg1) = m ((c.tc : Thread Cert.RefDH1Ideal.nD Cert.RefDH1Ideal.τ).loc Cert.RefDH1Ideal.main_arg1))
      ∧ r.2.sem = fun _ => 0)

def quiescent_GwIn [hGwIn : Cert.GwIn.Facts] : Prop :=
  ∀ (m : (ℓ : Loc Cert.GwIn.nD Cert.GwIn.τ Cert.GwIn.sig) → Buf (Elt Bits) ℓ) (g : Dev Cert.GwIn.nD → PrngReg), Pre_GwIn m →
    θ_run (Cert.GwIn.defs (F := Bits)) (onTc (τ := Cert.GwIn.τ) (Cert.GwIn.main (F := Bits))) ⟨m, fun _ => 0, g⟩ (fun r => (∀ c : Dev Cert.GwIn.nD,
      r.2.mem ((c.tc : Thread Cert.GwIn.nD Cert.GwIn.τ).loc Cert.GwIn.main_arg0) = m ((c.tc : Thread Cert.GwIn.nD Cert.GwIn.τ).loc Cert.GwIn.main_arg0)
      ∧ r.2.mem ((c.tc : Thread Cert.GwIn.nD Cert.GwIn.τ).loc Cert.GwIn.main_arg1) = m ((c.tc : Thread Cert.GwIn.nD Cert.GwIn.τ).loc Cert.GwIn.main_arg1))
      ∧ r.2.sem = fun _ => 0)

def quiescent_GwInIdeal [hGwInIdeal : Cert.GwInIdeal.Facts] : Prop :=
  ∀ (m : (ℓ : Loc Cert.GwInIdeal.nD Cert.GwInIdeal.τ Cert.GwInIdeal.sig) → Buf (Elt Ideal) ℓ) (g : Dev Cert.GwInIdeal.nD → PrngReg), Pre_GwInIdeal m →
    θ_run (Cert.GwInIdeal.defs (F := Ideal)) (onTc (τ := Cert.GwInIdeal.τ) (Cert.GwInIdeal.main (F := Ideal))) ⟨m, fun _ => 0, g⟩ (fun r => (∀ c : Dev Cert.GwInIdeal.nD,
      r.2.mem ((c.tc : Thread Cert.GwInIdeal.nD Cert.GwInIdeal.τ).loc Cert.GwInIdeal.main_arg0) = m ((c.tc : Thread Cert.GwInIdeal.nD Cert.GwInIdeal.τ).loc Cert.GwInIdeal.main_arg0)
      ∧ r.2.mem ((c.tc : Thread Cert.GwInIdeal.nD Cert.GwInIdeal.τ).loc Cert.GwInIdeal.main_arg1) = m ((c.tc : Thread Cert.GwInIdeal.nD Cert.GwInIdeal.τ).loc Cert.GwInIdeal.main_arg1))
      ∧ r.2.sem = fun _ => 0)

def quiescent_RefGwInIdeal [hRefGwInIdeal : Cert.RefGwInIdeal.Facts] : Prop :=
  ∀ (m : (ℓ : Loc Cert.RefGwInIdeal.nD Cert.RefGwInIdeal.τ Cert.RefGwInIdeal.sig) → Buf (Elt Ideal) ℓ) (g : Dev Cert.RefGwInIdeal.nD → PrngReg), Pre_RefGwInIdeal m →
    θ_run (Cert.RefGwInIdeal.defs (F := Ideal)) (onTc (τ := Cert.RefGwInIdeal.τ) (Cert.RefGwInIdeal.main (F := Ideal))) ⟨m, fun _ => 0, g⟩ (fun r => (∀ c : Dev Cert.RefGwInIdeal.nD,
      r.2.mem ((c.tc : Thread Cert.RefGwInIdeal.nD Cert.RefGwInIdeal.τ).loc Cert.RefGwInIdeal.main_arg0) = m ((c.tc : Thread Cert.RefGwInIdeal.nD Cert.RefGwInIdeal.τ).loc Cert.RefGwInIdeal.main_arg0)
      ∧ r.2.mem ((c.tc : Thread Cert.RefGwInIdeal.nD Cert.RefGwInIdeal.τ).loc Cert.RefGwInIdeal.main_arg1) = m ((c.tc : Thread Cert.RefGwInIdeal.nD Cert.RefGwInIdeal.τ).loc Cert.RefGwInIdeal.main_arg1))
      ∧ r.2.sem = fun _ => 0)

def quiescent_Wada [hWada : Cert.Wada.Facts] : Prop :=
  ∀ (m : (ℓ : Loc Cert.Wada.nD Cert.Wada.τ Cert.Wada.sig) → Buf (Elt Bits) ℓ) (g : Dev Cert.Wada.nD → PrngReg), Pre_Wada m →
    θ_run (Cert.Wada.defs (F := Bits)) (onTc (τ := Cert.Wada.τ) (Cert.Wada.main (F := Bits))) ⟨m, fun _ => 0, g⟩ (fun r => (∀ c : Dev Cert.Wada.nD,
      r.2.mem ((c.tc : Thread Cert.Wada.nD Cert.Wada.τ).loc Cert.Wada.main_arg0) = m ((c.tc : Thread Cert.Wada.nD Cert.Wada.τ).loc Cert.Wada.main_arg0)
      ∧ r.2.mem ((c.tc : Thread Cert.Wada.nD Cert.Wada.τ).loc Cert.Wada.main_arg1) = m ((c.tc : Thread Cert.Wada.nD Cert.Wada.τ).loc Cert.Wada.main_arg1)
      ∧ r.2.mem ((c.tc : Thread Cert.Wada.nD Cert.Wada.τ).loc Cert.Wada.main_arg2) = m ((c.tc : Thread Cert.Wada.nD Cert.Wada.τ).loc Cert.Wada.main_arg2)
      ∧ r.2.mem ((c.tc : Thread Cert.Wada.nD Cert.Wada.τ).loc Cert.Wada.main_arg3) = m ((c.tc : Thread Cert.Wada.nD Cert.Wada.τ).loc Cert.Wada.main_arg3)
      ∧ r.2.mem ((c.tc : Thread Cert.Wada.nD Cert.Wada.τ).loc Cert.Wada.main_arg4) = m ((c.tc : Thread Cert.Wada.nD Cert.Wada.τ).loc Cert.Wada.main_arg4))
      ∧ r.2.sem = fun _ => 0)

def quiescent_WadaIdeal [hWadaIdeal : Cert.WadaIdeal.Facts] : Prop :=
  ∀ (m : (ℓ : Loc Cert.WadaIdeal.nD Cert.WadaIdeal.τ Cert.WadaIdeal.sig) → Buf (Elt Ideal) ℓ) (g : Dev Cert.WadaIdeal.nD → PrngReg), Pre_WadaIdeal m →
    θ_run (Cert.WadaIdeal.defs (F := Ideal)) (onTc (τ := Cert.WadaIdeal.τ) (Cert.WadaIdeal.main (F := Ideal))) ⟨m, fun _ => 0, g⟩ (fun r => (∀ c : Dev Cert.WadaIdeal.nD,
      r.2.mem ((c.tc : Thread Cert.WadaIdeal.nD Cert.WadaIdeal.τ).loc Cert.WadaIdeal.main_arg0) = m ((c.tc : Thread Cert.WadaIdeal.nD Cert.WadaIdeal.τ).loc Cert.WadaIdeal.main_arg0)
      ∧ r.2.mem ((c.tc : Thread Cert.WadaIdeal.nD Cert.WadaIdeal.τ).loc Cert.WadaIdeal.main_arg1) = m ((c.tc : Thread Cert.WadaIdeal.nD Cert.WadaIdeal.τ).loc Cert.WadaIdeal.main_arg1)
      ∧ r.2.mem ((c.tc : Thread Cert.WadaIdeal.nD Cert.WadaIdeal.τ).loc Cert.WadaIdeal.main_arg2) = m ((c.tc : Thread Cert.WadaIdeal.nD Cert.WadaIdeal.τ).loc Cert.WadaIdeal.main_arg2)
      ∧ r.2.mem ((c.tc : Thread Cert.WadaIdeal.nD Cert.WadaIdeal.τ).loc Cert.WadaIdeal.main_arg3) = m ((c.tc : Thread Cert.WadaIdeal.nD Cert.WadaIdeal.τ).loc Cert.WadaIdeal.main_arg3)
      ∧ r.2.mem ((c.tc : Thread Cert.WadaIdeal.nD Cert.WadaIdeal.τ).loc Cert.WadaIdeal.main_arg4) = m ((c.tc : Thread Cert.WadaIdeal.nD Cert.WadaIdeal.τ).loc Cert.WadaIdeal.main_arg4))
      ∧ r.2.sem = fun _ => 0)

def quiescent_RefWadaIdeal [hRefWadaIdeal : Cert.RefWadaIdeal.Facts] : Prop :=
  ∀ (m : (ℓ : Loc Cert.RefWadaIdeal.nD Cert.RefWadaIdeal.τ Cert.RefWadaIdeal.sig) → Buf (Elt Ideal) ℓ) (g : Dev Cert.RefWadaIdeal.nD → PrngReg), Pre_RefWadaIdeal m →
    θ_run (Cert.RefWadaIdeal.defs (F := Ideal)) (onTc (τ := Cert.RefWadaIdeal.τ) (Cert.RefWadaIdeal.main (F := Ideal))) ⟨m, fun _ => 0, g⟩ (fun r => (∀ c : Dev Cert.RefWadaIdeal.nD,
      r.2.mem ((c.tc : Thread Cert.RefWadaIdeal.nD Cert.RefWadaIdeal.τ).loc Cert.RefWadaIdeal.main_arg0) = m ((c.tc : Thread Cert.RefWadaIdeal.nD Cert.RefWadaIdeal.τ).loc Cert.RefWadaIdeal.main_arg0)
      ∧ r.2.mem ((c.tc : Thread Cert.RefWadaIdeal.nD Cert.RefWadaIdeal.τ).loc Cert.RefWadaIdeal.main_arg1) = m ((c.tc : Thread Cert.RefWadaIdeal.nD Cert.RefWadaIdeal.τ).loc Cert.RefWadaIdeal.main_arg1)
      ∧ r.2.mem ((c.tc : Thread Cert.RefWadaIdeal.nD Cert.RefWadaIdeal.τ).loc Cert.RefWadaIdeal.main_arg2) = m ((c.tc : Thread Cert.RefWadaIdeal.nD Cert.RefWadaIdeal.τ).loc Cert.RefWadaIdeal.main_arg2)
      ∧ r.2.mem ((c.tc : Thread Cert.RefWadaIdeal.nD Cert.RefWadaIdeal.τ).loc Cert.RefWadaIdeal.main_arg3) = m ((c.tc : Thread Cert.RefWadaIdeal.nD Cert.RefWadaIdeal.τ).loc Cert.RefWadaIdeal.main_arg3)
      ∧ r.2.mem ((c.tc : Thread Cert.RefWadaIdeal.nD Cert.RefWadaIdeal.τ).loc Cert.RefWadaIdeal.main_arg4) = m ((c.tc : Thread Cert.RefWadaIdeal.nD Cert.RefWadaIdeal.τ).loc Cert.RefWadaIdeal.main_arg4))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_RefAdamInIdeal [hRefAdamInIdeal : Cert.RefAdamInIdeal.Facts] : Prop :=
  ∀ (m : (ℓ : Loc Cert.RefAdamInIdeal.nD Cert.RefAdamInIdeal.τ Cert.RefAdamInIdeal.sig) → Buf (Elt Ideal) ℓ) (g : Dev Cert.RefAdamInIdeal.nD → PrngReg), Pre_RefAdamInIdeal m →
    θ_run (Cert.RefAdamInIdeal.defs (F := Ideal)) (onTc (τ := Cert.RefAdamInIdeal.τ) (Cert.RefAdamInIdeal.main (F := Ideal))) ⟨m, fun _ => 0, g⟩ (fun r => (∀ c : Dev Cert.RefAdamInIdeal.nD,
      r.2.mem ((c.tc : Thread Cert.RefAdamInIdeal.nD Cert.RefAdamInIdeal.τ).loc Cert.RefAdamInIdeal.main_arg0) = m ((c.tc : Thread Cert.RefAdamInIdeal.nD Cert.RefAdamInIdeal.τ).loc Cert.RefAdamInIdeal.main_arg0)
      ∧ r.2.mem ((c.tc : Thread Cert.RefAdamInIdeal.nD Cert.RefAdamInIdeal.τ).loc Cert.RefAdamInIdeal.main_arg1) = m ((c.tc : Thread Cert.RefAdamInIdeal.nD Cert.RefAdamInIdeal.τ).loc Cert.RefAdamInIdeal.main_arg1)
      ∧ r.2.mem ((c.tc : Thread Cert.RefAdamInIdeal.nD Cert.RefAdamInIdeal.τ).loc Cert.RefAdamInIdeal.main_arg2) = m ((c.tc : Thread Cert.RefAdamInIdeal.nD Cert.RefAdamInIdeal.τ).loc Cert.RefAdamInIdeal.main_arg2)
      ∧ r.2.mem ((c.tc : Thread Cert.RefAdamInIdeal.nD Cert.RefAdamInIdeal.τ).loc Cert.RefAdamInIdeal.main_arg3) = m ((c.tc : Thread Cert.RefAdamInIdeal.nD Cert.RefAdamInIdeal.τ).loc Cert.RefAdamInIdeal.main_arg3))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

def quiescent_RefAdamUpIdeal [hRefAdamUpIdeal : Cert.RefAdamUpIdeal.Facts] : Prop :=
  ∀ (m : (ℓ : Loc Cert.RefAdamUpIdeal.nD Cert.RefAdamUpIdeal.τ Cert.RefAdamUpIdeal.sig) → Buf (Elt Ideal) ℓ) (g : Dev Cert.RefAdamUpIdeal.nD → PrngReg), Pre_RefAdamUpIdeal m →
    θ_run (Cert.RefAdamUpIdeal.defs (F := Ideal)) (onTc (τ := Cert.RefAdamUpIdeal.τ) (Cert.RefAdamUpIdeal.main (F := Ideal))) ⟨m, fun _ => 0, g⟩ (fun r => (∀ c : Dev Cert.RefAdamUpIdeal.nD,
      r.2.mem ((c.tc : Thread Cert.RefAdamUpIdeal.nD Cert.RefAdamUpIdeal.τ).loc Cert.RefAdamUpIdeal.main_arg0) = m ((c.tc : Thread Cert.RefAdamUpIdeal.nD Cert.RefAdamUpIdeal.τ).loc Cert.RefAdamUpIdeal.main_arg0)
      ∧ r.2.mem ((c.tc : Thread Cert.RefAdamUpIdeal.nD Cert.RefAdamUpIdeal.τ).loc Cert.RefAdamUpIdeal.main_arg1) = m ((c.tc : Thread Cert.RefAdamUpIdeal.nD Cert.RefAdamUpIdeal.τ).loc Cert.RefAdamUpIdeal.main_arg1)
      ∧ r.2.mem ((c.tc : Thread Cert.RefAdamUpIdeal.nD Cert.RefAdamUpIdeal.τ).loc Cert.RefAdamUpIdeal.main_arg2) = m ((c.tc : Thread Cert.RefAdamUpIdeal.nD Cert.RefAdamUpIdeal.τ).loc Cert.RefAdamUpIdeal.main_arg2)
      ∧ r.2.mem ((c.tc : Thread Cert.RefAdamUpIdeal.nD Cert.RefAdamUpIdeal.τ).loc Cert.RefAdamUpIdeal.main_arg3) = m ((c.tc : Thread Cert.RefAdamUpIdeal.nD Cert.RefAdamUpIdeal.τ).loc Cert.RefAdamUpIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_RefAdamOutIdeal [hRefAdamOutIdeal : Cert.RefAdamOutIdeal.Facts] : Prop :=
  ∀ (m : (ℓ : Loc Cert.RefAdamOutIdeal.nD Cert.RefAdamOutIdeal.τ Cert.RefAdamOutIdeal.sig) → Buf (Elt Ideal) ℓ) (g : Dev Cert.RefAdamOutIdeal.nD → PrngReg), Pre_RefAdamOutIdeal m →
    θ_run (Cert.RefAdamOutIdeal.defs (F := Ideal)) (onTc (τ := Cert.RefAdamOutIdeal.τ) (Cert.RefAdamOutIdeal.main (F := Ideal))) ⟨m, fun _ => 0, g⟩ (fun r => (∀ c : Dev Cert.RefAdamOutIdeal.nD,
      r.2.mem ((c.tc : Thread Cert.RefAdamOutIdeal.nD Cert.RefAdamOutIdeal.τ).loc Cert.RefAdamOutIdeal.main_arg0) = m ((c.tc : Thread Cert.RefAdamOutIdeal.nD Cert.RefAdamOutIdeal.τ).loc Cert.RefAdamOutIdeal.main_arg0)
      ∧ r.2.mem ((c.tc : Thread Cert.RefAdamOutIdeal.nD Cert.RefAdamOutIdeal.τ).loc Cert.RefAdamOutIdeal.main_arg1) = m ((c.tc : Thread Cert.RefAdamOutIdeal.nD Cert.RefAdamOutIdeal.τ).loc Cert.RefAdamOutIdeal.main_arg1)
      ∧ r.2.mem ((c.tc : Thread Cert.RefAdamOutIdeal.nD Cert.RefAdamOutIdeal.τ).loc Cert.RefAdamOutIdeal.main_arg2) = m ((c.tc : Thread Cert.RefAdamOutIdeal.nD Cert.RefAdamOutIdeal.τ).loc Cert.RefAdamOutIdeal.main_arg2)
      ∧ r.2.mem ((c.tc : Thread Cert.RefAdamOutIdeal.nD Cert.RefAdamOutIdeal.τ).loc Cert.RefAdamOutIdeal.main_arg3) = m ((c.tc : Thread Cert.RefAdamOutIdeal.nD Cert.RefAdamOutIdeal.τ).loc Cert.RefAdamOutIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_RefAdamDownIdeal [hRefAdamDownIdeal : Cert.RefAdamDownIdeal.Facts] : Prop :=
  ∀ (m : (ℓ : Loc Cert.RefAdamDownIdeal.nD Cert.RefAdamDownIdeal.τ Cert.RefAdamDownIdeal.sig) → Buf (Elt Ideal) ℓ) (g : Dev Cert.RefAdamDownIdeal.nD → PrngReg), Pre_RefAdamDownIdeal m →
    θ_run (Cert.RefAdamDownIdeal.defs (F := Ideal)) (onTc (τ := Cert.RefAdamDownIdeal.τ) (Cert.RefAdamDownIdeal.main (F := Ideal))) ⟨m, fun _ => 0, g⟩ (fun r => (∀ c : Dev Cert.RefAdamDownIdeal.nD,
      r.2.mem ((c.tc : Thread Cert.RefAdamDownIdeal.nD Cert.RefAdamDownIdeal.τ).loc Cert.RefAdamDownIdeal.main_arg0) = m ((c.tc : Thread Cert.RefAdamDownIdeal.nD Cert.RefAdamDownIdeal.τ).loc Cert.RefAdamDownIdeal.main_arg0)
      ∧ r.2.mem ((c.tc : Thread Cert.RefAdamDownIdeal.nD Cert.RefAdamDownIdeal.τ).loc Cert.RefAdamDownIdeal.main_arg1) = m ((c.tc : Thread Cert.RefAdamDownIdeal.nD Cert.RefAdamDownIdeal.τ).loc Cert.RefAdamDownIdeal.main_arg1)
      ∧ r.2.mem ((c.tc : Thread Cert.RefAdamDownIdeal.nD Cert.RefAdamDownIdeal.τ).loc Cert.RefAdamDownIdeal.main_arg2) = m ((c.tc : Thread Cert.RefAdamDownIdeal.nD Cert.RefAdamDownIdeal.τ).loc Cert.RefAdamDownIdeal.main_arg2)
      ∧ r.2.mem ((c.tc : Thread Cert.RefAdamDownIdeal.nD Cert.RefAdamDownIdeal.τ).loc Cert.RefAdamDownIdeal.main_arg3) = m ((c.tc : Thread Cert.RefAdamDownIdeal.nD Cert.RefAdamDownIdeal.τ).loc Cert.RefAdamDownIdeal.main_arg3))
      ∧ r.2.sem = fun _ => 0)

def preserves_Kernel_KernelIdeal : Prop :=
  IdealRules.named_const.Statement Cert.KernelIdeal.κ "gelu_a" .f32 0x3D372713#32 ((8943 / 200000 : ℝ) : EReal)
  ∧ IdealRules.named_const.Statement Cert.KernelIdeal.κ "gelu_3a" .f32 0x3E095D4F#32 ((26829 / 200000 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v7_2)) (v3 : (c : Dev Cert.KernelIdeal.nD) → Buf (Elt Ideal) ((c.tc : Thread Cert.KernelIdeal.nD Cert.KernelIdeal.τ).loc Cert.KernelIdeal.main_v7_3)) (v4 : (c : Dev Cert.KernelIdeal.nD) → Buf (Elt Ideal) ((c.tc : Thread Cert.KernelIdeal.nD Cert.KernelIdeal.τ).loc Cert.KernelIdeal.main_v7_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_v7_2) = v2 c
          ∧ r.2.mem ((c.tc : Thread Cert.KernelIdeal.nD Cert.KernelIdeal.τ).loc Cert.KernelIdeal.main_v7_3) = v3 c
          ∧ r.2.mem ((c.tc : Thread Cert.KernelIdeal.nD Cert.KernelIdeal.τ).loc Cert.KernelIdeal.main_v7_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v154) = v0 c
          ∧ r.2.mem ((c.tc : Thread Cert.ReferenceIdeal.nD Cert.ReferenceIdeal.τ).loc Cert.ReferenceIdeal.main_v100) = v1 c
          ∧ r.2.mem ((c.tc : Thread Cert.ReferenceIdeal.nD Cert.ReferenceIdeal.τ).loc Cert.ReferenceIdeal.main_v97) = v2 c
          ∧ r.2.mem ((c.tc : Thread Cert.ReferenceIdeal.nD Cert.ReferenceIdeal.τ).loc Cert.ReferenceIdeal.main_v92) = v3 c
          ∧ r.2.mem ((c.tc : Thread Cert.ReferenceIdeal.nD Cert.ReferenceIdeal.τ).loc Cert.ReferenceIdeal.main_v155) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_MmIn_MmInIdeal : Prop :=
  True

def algebraic_MmInIdeal_RefMmInIdeal [hMmInIdeal : Cert.MmInIdeal.Facts] [hRefMmInIdeal : Cert.RefMmInIdeal.Facts] : Prop :=
  ∀ (m : (ℓ : Loc Cert.MmInIdeal.nD Cert.MmInIdeal.τ Cert.MmInIdeal.sig) → Buf (Elt Ideal) ℓ) (g : Dev Cert.MmInIdeal.nD → PrngReg)
    (m' : (ℓ : Loc Cert.RefMmInIdeal.nD Cert.RefMmInIdeal.τ Cert.RefMmInIdeal.sig) → Buf (Elt Ideal) ℓ) (g' : Dev Cert.RefMmInIdeal.nD → PrngReg), Pre_MmInIdeal m →
    (∀ c : Dev Cert.MmInIdeal.nD,
      m' ((c.tc : Thread Cert.RefMmInIdeal.nD Cert.RefMmInIdeal.τ).loc Cert.RefMmInIdeal.main_arg0) = m ((c.tc : Thread Cert.MmInIdeal.nD Cert.MmInIdeal.τ).loc Cert.MmInIdeal.main_arg0)
      ∧ m' ((c.tc : Thread Cert.RefMmInIdeal.nD Cert.RefMmInIdeal.τ).loc Cert.RefMmInIdeal.main_arg1) = m ((c.tc : Thread Cert.MmInIdeal.nD Cert.MmInIdeal.τ).loc Cert.MmInIdeal.main_arg1)) →
    ∃ (v0 : (c : Dev Cert.MmInIdeal.nD) → Buf (Elt Ideal) ((c.tc : Thread Cert.MmInIdeal.nD Cert.MmInIdeal.τ).loc Cert.MmInIdeal.main_v0)),
      θ_run (Cert.MmInIdeal.defs (F := Ideal)) (onTc (τ := Cert.MmInIdeal.τ) (Cert.MmInIdeal.main (F := Ideal))) ⟨m, fun _ => 0, g⟩ (fun r => ∀ c : Dev Cert.MmInIdeal.nD,
          r.2.mem ((c.tc : Thread Cert.MmInIdeal.nD Cert.MmInIdeal.τ).loc Cert.MmInIdeal.main_v0) = v0 c
          ∧ r.2.mem ((c.tc : Thread Cert.MmInIdeal.nD Cert.MmInIdeal.τ).loc Cert.MmInIdeal.main_arg0) = m ((c.tc : Thread Cert.MmInIdeal.nD Cert.MmInIdeal.τ).loc Cert.MmInIdeal.main_arg0)
          ∧ r.2.mem ((c.tc : Thread Cert.MmInIdeal.nD Cert.MmInIdeal.τ).loc Cert.MmInIdeal.main_arg1) = m ((c.tc : Thread Cert.MmInIdeal.nD Cert.MmInIdeal.τ).loc Cert.MmInIdeal.main_arg1))
      ∧ θ_run (Cert.RefMmInIdeal.defs (F := Ideal)) (onTc (τ := Cert.RefMmInIdeal.τ) (Cert.RefMmInIdeal.main (F := Ideal))) ⟨m', fun _ => 0, g'⟩ (fun r => ∀ c : Dev Cert.RefMmInIdeal.nD,
          r.2.mem ((c.tc : Thread Cert.RefMmInIdeal.nD Cert.RefMmInIdeal.τ).loc Cert.RefMmInIdeal.main_v4) = v0 c
          ∧ r.2.mem ((c.tc : Thread Cert.RefMmInIdeal.nD Cert.RefMmInIdeal.τ).loc Cert.RefMmInIdeal.main_arg0) = m' ((c.tc : Thread Cert.RefMmInIdeal.nD Cert.RefMmInIdeal.τ).loc Cert.RefMmInIdeal.main_arg0)
          ∧ r.2.mem ((c.tc : Thread Cert.RefMmInIdeal.nD Cert.RefMmInIdeal.τ).loc Cert.RefMmInIdeal.main_arg1) = m' ((c.tc : Thread Cert.RefMmInIdeal.nD Cert.RefMmInIdeal.τ).loc Cert.RefMmInIdeal.main_arg1))

def preserves_MmOut_MmOutIdeal : Prop :=
  True

def algebraic_MmOutIdeal_RefMmOutIdeal [hMmOutIdeal : Cert.MmOutIdeal.Facts] [hRefMmOutIdeal : Cert.RefMmOutIdeal.Facts] : Prop :=
  ∀ (m : (ℓ : Loc Cert.MmOutIdeal.nD Cert.MmOutIdeal.τ Cert.MmOutIdeal.sig) → Buf (Elt Ideal) ℓ) (g : Dev Cert.MmOutIdeal.nD → PrngReg)
    (m' : (ℓ : Loc Cert.RefMmOutIdeal.nD Cert.RefMmOutIdeal.τ Cert.RefMmOutIdeal.sig) → Buf (Elt Ideal) ℓ) (g' : Dev Cert.RefMmOutIdeal.nD → PrngReg), Pre_MmOutIdeal m →
    (∀ c : Dev Cert.MmOutIdeal.nD,
      m' ((c.tc : Thread Cert.RefMmOutIdeal.nD Cert.RefMmOutIdeal.τ).loc Cert.RefMmOutIdeal.main_arg0) = m ((c.tc : Thread Cert.MmOutIdeal.nD Cert.MmOutIdeal.τ).loc Cert.MmOutIdeal.main_arg0)
      ∧ m' ((c.tc : Thread Cert.RefMmOutIdeal.nD Cert.RefMmOutIdeal.τ).loc Cert.RefMmOutIdeal.main_arg1) = m ((c.tc : Thread Cert.MmOutIdeal.nD Cert.MmOutIdeal.τ).loc Cert.MmOutIdeal.main_arg1)) →
    ∃ (v0 : (c : Dev Cert.MmOutIdeal.nD) → Buf (Elt Ideal) ((c.tc : Thread Cert.MmOutIdeal.nD Cert.MmOutIdeal.τ).loc Cert.MmOutIdeal.main_v0)),
      θ_run (Cert.MmOutIdeal.defs (F := Ideal)) (onTc (τ := Cert.MmOutIdeal.τ) (Cert.MmOutIdeal.main (F := Ideal))) ⟨m, fun _ => 0, g⟩ (fun r => ∀ c : Dev Cert.MmOutIdeal.nD,
          r.2.mem ((c.tc : Thread Cert.MmOutIdeal.nD Cert.MmOutIdeal.τ).loc Cert.MmOutIdeal.main_v0) = v0 c
          ∧ r.2.mem ((c.tc : Thread Cert.MmOutIdeal.nD Cert.MmOutIdeal.τ).loc Cert.MmOutIdeal.main_arg0) = m ((c.tc : Thread Cert.MmOutIdeal.nD Cert.MmOutIdeal.τ).loc Cert.MmOutIdeal.main_arg0)
          ∧ r.2.mem ((c.tc : Thread Cert.MmOutIdeal.nD Cert.MmOutIdeal.τ).loc Cert.MmOutIdeal.main_arg1) = m ((c.tc : Thread Cert.MmOutIdeal.nD Cert.MmOutIdeal.τ).loc Cert.MmOutIdeal.main_arg1))
      ∧ θ_run (Cert.RefMmOutIdeal.defs (F := Ideal)) (onTc (τ := Cert.RefMmOutIdeal.τ) (Cert.RefMmOutIdeal.main (F := Ideal))) ⟨m', fun _ => 0, g'⟩ (fun r => ∀ c : Dev Cert.RefMmOutIdeal.nD,
          r.2.mem ((c.tc : Thread Cert.RefMmOutIdeal.nD Cert.RefMmOutIdeal.τ).loc Cert.RefMmOutIdeal.main_v4) = v0 c
          ∧ r.2.mem ((c.tc : Thread Cert.RefMmOutIdeal.nD Cert.RefMmOutIdeal.τ).loc Cert.RefMmOutIdeal.main_arg0) = m' ((c.tc : Thread Cert.RefMmOutIdeal.nD Cert.RefMmOutIdeal.τ).loc Cert.RefMmOutIdeal.main_arg0)
          ∧ r.2.mem ((c.tc : Thread Cert.RefMmOutIdeal.nD Cert.RefMmOutIdeal.τ).loc Cert.RefMmOutIdeal.main_arg1) = m' ((c.tc : Thread Cert.RefMmOutIdeal.nD Cert.RefMmOutIdeal.τ).loc Cert.RefMmOutIdeal.main_arg1))

def preserves_MmUp_MmUpIdeal : Prop :=
  True

def algebraic_MmUpIdeal_RefMmUpIdeal [hMmUpIdeal : Cert.MmUpIdeal.Facts] [hRefMmUpIdeal : Cert.RefMmUpIdeal.Facts] : Prop :=
  ∀ (m : (ℓ : Loc Cert.MmUpIdeal.nD Cert.MmUpIdeal.τ Cert.MmUpIdeal.sig) → Buf (Elt Ideal) ℓ) (g : Dev Cert.MmUpIdeal.nD → PrngReg)
    (m' : (ℓ : Loc Cert.RefMmUpIdeal.nD Cert.RefMmUpIdeal.τ Cert.RefMmUpIdeal.sig) → Buf (Elt Ideal) ℓ) (g' : Dev Cert.RefMmUpIdeal.nD → PrngReg), Pre_MmUpIdeal m →
    (∀ c : Dev Cert.MmUpIdeal.nD,
      m' ((c.tc : Thread Cert.RefMmUpIdeal.nD Cert.RefMmUpIdeal.τ).loc Cert.RefMmUpIdeal.main_arg0) = m ((c.tc : Thread Cert.MmUpIdeal.nD Cert.MmUpIdeal.τ).loc Cert.MmUpIdeal.main_arg0)
      ∧ m' ((c.tc : Thread Cert.RefMmUpIdeal.nD Cert.RefMmUpIdeal.τ).loc Cert.RefMmUpIdeal.main_arg1) = m ((c.tc : Thread Cert.MmUpIdeal.nD Cert.MmUpIdeal.τ).loc Cert.MmUpIdeal.main_arg1)) →
    ∃ (v0 : (c : Dev Cert.MmUpIdeal.nD) → Buf (Elt Ideal) ((c.tc : Thread Cert.MmUpIdeal.nD Cert.MmUpIdeal.τ).loc Cert.MmUpIdeal.main_v0)),
      θ_run (Cert.MmUpIdeal.defs (F := Ideal)) (onTc (τ := Cert.MmUpIdeal.τ) (Cert.MmUpIdeal.main (F := Ideal))) ⟨m, fun _ => 0, g⟩ (fun r => ∀ c : Dev Cert.MmUpIdeal.nD,
          r.2.mem ((c.tc : Thread Cert.MmUpIdeal.nD Cert.MmUpIdeal.τ).loc Cert.MmUpIdeal.main_v0) = v0 c
          ∧ r.2.mem ((c.tc : Thread Cert.MmUpIdeal.nD Cert.MmUpIdeal.τ).loc Cert.MmUpIdeal.main_arg0) = m ((c.tc : Thread Cert.MmUpIdeal.nD Cert.MmUpIdeal.τ).loc Cert.MmUpIdeal.main_arg0)
          ∧ r.2.mem ((c.tc : Thread Cert.MmUpIdeal.nD Cert.MmUpIdeal.τ).loc Cert.MmUpIdeal.main_arg1) = m ((c.tc : Thread Cert.MmUpIdeal.nD Cert.MmUpIdeal.τ).loc Cert.MmUpIdeal.main_arg1))
      ∧ θ_run (Cert.RefMmUpIdeal.defs (F := Ideal)) (onTc (τ := Cert.RefMmUpIdeal.τ) (Cert.RefMmUpIdeal.main (F := Ideal))) ⟨m', fun _ => 0, g'⟩ (fun r => ∀ c : Dev Cert.RefMmUpIdeal.nD,
          r.2.mem ((c.tc : Thread Cert.RefMmUpIdeal.nD Cert.RefMmUpIdeal.τ).loc Cert.RefMmUpIdeal.main_v4) = v0 c
          ∧ r.2.mem ((c.tc : Thread Cert.RefMmUpIdeal.nD Cert.RefMmUpIdeal.τ).loc Cert.RefMmUpIdeal.main_arg0) = m' ((c.tc : Thread Cert.RefMmUpIdeal.nD Cert.RefMmUpIdeal.τ).loc Cert.RefMmUpIdeal.main_arg0)
          ∧ r.2.mem ((c.tc : Thread Cert.RefMmUpIdeal.nD Cert.RefMmUpIdeal.τ).loc Cert.RefMmUpIdeal.main_arg1) = m' ((c.tc : Thread Cert.RefMmUpIdeal.nD Cert.RefMmUpIdeal.τ).loc Cert.RefMmUpIdeal.main_arg1))

def preserves_MmDown_MmDownIdeal : Prop :=
  True

def algebraic_MmDownIdeal_RefMmDownIdeal [hMmDownIdeal : Cert.MmDownIdeal.Facts] [hRefMmDownIdeal : Cert.RefMmDownIdeal.Facts] : Prop :=
  ∀ (m : (ℓ : Loc Cert.MmDownIdeal.nD Cert.MmDownIdeal.τ Cert.MmDownIdeal.sig) → Buf (Elt Ideal) ℓ) (g : Dev Cert.MmDownIdeal.nD → PrngReg)
    (m' : (ℓ : Loc Cert.RefMmDownIdeal.nD Cert.RefMmDownIdeal.τ Cert.RefMmDownIdeal.sig) → Buf (Elt Ideal) ℓ) (g' : Dev Cert.RefMmDownIdeal.nD → PrngReg), Pre_MmDownIdeal m →
    (∀ c : Dev Cert.MmDownIdeal.nD,
      m' ((c.tc : Thread Cert.RefMmDownIdeal.nD Cert.RefMmDownIdeal.τ).loc Cert.RefMmDownIdeal.main_arg0) = m ((c.tc : Thread Cert.MmDownIdeal.nD Cert.MmDownIdeal.τ).loc Cert.MmDownIdeal.main_arg0)
      ∧ m' ((c.tc : Thread Cert.RefMmDownIdeal.nD Cert.RefMmDownIdeal.τ).loc Cert.RefMmDownIdeal.main_arg1) = m ((c.tc : Thread Cert.MmDownIdeal.nD Cert.MmDownIdeal.τ).loc Cert.MmDownIdeal.main_arg1)) →
    ∃ (v0 : (c : Dev Cert.MmDownIdeal.nD) → Buf (Elt Ideal) ((c.tc : Thread Cert.MmDownIdeal.nD Cert.MmDownIdeal.τ).loc Cert.MmDownIdeal.main_v0)),
      θ_run (Cert.MmDownIdeal.defs (F := Ideal)) (onTc (τ := Cert.MmDownIdeal.τ) (Cert.MmDownIdeal.main (F := Ideal))) ⟨m, fun _ => 0, g⟩ (fun r => ∀ c : Dev Cert.MmDownIdeal.nD,
          r.2.mem ((c.tc : Thread Cert.MmDownIdeal.nD Cert.MmDownIdeal.τ).loc Cert.MmDownIdeal.main_v0) = v0 c
          ∧ r.2.mem ((c.tc : Thread Cert.MmDownIdeal.nD Cert.MmDownIdeal.τ).loc Cert.MmDownIdeal.main_arg0) = m ((c.tc : Thread Cert.MmDownIdeal.nD Cert.MmDownIdeal.τ).loc Cert.MmDownIdeal.main_arg0)
          ∧ r.2.mem ((c.tc : Thread Cert.MmDownIdeal.nD Cert.MmDownIdeal.τ).loc Cert.MmDownIdeal.main_arg1) = m ((c.tc : Thread Cert.MmDownIdeal.nD Cert.MmDownIdeal.τ).loc Cert.MmDownIdeal.main_arg1))
      ∧ θ_run (Cert.RefMmDownIdeal.defs (F := Ideal)) (onTc (τ := Cert.RefMmDownIdeal.τ) (Cert.RefMmDownIdeal.main (F := Ideal))) ⟨m', fun _ => 0, g'⟩ (fun r => ∀ c : Dev Cert.RefMmDownIdeal.nD,
          r.2.mem ((c.tc : Thread Cert.RefMmDownIdeal.nD Cert.RefMmDownIdeal.τ).loc Cert.RefMmDownIdeal.main_v4) = v0 c
          ∧ r.2.mem ((c.tc : Thread Cert.RefMmDownIdeal.nD Cert.RefMmDownIdeal.τ).loc Cert.RefMmDownIdeal.main_arg0) = m' ((c.tc : Thread Cert.RefMmDownIdeal.nD Cert.RefMmDownIdeal.τ).loc Cert.RefMmDownIdeal.main_arg0)
          ∧ r.2.mem ((c.tc : Thread Cert.RefMmDownIdeal.nD Cert.RefMmDownIdeal.τ).loc Cert.RefMmDownIdeal.main_arg1) = m' ((c.tc : Thread Cert.RefMmDownIdeal.nD Cert.RefMmDownIdeal.τ).loc Cert.RefMmDownIdeal.main_arg1))

def preserves_DAct_DActIdeal : Prop :=
  True

def algebraic_DActIdeal_RefDActIdeal [hDActIdeal : Cert.DActIdeal.Facts] [hRefDActIdeal : Cert.RefDActIdeal.Facts] : Prop :=
  ∀ (m : (ℓ : Loc Cert.DActIdeal.nD Cert.DActIdeal.τ Cert.DActIdeal.sig) → Buf (Elt Ideal) ℓ) (g : Dev Cert.DActIdeal.nD → PrngReg)
    (m' : (ℓ : Loc Cert.RefDActIdeal.nD Cert.RefDActIdeal.τ Cert.RefDActIdeal.sig) → Buf (Elt Ideal) ℓ) (g' : Dev Cert.RefDActIdeal.nD → PrngReg), Pre_DActIdeal m →
    (∀ c : Dev Cert.DActIdeal.nD,
      m' ((c.tc : Thread Cert.RefDActIdeal.nD Cert.RefDActIdeal.τ).loc Cert.RefDActIdeal.main_arg0) = m ((c.tc : Thread Cert.DActIdeal.nD Cert.DActIdeal.τ).loc Cert.DActIdeal.main_arg0)
      ∧ m' ((c.tc : Thread Cert.RefDActIdeal.nD Cert.RefDActIdeal.τ).loc Cert.RefDActIdeal.main_arg1) = m ((c.tc : Thread Cert.DActIdeal.nD Cert.DActIdeal.τ).loc Cert.DActIdeal.main_arg1)) →
    ∃ (v0 : (c : Dev Cert.DActIdeal.nD) → Buf (Elt Ideal) ((c.tc : Thread Cert.DActIdeal.nD Cert.DActIdeal.τ).loc Cert.DActIdeal.main_v0)),
      θ_run (Cert.DActIdeal.defs (F := Ideal)) (onTc (τ := Cert.DActIdeal.τ) (Cert.DActIdeal.main (F := Ideal))) ⟨m, fun _ => 0, g⟩ (fun r => ∀ c : Dev Cert.DActIdeal.nD,
          r.2.mem ((c.tc : Thread Cert.DActIdeal.nD Cert.DActIdeal.τ).loc Cert.DActIdeal.main_v0) = v0 c
          ∧ r.2.mem ((c.tc : Thread Cert.DActIdeal.nD Cert.DActIdeal.τ).loc Cert.DActIdeal.main_arg0) = m ((c.tc : Thread Cert.DActIdeal.nD Cert.DActIdeal.τ).loc Cert.DActIdeal.main_arg0)
          ∧ r.2.mem ((c.tc : Thread Cert.DActIdeal.nD Cert.DActIdeal.τ).loc Cert.DActIdeal.main_arg1) = m ((c.tc : Thread Cert.DActIdeal.nD Cert.DActIdeal.τ).loc Cert.DActIdeal.main_arg1))
      ∧ θ_run (Cert.RefDActIdeal.defs (F := Ideal)) (onTc (τ := Cert.RefDActIdeal.τ) (Cert.RefDActIdeal.main (F := Ideal))) ⟨m', fun _ => 0, g'⟩ (fun r => ∀ c : Dev Cert.RefDActIdeal.nD,
          r.2.mem ((c.tc : Thread Cert.RefDActIdeal.nD Cert.RefDActIdeal.τ).loc Cert.RefDActIdeal.main_v6) = v0 c
          ∧ r.2.mem ((c.tc : Thread Cert.RefDActIdeal.nD Cert.RefDActIdeal.τ).loc Cert.RefDActIdeal.main_arg0) = m' ((c.tc : Thread Cert.RefDActIdeal.nD Cert.RefDActIdeal.τ).loc Cert.RefDActIdeal.main_arg0)
          ∧ r.2.mem ((c.tc : Thread Cert.RefDActIdeal.nD Cert.RefDActIdeal.τ).loc Cert.RefDActIdeal.main_arg1) = m' ((c.tc : Thread Cert.RefDActIdeal.nD Cert.RefDActIdeal.τ).loc Cert.RefDActIdeal.main_arg1))

def preserves_GwDown_GwDownIdeal : Prop :=
  True

def algebraic_GwDownIdeal_RefGwDownIdeal [hGwDownIdeal : Cert.GwDownIdeal.Facts] [hRefGwDownIdeal : Cert.RefGwDownIdeal.Facts] : Prop :=
  ∀ (m : (ℓ : Loc Cert.GwDownIdeal.nD Cert.GwDownIdeal.τ Cert.GwDownIdeal.sig) → Buf (Elt Ideal) ℓ) (g : Dev Cert.GwDownIdeal.nD → PrngReg)
    (m' : (ℓ : Loc Cert.RefGwDownIdeal.nD Cert.RefGwDownIdeal.τ Cert.RefGwDownIdeal.sig) → Buf (Elt Ideal) ℓ) (g' : Dev Cert.RefGwDownIdeal.nD → PrngReg), Pre_GwDownIdeal m →
    (∀ c : Dev Cert.GwDownIdeal.nD,
      m' ((c.tc : Thread Cert.RefGwDownIdeal.nD Cert.RefGwDownIdeal.τ).loc Cert.RefGwDownIdeal.main_arg0) = m ((c.tc : Thread Cert.GwDownIdeal.nD Cert.GwDownIdeal.τ).loc Cert.GwDownIdeal.main_arg0)
      ∧ m' ((c.tc : Thread Cert.RefGwDownIdeal.nD Cert.RefGwDownIdeal.τ).loc Cert.RefGwDownIdeal.main_arg1) = m ((c.tc : Thread Cert.GwDownIdeal.nD Cert.GwDownIdeal.τ).loc Cert.GwDownIdeal.main_arg1)) →
    ∃ (v0 : (c : Dev Cert.GwDownIdeal.nD) → Buf (Elt Ideal) ((c.tc : Thread Cert.GwDownIdeal.nD Cert.GwDownIdeal.τ).loc Cert.GwDownIdeal.main_v0)),
      θ_run (Cert.GwDownIdeal.defs (F := Ideal)) (onTc (τ := Cert.GwDownIdeal.τ) (Cert.GwDownIdeal.main (F := Ideal))) ⟨m, fun _ => 0, g⟩ (fun r => ∀ c : Dev Cert.GwDownIdeal.nD,
          r.2.mem ((c.tc : Thread Cert.GwDownIdeal.nD Cert.GwDownIdeal.τ).loc Cert.GwDownIdeal.main_v0) = v0 c
          ∧ r.2.mem ((c.tc : Thread Cert.GwDownIdeal.nD Cert.GwDownIdeal.τ).loc Cert.GwDownIdeal.main_arg0) = m ((c.tc : Thread Cert.GwDownIdeal.nD Cert.GwDownIdeal.τ).loc Cert.GwDownIdeal.main_arg0)
          ∧ r.2.mem ((c.tc : Thread Cert.GwDownIdeal.nD Cert.GwDownIdeal.τ).loc Cert.GwDownIdeal.main_arg1) = m ((c.tc : Thread Cert.GwDownIdeal.nD Cert.GwDownIdeal.τ).loc Cert.GwDownIdeal.main_arg1))
      ∧ θ_run (Cert.RefGwDownIdeal.defs (F := Ideal)) (onTc (τ := Cert.RefGwDownIdeal.τ) (Cert.RefGwDownIdeal.main (F := Ideal))) ⟨m', fun _ => 0, g'⟩ (fun r => ∀ c : Dev Cert.RefGwDownIdeal.nD,
          r.2.mem ((c.tc : Thread Cert.RefGwDownIdeal.nD Cert.RefGwDownIdeal.τ).loc Cert.RefGwDownIdeal.main_v8) = v0 c
          ∧ r.2.mem ((c.tc : Thread Cert.RefGwDownIdeal.nD Cert.RefGwDownIdeal.τ).loc Cert.RefGwDownIdeal.main_arg0) = m' ((c.tc : Thread Cert.RefGwDownIdeal.nD Cert.RefGwDownIdeal.τ).loc Cert.RefGwDownIdeal.main_arg0)
          ∧ r.2.mem ((c.tc : Thread Cert.RefGwDownIdeal.nD Cert.RefGwDownIdeal.τ).loc Cert.RefGwDownIdeal.main_arg1) = m' ((c.tc : Thread Cert.RefGwDownIdeal.nD Cert.RefGwDownIdeal.τ).loc Cert.RefGwDownIdeal.main_arg1))

def preserves_DH2_DH2Ideal : Prop :=
  True

def algebraic_DH2Ideal_RefDH2Ideal [hDH2Ideal : Cert.DH2Ideal.Facts] [hRefDH2Ideal : Cert.RefDH2Ideal.Facts] : Prop :=
  ∀ (m : (ℓ : Loc Cert.DH2Ideal.nD Cert.DH2Ideal.τ Cert.DH2Ideal.sig) → Buf (Elt Ideal) ℓ) (g : Dev Cert.DH2Ideal.nD → PrngReg)
    (m' : (ℓ : Loc Cert.RefDH2Ideal.nD Cert.RefDH2Ideal.τ Cert.RefDH2Ideal.sig) → Buf (Elt Ideal) ℓ) (g' : Dev Cert.RefDH2Ideal.nD → PrngReg), Pre_DH2Ideal m →
    (∀ c : Dev Cert.DH2Ideal.nD,
      m' ((c.tc : Thread Cert.RefDH2Ideal.nD Cert.RefDH2Ideal.τ).loc Cert.RefDH2Ideal.main_arg0) = m ((c.tc : Thread Cert.DH2Ideal.nD Cert.DH2Ideal.τ).loc Cert.DH2Ideal.main_arg0)
      ∧ m' ((c.tc : Thread Cert.RefDH2Ideal.nD Cert.RefDH2Ideal.τ).loc Cert.RefDH2Ideal.main_arg1) = m ((c.tc : Thread Cert.DH2Ideal.nD Cert.DH2Ideal.τ).loc Cert.DH2Ideal.main_arg1)
      ∧ m' ((c.tc : Thread Cert.RefDH2Ideal.nD Cert.RefDH2Ideal.τ).loc Cert.RefDH2Ideal.main_arg2) = m ((c.tc : Thread Cert.DH2Ideal.nD Cert.DH2Ideal.τ).loc Cert.DH2Ideal.main_arg2)) →
    ∃ (v0 : (c : Dev Cert.DH2Ideal.nD) → Buf (Elt Ideal) ((c.tc : Thread Cert.DH2Ideal.nD Cert.DH2Ideal.τ).loc Cert.DH2Ideal.main_v0)),
      θ_run (Cert.DH2Ideal.defs (F := Ideal)) (onTc (τ := Cert.DH2Ideal.τ) (Cert.DH2Ideal.main (F := Ideal))) ⟨m, fun _ => 0, g⟩ (fun r => ∀ c : Dev Cert.DH2Ideal.nD,
          r.2.mem ((c.tc : Thread Cert.DH2Ideal.nD Cert.DH2Ideal.τ).loc Cert.DH2Ideal.main_v0) = v0 c
          ∧ r.2.mem ((c.tc : Thread Cert.DH2Ideal.nD Cert.DH2Ideal.τ).loc Cert.DH2Ideal.main_arg0) = m ((c.tc : Thread Cert.DH2Ideal.nD Cert.DH2Ideal.τ).loc Cert.DH2Ideal.main_arg0)
          ∧ r.2.mem ((c.tc : Thread Cert.DH2Ideal.nD Cert.DH2Ideal.τ).loc Cert.DH2Ideal.main_arg1) = m ((c.tc : Thread Cert.DH2Ideal.nD Cert.DH2Ideal.τ).loc Cert.DH2Ideal.main_arg1)
          ∧ r.2.mem ((c.tc : Thread Cert.DH2Ideal.nD Cert.DH2Ideal.τ).loc Cert.DH2Ideal.main_arg2) = m ((c.tc : Thread Cert.DH2Ideal.nD Cert.DH2Ideal.τ).loc Cert.DH2Ideal.main_arg2))
      ∧ θ_run (Cert.RefDH2Ideal.defs (F := Ideal)) (onTc (τ := Cert.RefDH2Ideal.τ) (Cert.RefDH2Ideal.main (F := Ideal))) ⟨m', fun _ => 0, g'⟩ (fun r => ∀ c : Dev Cert.RefDH2Ideal.nD,
          r.2.mem ((c.tc : Thread Cert.RefDH2Ideal.nD Cert.RefDH2Ideal.τ).loc Cert.RefDH2Ideal.main_v8) = v0 c
          ∧ r.2.mem ((c.tc : Thread Cert.RefDH2Ideal.nD Cert.RefDH2Ideal.τ).loc Cert.RefDH2Ideal.main_arg0) = m' ((c.tc : Thread Cert.RefDH2Ideal.nD Cert.RefDH2Ideal.τ).loc Cert.RefDH2Ideal.main_arg0)
          ∧ r.2.mem ((c.tc : Thread Cert.RefDH2Ideal.nD Cert.RefDH2Ideal.τ).loc Cert.RefDH2Ideal.main_arg1) = m' ((c.tc : Thread Cert.RefDH2Ideal.nD Cert.RefDH2Ideal.τ).loc Cert.RefDH2Ideal.main_arg1)
          ∧ r.2.mem ((c.tc : Thread Cert.RefDH2Ideal.nD Cert.RefDH2Ideal.τ).loc Cert.RefDH2Ideal.main_arg2) = m' ((c.tc : Thread Cert.RefDH2Ideal.nD Cert.RefDH2Ideal.τ).loc Cert.RefDH2Ideal.main_arg2))

def preserves_GwUp_GwUpIdeal : Prop :=
  True

def algebraic_GwUpIdeal_RefGwUpIdeal [hGwUpIdeal : Cert.GwUpIdeal.Facts] [hRefGwUpIdeal : Cert.RefGwUpIdeal.Facts] : Prop :=
  ∀ (m : (ℓ : Loc Cert.GwUpIdeal.nD Cert.GwUpIdeal.τ Cert.GwUpIdeal.sig) → Buf (Elt Ideal) ℓ) (g : Dev Cert.GwUpIdeal.nD → PrngReg)
    (m' : (ℓ : Loc Cert.RefGwUpIdeal.nD Cert.RefGwUpIdeal.τ Cert.RefGwUpIdeal.sig) → Buf (Elt Ideal) ℓ) (g' : Dev Cert.RefGwUpIdeal.nD → PrngReg), Pre_GwUpIdeal m →
    (∀ c : Dev Cert.GwUpIdeal.nD,
      m' ((c.tc : Thread Cert.RefGwUpIdeal.nD Cert.RefGwUpIdeal.τ).loc Cert.RefGwUpIdeal.main_arg0) = m ((c.tc : Thread Cert.GwUpIdeal.nD Cert.GwUpIdeal.τ).loc Cert.GwUpIdeal.main_arg0)
      ∧ m' ((c.tc : Thread Cert.RefGwUpIdeal.nD Cert.RefGwUpIdeal.τ).loc Cert.RefGwUpIdeal.main_arg1) = m ((c.tc : Thread Cert.GwUpIdeal.nD Cert.GwUpIdeal.τ).loc Cert.GwUpIdeal.main_arg1)) →
    ∃ (v0 : (c : Dev Cert.GwUpIdeal.nD) → Buf (Elt Ideal) ((c.tc : Thread Cert.GwUpIdeal.nD Cert.GwUpIdeal.τ).loc Cert.GwUpIdeal.main_v0)),
      θ_run (Cert.GwUpIdeal.defs (F := Ideal)) (onTc (τ := Cert.GwUpIdeal.τ) (Cert.GwUpIdeal.main (F := Ideal))) ⟨m, fun _ => 0, g⟩ (fun r => ∀ c : Dev Cert.GwUpIdeal.nD,
          r.2.mem ((c.tc : Thread Cert.GwUpIdeal.nD Cert.GwUpIdeal.τ).loc Cert.GwUpIdeal.main_v0) = v0 c
          ∧ r.2.mem ((c.tc : Thread Cert.GwUpIdeal.nD Cert.GwUpIdeal.τ).loc Cert.GwUpIdeal.main_arg0) = m ((c.tc : Thread Cert.GwUpIdeal.nD Cert.GwUpIdeal.τ).loc Cert.GwUpIdeal.main_arg0)
          ∧ r.2.mem ((c.tc : Thread Cert.GwUpIdeal.nD Cert.GwUpIdeal.τ).loc Cert.GwUpIdeal.main_arg1) = m ((c.tc : Thread Cert.GwUpIdeal.nD Cert.GwUpIdeal.τ).loc Cert.GwUpIdeal.main_arg1))
      ∧ θ_run (Cert.RefGwUpIdeal.defs (F := Ideal)) (onTc (τ := Cert.RefGwUpIdeal.τ) (Cert.RefGwUpIdeal.main (F := Ideal))) ⟨m', fun _ => 0, g'⟩ (fun r => ∀ c : Dev Cert.RefGwUpIdeal.nD,
          r.2.mem ((c.tc : Thread Cert.RefGwUpIdeal.nD Cert.RefGwUpIdeal.τ).loc Cert.RefGwUpIdeal.main_v10) = v0 c
          ∧ r.2.mem ((c.tc : Thread Cert.RefGwUpIdeal.nD Cert.RefGwUpIdeal.τ).loc Cert.RefGwUpIdeal.main_arg0) = m' ((c.tc : Thread Cert.RefGwUpIdeal.nD Cert.RefGwUpIdeal.τ).loc Cert.RefGwUpIdeal.main_arg0)
          ∧ r.2.mem ((c.tc : Thread Cert.RefGwUpIdeal.nD Cert.RefGwUpIdeal.τ).loc Cert.RefGwUpIdeal.main_arg1) = m' ((c.tc : Thread Cert.RefGwUpIdeal.nD Cert.RefGwUpIdeal.τ).loc Cert.RefGwUpIdeal.main_arg1))

def preserves_DYcat_DYcatIdeal : Prop :=
  True

def algebraic_DYcatIdeal_RefDYcatIdeal [hDYcatIdeal : Cert.DYcatIdeal.Facts] [hRefDYcatIdeal : Cert.RefDYcatIdeal.Facts] : Prop :=
  ∀ (m : (ℓ : Loc Cert.DYcatIdeal.nD Cert.DYcatIdeal.τ Cert.DYcatIdeal.sig) → Buf (Elt Ideal) ℓ) (g : Dev Cert.DYcatIdeal.nD → PrngReg)
    (m' : (ℓ : Loc Cert.RefDYcatIdeal.nD Cert.RefDYcatIdeal.τ Cert.RefDYcatIdeal.sig) → Buf (Elt Ideal) ℓ) (g' : Dev Cert.RefDYcatIdeal.nD → PrngReg), Pre_DYcatIdeal m →
    (∀ c : Dev Cert.DYcatIdeal.nD,
      m' ((c.tc : Thread Cert.RefDYcatIdeal.nD Cert.RefDYcatIdeal.τ).loc Cert.RefDYcatIdeal.main_arg0) = m ((c.tc : Thread Cert.DYcatIdeal.nD Cert.DYcatIdeal.τ).loc Cert.DYcatIdeal.main_arg0)
      ∧ m' ((c.tc : Thread Cert.RefDYcatIdeal.nD Cert.RefDYcatIdeal.τ).loc Cert.RefDYcatIdeal.main_arg1) = m ((c.tc : Thread Cert.DYcatIdeal.nD Cert.DYcatIdeal.τ).loc Cert.DYcatIdeal.main_arg1)
      ∧ m' ((c.tc : Thread Cert.RefDYcatIdeal.nD Cert.RefDYcatIdeal.τ).loc Cert.RefDYcatIdeal.main_arg2) = m ((c.tc : Thread Cert.DYcatIdeal.nD Cert.DYcatIdeal.τ).loc Cert.DYcatIdeal.main_arg2)) →
    ∃ (v0 : (c : Dev Cert.DYcatIdeal.nD) → Buf (Elt Ideal) ((c.tc : Thread Cert.DYcatIdeal.nD Cert.DYcatIdeal.τ).loc Cert.DYcatIdeal.main_v0)),
      θ_run (Cert.DYcatIdeal.defs (F := Ideal)) (onTc (τ := Cert.DYcatIdeal.τ) (Cert.DYcatIdeal.main (F := Ideal))) ⟨m, fun _ => 0, g⟩ (fun r => ∀ c : Dev Cert.DYcatIdeal.nD,
          r.2.mem ((c.tc : Thread Cert.DYcatIdeal.nD Cert.DYcatIdeal.τ).loc Cert.DYcatIdeal.main_v0) = v0 c
          ∧ r.2.mem ((c.tc : Thread Cert.DYcatIdeal.nD Cert.DYcatIdeal.τ).loc Cert.DYcatIdeal.main_arg0) = m ((c.tc : Thread Cert.DYcatIdeal.nD Cert.DYcatIdeal.τ).loc Cert.DYcatIdeal.main_arg0)
          ∧ r.2.mem ((c.tc : Thread Cert.DYcatIdeal.nD Cert.DYcatIdeal.τ).loc Cert.DYcatIdeal.main_arg1) = m ((c.tc : Thread Cert.DYcatIdeal.nD Cert.DYcatIdeal.τ).loc Cert.DYcatIdeal.main_arg1)
          ∧ r.2.mem ((c.tc : Thread Cert.DYcatIdeal.nD Cert.DYcatIdeal.τ).loc Cert.DYcatIdeal.main_arg2) = m ((c.tc : Thread Cert.DYcatIdeal.nD Cert.DYcatIdeal.τ).loc Cert.DYcatIdeal.main_arg2))
      ∧ θ_run (Cert.RefDYcatIdeal.defs (F := Ideal)) (onTc (τ := Cert.RefDYcatIdeal.τ) (Cert.RefDYcatIdeal.main (F := Ideal))) ⟨m', fun _ => 0, g'⟩ (fun r => ∀ c : Dev Cert.RefDYcatIdeal.nD,
          r.2.mem ((c.tc : Thread Cert.RefDYcatIdeal.nD Cert.RefDYcatIdeal.τ).loc Cert.RefDYcatIdeal.main_v6) = v0 c
          ∧ r.2.mem ((c.tc : Thread Cert.RefDYcatIdeal.nD Cert.RefDYcatIdeal.τ).loc Cert.RefDYcatIdeal.main_arg0) = m' ((c.tc : Thread Cert.RefDYcatIdeal.nD Cert.RefDYcatIdeal.τ).loc Cert.RefDYcatIdeal.main_arg0)
          ∧ r.2.mem ((c.tc : Thread Cert.RefDYcatIdeal.nD Cert.RefDYcatIdeal.τ).loc Cert.RefDYcatIdeal.main_arg1) = m' ((c.tc : Thread Cert.RefDYcatIdeal.nD Cert.RefDYcatIdeal.τ).loc Cert.RefDYcatIdeal.main_arg1)
          ∧ r.2.mem ((c.tc : Thread Cert.RefDYcatIdeal.nD Cert.RefDYcatIdeal.τ).loc Cert.RefDYcatIdeal.main_arg2) = m' ((c.tc : Thread Cert.RefDYcatIdeal.nD Cert.RefDYcatIdeal.τ).loc Cert.RefDYcatIdeal.main_arg2))

def preserves_GwOut_GwOutIdeal : Prop :=
  True

def algebraic_GwOutIdeal_RefGwOutIdeal [hGwOutIdeal : Cert.GwOutIdeal.Facts] [hRefGwOutIdeal : Cert.RefGwOutIdeal.Facts] : Prop :=
  ∀ (m : (ℓ : Loc Cert.GwOutIdeal.nD Cert.GwOutIdeal.τ Cert.GwOutIdeal.sig) → Buf (Elt Ideal) ℓ) (g : Dev Cert.GwOutIdeal.nD → PrngReg)
    (m' : (ℓ : Loc Cert.RefGwOutIdeal.nD Cert.RefGwOutIdeal.τ Cert.RefGwOutIdeal.sig) → Buf (Elt Ideal) ℓ) (g' : Dev Cert.RefGwOutIdeal.nD → PrngReg), Pre_GwOutIdeal m →
    (∀ c : Dev Cert.GwOutIdeal.nD,
      m' ((c.tc : Thread Cert.RefGwOutIdeal.nD Cert.RefGwOutIdeal.τ).loc Cert.RefGwOutIdeal.main_arg0) = m ((c.tc : Thread Cert.GwOutIdeal.nD Cert.GwOutIdeal.τ).loc Cert.GwOutIdeal.main_arg0)
      ∧ m' ((c.tc : Thread Cert.RefGwOutIdeal.nD Cert.RefGwOutIdeal.τ).loc Cert.RefGwOutIdeal.main_arg1) = m ((c.tc : Thread Cert.GwOutIdeal.nD Cert.GwOutIdeal.τ).loc Cert.GwOutIdeal.main_arg1)) →
    ∃ (v0 : (c : Dev Cert.GwOutIdeal.nD) → Buf (Elt Ideal) ((c.tc : Thread Cert.GwOutIdeal.nD Cert.GwOutIdeal.τ).loc Cert.GwOutIdeal.main_v0)),
      θ_run (Cert.GwOutIdeal.defs (F := Ideal)) (onTc (τ := Cert.GwOutIdeal.τ) (Cert.GwOutIdeal.main (F := Ideal))) ⟨m, fun _ => 0, g⟩ (fun r => ∀ c : Dev Cert.GwOutIdeal.nD,
          r.2.mem ((c.tc : Thread Cert.GwOutIdeal.nD Cert.GwOutIdeal.τ).loc Cert.GwOutIdeal.main_v0) = v0 c
          ∧ r.2.mem ((c.tc : Thread Cert.GwOutIdeal.nD Cert.GwOutIdeal.τ).loc Cert.GwOutIdeal.main_arg0) = m ((c.tc : Thread Cert.GwOutIdeal.nD Cert.GwOutIdeal.τ).loc Cert.GwOutIdeal.main_arg0)
          ∧ r.2.mem ((c.tc : Thread Cert.GwOutIdeal.nD Cert.GwOutIdeal.τ).loc Cert.GwOutIdeal.main_arg1) = m ((c.tc : Thread Cert.GwOutIdeal.nD Cert.GwOutIdeal.τ).loc Cert.GwOutIdeal.main_arg1))
      ∧ θ_run (Cert.RefGwOutIdeal.defs (F := Ideal)) (onTc (τ := Cert.RefGwOutIdeal.τ) (Cert.RefGwOutIdeal.main (F := Ideal))) ⟨m', fun _ => 0, g'⟩ (fun r => ∀ c : Dev Cert.RefGwOutIdeal.nD,
          r.2.mem ((c.tc : Thread Cert.RefGwOutIdeal.nD Cert.RefGwOutIdeal.τ).loc Cert.RefGwOutIdeal.main_v8) = v0 c
          ∧ r.2.mem ((c.tc : Thread Cert.RefGwOutIdeal.nD Cert.RefGwOutIdeal.τ).loc Cert.RefGwOutIdeal.main_arg0) = m' ((c.tc : Thread Cert.RefGwOutIdeal.nD Cert.RefGwOutIdeal.τ).loc Cert.RefGwOutIdeal.main_arg0)
          ∧ r.2.mem ((c.tc : Thread Cert.RefGwOutIdeal.nD Cert.RefGwOutIdeal.τ).loc Cert.RefGwOutIdeal.main_arg1) = m' ((c.tc : Thread Cert.RefGwOutIdeal.nD Cert.RefGwOutIdeal.τ).loc Cert.RefGwOutIdeal.main_arg1))

def preserves_DH1_DH1Ideal : Prop :=
  True

def algebraic_DH1Ideal_RefDH1Ideal [hDH1Ideal : Cert.DH1Ideal.Facts] [hRefDH1Ideal : Cert.RefDH1Ideal.Facts] : Prop :=
  ∀ (m : (ℓ : Loc Cert.DH1Ideal.nD Cert.DH1Ideal.τ Cert.DH1Ideal.sig) → Buf (Elt Ideal) ℓ) (g : Dev Cert.DH1Ideal.nD → PrngReg)
    (m' : (ℓ : Loc Cert.RefDH1Ideal.nD Cert.RefDH1Ideal.τ Cert.RefDH1Ideal.sig) → Buf (Elt Ideal) ℓ) (g' : Dev Cert.RefDH1Ideal.nD → PrngReg), Pre_DH1Ideal m →
    (∀ c : Dev Cert.DH1Ideal.nD,
      m' ((c.tc : Thread Cert.RefDH1Ideal.nD Cert.RefDH1Ideal.τ).loc Cert.RefDH1Ideal.main_arg0) = m ((c.tc : Thread Cert.DH1Ideal.nD Cert.DH1Ideal.τ).loc Cert.DH1Ideal.main_arg0)
      ∧ m' ((c.tc : Thread Cert.RefDH1Ideal.nD Cert.RefDH1Ideal.τ).loc Cert.RefDH1Ideal.main_arg1) = m ((c.tc : Thread Cert.DH1Ideal.nD Cert.DH1Ideal.τ).loc Cert.DH1Ideal.main_arg1)) →
    ∃ (v0 : (c : Dev Cert.DH1Ideal.nD) → Buf (Elt Ideal) ((c.tc : Thread Cert.DH1Ideal.nD Cert.DH1Ideal.τ).loc Cert.DH1Ideal.main_v0)),
      θ_run (Cert.DH1Ideal.defs (F := Ideal)) (onTc (τ := Cert.DH1Ideal.τ) (Cert.DH1Ideal.main (F := Ideal))) ⟨m, fun _ => 0, g⟩ (fun r => ∀ c : Dev Cert.DH1Ideal.nD,
          r.2.mem ((c.tc : Thread Cert.DH1Ideal.nD Cert.DH1Ideal.τ).loc Cert.DH1Ideal.main_v0) = v0 c
          ∧ r.2.mem ((c.tc : Thread Cert.DH1Ideal.nD Cert.DH1Ideal.τ).loc Cert.DH1Ideal.main_arg0) = m ((c.tc : Thread Cert.DH1Ideal.nD Cert.DH1Ideal.τ).loc Cert.DH1Ideal.main_arg0)
          ∧ r.2.mem ((c.tc : Thread Cert.DH1Ideal.nD Cert.DH1Ideal.τ).loc Cert.DH1Ideal.main_arg1) = m ((c.tc : Thread Cert.DH1Ideal.nD Cert.DH1Ideal.τ).loc Cert.DH1Ideal.main_arg1))
      ∧ θ_run (Cert.RefDH1Ideal.defs (F := Ideal)) (onTc (τ := Cert.RefDH1Ideal.τ) (Cert.RefDH1Ideal.main (F := Ideal))) ⟨m', fun _ => 0, g'⟩ (fun r => ∀ c : Dev Cert.RefDH1Ideal.nD,
          r.2.mem ((c.tc : Thread Cert.RefDH1Ideal.nD Cert.RefDH1Ideal.τ).loc Cert.RefDH1Ideal.main_v6) = v0 c
          ∧ r.2.mem ((c.tc : Thread Cert.RefDH1Ideal.nD Cert.RefDH1Ideal.τ).loc Cert.RefDH1Ideal.main_arg0) = m' ((c.tc : Thread Cert.RefDH1Ideal.nD Cert.RefDH1Ideal.τ).loc Cert.RefDH1Ideal.main_arg0)
          ∧ r.2.mem ((c.tc : Thread Cert.RefDH1Ideal.nD Cert.RefDH1Ideal.τ).loc Cert.RefDH1Ideal.main_arg1) = m' ((c.tc : Thread Cert.RefDH1Ideal.nD Cert.RefDH1Ideal.τ).loc Cert.RefDH1Ideal.main_arg1))

def preserves_GwIn_GwInIdeal : Prop :=
  True

def algebraic_GwInIdeal_RefGwInIdeal [hGwInIdeal : Cert.GwInIdeal.Facts] [hRefGwInIdeal : Cert.RefGwInIdeal.Facts] : Prop :=
  ∀ (m : (ℓ : Loc Cert.GwInIdeal.nD Cert.GwInIdeal.τ Cert.GwInIdeal.sig) → Buf (Elt Ideal) ℓ) (g : Dev Cert.GwInIdeal.nD → PrngReg)
    (m' : (ℓ : Loc Cert.RefGwInIdeal.nD Cert.RefGwInIdeal.τ Cert.RefGwInIdeal.sig) → Buf (Elt Ideal) ℓ) (g' : Dev Cert.RefGwInIdeal.nD → PrngReg), Pre_GwInIdeal m →
    (∀ c : Dev Cert.GwInIdeal.nD,
      m' ((c.tc : Thread Cert.RefGwInIdeal.nD Cert.RefGwInIdeal.τ).loc Cert.RefGwInIdeal.main_arg0) = m ((c.tc : Thread Cert.GwInIdeal.nD Cert.GwInIdeal.τ).loc Cert.GwInIdeal.main_arg0)
      ∧ m' ((c.tc : Thread Cert.RefGwInIdeal.nD Cert.RefGwInIdeal.τ).loc Cert.RefGwInIdeal.main_arg1) = m ((c.tc : Thread Cert.GwInIdeal.nD Cert.GwInIdeal.τ).loc Cert.GwInIdeal.main_arg1)) →
    ∃ (v0 : (c : Dev Cert.GwInIdeal.nD) → Buf (Elt Ideal) ((c.tc : Thread Cert.GwInIdeal.nD Cert.GwInIdeal.τ).loc Cert.GwInIdeal.main_v0)),
      θ_run (Cert.GwInIdeal.defs (F := Ideal)) (onTc (τ := Cert.GwInIdeal.τ) (Cert.GwInIdeal.main (F := Ideal))) ⟨m, fun _ => 0, g⟩ (fun r => ∀ c : Dev Cert.GwInIdeal.nD,
          r.2.mem ((c.tc : Thread Cert.GwInIdeal.nD Cert.GwInIdeal.τ).loc Cert.GwInIdeal.main_v0) = v0 c
          ∧ r.2.mem ((c.tc : Thread Cert.GwInIdeal.nD Cert.GwInIdeal.τ).loc Cert.GwInIdeal.main_arg0) = m ((c.tc : Thread Cert.GwInIdeal.nD Cert.GwInIdeal.τ).loc Cert.GwInIdeal.main_arg0)
          ∧ r.2.mem ((c.tc : Thread Cert.GwInIdeal.nD Cert.GwInIdeal.τ).loc Cert.GwInIdeal.main_arg1) = m ((c.tc : Thread Cert.GwInIdeal.nD Cert.GwInIdeal.τ).loc Cert.GwInIdeal.main_arg1))
      ∧ θ_run (Cert.RefGwInIdeal.defs (F := Ideal)) (onTc (τ := Cert.RefGwInIdeal.τ) (Cert.RefGwInIdeal.main (F := Ideal))) ⟨m', fun _ => 0, g'⟩ (fun r => ∀ c : Dev Cert.RefGwInIdeal.nD,
          r.2.mem ((c.tc : Thread Cert.RefGwInIdeal.nD Cert.RefGwInIdeal.τ).loc Cert.RefGwInIdeal.main_v8) = v0 c
          ∧ r.2.mem ((c.tc : Thread Cert.RefGwInIdeal.nD Cert.RefGwInIdeal.τ).loc Cert.RefGwInIdeal.main_arg0) = m' ((c.tc : Thread Cert.RefGwInIdeal.nD Cert.RefGwInIdeal.τ).loc Cert.RefGwInIdeal.main_arg0)
          ∧ r.2.mem ((c.tc : Thread Cert.RefGwInIdeal.nD Cert.RefGwInIdeal.τ).loc Cert.RefGwInIdeal.main_arg1) = m' ((c.tc : Thread Cert.RefGwInIdeal.nD Cert.RefGwInIdeal.τ).loc Cert.RefGwInIdeal.main_arg1))

def preserves_Wada_WadaIdeal : Prop :=
  True

def algebraic_WadaIdeal_RefWadaIdeal [hWadaIdeal : Cert.WadaIdeal.Facts] [hRefWadaIdeal : Cert.RefWadaIdeal.Facts] : Prop :=
  ∀ (m : (ℓ : Loc Cert.WadaIdeal.nD Cert.WadaIdeal.τ Cert.WadaIdeal.sig) → Buf (Elt Ideal) ℓ) (g : Dev Cert.WadaIdeal.nD → PrngReg)
    (m' : (ℓ : Loc Cert.RefWadaIdeal.nD Cert.RefWadaIdeal.τ Cert.RefWadaIdeal.sig) → Buf (Elt Ideal) ℓ) (g' : Dev Cert.RefWadaIdeal.nD → PrngReg), Pre_WadaIdeal m →
    (∀ c : Dev Cert.WadaIdeal.nD,
      m' ((c.tc : Thread Cert.RefWadaIdeal.nD Cert.RefWadaIdeal.τ).loc Cert.RefWadaIdeal.main_arg0) = m ((c.tc : Thread Cert.WadaIdeal.nD Cert.WadaIdeal.τ).loc Cert.WadaIdeal.main_arg0)
      ∧ m' ((c.tc : Thread Cert.RefWadaIdeal.nD Cert.RefWadaIdeal.τ).loc Cert.RefWadaIdeal.main_arg1) = m ((c.tc : Thread Cert.WadaIdeal.nD Cert.WadaIdeal.τ).loc Cert.WadaIdeal.main_arg1)
      ∧ m' ((c.tc : Thread Cert.RefWadaIdeal.nD Cert.RefWadaIdeal.τ).loc Cert.RefWadaIdeal.main_arg2) = m ((c.tc : Thread Cert.WadaIdeal.nD Cert.WadaIdeal.τ).loc Cert.WadaIdeal.main_arg2)
      ∧ m' ((c.tc : Thread Cert.RefWadaIdeal.nD Cert.RefWadaIdeal.τ).loc Cert.RefWadaIdeal.main_arg3) = m ((c.tc : Thread Cert.WadaIdeal.nD Cert.WadaIdeal.τ).loc Cert.WadaIdeal.main_arg3)
      ∧ m' ((c.tc : Thread Cert.RefWadaIdeal.nD Cert.RefWadaIdeal.τ).loc Cert.RefWadaIdeal.main_arg4) = m ((c.tc : Thread Cert.WadaIdeal.nD Cert.WadaIdeal.τ).loc Cert.WadaIdeal.main_arg4)) →
    ∃ (v0 : (c : Dev Cert.WadaIdeal.nD) → Buf (Elt Ideal) ((c.tc : Thread Cert.WadaIdeal.nD Cert.WadaIdeal.τ).loc Cert.WadaIdeal.main_v1_0)) (v1 : (c : Dev Cert.WadaIdeal.nD) → Buf (Elt Ideal) ((c.tc : Thread Cert.WadaIdeal.nD Cert.WadaIdeal.τ).loc Cert.WadaIdeal.main_v1_1)) (v2 : (c : Dev Cert.WadaIdeal.nD) → Buf (Elt Ideal) ((c.tc : Thread Cert.WadaIdeal.nD Cert.WadaIdeal.τ).loc Cert.WadaIdeal.main_v1_2)) (v3 : (c : Dev Cert.WadaIdeal.nD) → Buf (Elt Ideal) ((c.tc : Thread Cert.WadaIdeal.nD Cert.WadaIdeal.τ).loc Cert.WadaIdeal.main_v1_3)),
      θ_run (Cert.WadaIdeal.defs (F := Ideal)) (onTc (τ := Cert.WadaIdeal.τ) (Cert.WadaIdeal.main (F := Ideal))) ⟨m, fun _ => 0, g⟩ (fun r => ∀ c : Dev Cert.WadaIdeal.nD,
          r.2.mem ((c.tc : Thread Cert.WadaIdeal.nD Cert.WadaIdeal.τ).loc Cert.WadaIdeal.main_v1_0) = v0 c
          ∧ r.2.mem ((c.tc : Thread Cert.WadaIdeal.nD Cert.WadaIdeal.τ).loc Cert.WadaIdeal.main_v1_1) = v1 c
          ∧ r.2.mem ((c.tc : Thread Cert.WadaIdeal.nD Cert.WadaIdeal.τ).loc Cert.WadaIdeal.main_v1_2) = v2 c
          ∧ r.2.mem ((c.tc : Thread Cert.WadaIdeal.nD Cert.WadaIdeal.τ).loc Cert.WadaIdeal.main_v1_3) = v3 c
          ∧ r.2.mem ((c.tc : Thread Cert.WadaIdeal.nD Cert.WadaIdeal.τ).loc Cert.WadaIdeal.main_arg0) = m ((c.tc : Thread Cert.WadaIdeal.nD Cert.WadaIdeal.τ).loc Cert.WadaIdeal.main_arg0)
          ∧ r.2.mem ((c.tc : Thread Cert.WadaIdeal.nD Cert.WadaIdeal.τ).loc Cert.WadaIdeal.main_arg1) = m ((c.tc : Thread Cert.WadaIdeal.nD Cert.WadaIdeal.τ).loc Cert.WadaIdeal.main_arg1)
          ∧ r.2.mem ((c.tc : Thread Cert.WadaIdeal.nD Cert.WadaIdeal.τ).loc Cert.WadaIdeal.main_arg2) = m ((c.tc : Thread Cert.WadaIdeal.nD Cert.WadaIdeal.τ).loc Cert.WadaIdeal.main_arg2)
          ∧ r.2.mem ((c.tc : Thread Cert.WadaIdeal.nD Cert.WadaIdeal.τ).loc Cert.WadaIdeal.main_arg3) = m ((c.tc : Thread Cert.WadaIdeal.nD Cert.WadaIdeal.τ).loc Cert.WadaIdeal.main_arg3)
          ∧ r.2.mem ((c.tc : Thread Cert.WadaIdeal.nD Cert.WadaIdeal.τ).loc Cert.WadaIdeal.main_arg4) = m ((c.tc : Thread Cert.WadaIdeal.nD Cert.WadaIdeal.τ).loc Cert.WadaIdeal.main_arg4))
      ∧ θ_run (Cert.RefWadaIdeal.defs (F := Ideal)) (onTc (τ := Cert.RefWadaIdeal.τ) (Cert.RefWadaIdeal.main (F := Ideal))) ⟨m', fun _ => 0, g'⟩ (fun r => ∀ c : Dev Cert.RefWadaIdeal.nD,
          r.2.mem ((c.tc : Thread Cert.RefWadaIdeal.nD Cert.RefWadaIdeal.τ).loc Cert.RefWadaIdeal.main_v3) = v0 c
          ∧ r.2.mem ((c.tc : Thread Cert.RefWadaIdeal.nD Cert.RefWadaIdeal.τ).loc Cert.RefWadaIdeal.main_v27) = v1 c
          ∧ r.2.mem ((c.tc : Thread Cert.RefWadaIdeal.nD Cert.RefWadaIdeal.τ).loc Cert.RefWadaIdeal.main_v8) = v2 c
          ∧ r.2.mem ((c.tc : Thread Cert.RefWadaIdeal.nD Cert.RefWadaIdeal.τ).loc Cert.RefWadaIdeal.main_v14) = v3 c
          ∧ r.2.mem ((c.tc : Thread Cert.RefWadaIdeal.nD Cert.RefWadaIdeal.τ).loc Cert.RefWadaIdeal.main_arg0) = m' ((c.tc : Thread Cert.RefWadaIdeal.nD Cert.RefWadaIdeal.τ).loc Cert.RefWadaIdeal.main_arg0)
          ∧ r.2.mem ((c.tc : Thread Cert.RefWadaIdeal.nD Cert.RefWadaIdeal.τ).loc Cert.RefWadaIdeal.main_arg1) = m' ((c.tc : Thread Cert.RefWadaIdeal.nD Cert.RefWadaIdeal.τ).loc Cert.RefWadaIdeal.main_arg1)
          ∧ r.2.mem ((c.tc : Thread Cert.RefWadaIdeal.nD Cert.RefWadaIdeal.τ).loc Cert.RefWadaIdeal.main_arg2) = m' ((c.tc : Thread Cert.RefWadaIdeal.nD Cert.RefWadaIdeal.τ).loc Cert.RefWadaIdeal.main_arg2)
          ∧ r.2.mem ((c.tc : Thread Cert.RefWadaIdeal.nD Cert.RefWadaIdeal.τ).loc Cert.RefWadaIdeal.main_arg3) = m' ((c.tc : Thread Cert.RefWadaIdeal.nD Cert.RefWadaIdeal.τ).loc Cert.RefWadaIdeal.main_arg3)
          ∧ r.2.mem ((c.tc : Thread Cert.RefWadaIdeal.nD Cert.RefWadaIdeal.τ).loc Cert.RefWadaIdeal.main_arg4) = m' ((c.tc : Thread Cert.RefWadaIdeal.nD Cert.RefWadaIdeal.τ).loc Cert.RefWadaIdeal.main_arg4))

def preserves_AdamIn_AdamInIdeal : Prop :=
  True

def algebraic_AdamInIdeal_RefAdamInIdeal [hAdamInIdeal : Cert.AdamInIdeal.Facts] [hRefAdamInIdeal : Cert.RefAdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.RefAdamInIdeal.nD Cert.RefAdamInIdeal.τ Cert.RefAdamInIdeal.sig) → Buf (Elt Ideal) ℓ) (g' : Dev Cert.RefAdamInIdeal.nD → PrngReg), Pre_AdamInIdeal m →
    (∀ c : Dev Cert.AdamInIdeal.nD,
      m' ((c.tc : Thread Cert.RefAdamInIdeal.nD Cert.RefAdamInIdeal.τ).loc Cert.RefAdamInIdeal.main_arg0) = m ((c.tc : Thread Cert.AdamInIdeal.nD Cert.AdamInIdeal.τ).loc Cert.AdamInIdeal.main_arg0)
      ∧ m' ((c.tc : Thread Cert.RefAdamInIdeal.nD Cert.RefAdamInIdeal.τ).loc Cert.RefAdamInIdeal.main_arg1) = m ((c.tc : Thread Cert.AdamInIdeal.nD Cert.AdamInIdeal.τ).loc Cert.AdamInIdeal.main_arg1)
      ∧ m' ((c.tc : Thread Cert.RefAdamInIdeal.nD Cert.RefAdamInIdeal.τ).loc Cert.RefAdamInIdeal.main_arg2) = m ((c.tc : Thread Cert.AdamInIdeal.nD Cert.AdamInIdeal.τ).loc Cert.AdamInIdeal.main_arg2)
      ∧ m' ((c.tc : Thread Cert.RefAdamInIdeal.nD Cert.RefAdamInIdeal.τ).loc Cert.RefAdamInIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.RefAdamInIdeal.defs (F := Ideal)) (onTc (τ := Cert.RefAdamInIdeal.τ) (Cert.RefAdamInIdeal.main (F := Ideal))) ⟨m', fun _ => 0, g'⟩ (fun r => ∀ c : Dev Cert.RefAdamInIdeal.nD,
          r.2.mem ((c.tc : Thread Cert.RefAdamInIdeal.nD Cert.RefAdamInIdeal.τ).loc Cert.RefAdamInIdeal.main_arg1) = v0 c
          ∧ r.2.mem ((c.tc : Thread Cert.RefAdamInIdeal.nD Cert.RefAdamInIdeal.τ).loc Cert.RefAdamInIdeal.main_v23) = v1 c
          ∧ r.2.mem ((c.tc : Thread Cert.RefAdamInIdeal.nD Cert.RefAdamInIdeal.τ).loc Cert.RefAdamInIdeal.main_v4) = v2 c
          ∧ r.2.mem ((c.tc : Thread Cert.RefAdamInIdeal.nD Cert.RefAdamInIdeal.τ).loc Cert.RefAdamInIdeal.main_v10) = v3 c
          ∧ r.2.mem ((c.tc : Thread Cert.RefAdamInIdeal.nD Cert.RefAdamInIdeal.τ).loc Cert.RefAdamInIdeal.main_arg0) = m' ((c.tc : Thread Cert.RefAdamInIdeal.nD Cert.RefAdamInIdeal.τ).loc Cert.RefAdamInIdeal.main_arg0)
          ∧ r.2.mem ((c.tc : Thread Cert.RefAdamInIdeal.nD Cert.RefAdamInIdeal.τ).loc Cert.RefAdamInIdeal.main_arg1) = m' ((c.tc : Thread Cert.RefAdamInIdeal.nD Cert.RefAdamInIdeal.τ).loc Cert.RefAdamInIdeal.main_arg1)
          ∧ r.2.mem ((c.tc : Thread Cert.RefAdamInIdeal.nD Cert.RefAdamInIdeal.τ).loc Cert.RefAdamInIdeal.main_arg2) = m' ((c.tc : Thread Cert.RefAdamInIdeal.nD Cert.RefAdamInIdeal.τ).loc Cert.RefAdamInIdeal.main_arg2)
          ∧ r.2.mem ((c.tc : Thread Cert.RefAdamInIdeal.nD Cert.RefAdamInIdeal.τ).loc Cert.RefAdamInIdeal.main_arg3) = m' ((c.tc : Thread Cert.RefAdamInIdeal.nD Cert.RefAdamInIdeal.τ).loc Cert.RefAdamInIdeal.main_arg3))

def preserves_AdamUp_AdamUpIdeal : Prop :=
  True

def algebraic_AdamUpIdeal_RefAdamUpIdeal [hAdamUpIdeal : Cert.AdamUpIdeal.Facts] [hRefAdamUpIdeal : Cert.RefAdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.RefAdamUpIdeal.nD Cert.RefAdamUpIdeal.τ Cert.RefAdamUpIdeal.sig) → Buf (Elt Ideal) ℓ) (g' : Dev Cert.RefAdamUpIdeal.nD → PrngReg), Pre_AdamUpIdeal m →
    (∀ c : Dev Cert.AdamUpIdeal.nD,
      m' ((c.tc : Thread Cert.RefAdamUpIdeal.nD Cert.RefAdamUpIdeal.τ).loc Cert.RefAdamUpIdeal.main_arg0) = m ((c.tc : Thread Cert.AdamUpIdeal.nD Cert.AdamUpIdeal.τ).loc Cert.AdamUpIdeal.main_arg0)
      ∧ m' ((c.tc : Thread Cert.RefAdamUpIdeal.nD Cert.RefAdamUpIdeal.τ).loc Cert.RefAdamUpIdeal.main_arg1) = m ((c.tc : Thread Cert.AdamUpIdeal.nD Cert.AdamUpIdeal.τ).loc Cert.AdamUpIdeal.main_arg1)
      ∧ m' ((c.tc : Thread Cert.RefAdamUpIdeal.nD Cert.RefAdamUpIdeal.τ).loc Cert.RefAdamUpIdeal.main_arg2) = m ((c.tc : Thread Cert.AdamUpIdeal.nD Cert.AdamUpIdeal.τ).loc Cert.AdamUpIdeal.main_arg2)
      ∧ m' ((c.tc : Thread Cert.RefAdamUpIdeal.nD Cert.RefAdamUpIdeal.τ).loc Cert.RefAdamUpIdeal.main_arg3) = m ((c.tc : Thread Cert.AdamUpIdeal.nD Cert.AdamUpIdeal.τ).loc Cert.AdamUpIdeal.main_arg3)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)) (v3 : (c : Dev Cert.AdamUpIdeal.nD) → Buf (Elt Ideal) ((c.tc : Thread Cert.AdamUpIdeal.nD Cert.AdamUpIdeal.τ).loc Cert.AdamUpIdeal.main_v0_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_v0_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ θ_run (Cert.RefAdamUpIdeal.defs (F := Ideal)) (onTc (τ := Cert.RefAdamUpIdeal.τ) (Cert.RefAdamUpIdeal.main (F := Ideal))) ⟨m', fun _ => 0, g'⟩ (fun r => ∀ c : Dev Cert.RefAdamUpIdeal.nD,
          r.2.mem ((c.tc : Thread Cert.RefAdamUpIdeal.nD Cert.RefAdamUpIdeal.τ).loc Cert.RefAdamUpIdeal.main_arg1) = v0 c
          ∧ r.2.mem ((c.tc : Thread Cert.RefAdamUpIdeal.nD Cert.RefAdamUpIdeal.τ).loc Cert.RefAdamUpIdeal.main_v23) = v1 c
          ∧ r.2.mem ((c.tc : Thread Cert.RefAdamUpIdeal.nD Cert.RefAdamUpIdeal.τ).loc Cert.RefAdamUpIdeal.main_v4) = v2 c
          ∧ r.2.mem ((c.tc : Thread Cert.RefAdamUpIdeal.nD Cert.RefAdamUpIdeal.τ).loc Cert.RefAdamUpIdeal.main_v10) = v3 c
          ∧ r.2.mem ((c.tc : Thread Cert.RefAdamUpIdeal.nD Cert.RefAdamUpIdeal.τ).loc Cert.RefAdamUpIdeal.main_arg0) = m' ((c.tc : Thread Cert.RefAdamUpIdeal.nD Cert.RefAdamUpIdeal.τ).loc Cert.RefAdamUpIdeal.main_arg0)
          ∧ r.2.mem ((c.tc : Thread Cert.RefAdamUpIdeal.nD Cert.RefAdamUpIdeal.τ).loc Cert.RefAdamUpIdeal.main_arg1) = m' ((c.tc : Thread Cert.RefAdamUpIdeal.nD Cert.RefAdamUpIdeal.τ).loc Cert.RefAdamUpIdeal.main_arg1)
          ∧ r.2.mem ((c.tc : Thread Cert.RefAdamUpIdeal.nD Cert.RefAdamUpIdeal.τ).loc Cert.RefAdamUpIdeal.main_arg2) = m' ((c.tc : Thread Cert.RefAdamUpIdeal.nD Cert.RefAdamUpIdeal.τ).loc Cert.RefAdamUpIdeal.main_arg2)
          ∧ r.2.mem ((c.tc : Thread Cert.RefAdamUpIdeal.nD Cert.RefAdamUpIdeal.τ).loc Cert.RefAdamUpIdeal.main_arg3) = m' ((c.tc : Thread Cert.RefAdamUpIdeal.nD Cert.RefAdamUpIdeal.τ).loc Cert.RefAdamUpIdeal.main_arg3))

def preserves_AdamOut_AdamOutIdeal : Prop :=
  True

def algebraic_AdamOutIdeal_RefAdamOutIdeal [hAdamOutIdeal : Cert.AdamOutIdeal.Facts] [hRefAdamOutIdeal : Cert.RefAdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.RefAdamOutIdeal.nD Cert.RefAdamOutIdeal.τ Cert.RefAdamOutIdeal.sig) → Buf (Elt Ideal) ℓ) (g' : Dev Cert.RefAdamOutIdeal.nD → PrngReg), Pre_AdamOutIdeal m →
    (∀ c : Dev Cert.AdamOutIdeal.nD,
      m' ((c.tc : Thread Cert.RefAdamOutIdeal.nD Cert.RefAdamOutIdeal.τ).loc Cert.RefAdamOutIdeal.main_arg0) = m ((c.tc : Thread Cert.AdamOutIdeal.nD Cert.AdamOutIdeal.τ).loc Cert.AdamOutIdeal.main_arg0)
      ∧ m' ((c.tc : Thread Cert.RefAdamOutIdeal.nD Cert.RefAdamOutIdeal.τ).loc Cert.RefAdamOutIdeal.main_arg1) = m ((c.tc : Thread Cert.AdamOutIdeal.nD Cert.AdamOutIdeal.τ).loc Cert.AdamOutIdeal.main_arg1)
      ∧ m' ((c.tc : Thread Cert.RefAdamOutIdeal.nD Cert.RefAdamOutIdeal.τ).loc Cert.RefAdamOutIdeal.main_arg2) = m ((c.tc : Thread Cert.AdamOutIdeal.nD Cert.AdamOutIdeal.τ).loc Cert.AdamOutIdeal.main_arg2)
      ∧ m' ((c.tc : Thread Cert.RefAdamOutIdeal.nD Cert.RefAdamOutIdeal.τ).loc Cert.RefAdamOutIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.RefAdamOutIdeal.defs (F := Ideal)) (onTc (τ := Cert.RefAdamOutIdeal.τ) (Cert.RefAdamOutIdeal.main (F := Ideal))) ⟨m', fun _ => 0, g'⟩ (fun r => ∀ c : Dev Cert.RefAdamOutIdeal.nD,
          r.2.mem ((c.tc : Thread Cert.RefAdamOutIdeal.nD Cert.RefAdamOutIdeal.τ).loc Cert.RefAdamOutIdeal.main_v1) = v0 c
          ∧ r.2.mem ((c.tc : Thread Cert.RefAdamOutIdeal.nD Cert.RefAdamOutIdeal.τ).loc Cert.RefAdamOutIdeal.main_v25) = v1 c
          ∧ r.2.mem ((c.tc : Thread Cert.RefAdamOutIdeal.nD Cert.RefAdamOutIdeal.τ).loc Cert.RefAdamOutIdeal.main_v6) = v2 c
          ∧ r.2.mem ((c.tc : Thread Cert.RefAdamOutIdeal.nD Cert.RefAdamOutIdeal.τ).loc Cert.RefAdamOutIdeal.main_v12) = v3 c
          ∧ r.2.mem ((c.tc : Thread Cert.RefAdamOutIdeal.nD Cert.RefAdamOutIdeal.τ).loc Cert.RefAdamOutIdeal.main_arg0) = m' ((c.tc : Thread Cert.RefAdamOutIdeal.nD Cert.RefAdamOutIdeal.τ).loc Cert.RefAdamOutIdeal.main_arg0)
          ∧ r.2.mem ((c.tc : Thread Cert.RefAdamOutIdeal.nD Cert.RefAdamOutIdeal.τ).loc Cert.RefAdamOutIdeal.main_arg1) = m' ((c.tc : Thread Cert.RefAdamOutIdeal.nD Cert.RefAdamOutIdeal.τ).loc Cert.RefAdamOutIdeal.main_arg1)
          ∧ r.2.mem ((c.tc : Thread Cert.RefAdamOutIdeal.nD Cert.RefAdamOutIdeal.τ).loc Cert.RefAdamOutIdeal.main_arg2) = m' ((c.tc : Thread Cert.RefAdamOutIdeal.nD Cert.RefAdamOutIdeal.τ).loc Cert.RefAdamOutIdeal.main_arg2)
          ∧ r.2.mem ((c.tc : Thread Cert.RefAdamOutIdeal.nD Cert.RefAdamOutIdeal.τ).loc Cert.RefAdamOutIdeal.main_arg3) = m' ((c.tc : Thread Cert.RefAdamOutIdeal.nD Cert.RefAdamOutIdeal.τ).loc Cert.RefAdamOutIdeal.main_arg3))

def preserves_AdamDown_AdamDownIdeal : Prop :=
  True

def algebraic_AdamDownIdeal_RefAdamDownIdeal [hAdamDownIdeal : Cert.AdamDownIdeal.Facts] [hRefAdamDownIdeal : Cert.RefAdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.RefAdamDownIdeal.nD Cert.RefAdamDownIdeal.τ Cert.RefAdamDownIdeal.sig) → Buf (Elt Ideal) ℓ) (g' : Dev Cert.RefAdamDownIdeal.nD → PrngReg), Pre_AdamDownIdeal m →
    (∀ c : Dev Cert.AdamDownIdeal.nD,
      m' ((c.tc : Thread Cert.RefAdamDownIdeal.nD Cert.RefAdamDownIdeal.τ).loc Cert.RefAdamDownIdeal.main_arg0) = m ((c.tc : Thread Cert.AdamDownIdeal.nD Cert.AdamDownIdeal.τ).loc Cert.AdamDownIdeal.main_arg0)
      ∧ m' ((c.tc : Thread Cert.RefAdamDownIdeal.nD Cert.RefAdamDownIdeal.τ).loc Cert.RefAdamDownIdeal.main_arg1) = m ((c.tc : Thread Cert.AdamDownIdeal.nD Cert.AdamDownIdeal.τ).loc Cert.AdamDownIdeal.main_arg1)
      ∧ m' ((c.tc : Thread Cert.RefAdamDownIdeal.nD Cert.RefAdamDownIdeal.τ).loc Cert.RefAdamDownIdeal.main_arg2) = m ((c.tc : Thread Cert.AdamDownIdeal.nD Cert.AdamDownIdeal.τ).loc Cert.AdamDownIdeal.main_arg2)
      ∧ m' ((c.tc : Thread Cert.RefAdamDownIdeal.nD Cert.RefAdamDownIdeal.τ).loc Cert.RefAdamDownIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)) (v3 : (c : Dev Cert.AdamDownIdeal.nD) → Buf (Elt Ideal) ((c.tc : Thread Cert.AdamDownIdeal.nD Cert.AdamDownIdeal.τ).loc Cert.AdamDownIdeal.main_v0_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_v0_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.RefAdamDownIdeal.defs (F := Ideal)) (onTc (τ := Cert.RefAdamDownIdeal.τ) (Cert.RefAdamDownIdeal.main (F := Ideal))) ⟨m', fun _ => 0, g'⟩ (fun r => ∀ c : Dev Cert.RefAdamDownIdeal.nD,
          r.2.mem ((c.tc : Thread Cert.RefAdamDownIdeal.nD Cert.RefAdamDownIdeal.τ).loc Cert.RefAdamDownIdeal.main_v1) = v0 c
          ∧ r.2.mem ((c.tc : Thread Cert.RefAdamDownIdeal.nD Cert.RefAdamDownIdeal.τ).loc Cert.RefAdamDownIdeal.main_v25) = v1 c
          ∧ r.2.mem ((c.tc : Thread Cert.RefAdamDownIdeal.nD Cert.RefAdamDownIdeal.τ).loc Cert.RefAdamDownIdeal.main_v6) = v2 c
          ∧ r.2.mem ((c.tc : Thread Cert.RefAdamDownIdeal.nD Cert.RefAdamDownIdeal.τ).loc Cert.RefAdamDownIdeal.main_v12) = v3 c
          ∧ r.2.mem ((c.tc : Thread Cert.RefAdamDownIdeal.nD Cert.RefAdamDownIdeal.τ).loc Cert.RefAdamDownIdeal.main_arg0) = m' ((c.tc : Thread Cert.RefAdamDownIdeal.nD Cert.RefAdamDownIdeal.τ).loc Cert.RefAdamDownIdeal.main_arg0)
          ∧ r.2.mem ((c.tc : Thread Cert.RefAdamDownIdeal.nD Cert.RefAdamDownIdeal.τ).loc Cert.RefAdamDownIdeal.main_arg1) = m' ((c.tc : Thread Cert.RefAdamDownIdeal.nD Cert.RefAdamDownIdeal.τ).loc Cert.RefAdamDownIdeal.main_arg1)
          ∧ r.2.mem ((c.tc : Thread Cert.RefAdamDownIdeal.nD Cert.RefAdamDownIdeal.τ).loc Cert.RefAdamDownIdeal.main_arg2) = m' ((c.tc : Thread Cert.RefAdamDownIdeal.nD Cert.RefAdamDownIdeal.τ).loc Cert.RefAdamDownIdeal.main_arg2)
          ∧ r.2.mem ((c.tc : Thread Cert.RefAdamDownIdeal.nD Cert.RefAdamDownIdeal.τ).loc Cert.RefAdamDownIdeal.main_arg3) = m' ((c.tc : Thread Cert.RefAdamDownIdeal.nD Cert.RefAdamDownIdeal.τ).loc Cert.RefAdamDownIdeal.main_arg3))

def Claim : Prop :=
  ∃ (hKernel : Cert.Kernel.Facts) (hKernelIdeal : Cert.KernelIdeal.Facts) (hReferenceIdeal : Cert.ReferenceIdeal.Facts) (hMmIn : Cert.MmIn.Facts) (hMmInIdeal : Cert.MmInIdeal.Facts) (hRefMmInIdeal : Cert.RefMmInIdeal.Facts) (hMmOut : Cert.MmOut.Facts) (hMmOutIdeal : Cert.MmOutIdeal.Facts) (hRefMmOutIdeal : Cert.RefMmOutIdeal.Facts) (hMmUp : Cert.MmUp.Facts) (hMmUpIdeal : Cert.MmUpIdeal.Facts) (hRefMmUpIdeal : Cert.RefMmUpIdeal.Facts) (hMmDown : Cert.MmDown.Facts) (hMmDownIdeal : Cert.MmDownIdeal.Facts) (hRefMmDownIdeal : Cert.RefMmDownIdeal.Facts) (hDAct : Cert.DAct.Facts) (hDActIdeal : Cert.DActIdeal.Facts) (hRefDActIdeal : Cert.RefDActIdeal.Facts) (hGwDown : Cert.GwDown.Facts) (hGwDownIdeal : Cert.GwDownIdeal.Facts) (hRefGwDownIdeal : Cert.RefGwDownIdeal.Facts) (hDH2 : Cert.DH2.Facts) (hDH2Ideal : Cert.DH2Ideal.Facts) (hRefDH2Ideal : Cert.RefDH2Ideal.Facts) (hGwUp : Cert.GwUp.Facts) (hGwUpIdeal : Cert.GwUpIdeal.Facts) (hRefGwUpIdeal : Cert.RefGwUpIdeal.Facts) (hDYcat : Cert.DYcat.Facts) (hDYcatIdeal : Cert.DYcatIdeal.Facts) (hRefDYcatIdeal : Cert.RefDYcatIdeal.Facts) (hGwOut : Cert.GwOut.Facts) (hGwOutIdeal : Cert.GwOutIdeal.Facts) (hRefGwOutIdeal : Cert.RefGwOutIdeal.Facts) (hDH1 : Cert.DH1.Facts) (hDH1Ideal : Cert.DH1Ideal.Facts) (hRefDH1Ideal : Cert.RefDH1Ideal.Facts) (hGwIn : Cert.GwIn.Facts) (hGwInIdeal : Cert.GwInIdeal.Facts) (hRefGwInIdeal : Cert.RefGwInIdeal.Facts) (hWada : Cert.Wada.Facts) (hWadaIdeal : Cert.WadaIdeal.Facts) (hRefWadaIdeal : Cert.RefWadaIdeal.Facts) (hAdamIn : Cert.AdamIn.Facts) (hAdamInIdeal : Cert.AdamInIdeal.Facts) (hRefAdamInIdeal : Cert.RefAdamInIdeal.Facts) (hAdamUp : Cert.AdamUp.Facts) (hAdamUpIdeal : Cert.AdamUpIdeal.Facts) (hRefAdamUpIdeal : Cert.RefAdamUpIdeal.Facts) (hAdamOut : Cert.AdamOut.Facts) (hAdamOutIdeal : Cert.AdamOutIdeal.Facts) (hRefAdamOutIdeal : Cert.RefAdamOutIdeal.Facts) (hAdamDown : Cert.AdamDown.Facts) (hAdamDownIdeal : Cert.AdamDownIdeal.Facts) (hRefAdamDownIdeal : Cert.RefAdamDownIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_MmIn (hMmIn := hMmIn)
    ∧ quiescent_MmInIdeal (hMmInIdeal := hMmInIdeal)
    ∧ quiescent_RefMmInIdeal (hRefMmInIdeal := hRefMmInIdeal)
    ∧ quiescent_MmOut (hMmOut := hMmOut)
    ∧ quiescent_MmOutIdeal (hMmOutIdeal := hMmOutIdeal)
    ∧ quiescent_RefMmOutIdeal (hRefMmOutIdeal := hRefMmOutIdeal)
    ∧ quiescent_MmUp (hMmUp := hMmUp)
    ∧ quiescent_MmUpIdeal (hMmUpIdeal := hMmUpIdeal)
    ∧ quiescent_RefMmUpIdeal (hRefMmUpIdeal := hRefMmUpIdeal)
    ∧ quiescent_MmDown (hMmDown := hMmDown)
    ∧ quiescent_MmDownIdeal (hMmDownIdeal := hMmDownIdeal)
    ∧ quiescent_RefMmDownIdeal (hRefMmDownIdeal := hRefMmDownIdeal)
    ∧ quiescent_DAct (hDAct := hDAct)
    ∧ quiescent_DActIdeal (hDActIdeal := hDActIdeal)
    ∧ quiescent_RefDActIdeal (hRefDActIdeal := hRefDActIdeal)
    ∧ quiescent_GwDown (hGwDown := hGwDown)
    ∧ quiescent_GwDownIdeal (hGwDownIdeal := hGwDownIdeal)
    ∧ quiescent_RefGwDownIdeal (hRefGwDownIdeal := hRefGwDownIdeal)
    ∧ quiescent_DH2 (hDH2 := hDH2)
    ∧ quiescent_DH2Ideal (hDH2Ideal := hDH2Ideal)
    ∧ quiescent_RefDH2Ideal (hRefDH2Ideal := hRefDH2Ideal)
    ∧ quiescent_GwUp (hGwUp := hGwUp)
    ∧ quiescent_GwUpIdeal (hGwUpIdeal := hGwUpIdeal)
    ∧ quiescent_RefGwUpIdeal (hRefGwUpIdeal := hRefGwUpIdeal)
    ∧ quiescent_DYcat (hDYcat := hDYcat)
    ∧ quiescent_DYcatIdeal (hDYcatIdeal := hDYcatIdeal)
    ∧ quiescent_RefDYcatIdeal (hRefDYcatIdeal := hRefDYcatIdeal)
    ∧ quiescent_GwOut (hGwOut := hGwOut)
    ∧ quiescent_GwOutIdeal (hGwOutIdeal := hGwOutIdeal)
    ∧ quiescent_RefGwOutIdeal (hRefGwOutIdeal := hRefGwOutIdeal)
    ∧ quiescent_DH1 (hDH1 := hDH1)
    ∧ quiescent_DH1Ideal (hDH1Ideal := hDH1Ideal)
    ∧ quiescent_RefDH1Ideal (hRefDH1Ideal := hRefDH1Ideal)
    ∧ quiescent_GwIn (hGwIn := hGwIn)
    ∧ quiescent_GwInIdeal (hGwInIdeal := hGwInIdeal)
    ∧ quiescent_RefGwInIdeal (hRefGwInIdeal := hRefGwInIdeal)
    ∧ quiescent_Wada (hWada := hWada)
    ∧ quiescent_WadaIdeal (hWadaIdeal := hWadaIdeal)
    ∧ quiescent_RefWadaIdeal (hRefWadaIdeal := hRefWadaIdeal)
    ∧ quiescent_AdamIn (hAdamIn := hAdamIn)
    ∧ quiescent_AdamInIdeal (hAdamInIdeal := hAdamInIdeal)
    ∧ quiescent_RefAdamInIdeal (hRefAdamInIdeal := hRefAdamInIdeal)
    ∧ quiescent_AdamUp (hAdamUp := hAdamUp)
    ∧ quiescent_AdamUpIdeal (hAdamUpIdeal := hAdamUpIdeal)
    ∧ quiescent_RefAdamUpIdeal (hRefAdamUpIdeal := hRefAdamUpIdeal)
    ∧ quiescent_AdamOut (hAdamOut := hAdamOut)
    ∧ quiescent_AdamOutIdeal (hAdamOutIdeal := hAdamOutIdeal)
    ∧ quiescent_RefAdamOutIdeal (hRefAdamOutIdeal := hRefAdamOutIdeal)
    ∧ quiescent_AdamDown (hAdamDown := hAdamDown)
    ∧ quiescent_AdamDownIdeal (hAdamDownIdeal := hAdamDownIdeal)
    ∧ quiescent_RefAdamDownIdeal (hRefAdamDownIdeal := hRefAdamDownIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_MmIn_MmInIdeal
    ∧ algebraic_MmInIdeal_RefMmInIdeal (hMmInIdeal := hMmInIdeal) (hRefMmInIdeal := hRefMmInIdeal)
    ∧ preserves_MmOut_MmOutIdeal
    ∧ algebraic_MmOutIdeal_RefMmOutIdeal (hMmOutIdeal := hMmOutIdeal) (hRefMmOutIdeal := hRefMmOutIdeal)
    ∧ preserves_MmUp_MmUpIdeal
    ∧ algebraic_MmUpIdeal_RefMmUpIdeal (hMmUpIdeal := hMmUpIdeal) (hRefMmUpIdeal := hRefMmUpIdeal)
    ∧ preserves_MmDown_MmDownIdeal
    ∧ algebraic_MmDownIdeal_RefMmDownIdeal (hMmDownIdeal := hMmDownIdeal) (hRefMmDownIdeal := hRefMmDownIdeal)
    ∧ preserves_DAct_DActIdeal
    ∧ algebraic_DActIdeal_RefDActIdeal (hDActIdeal := hDActIdeal) (hRefDActIdeal := hRefDActIdeal)
    ∧ preserves_GwDown_GwDownIdeal
    ∧ algebraic_GwDownIdeal_RefGwDownIdeal (hGwDownIdeal := hGwDownIdeal) (hRefGwDownIdeal := hRefGwDownIdeal)
    ∧ preserves_DH2_DH2Ideal
    ∧ algebraic_DH2Ideal_RefDH2Ideal (hDH2Ideal := hDH2Ideal) (hRefDH2Ideal := hRefDH2Ideal)
    ∧ preserves_GwUp_GwUpIdeal
    ∧ algebraic_GwUpIdeal_RefGwUpIdeal (hGwUpIdeal := hGwUpIdeal) (hRefGwUpIdeal := hRefGwUpIdeal)
    ∧ preserves_DYcat_DYcatIdeal
    ∧ algebraic_DYcatIdeal_RefDYcatIdeal (hDYcatIdeal := hDYcatIdeal) (hRefDYcatIdeal := hRefDYcatIdeal)
    ∧ preserves_GwOut_GwOutIdeal
    ∧ algebraic_GwOutIdeal_RefGwOutIdeal (hGwOutIdeal := hGwOutIdeal) (hRefGwOutIdeal := hRefGwOutIdeal)
    ∧ preserves_DH1_DH1Ideal
    ∧ algebraic_DH1Ideal_RefDH1Ideal (hDH1Ideal := hDH1Ideal) (hRefDH1Ideal := hRefDH1Ideal)
    ∧ preserves_GwIn_GwInIdeal
    ∧ algebraic_GwInIdeal_RefGwInIdeal (hGwInIdeal := hGwInIdeal) (hRefGwInIdeal := hRefGwInIdeal)
    ∧ preserves_Wada_WadaIdeal
    ∧ algebraic_WadaIdeal_RefWadaIdeal (hWadaIdeal := hWadaIdeal) (hRefWadaIdeal := hRefWadaIdeal)
    ∧ preserves_AdamIn_AdamInIdeal
    ∧ algebraic_AdamInIdeal_RefAdamInIdeal (hAdamInIdeal := hAdamInIdeal) (hRefAdamInIdeal := hRefAdamInIdeal)
    ∧ preserves_AdamUp_AdamUpIdeal
    ∧ algebraic_AdamUpIdeal_RefAdamUpIdeal (hAdamUpIdeal := hAdamUpIdeal) (hRefAdamUpIdeal := hRefAdamUpIdeal)
    ∧ preserves_AdamOut_AdamOutIdeal
    ∧ algebraic_AdamOutIdeal_RefAdamOutIdeal (hAdamOutIdeal := hAdamOutIdeal) (hRefAdamOutIdeal := hRefAdamOutIdeal)
    ∧ preserves_AdamDown_AdamDownIdeal
    ∧ algebraic_AdamDownIdeal_RefAdamDownIdeal (hAdamDownIdeal := hAdamDownIdeal) (hRefAdamDownIdeal := hRefAdamDownIdeal)
-- ==== Pre_finite.lean ====
abbrev S2048x3072 : Shape := ⟨2, ![2048, 3072]⟩
abbrev S2048x1024 : Shape := ⟨2, ![2048, 1024]⟩
abbrev S1x1024 : Shape := ⟨2, ![1, 1024]⟩
abbrev S8x128x128 : Shape := ⟨3, ![8, 128, 128]⟩
abbrev S8x128 : Shape := ⟨2, ![8, 128]⟩
abbrev S_ : Shape := ⟨0, ![]⟩

class Facts : Prop where
  bcast_S_S2048x3072 : S_.BroadcastsInDim S2048x3072 (![] : Fin 0 → Fin S2048x3072.rank)
  reducesTo_S2048x3072_S_d0_1 : S2048x3072.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S8x128x128 : S_.BroadcastsInDim S8x128x128 (![] : Fin 0 → Fin S8x128x128.rank)
  reducesTo_S8x128x128_S_d0_1_2 : S8x128x128.ReducesTo [0, 1, 2] S_
  bcast_S_S8x128 : S_.BroadcastsInDim S8x128 (![] : Fin 0 → Fin S8x128.rank)
  reducesTo_S8x128_S_d0_1 : S8x128.ReducesTo [0, 1] S_

variable [Facts]

def fn_part1 {F : FTy → Type} [FloatOps F] (main_arg5 : FVec F S8x128x128 .f32) (main_arg6 : FVec F S8x128 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S8x128x128 .f32 := Host.absf main_arg5
  let main_cst_6 : FVec F S_ .f32 := constant S_ .f32 0x7F800000#32
  let main_v20 : FVec F S8x128x128 .f32 := broadcastInDim S8x128x128 ![] bcast_S_S8x128x128 main_cst_6
  let main_v21 : IVec S8x128x128 1 := cmpf .olt main_v19 main_v20
  let main_c_7 : IVec S_ 1 := constantI S_ 1 1#1
  let main_v22 : IVec S_ 1 := (fun x v => Host.reduce IntOp.andi x v reducesTo_S8x128x128_S_d0_1_2 h_S_) main_v21 main_c_7
  let main_v23 : IVec S_ 1 := andi main_v18 main_v22
  let main_v24 : FVec F S8x128 .f32 := Host.absf main_arg6
  let main_cst_8 : FVec F S_ .f32 := constant S_ .f32 0x7F800000#32
  let main_v25 : FVec F S8x128 .f32 := broadcastInDim S8x128 ![] bcast_S_S8x128 main_cst_8
  let main_v26 : IVec S8x128 1 := cmpf .olt main_v24 main_v25
  let main_c_9 : IVec S_ 1 := constantI S_ 1 1#1
  let main_v27 : IVec S_ 1 := (fun x v => Host.reduce IntOp.andi x v reducesTo_S8x128_S_d0_1 h_S_) main_v26 main_c_9
  let main_v28 : IVec S_ 1 := andi main_v23 main_v27
  main_v28

def fn {F : FTy → Type} [FloatOps F] (main_arg0 : FVec F S2048x3072 .f32) (main_arg1 : FVec F S2048x1024 .f32) (main_arg2 : FVec F S2048x1024 .f32) (main_arg3 : FVec F S1x1024 .f32) (main_arg4 : FVec F S1x1024 .f32) (main_arg5 : FVec F S8x128x128 .f32) (main_arg6 : FVec F S8x128 .f32) : IVec S_ 1 :=
  let main_v0 : FVec F S2048x3072 .f32 := Host.absf main_arg0
  let main_cst : FVec F S_ .f32 := constant S_ .f32 0x7F800000#32
  let main_v1 : FVec F S2048x3072 .f32 := broadcastInDim S2048x3072 ![] bcast_S_S2048x3072 main_cst
  let main_v2 : IVec S2048x3072 1 := cmpf .olt main_v0 main_v1
  let main_c : IVec S_ 1 := constantI S_ 1 1#1
  let main_v3 : IVec S_ 1 := (fun x v => Host.reduce IntOp.andi x v reducesTo_S2048x3072_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1x1024 .f32 := Host.absf main_arg4
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg5 main_arg6 main_v13 main_v16
-- ==== Kernel.lean ====
abbrev S2048x3072 : Shape := ⟨2, ![2048, 3072]⟩
abbrev S2048x1024 : Shape := ⟨2, ![2048, 1024]⟩
abbrev S1x1024 : Shape := ⟨2, ![1, 1024]⟩
abbrev S8x128x128 : Shape := ⟨3, ![8, 128, 128]⟩
abbrev S8x128 : Shape := ⟨2, ![8, 128]⟩
abbrev S_ : Shape := ⟨0, ![]⟩
abbrev S128x128 : Shape := ⟨2, ![128, 128]⟩
abbrev S1x128x128 : Shape := ⟨3, ![1, 128, 128]⟩
abbrev S8x128x1 : Shape := ⟨3, ![8, 128, 1]⟩
abbrev S128x1024 : Shape := ⟨2, ![128, 1024]⟩
abbrev S128x3072 : Shape := ⟨2, ![128, 3072]⟩
abbrev S128 : Shape := ⟨1, ![128]⟩
abbrev S128x1 : Shape := ⟨2, ![128, 1]⟩
abbrev S1x128x1 : Shape := ⟨3, ![1, 128, 1]⟩
abbrev S1024 : Shape := ⟨1, ![1024]⟩

abbrev nBuf : Space → Nat
  | .hbm => 28
  | .vmem => 19
  | .smem => 0
  | _ => 0

abbrev bufTy : (tb : Table) → Fin (tcTables nBuf tb) → BufTy
  | .hbm, ⟨0, _⟩ => ⟨S2048x3072, .f32⟩
  | .hbm, ⟨1, _⟩ => ⟨S2048x1024, .f32⟩
  | .hbm, ⟨2, _⟩ => ⟨S2048x1024, .f32⟩
  | .hbm, ⟨3, _⟩ => ⟨S1x1024, .f32⟩
  | .hbm, ⟨4, _⟩ => ⟨S1x1024, .f32⟩
  | .hbm, ⟨5, _⟩ => ⟨S8x128x128, .f32⟩
  | .hbm, ⟨6, _⟩ => ⟨S8x128, .f32⟩
  | .hbm, ⟨7, _⟩ => ⟨S_, .f32⟩
  | .hbm, ⟨8, _⟩ => ⟨S128x128, .f32⟩
  | .hbm, ⟨9, _⟩ => ⟨S128x128, .i32⟩
  | .hbm, ⟨10, _⟩ => ⟨S_, .i32⟩
  | .hbm, ⟨11, _⟩ => ⟨S128x128, .i32⟩
  | .hbm, ⟨12, _⟩ => ⟨S128x128, .i32⟩
  | .hbm, ⟨13, _⟩ => ⟨S128x128, .i32⟩
  | .hbm, ⟨14, _⟩ => ⟨S128x128, .i1⟩
  | .hbm, ⟨15, _⟩ => ⟨S_, .f32⟩
  | .hbm, ⟨16, _⟩ => ⟨S128x128, .f32⟩
  | .hbm, ⟨17, _⟩ => ⟨S128x128, .f32⟩
  | .hbm, ⟨18, _⟩ => ⟨S1x128x128, .f32⟩
  | .hbm, ⟨19, _⟩ => ⟨S8x128x128, .f32⟩
  | .hbm, ⟨20, _⟩ => ⟨S8x128x128, .f32⟩
  | .hbm, ⟨21, _⟩ => ⟨S8x128x128, .bf16⟩
  | .hbm, ⟨22, _⟩ => ⟨S8x128x1, .f32⟩
  | .hbm, ⟨23, _⟩ => ⟨S2048x3072, .bf16⟩
  | .hbm, ⟨24, _⟩ => ⟨S1x1024, .f32⟩
  | .hbm, ⟨25, _⟩ => ⟨S1x1024, .f32⟩
  | .hbm, ⟨26, _⟩ => ⟨S8x128x128, .f32⟩
  | .hbm, ⟨27, _⟩ => ⟨S8x128x1, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S1x1024, .f32⟩
  | .local _ .vmem, ⟨9, _⟩ => ⟨S1x1024, .f32⟩
  | .local _ .vmem, ⟨10, _⟩ => ⟨S8x128x128, .bf16⟩
  | .local _ .vmem, ⟨11, _⟩ => ⟨S8x128x1, .f32⟩
  | .local _ .vmem, ⟨12, _⟩ => ⟨S128x3072, .bf16⟩
  | .local _ .vmem, ⟨13, _⟩ => ⟨S128x3072, .bf16⟩
  | .local _ .vmem, ⟨14, _⟩ => ⟨S1x1024, .f32⟩
  | .local _ .vmem, ⟨15, _⟩ => ⟨S1x1024, .f32⟩
  | .local _ .vmem, ⟨16, _⟩ => ⟨S8x128x128, .f32⟩
  | .local _ .vmem, ⟨17, _⟩ => ⟨S8x128x1, .f32⟩
  | .local _ .vmem, ⟨18, _⟩ => ⟨S128x1024, .f32⟩
  | _, _ => ⟨S2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_cst : Ref sig .tc := ⟨.hbm, 15, rfl⟩
abbrev main_call0_v5 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7_0 : Ref sig .tc := ⟨.hbm, 23, rfl⟩
abbrev main_v7_1 : Ref sig .tc := ⟨.hbm, 24, rfl⟩
abbrev main_v7_2 : Ref sig .tc := ⟨.hbm, 25, rfl⟩
abbrev main_v7_3 : Ref sig .tc := ⟨.hbm, 26, rfl⟩
abbrev main_v7_4 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem12_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x3072 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x128x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== KernelIdeal.lean ====
variable {F : FTy → Type} [FloatOps F] [Named F]
def κ : String → Option EReal := fun
  | "gelu_3a" => some ((26829 / 200000 : ℝ) : EReal)
  | "gelu_a" => some ((8943 / 200000 : ℝ) : EReal)
  | _ => none
-- ==== ReferenceIdeal.lean ====
abbrev S2048x3072 : Shape := ⟨2, ![2048, 3072]⟩
abbrev S2048x1024 : Shape := ⟨2, ![2048, 1024]⟩
abbrev S1x1024 : Shape := ⟨2, ![1, 1024]⟩
abbrev S8x128x128 : Shape := ⟨3, ![8, 128, 128]⟩
abbrev S8x128 : Shape := ⟨2, ![8, 128]⟩
abbrev S_ : Shape := ⟨0, ![]⟩
abbrev S128x128 : Shape := ⟨2, ![128, 128]⟩
abbrev S1x128x128 : Shape := ⟨3, ![1, 128, 128]⟩
abbrev S2048 : Shape := ⟨1, ![2048]⟩
abbrev S2048x1 : Shape := ⟨2, ![2048, 1]⟩
abbrev S16x128x8x128 : Shape := ⟨4, ![16, 128, 8, 128]⟩
abbrev S8x16x128x128 : Shape := ⟨4, ![8, 16, 128, 128]⟩
abbrev S128x8 : Shape := ⟨2, ![128, 8]⟩
abbrev S1x128x8x1 : Shape := ⟨4, ![1, 128, 8, 1]⟩
abbrev S1024 : Shape := ⟨1, ![1024]⟩
abbrev S8x128x1 : Shape := ⟨3, ![8, 128, 1]⟩

abbrev nBuf : Space → Nat
  | .hbm => 216
  | .vmem => 0
  | .smem => 0
  | _ => 0

abbrev hbmTy0_0 (i : Nat) : BufTy := match i % 128 with
  | 0 => ⟨S2048x3072, .f32⟩
  | 1 => ⟨S2048x1024, .f32⟩
  | 2 => ⟨S2048x1024, .f32⟩
  | 3 => ⟨S1x1024, .f32⟩
  | 4 => ⟨S1x1024, .f32⟩
  | 5 => ⟨S8x128x128, .f32⟩
  | 6 => ⟨S8x128, .f32⟩
  | 7 => ⟨S2048x1024, .f32⟩
  | 8 => ⟨S2048x1024, .f32⟩
  | 9 => ⟨S_, .i1⟩
  | 10 => ⟨S128x128, .i1⟩
  | 11 => ⟨S128x128, .i32⟩
  | 12 => ⟨S_, .i32⟩
  | 13 => ⟨S128x128, .i32⟩
  | 14 => ⟨S128x128, .i32⟩
  | 15 => ⟨S128x128, .i32⟩
  | 16 => ⟨S128x128, .i1⟩
  | 17 => ⟨S_, .i1⟩
  | 18 => ⟨S128x128, .i1⟩
  | 19 => ⟨S128x128, .i1⟩
  | 20 => ⟨S1x128x128, .i1⟩
  | 21 => ⟨S_, .f32⟩
  | 22 => ⟨S_, .f32⟩
  | 23 => ⟨S8x128x128, .i1⟩
  | 24 => ⟨S8x128x128, .f32⟩
  | 25 => ⟨S8x128x128, .f32⟩
  | 26 => ⟨S_, .f32⟩
  | 27 => ⟨S2048x1024, .f32⟩
  | 28 => ⟨S2048x1024, .f32⟩
  | 29 => ⟨S2048x1024, .f32⟩
  | 30 => ⟨S2048x1024, .f32⟩
  | 31 => ⟨S2048x1024, .f32⟩
  | 32 => ⟨S_, .f32⟩
  | 33 => ⟨S2048x1024, .f32⟩
  | 34 => ⟨S2048x1024, .f32⟩
  | 35 => ⟨S_, .f32⟩
  | 36 => ⟨S2048x1024, .f32⟩
  | 37 => ⟨S2048x1024, .f32⟩
  | 38 => ⟨S_, .f32⟩
  | 39 => ⟨S2048x1024, .f32⟩
  | 40 => ⟨S2048x1024, .f32⟩
  | 41 => ⟨S2048x1024, .f32⟩
  | 42 => ⟨S_, .f32⟩
  | 43 => ⟨S2048x1024, .f32⟩
  | 44 => ⟨S2048x1024, .f32⟩
  | 45 => ⟨S2048x1024, .f32⟩
  | 46 => ⟨S_, .f32⟩
  | 47 => ⟨S2048x1024, .f32⟩
  | 48 => ⟨S2048x1024, .f32⟩
  | 49 => ⟨S_, .f32⟩
  | 50 => ⟨S2048x1024, .f32⟩
  | 51 => ⟨S2048x1024, .f32⟩
  | 52 => ⟨S2048x1024, .f32⟩
  | 53 => ⟨S_, .f32⟩
  | 54 => ⟨S2048x1024, .f32⟩
  | 55 => ⟨S2048x1024, .f32⟩
  | 56 => ⟨S2048x1024, .f32⟩
  | 57 => ⟨S_, .f32⟩
  | 58 => ⟨S2048x1024, .f32⟩
  | 59 => ⟨S2048x1024, .f32⟩
  | 60 => ⟨S2048x1024, .f32⟩
  | 61 => ⟨S2048x1024, .f32⟩
  | 62 => ⟨S2048x1024, .f32⟩
  | 63 => ⟨S_, .f32⟩
  | 64 => ⟨S2048x1024, .f32⟩
  | 65 => ⟨S2048x1024, .f32⟩
  | 66 => ⟨S_, .f32⟩
  | 67 => ⟨S2048x1024, .f32⟩
  | 68 => ⟨S2048x1024, .f32⟩
  | 69 => ⟨S_, .f32⟩
  | 70 => ⟨S2048x1024, .f32⟩
  | 71 => ⟨S2048x1024, .f32⟩
  | 72 => ⟨S2048x1024, .f32⟩
  | 73 => ⟨S_, .f32⟩
  | 74 => ⟨S2048x1024, .f32⟩
  | 75 => ⟨S2048x1024, .f32⟩
  | 76 => ⟨S2048x1024, .f32⟩
  | 77 => ⟨S_, .f32⟩
  | 78 => ⟨S2048x1024, .f32⟩
  | 79 => ⟨S2048x1024, .f32⟩
  | 80 => ⟨S_, .f32⟩
  | 81 => ⟨S2048x1024, .f32⟩
  | 82 => ⟨S2048x1024, .f32⟩
  | 83 => ⟨S2048x1024, .f32⟩
  | 84 => ⟨S_, .f32⟩
  | 85 => ⟨S2048x1024, .f32⟩
  | 86 => ⟨S2048x1024, .f32⟩
  | 87 => ⟨S2048x1024, .f32⟩
  | 88 => ⟨S_, .f32⟩
  | 89 => ⟨S2048, .f32⟩
  | 90 => ⟨S2048x1, .f32⟩
  | 91 => ⟨S_, .f32⟩
  | 92 => ⟨S2048x1, .f32⟩
  | 93 => ⟨S2048x1, .f32⟩
  | 94 => ⟨S2048x1024, .f32⟩
  | 95 => ⟨S2048x1024, .f32⟩
  | 96 => ⟨S2048x1024, .f32⟩
  | 97 => ⟨S_, .f32⟩
  | 98 => ⟨S2048, .f32⟩
  | 99 => ⟨S2048x1, .f32⟩
  | 100 => ⟨S_, .f32⟩
  | 101 => ⟨S2048x1, .f32⟩
  | 102 => ⟨S2048x1, .f32⟩
  | 103 => ⟨S_, .f32⟩
  | 104 => ⟨S2048x1, .f32⟩
  | 105 => ⟨S2048x1, .f32⟩
  | 106 => ⟨S2048x1, .f32⟩
  | 107 => ⟨S2048x1, .f32⟩
  | 108 => ⟨S_, .f32⟩
  | 109 => ⟨S2048x1, .f32⟩
  | 110 => ⟨S2048x1, .f32⟩
  | 111 => ⟨S2048x1024, .f32⟩
  | 112 => ⟨S2048x1024, .f32⟩
  | 113 => ⟨S2048x1024, .f32⟩
  | 114 => ⟨S2048x1024, .f32⟩
  | 115 => ⟨S2048x1024, .f32⟩
  | 116 => ⟨S2048x1024, .f32⟩
  | 117 => ⟨S16x128x8x128, .f32⟩
  | 118 => ⟨S8x16x128x128, .f32⟩
  | 119 => ⟨S16x128x8x128, .f32⟩
  | 120 => ⟨S128x8, .f32⟩
  | 121 => ⟨S1x128x8x1, .f32⟩
  | 122 => ⟨S16x128x8x128, .f32⟩
  | 123 => ⟨S16x128x8x128, .f32⟩
  | 124 => ⟨S2048x1024, .f32⟩
  | 125 => ⟨S2048x1024, .f32⟩
  | 126 => ⟨S2048x1024, .f32⟩
  | 127 => ⟨S2048x1024, .f32⟩
  | _ => ⟨S2048x3072, .f32⟩

abbrev hbmTy0_1 (i : Nat) : BufTy := match i % 128 with
  | 0 => ⟨S16x128x8x128, .f32⟩
  | 1 => ⟨S_, .f32⟩
  | 2 => ⟨S128x8, .f32⟩
  | 3 => ⟨S1x128x8x1, .f32⟩
  | 4 => ⟨S_, .f32⟩
  | 5 => ⟨S128x8, .f32⟩
  | 6 => ⟨S8x128, .f32⟩
  | 7 => ⟨S8x16x128x128, .f32⟩
  | 8 => ⟨S8x128x128, .f32⟩
  | 9 => ⟨S8x16x128x128, .f32⟩
  | 10 => ⟨S16x128x8x128, .f32⟩
  | 11 => ⟨S2048x1024, .f32⟩
  | 12 => ⟨S_, .f32⟩
  | 13 => ⟨S1024, .f32⟩
  | 14 => ⟨S1x1024, .f32⟩
  | 15 => ⟨S2048x1024, .f32⟩
  | 16 => ⟨S_, .f32⟩
  | 17 => ⟨S1024, .f32⟩
  | 18 => ⟨S1x1024, .f32⟩
  | 19 => ⟨S2048x1024, .f32⟩
  | 20 => ⟨S2048x1024, .f32⟩
  | 21 => ⟨S2048x1024, .f32⟩
  | 22 => ⟨S_, .f32⟩
  | 23 => ⟨S2048, .f32⟩
  | 24 => ⟨S2048x1, .f32⟩
  | 25 => ⟨S2048x1024, .f32⟩
  | 26 => ⟨S2048x1024, .f32⟩
  | 27 => ⟨S2048x1, .f32⟩
  | 28 => ⟨S_, .f32⟩
  | 29 => ⟨S2048x1, .f32⟩
  | 30 => ⟨S2048x1, .f32⟩
  | 31 => ⟨S_, .f32⟩
  | 32 => ⟨S2048, .f32⟩
  | 33 => ⟨S2048x1024, .f32⟩
  | 34 => ⟨S2048x1024, .f32⟩
  | 35 => ⟨S2048x1024, .f32⟩
  | 36 => ⟨S2048x1024, .f32⟩
  | 37 => ⟨S2048x1024, .f32⟩
  | 38 => ⟨S2048x1024, .f32⟩
  | 39 => ⟨S_, .f32⟩
  | 40 => ⟨S2048, .f32⟩
  | 41 => ⟨S2048x1, .f32⟩
  | 42 => ⟨S_, .f32⟩
  | 43 => ⟨S2048x1, .f32⟩
  | 44 => ⟨S2048x1, .f32⟩
  | 45 => ⟨S_, .f32⟩
  | 46 => ⟨S2048, .f32⟩
  | 47 => ⟨S2048x1024, .f32⟩
  | 48 => ⟨S2048x1024, .f32⟩
  | 49 => ⟨S2048x1024, .f32⟩
  | 50 => ⟨S2048x1024, .f32⟩
  | 51 => ⟨S2048x1024, .f32⟩
  | 52 => ⟨S_, .f32⟩
  | 53 => ⟨S2048x1024, .f32⟩
  | 54 => ⟨S2048x1024, .f32⟩
  | 55 => ⟨S_, .f32⟩
  | 56 => ⟨S2048x1024, .f32⟩
  | 57 => ⟨S2048x1024, .f32⟩
  | 58 => ⟨S_, .f32⟩
  | 59 => ⟨S2048x1024, .f32⟩
  | 60 => ⟨S2048x1024, .f32⟩
  | 61 => ⟨S2048x1024, .f32⟩
  | 62 => ⟨S2048x1024, .f32⟩
  | 63 => ⟨S_, .f32⟩
  | 64 => ⟨S2048x1024, .f32⟩
  | 65 => ⟨S2048x1024, .f32⟩
  | 66 => ⟨S2048x1024, .f32⟩
  | 67 => ⟨S2048x1024, .f32⟩
  | 68 => ⟨S2048x1024, .f32⟩
  | 69 => ⟨S2048x1024, .f32⟩
  | 70 => ⟨S_, .f32⟩
  | 71 => ⟨S2048x1024, .f32⟩
  | 72 => ⟨S2048x1024, .f32⟩
  | 73 => ⟨S_, .f32⟩
  | 74 => ⟨S2048x1024, .f32⟩
  | 75 => ⟨S2048x1024, .f32⟩
  | 76 => ⟨S_, .f32⟩
  | 77 => ⟨S2048x1024, .f32⟩
  | 78 => ⟨S2048x1024, .f32⟩
  | 79 => ⟨S2048x1024, .f32⟩
  | 80 => ⟨S2048x1024, .f32⟩
  | 81 => ⟨S_, .f32⟩
  | 82 => ⟨S2048x1024, .f32⟩
  | 83 => ⟨S2048x1024, .f32⟩
  | 84 => ⟨S2048x1024, .f32⟩
  | 85 => ⟨S2048x3072, .f32⟩
  | 86 => ⟨S2048x3072, .bf16⟩
  | 87 => ⟨S8x128x1, .f32⟩
  | _ => ⟨S2048x3072, .f32⟩

abbrev hbmTy (i : Nat) : BufTy := match i / 128 with
  | 0 => hbmTy0_0 i
  | 1 => hbmTy0_1 i
  | _ => ⟨S2048x3072, .f32⟩

abbrev bufTy : (tb : Table) → Fin (tcTables nBuf tb) → BufTy
  | .hbm, ⟨i, _⟩ => hbmTy i
  | _, _ => ⟨S2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_call0_v0 : Ref sig .tc := ⟨.hbm, 11, rfl⟩
abbrev main_call0_c : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_c_0 : Ref sig .tc := ⟨.hbm, 17, rfl⟩
abbrev main_call0_v5 : Ref sig .tc := ⟨.hbm, 18, rfl⟩
abbrev main_v3 : Ref sig .tc := ⟨.hbm, 19, rfl⟩
abbrev main_v4 : Ref sig .tc := ⟨.hbm, 20, rfl⟩
abbrev main_cst : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v5 : Ref sig .tc := ⟨.hbm, 25, rfl⟩
abbrev main_cst_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst_1 : Ref sig .tc := ⟨.hbm, 32, rfl⟩
abbrev main_v11 : Ref sig .tc := ⟨.hbm, 33, rfl⟩
abbrev main_v12 : Ref sig .tc := ⟨.hbm, 34, rfl⟩
abbrev main_cst_2 : Ref sig .tc := ⟨.hbm, 35, rfl⟩
abbrev main_v13 : Ref sig .tc := ⟨.hbm, 36, rfl⟩
abbrev main_v14 : Ref sig .tc := ⟨.hbm, 37, rfl⟩
abbrev main_cst_3 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_cst_4 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_cst_5 : Ref sig .tc := ⟨.hbm, 46, rfl⟩
abbrev main_v21 : Ref sig .tc := ⟨.hbm, 47, rfl⟩
abbrev main_v22 : Ref sig .tc := ⟨.hbm, 48, rfl⟩
abbrev main_cst_6 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_cst_7 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_cst_8 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_cst_9 : Ref sig .tc := ⟨.hbm, 63, rfl⟩
abbrev main_v34 : Ref sig .tc := ⟨.hbm, 64, rfl⟩
abbrev main_v35 : Ref sig .tc := ⟨.hbm, 65, rfl⟩
abbrev main_cst_10 : Ref sig .tc := ⟨.hbm, 66, rfl⟩
abbrev main_v36 : Ref sig .tc := ⟨.hbm, 67, rfl⟩
abbrev main_v37 : Ref sig .tc := ⟨.hbm, 68, rfl⟩
abbrev main_cst_11 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_cst_12 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_cst_13 : Ref sig .tc := ⟨.hbm, 77, rfl⟩
abbrev main_v44 : Ref sig .tc := ⟨.hbm, 78, rfl⟩
abbrev main_v45 : Ref sig .tc := ⟨.hbm, 79, rfl⟩
abbrev main_cst_14 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_cst_15 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_cst_16 : Ref sig .tc := ⟨.hbm, 88, rfl⟩
abbrev main_v52 : Ref sig .tc := ⟨.hbm, 89, rfl⟩
abbrev main_v53 : Ref sig .tc := ⟨.hbm, 90, rfl⟩
abbrev main_cst_17 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_cst_18 : Ref sig .tc := ⟨.hbm, 97, rfl⟩
abbrev main_v59 : Ref sig .tc := ⟨.hbm, 98, rfl⟩
abbrev main_v60 : Ref sig .tc := ⟨.hbm, 99, rfl⟩
abbrev main_cst_19 : Ref sig .tc := ⟨.hbm, 100, rfl⟩
abbrev main_v61 : Ref sig .tc := ⟨.hbm, 101, rfl⟩
abbrev main_v62 : Ref sig .tc := ⟨.hbm, 102, rfl⟩
abbrev main_cst_20 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_cst_21 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_cst_22 : Ref sig .tc := ⟨.hbm, 129, rfl⟩
abbrev main_v87 : Ref sig .tc := ⟨.hbm, 130, rfl⟩
abbrev main_v88 : Ref sig .tc := ⟨.hbm, 131, rfl⟩
abbrev main_cst_23 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_cst_24 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_cst_25 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_cst_26 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_cst_27 : Ref sig .tc := ⟨.hbm, 156, rfl⟩
abbrev main_v109 : Ref sig .tc := ⟨.hbm, 157, rfl⟩
abbrev main_v110 : Ref sig .tc := ⟨.hbm, 158, rfl⟩
abbrev main_cst_28 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_cst_29 : Ref sig .tc := ⟨.hbm, 167, rfl⟩
abbrev main_v118 : Ref sig .tc := ⟨.hbm, 168, rfl⟩
abbrev main_v119 : Ref sig .tc := ⟨.hbm, 169, rfl⟩
abbrev main_cst_30 : Ref sig .tc := ⟨.hbm, 170, rfl⟩
abbrev main_v120 : Ref sig .tc := ⟨.hbm, 171, rfl⟩
abbrev main_v121 : Ref sig .tc := ⟨.hbm, 172, rfl⟩
abbrev main_cst_31 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_cst_32 : Ref sig .tc := ⟨.hbm, 180, rfl⟩
abbrev main_v128 : Ref sig .tc := ⟨.hbm, 181, rfl⟩
abbrev main_v129 : Ref sig .tc := ⟨.hbm, 182, rfl⟩
abbrev main_cst_33 : Ref sig .tc := ⟨.hbm, 183, rfl⟩
abbrev main_v130 : Ref sig .tc := ⟨.hbm, 184, rfl⟩
abbrev main_v131 : Ref sig .tc := ⟨.hbm, 185, rfl⟩
abbrev main_cst_34 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_cst_35 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_cst_36 : Ref sig .tc := ⟨.hbm, 198, rfl⟩
abbrev main_v142 : Ref sig .tc := ⟨.hbm, 199, rfl⟩
abbrev main_v143 : Ref sig .tc := ⟨.hbm, 200, rfl⟩
abbrev main_cst_37 : Ref sig .tc := ⟨.hbm, 201, rfl⟩
abbrev main_v144 : Ref sig .tc := ⟨.hbm, 202, rfl⟩
abbrev main_v145 : Ref sig .tc := ⟨.hbm, 203, rfl⟩
abbrev main_cst_38 : Ref sig .tc := ⟨.hbm, 204, rfl⟩
abbrev main_v146 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_cst_39 : Ref sig .tc := ⟨.hbm, 209, rfl⟩
abbrev main_v150 : Ref sig .tc := ⟨.hbm, 210, rfl⟩
abbrev main_v151 : Ref sig .tc := ⟨.hbm, 211, rfl⟩
abbrev main_v152 : Ref sig .tc := ⟨.hbm, 212, rfl⟩
abbrev main_v153 : Ref sig .tc := ⟨.hbm, 213, rfl⟩
abbrev main_v154 : Ref sig .tc := ⟨.hbm, 214, rfl⟩
abbrev main_v155 : Ref sig .tc := ⟨.hbm, 215, rfl⟩

abbrev nD : Nat := 1
abbrev τ : Topo := Topo.v7x

variable {F : FTy → Type} [FloatOps F]
-- ==== MmIn.lean ====
abbrev S2048x2048 : Shape := ⟨2, ![2048, 2048]⟩
abbrev S4x2048x768 : Shape := ⟨3, ![4, 2048, 768]⟩
abbrev S2048x3072 : Shape := ⟨2, ![2048, 3072]⟩
abbrev S512x2048 : Shape := ⟨2, ![512, 2048]⟩
abbrev S1x2048x768 : Shape := ⟨3, ![1, 2048, 768]⟩
abbrev S512x768 : Shape := ⟨2, ![512, 768]⟩
abbrev S2048x768 : Shape := ⟨2, ![2048, 768]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S4x2048x768, .bf16⟩
  | .hbm, ⟨2, _⟩ => ⟨S2048x3072, .f32⟩
  | .local _ .vmem, ⟨0, _⟩ => ⟨S512x2048, .bf16⟩
  | .local _ .vmem, ⟨1, _⟩ => ⟨S512x2048, .bf16⟩
  | .local _ .vmem, ⟨2, _⟩ => ⟨S1x2048x768, .bf16⟩
  | .local _ .vmem, ⟨3, _⟩ => ⟨S1x2048x768, .bf16⟩
  | .local _ .vmem, ⟨4, _⟩ => ⟨S512x768, .f32⟩
  | .local _ .vmem, ⟨5, _⟩ => ⟨S512x768, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefMmInIdeal.lean ====
abbrev S2048x2048 : Shape := ⟨2, ![2048, 2048]⟩
abbrev S4x2048x768 : Shape := ⟨3, ![4, 2048, 768]⟩
abbrev S2048x4x768 : Shape := ⟨3, ![2048, 4, 768]⟩
abbrev S2048x3072 : Shape := ⟨2, ![2048, 3072]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x2048x768, .bf16⟩
  | .hbm, ⟨2, _⟩ => ⟨S2048x4x768, .bf16⟩
  | .hbm, ⟨3, _⟩ => ⟨S2048x3072, .bf16⟩
  | .hbm, ⟨4, _⟩ => ⟨S2048x2048, .f32⟩
  | .hbm, ⟨5, _⟩ => ⟨S2048x3072, .f32⟩
  | .hbm, ⟨6, _⟩ => ⟨S2048x3072, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== MmOut.lean ====
abbrev S2048x2048 : Shape := ⟨2, ![2048, 2048]⟩
abbrev S1x2048x2048 : Shape := ⟨3, ![1, 2048, 2048]⟩
abbrev S512x2048 : Shape := ⟨2, ![512, 2048]⟩
abbrev S1x2048x1024 : Shape := ⟨3, ![1, 2048, 1024]⟩
abbrev S512x1024 : Shape := ⟨2, ![512, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S1x2048x2048, .bf16⟩
  | .hbm, ⟨2, _⟩ => ⟨S2048x2048, .f32⟩
  | .local _ .vmem, ⟨0, _⟩ => ⟨S512x2048, .bf16⟩
  | .local _ .vmem, ⟨1, _⟩ => ⟨S512x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S512x1024, .f32⟩
  | .local _ .vmem, ⟨5, _⟩ => ⟨S512x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefMmOutIdeal.lean ====
abbrev S2048x2048 : Shape := ⟨2, ![2048, 2048]⟩
abbrev S1x2048x2048 : Shape := ⟨3, ![1, 2048, 2048]⟩
abbrev S2048x1x2048 : Shape := ⟨3, ![2048, 1, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S1x2048x2048, .bf16⟩
  | .hbm, ⟨2, _⟩ => ⟨S2048x1x2048, .bf16⟩
  | .hbm, ⟨3, _⟩ => ⟨S2048x2048, .bf16⟩
  | .hbm, ⟨4, _⟩ => ⟨S2048x2048, .f32⟩
  | .hbm, ⟨5, _⟩ => ⟨S2048x2048, .f32⟩
  | .hbm, ⟨6, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== MmUp.lean ====
abbrev S2048x2048 : Shape := ⟨2, ![2048, 2048]⟩
abbrev S4x2048x2816 : Shape := ⟨3, ![4, 2048, 2816]⟩
abbrev S2048x11264 : Shape := ⟨2, ![2048, 11264]⟩
abbrev S512x2048 : Shape := ⟨2, ![512, 2048]⟩
abbrev S1x2048x1408 : Shape := ⟨3, ![1, 2048, 1408]⟩
abbrev S512x1408 : Shape := ⟨2, ![512, 1408]⟩
abbrev S2048x1408 : Shape := ⟨2, ![2048, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S4x2048x2816, .bf16⟩
  | .hbm, ⟨2, _⟩ => ⟨S2048x11264, .f32⟩
  | .local _ .vmem, ⟨0, _⟩ => ⟨S512x2048, .bf16⟩
  | .local _ .vmem, ⟨1, _⟩ => ⟨S512x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S512x1408, .f32⟩
  | .local _ .vmem, ⟨5, _⟩ => ⟨S512x1408, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefMmUpIdeal.lean ====
abbrev S2048x2048 : Shape := ⟨2, ![2048, 2048]⟩
abbrev S4x2048x2816 : Shape := ⟨3, ![4, 2048, 2816]⟩
abbrev S2048x4x2816 : Shape := ⟨3, ![2048, 4, 2816]⟩
abbrev S2048x11264 : Shape := ⟨2, ![2048, 11264]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x2048x2816, .bf16⟩
  | .hbm, ⟨2, _⟩ => ⟨S2048x4x2816, .bf16⟩
  | .hbm, ⟨3, _⟩ => ⟨S2048x11264, .bf16⟩
  | .hbm, ⟨4, _⟩ => ⟨S2048x2048, .f32⟩
  | .hbm, ⟨5, _⟩ => ⟨S2048x11264, .f32⟩
  | .hbm, ⟨6, _⟩ => ⟨S2048x11264, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== MmDown.lean ====
abbrev S2048x5632 : Shape := ⟨2, ![2048, 5632]⟩
abbrev S1x5632x2048 : Shape := ⟨3, ![1, 5632, 2048]⟩
abbrev S2048x2048 : Shape := ⟨2, ![2048, 2048]⟩
abbrev S512x5632 : Shape := ⟨2, ![512, 5632]⟩
abbrev S1x5632x1024 : Shape := ⟨3, ![1, 5632, 1024]⟩
abbrev S512x1024 : Shape := ⟨2, ![512, 1024]⟩
abbrev S5632x1024 : Shape := ⟨2, ![5632, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x5632, .bf16⟩
  | .hbm, ⟨1, _⟩ => ⟨S1x5632x2048, .bf16⟩
  | .hbm, ⟨2, _⟩ => ⟨S2048x2048, .f32⟩
  | .local _ .vmem, ⟨0, _⟩ => ⟨S512x5632, .bf16⟩
  | .local _ .vmem, ⟨1, _⟩ => ⟨S512x5632, .bf16⟩
  | .local _ .vmem, ⟨2, _⟩ => ⟨S1x5632x1024, .bf16⟩
  | .local _ .vmem, ⟨3, _⟩ => ⟨S1x5632x1024, .bf16⟩
  | .local _ .vmem, ⟨4, _⟩ => ⟨S512x1024, .f32⟩
  | .local _ .vmem, ⟨5, _⟩ => ⟨S512x1024, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x5632x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefMmDownIdeal.lean ====
abbrev S2048x5632 : Shape := ⟨2, ![2048, 5632]⟩
abbrev S1x5632x2048 : Shape := ⟨3, ![1, 5632, 2048]⟩
abbrev S5632x1x2048 : Shape := ⟨3, ![5632, 1, 2048]⟩
abbrev S5632x2048 : Shape := ⟨2, ![5632, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S1x5632x2048, .bf16⟩
  | .hbm, ⟨2, _⟩ => ⟨S5632x1x2048, .bf16⟩
  | .hbm, ⟨3, _⟩ => ⟨S5632x2048, .bf16⟩
  | .hbm, ⟨4, _⟩ => ⟨S2048x5632, .f32⟩
  | .hbm, ⟨5, _⟩ => ⟨S5632x2048, .f32⟩
  | .hbm, ⟨6, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== DAct.lean ====
abbrev S2048x2048 : Shape := ⟨2, ![2048, 2048]⟩
abbrev S1x5632x2048 : Shape := ⟨3, ![1, 5632, 2048]⟩
abbrev S2048x5632 : Shape := ⟨2, ![2048, 5632]⟩
abbrev S512x2048 : Shape := ⟨2, ![512, 2048]⟩
abbrev S1x1408x2048 : Shape := ⟨3, ![1, 1408, 2048]⟩
abbrev S512x1408 : Shape := ⟨2, ![512, 1408]⟩
abbrev S1408x2048 : Shape := ⟨2, ![1408, 2048]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S1x5632x2048, .bf16⟩
  | .hbm, ⟨2, _⟩ => ⟨S2048x5632, .f32⟩
  | .local _ .vmem, ⟨0, _⟩ => ⟨S512x2048, .bf16⟩
  | .local _ .vmem, ⟨1, _⟩ => ⟨S512x2048, .bf16⟩
  | .local _ .vmem, ⟨2, _⟩ => ⟨S1x1408x2048, .bf16⟩
  | .local _ .vmem, ⟨3, _⟩ => ⟨S1x1408x2048, .bf16⟩
  | .local _ .vmem, ⟨4, _⟩ => ⟨S512x1408, .f32⟩
  | .local _ .vmem, ⟨5, _⟩ => ⟨S512x1408, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDActIdeal.lean ====
abbrev S2048x2048 : Shape := ⟨2, ![2048, 2048]⟩
abbrev S1x5632x2048 : Shape := ⟨3, ![1, 5632, 2048]⟩
abbrev S5632x1x2048 : Shape := ⟨3, ![5632, 1, 2048]⟩
abbrev S5632x2048 : Shape := ⟨2, ![5632, 2048]⟩
abbrev S_ : Shape := ⟨0, ![]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S1x5632x2048, .bf16⟩
  | .hbm, ⟨2, _⟩ => ⟨S5632x1x2048, .bf16⟩
  | .hbm, ⟨3, _⟩ => ⟨S5632x2048, .bf16⟩
  | .hbm, ⟨4, _⟩ => ⟨S_, .f32⟩
  | .hbm, ⟨5, _⟩ => ⟨S2048x5632, .f32⟩
  | .hbm, ⟨6, _⟩ => ⟨S5632x2048, .f32⟩
  | .hbm, ⟨7, _⟩ => ⟨S2048x2048, .f32⟩
  | .hbm, ⟨8, _⟩ => ⟨S2048x2048, .f32⟩
  | .hbm, ⟨9, _⟩ => ⟨S2048x5632, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GwDown.lean ====
abbrev S2048x5632 : Shape := ⟨2, ![2048, 5632]⟩
abbrev S2048x2048 : Shape := ⟨2, ![2048, 2048]⟩
abbrev S2x4x1408x1024 : Shape := ⟨4, ![2, 4, 1408, 1024]⟩
abbrev S2048x1408 : Shape := ⟨2, ![2048, 1408]⟩
abbrev S2048x1024 : Shape := ⟨2, ![2048, 1024]⟩
abbrev S1x1x1408x1024 : Shape := ⟨4, ![1, 1, 1408, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S2x4x1408x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1x1x1408x1024, .bf16⟩
  | .local _ .vmem, ⟨5, _⟩ => ⟨S1x1x1408x1024, .bf16⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.divsi arg1 c1_i32_5
  let c0_i32_6 : BitVec 32 := 0#32
  let v18 : BitVec 1 := Scalar.cmpi .sgt arg1 c0_i32_6
  let v19 : BitVec 32 := Scalar.extui v18
  let c0_i32_7 : BitVec 32 := 0#32
  let v20 : BitVec 1 := Scalar.cmpi .slt arg1 c0_i32_7
  let v21 : BitVec 32 := Scalar.extui v20
  let v22 : BitVec 32 := Scalar.subi v19 v21
  let c0_i32_8 : BitVec 32 := 0#32
  let v23 : BitVec 1 := Scalar.cmpi .sgt c1_i32_5 c0_i32_8
  let v24 : BitVec 32 := Scalar.extui v23
  let c0_i32_9 : BitVec 32 := 0#32
  let v25 : BitVec 1 := Scalar.cmpi .slt c1_i32_5 c0_i32_9
  let v26 : BitVec 32 := Scalar.extui v25
  let v27 : BitVec 32 := Scalar.subi v24 v26
  let v28 : BitVec 1 := Scalar.cmpi .ne v22 v27
  let v29 : BitVec 32 := Scalar.remsi arg1 c1_i32_5
  let c0_i32_10 : BitVec 32 := 0#32
  let v30 : BitVec 1 := Scalar.cmpi .ne v29 c0_i32_10
  let v31 : BitVec 1 := Scalar.andi v28 v30
  let c1_i32_11 : BitVec 32 := 1#32
  let v32 : BitVec 32 := Scalar.subi v17 c1_i32_11
  let v33 : BitVec 32 := Scalar.select v31 v32 v17
  let c1_i32_12 : BitVec 32 := 1#32
  let c0_i32_13 : BitVec 32 := 0#32
  let v34 : BitVec 1 := Scalar.cmpi .eq c1_i32_12 c0_i32_13
  let c1_i32_14 : BitVec 32 := 1#32
  let v35 : BitVec 32 := Scalar.select v34 c1_i32_14 c1_i32_12
  let v36 : BitVec 32 := Scalar.remsi arg1 v35
  let c0_i32_15 : BitVec 32 := 0#32
  let v37 : BitVec 1 := Scalar.cmpi .ne v36 c0_i32_15
  let c0_i32_16 : BitVec 32 := 0#32
  let v38 : BitVec 1 := Scalar.cmpi .slt v36 c0_i32_16
  let c0_i32_17 : BitVec 32 := 0#32
  let v39 : BitVec 1 := Scalar.cmpi .slt v35 c0_i32_17
  let v40 : BitVec 1 := Scalar.xori v38 v39
  let v41 : BitVec 1 := Scalar.andi v40 v37
  let v42 : BitVec 32 := Scalar.addi v36 v35
  let v43 : BitVec 32 := Scalar.select v41 v42 v36
  let c1_i32_18 : BitVec 32 := 1#32
  let c0_i32_19 : BitVec 32 := 0#32
  let v44 : BitVec 1 := Scalar.cmpi .eq c1_i32_18 c0_i32_19
  let c1_i32_20 : BitVec 32 := 1#32
  let v45 : BitVec 32 := Scalar.select v44 c1_i32_20 c1_i32_18
  let v46 : BitVec 32 := Scalar.remsi arg0 v45
  let c0_i32_21 : BitVec 32 := 0#32
  let v47 : BitVec 1 := Scalar.cmpi .ne v46 c0_i32_21
  let c0_i32_22 : BitVec 32 := 0#32
  let v48 : BitVec 1 := Scalar.cmpi .slt v46 c0_i32_22
  let c0_i32_23 : BitVec 32 := 0#32
  let v49 : BitVec 1 := Scalar.cmpi .slt v45 c0_i32_23
  let v50 : BitVec 1 := Scalar.xori v48 v49
  let v51 : BitVec 1 := Scalar.andi v50 v47
  let v52 : BitVec 32 := Scalar.addi v46 v45
  let v53 : BitVec 32 := Scalar.select v51 v52 v46
  let c0_i32_24 : BitVec 32 := 0#32
  ![v16.toNat, v33.toNat, v43.toNat, v53.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefGwDownIdeal.lean ====
abbrev S2048x5632 : Shape := ⟨2, ![2048, 5632]⟩
abbrev S2048x2048 : Shape := ⟨2, ![2048, 2048]⟩
abbrev S_ : Shape := ⟨0, ![]⟩
abbrev S5632x2048 : Shape := ⟨2, ![5632, 2048]⟩
abbrev S4x1408x2x1024 : Shape := ⟨4, ![4, 1408, 2, 1024]⟩
abbrev S2x4x1408x1024 : Shape := ⟨4, ![2, 4, 1408, 1024]⟩

abbrev nBuf : Space → Nat
  | .hbm => 12
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S_, .f32⟩
  | .hbm, ⟨3, _⟩ => ⟨S5632x2048, .f32⟩
  | .hbm, ⟨4, _⟩ => ⟨S2048x2048, .f32⟩
  | .hbm, ⟨5, _⟩ => ⟨S2048x5632, .f32⟩
  | .hbm, ⟨6, _⟩ => ⟨S2048x2048, .f32⟩
  | .hbm, ⟨7, _⟩ => ⟨S2048x5632, .f32⟩
  | .hbm, ⟨8, _⟩ => ⟨S5632x2048, .f32⟩
  | .hbm, ⟨9, _⟩ => ⟨S4x1408x2x1024, .f32⟩
  | .hbm, ⟨10, _⟩ => ⟨S2x4x1408x1024, .f32⟩
  | .hbm, ⟨11, _⟩ => ⟨S2x4x1408x1024, .bf16⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DH2.lean ====
abbrev S2x2048x5632 : Shape := ⟨3, ![2, 2048, 5632]⟩
abbrev S4x2048x2816 : Shape := ⟨3, ![4, 2048, 2816]⟩
abbrev S8x128 : Shape := ⟨2, ![8, 128]⟩
abbrev S2048x2048 : Shape := ⟨2, ![2048, 2048]⟩
abbrev S1x512x2816 : Shape := ⟨3, ![1, 512, 2816]⟩
abbrev S1x2048x2816 : Shape := ⟨3, ![1, 2048, 2816]⟩
abbrev S512x2048 : Shape := ⟨2, ![512, 2048]⟩
abbrev S512x2816 : Shape := ⟨2, ![512, 2816]⟩
abbrev S2048x2816 : Shape := ⟨2, ![2048, 2816]⟩

abbrev nBuf : Space → Nat
  | .hbm => 4
  | .vmem => 7
  | .smem => 0
  | _ => 0

abbrev bufTy : (tb : Table) → Fin (tcTables nBuf tb) → BufTy
  | .hbm, ⟨0, _⟩ => ⟨S2x2048x5632, .bf16⟩
  | .hbm, ⟨1, _⟩ => ⟨S4x2048x2816, .bf16⟩
  | .hbm, ⟨2, _⟩ => ⟨S8x128, .f32⟩
  | .hbm, ⟨3, _⟩ => ⟨S2048x2048, .f32⟩
  | .local _ .vmem, ⟨0, _⟩ => ⟨S1x512x2816, .bf16⟩
  | .local _ .vmem, ⟨1, _⟩ => ⟨S1x512x2816, .bf16⟩
  | .local _ .vmem, ⟨2, _⟩ => ⟨S1x2048x2816, .bf16⟩
  | .local _ .vmem, ⟨3, _⟩ => ⟨S1x2048x2816, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | _, _ => ⟨S2x2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDH2Ideal.lean ====
abbrev S2x2048x5632 : Shape := ⟨3, ![2, 2048, 5632]⟩
abbrev S4x2048x2816 : Shape := ⟨3, ![4, 2048, 2816]⟩
abbrev S8x128 : Shape := ⟨2, ![8, 128]⟩
abbrev S2048x2x5632 : Shape := ⟨3, ![2048, 2, 5632]⟩
abbrev S2048x11264 : Shape := ⟨2, ![2048, 11264]⟩
abbrev S2048x4x2816 : Shape := ⟨3, ![2048, 4, 2816]⟩
abbrev S_ : Shape := ⟨0, ![]⟩
abbrev S2048x2048 : Shape := ⟨2, ![2048, 2048]⟩

abbrev nBuf : Space → Nat
  | .hbm => 13
  | .vmem => 0
  | .smem => 0
  | _ => 0

abbrev bufTy : (tb : Table) → Fin (tcTables nBuf tb) → BufTy
  | .hbm, ⟨0, _⟩ => ⟨S2x2048x5632, .bf16⟩
  | .hbm, ⟨1, _⟩ => ⟨S4x2048x2816, .bf16⟩
  | .hbm, ⟨2, _⟩ => ⟨S8x128, .f32⟩
  | .hbm, ⟨3, _⟩ => ⟨S2048x2x5632, .bf16⟩
  | .hbm, ⟨4, _⟩ => ⟨S2048x11264, .bf16⟩
  | .hbm, ⟨5, _⟩ => ⟨S2048x4x2816, .bf16⟩
  | .hbm, ⟨6, _⟩ => ⟨S2048x11264, .bf16⟩
  | .hbm, ⟨7, _⟩ => ⟨S_, .f32⟩
  | .hbm, ⟨8, _⟩ => ⟨S2048x2048, .f32⟩
  | .hbm, ⟨9, _⟩ => ⟨S2048x11264, .f32⟩
  | .hbm, ⟨10, _⟩ => ⟨S2048x11264, .f32⟩
  | .hbm, ⟨11, _⟩ => ⟨S2048x11264, .f32⟩
  | .hbm, ⟨12, _⟩ => ⟨S2048x2048, .f32⟩
  | _, _ => ⟨S2x2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== GwUp.lean ====
abbrev S2048x2048 : Shape := ⟨2, ![2048, 2048]⟩
abbrev S2x2048x5632 : Shape := ⟨3, ![2, 2048, 5632]⟩
abbrev S2x4x1024x2816 : Shape := ⟨4, ![2, 4, 1024, 2816]⟩
abbrev S2048x1024 : Shape := ⟨2, ![2048, 1024]⟩
abbrev S1x2048x1408 : Shape := ⟨3, ![1, 2048, 1408]⟩
abbrev S1x1x1024x1408 : Shape := ⟨4, ![1, 1, 1024, 1408]⟩
abbrev S2048x1408 : Shape := ⟨2, ![2048, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2x2048x5632, .bf16⟩
  | .hbm, ⟨2, _⟩ => ⟨S2x4x1024x2816, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x1x1024x1408, .bf16⟩
  | .local _ .vmem, ⟨5, _⟩ => ⟨S1x1x1024x1408, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 32 := Scalar.divsi arg0 c2_i32
  let c0_i32_5 : BitVec 32 := 0#32
  let v18 : BitVec 1 := Scalar.cmpi .sgt arg0 c0_i32_5
  let v19 : BitVec 32 := Scalar.extui v18
  let c0_i32_6 : BitVec 32 := 0#32
  let v20 : BitVec 1 := Scalar.cmpi .slt arg0 c0_i32_6
  let v21 : BitVec 32 := Scalar.extui v20
  let v22 : BitVec 32 := Scalar.subi v19 v21
  let c0_i32_7 : BitVec 32 := 0#32
  let v23 : BitVec 1 := Scalar.cmpi .sgt c2_i32 c0_i32_7
  let v24 : BitVec 32 := Scalar.extui v23
  let c0_i32_8 : BitVec 32 := 0#32
  let v25 : BitVec 1 := Scalar.cmpi .slt c2_i32 c0_i32_8
  let v26 : BitVec 32 := Scalar.extui v25
  let v27 : BitVec 32 := Scalar.subi v24 v26
  let v28 : BitVec 1 := Scalar.cmpi .ne v22 v27
  let v29 : BitVec 32 := Scalar.remsi arg0 c2_i32
  let c0_i32_9 : BitVec 32 := 0#32
  let v30 : BitVec 1 := Scalar.cmpi .ne v29 c0_i32_9
  let v31 : BitVec 1 := Scalar.andi v28 v30
  let c1_i32_10 : BitVec 32 := 1#32
  let v32 : BitVec 32 := Scalar.subi v17 c1_i32_10
  let v33 : BitVec 32 := Scalar.select v31 v32 v17
  let c1_i32_11 : BitVec 32 := 1#32
  let c0_i32_12 : BitVec 32 := 0#32
  let v34 : BitVec 1 := Scalar.cmpi .eq c1_i32_11 c0_i32_12
  let c1_i32_13 : BitVec 32 := 1#32
  let v35 : BitVec 32 := Scalar.select v34 c1_i32_13 c1_i32_11
  let v36 : BitVec 32 := Scalar.remsi arg1 v35
  let c0_i32_14 : BitVec 32 := 0#32
  let v37 : BitVec 1 := Scalar.cmpi .ne v36 c0_i32_14
  let c0_i32_15 : BitVec 32 := 0#32
  let v38 : BitVec 1 := Scalar.cmpi .slt v36 c0_i32_15
  let c0_i32_16 : BitVec 32 := 0#32
  let v39 : BitVec 1 := Scalar.cmpi .slt v35 c0_i32_16
  let v40 : BitVec 1 := Scalar.xori v38 v39
  let v41 : BitVec 1 := Scalar.andi v40 v37
  let v42 : BitVec 32 := Scalar.addi v36 v35
  let v43 : BitVec 32 := Scalar.select v41 v42 v36
  let c2_i32_17 : BitVec 32 := 2#32
  let c0_i32_18 : BitVec 32 := 0#32
  let v44 : BitVec 1 := Scalar.cmpi .eq c2_i32_17 c0_i32_18
  let c1_i32_19 : BitVec 32 := 1#32
  let v45 : BitVec 32 := Scalar.select v44 c1_i32_19 c2_i32_17
  let v46 : BitVec 32 := Scalar.remsi arg0 v45
  let c0_i32_20 : BitVec 32 := 0#32
  let v47 : BitVec 1 := Scalar.cmpi .ne v46 c0_i32_20
  let c0_i32_21 : BitVec 32 := 0#32
  let v48 : BitVec 1 := Scalar.cmpi .slt v46 c0_i32_21
  let c0_i32_22 : BitVec 32 := 0#32
  let v49 : BitVec 1 := Scalar.cmpi .slt v45 c0_i32_22
  let v50 : BitVec 1 := Scalar.xori v48 v49
  let v51 : BitVec 1 := Scalar.andi v50 v47
  let v52 : BitVec 32 := Scalar.addi v46 v45
  let v53 : BitVec 32 := Scalar.select v51 v52 v46
  let c0_i32_23 : BitVec 32 := 0#32
  ![v16.toNat, v33.toNat, v43.toNat, v53.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefGwUpIdeal.lean ====
abbrev S2048x2048 : Shape := ⟨2, ![2048, 2048]⟩
abbrev S2x2048x5632 : Shape := ⟨3, ![2, 2048, 5632]⟩
abbrev S2048x2x5632 : Shape := ⟨3, ![2048, 2, 5632]⟩
abbrev S2048x11264 : Shape := ⟨2, ![2048, 11264]⟩
abbrev S_ : Shape := ⟨0, ![]⟩
abbrev S11264x2048 : Shape := ⟨2, ![11264, 2048]⟩
abbrev S2x1024x4x2816 : Shape := ⟨4, ![2, 1024, 4, 2816]⟩
abbrev S2x4x1024x2816 : Shape := ⟨4, ![2, 4, 1024, 2816]⟩

abbrev nBuf : Space → Nat
  | .hbm => 14
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2x2048x5632, .bf16⟩
  | .hbm, ⟨2, _⟩ => ⟨S2048x2x5632, .bf16⟩
  | .hbm, ⟨3, _⟩ => ⟨S2048x11264, .bf16⟩
  | .hbm, ⟨4, _⟩ => ⟨S_, .f32⟩
  | .hbm, ⟨5, _⟩ => ⟨S2048x11264, .f32⟩
  | .hbm, ⟨6, _⟩ => ⟨S2048x11264, .f32⟩
  | .hbm, ⟨7, _⟩ => ⟨S2048x2048, .f32⟩
  | .hbm, ⟨8, _⟩ => ⟨S2048x11264, .f32⟩
  | .hbm, ⟨9, _⟩ => ⟨S11264x2048, .f32⟩
  | .hbm, ⟨10, _⟩ => ⟨S2048x11264, .f32⟩
  | .hbm, ⟨11, _⟩ => ⟨S2x1024x4x2816, .f32⟩
  | .hbm, ⟨12, _⟩ => ⟨S2x4x1024x2816, .f32⟩
  | .hbm, ⟨13, _⟩ => ⟨S2x4x1024x2816, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== DYcat.lean ====
abbrev S2048x2048 : Shape := ⟨2, ![2048, 2048]⟩
abbrev S1x2048x2048 : Shape := ⟨3, ![1, 2048, 2048]⟩
abbrev S8x128 : Shape := ⟨2, ![8, 128]⟩
abbrev S512x2048 : Shape := ⟨2, ![512, 2048]⟩
abbrev S1x1024x2048 : Shape := ⟨3, ![1, 1024, 2048]⟩
abbrev S512x1024 : Shape := ⟨2, ![512, 1024]⟩
abbrev S1024x2048 : Shape := ⟨2, ![1024, 2048]⟩

abbrev nBuf : Space → Nat
  | .hbm => 4
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S1x2048x2048, .bf16⟩
  | .hbm, ⟨2, _⟩ => ⟨S8x128, .f32⟩
  | .hbm, ⟨3, _⟩ => ⟨S2048x2048, .f32⟩
  | .local _ .vmem, ⟨0, _⟩ => ⟨S512x2048, .bf16⟩
  | .local _ .vmem, ⟨1, _⟩ => ⟨S512x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S512x1024, .f32⟩
  | .local _ .vmem, ⟨5, _⟩ => ⟨S512x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDYcatIdeal.lean ====
abbrev S2048x2048 : Shape := ⟨2, ![2048, 2048]⟩
abbrev S1x2048x2048 : Shape := ⟨3, ![1, 2048, 2048]⟩
abbrev S8x128 : Shape := ⟨2, ![8, 128]⟩
abbrev S2048x1x2048 : Shape := ⟨3, ![2048, 1, 2048]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S1x2048x2048, .bf16⟩
  | .hbm, ⟨2, _⟩ => ⟨S8x128, .f32⟩
  | .hbm, ⟨3, _⟩ => ⟨S2048x1x2048, .bf16⟩
  | .hbm, ⟨4, _⟩ => ⟨S2048x2048, .bf16⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== GwOut.lean ====
abbrev S2048x2048 : Shape := ⟨2, ![2048, 2048]⟩
abbrev S2x4x512x1024 : Shape := ⟨4, ![2, 4, 512, 1024]⟩
abbrev S2048x512 : Shape := ⟨2, ![2048, 512]⟩
abbrev S2048x1024 : Shape := ⟨2, ![2048, 1024]⟩
abbrev S1x1x512x1024 : Shape := ⟨4, ![1, 1, 512, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2x4x512x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S1x1x512x1024, .bf16⟩
  | .local _ .vmem, ⟨5, _⟩ => ⟨S1x1x512x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.divsi arg1 c1_i32_5
  let c0_i32_6 : BitVec 32 := 0#32
  let v18 : BitVec 1 := Scalar.cmpi .sgt arg1 c0_i32_6
  let v19 : BitVec 32 := Scalar.extui v18
  let c0_i32_7 : BitVec 32 := 0#32
  let v20 : BitVec 1 := Scalar.cmpi .slt arg1 c0_i32_7
  let v21 : BitVec 32 := Scalar.extui v20
  let v22 : BitVec 32 := Scalar.subi v19 v21
  let c0_i32_8 : BitVec 32 := 0#32
  let v23 : BitVec 1 := Scalar.cmpi .sgt c1_i32_5 c0_i32_8
  let v24 : BitVec 32 := Scalar.extui v23
  let c0_i32_9 : BitVec 32 := 0#32
  let v25 : BitVec 1 := Scalar.cmpi .slt c1_i32_5 c0_i32_9
  let v26 : BitVec 32 := Scalar.extui v25
  let v27 : BitVec 32 := Scalar.subi v24 v26
  let v28 : BitVec 1 := Scalar.cmpi .ne v22 v27
  let v29 : BitVec 32 := Scalar.remsi arg1 c1_i32_5
  let c0_i32_10 : BitVec 32 := 0#32
  let v30 : BitVec 1 := Scalar.cmpi .ne v29 c0_i32_10
  let v31 : BitVec 1 := Scalar.andi v28 v30
  let c1_i32_11 : BitVec 32 := 1#32
  let v32 : BitVec 32 := Scalar.subi v17 c1_i32_11
  let v33 : BitVec 32 := Scalar.select v31 v32 v17
  let c1_i32_12 : BitVec 32 := 1#32
  let c0_i32_13 : BitVec 32 := 0#32
  let v34 : BitVec 1 := Scalar.cmpi .eq c1_i32_12 c0_i32_13
  let c1_i32_14 : BitVec 32 := 1#32
  let v35 : BitVec 32 := Scalar.select v34 c1_i32_14 c1_i32_12
  let v36 : BitVec 32 := Scalar.remsi arg1 v35
  let c0_i32_15 : BitVec 32 := 0#32
  let v37 : BitVec 1 := Scalar.cmpi .ne v36 c0_i32_15
  let c0_i32_16 : BitVec 32 := 0#32
  let v38 : BitVec 1 := Scalar.cmpi .slt v36 c0_i32_16
  let c0_i32_17 : BitVec 32 := 0#32
  let v39 : BitVec 1 := Scalar.cmpi .slt v35 c0_i32_17
  let v40 : BitVec 1 := Scalar.xori v38 v39
  let v41 : BitVec 1 := Scalar.andi v40 v37
  let v42 : BitVec 32 := Scalar.addi v36 v35
  let v43 : BitVec 32 := Scalar.select v41 v42 v36
  let c1_i32_18 : BitVec 32 := 1#32
  let c0_i32_19 : BitVec 32 := 0#32
  let v44 : BitVec 1 := Scalar.cmpi .eq c1_i32_18 c0_i32_19
  let c1_i32_20 : BitVec 32 := 1#32
  let v45 : BitVec 32 := Scalar.select v44 c1_i32_20 c1_i32_18
  let v46 : BitVec 32 := Scalar.remsi arg0 v45
  let c0_i32_21 : BitVec 32 := 0#32
  let v47 : BitVec 1 := Scalar.cmpi .ne v46 c0_i32_21
  let c0_i32_22 : BitVec 32 := 0#32
  let v48 : BitVec 1 := Scalar.cmpi .slt v46 c0_i32_22
  let c0_i32_23 : BitVec 32 := 0#32
  let v49 : BitVec 1 := Scalar.cmpi .slt v45 c0_i32_23
  let v50 : BitVec 1 := Scalar.xori v48 v49
  let v51 : BitVec 1 := Scalar.andi v50 v47
  let v52 : BitVec 32 := Scalar.addi v46 v45
  let v53 : BitVec 32 := Scalar.select v51 v52 v46
  let c0_i32_24 : BitVec 32 := 0#32
  ![v16.toNat, v33.toNat, v43.toNat, v53.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefGwOutIdeal.lean ====
abbrev S2048x2048 : Shape := ⟨2, ![2048, 2048]⟩
abbrev S_ : Shape := ⟨0, ![]⟩
abbrev S4x512x2x1024 : Shape := ⟨4, ![4, 512, 2, 1024]⟩
abbrev S2x4x512x1024 : Shape := ⟨4, ![2, 4, 512, 1024]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S4x512x2x1024, .f32⟩
  | .hbm, ⟨10, _⟩ => ⟨S2x4x512x1024, .f32⟩
  | .hbm, ⟨11, _⟩ => ⟨S2x4x512x1024, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DH1.lean ====
abbrev S2048x3072 : Shape := ⟨2, ![2048, 3072]⟩
abbrev S4x2048x768 : Shape := ⟨3, ![4, 2048, 768]⟩
abbrev S2048x2048 : Shape := ⟨2, ![2048, 2048]⟩
abbrev S512x768 : Shape := ⟨2, ![512, 768]⟩
abbrev S1x2048x768 : Shape := ⟨3, ![1, 2048, 768]⟩
abbrev S512x2048 : Shape := ⟨2, ![512, 2048]⟩
abbrev S2048x768 : Shape := ⟨2, ![2048, 768]⟩

abbrev nBuf : Space → Nat
  | .hbm => 3
  | .vmem => 7
  | .smem => 0
  | _ => 0

abbrev bufTy : (tb : Table) → Fin (tcTables nBuf tb) → BufTy
  | .hbm, ⟨0, _⟩ => ⟨S2048x3072, .bf16⟩
  | .hbm, ⟨1, _⟩ => ⟨S4x2048x768, .bf16⟩
  | .hbm, ⟨2, _⟩ => ⟨S2048x2048, .f32⟩
  | .local _ .vmem, ⟨0, _⟩ => ⟨S512x768, .bf16⟩
  | .local _ .vmem, ⟨1, _⟩ => ⟨S512x768, .bf16⟩
  | .local _ .vmem, ⟨2, _⟩ => ⟨S1x2048x768, .bf16⟩
  | .local _ .vmem, ⟨3, _⟩ => ⟨S1x2048x768, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | _, _ => ⟨S2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDH1Ideal.lean ====
abbrev S2048x3072 : Shape := ⟨2, ![2048, 3072]⟩
abbrev S4x2048x768 : Shape := ⟨3, ![4, 2048, 768]⟩
abbrev S2048x4x768 : Shape := ⟨3, ![2048, 4, 768]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x3072, .bf16⟩
  | .hbm, ⟨1, _⟩ => ⟨S4x2048x768, .bf16⟩
  | .hbm, ⟨2, _⟩ => ⟨S2048x4x768, .bf16⟩
  | .hbm, ⟨3, _⟩ => ⟨S2048x3072, .bf16⟩
  | .hbm, ⟨4, _⟩ => ⟨S_, .f32⟩
  | .hbm, ⟨5, _⟩ => ⟨S2048x2048, .f32⟩
  | .hbm, ⟨6, _⟩ => ⟨S2048x3072, .f32⟩
  | .hbm, ⟨7, _⟩ => ⟨S2048x3072, .f32⟩
  | .hbm, ⟨8, _⟩ => ⟨S2048x3072, .f32⟩
  | .hbm, ⟨9, _⟩ => ⟨S2048x2048, .f32⟩
  | _, _ => ⟨S2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GwIn.lean ====
abbrev S2048x2048 : Shape := ⟨2, ![2048, 2048]⟩
abbrev S2048x3072 : Shape := ⟨2, ![2048, 3072]⟩
abbrev S2x4x1024x768 : Shape := ⟨4, ![2, 4, 1024, 768]⟩
abbrev S2048x1024 : Shape := ⟨2, ![2048, 1024]⟩
abbrev S2048x768 : Shape := ⟨2, ![2048, 768]⟩
abbrev S1x1x1024x768 : Shape := ⟨4, ![1, 1, 1024, 768]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x3072, .bf16⟩
  | .hbm, ⟨2, _⟩ => ⟨S2x4x1024x768, .bf16⟩
  | .local _ .vmem, ⟨0, _⟩ => ⟨S2048x1024, .bf16⟩
  | .local _ .vmem, ⟨1, _⟩ => ⟨S2048x1024, .bf16⟩
  | .local _ .vmem, ⟨2, _⟩ => ⟨S2048x768, .bf16⟩
  | .local _ .vmem, ⟨3, _⟩ => ⟨S2048x768, .bf16⟩
  | .local _ .vmem, ⟨4, _⟩ => ⟨S1x1x1024x768, .bf16⟩
  | .local _ .vmem, ⟨5, _⟩ => ⟨S1x1x1024x768, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.divsi arg0 c1_i32_5
  let c0_i32_6 : BitVec 32 := 0#32
  let v18 : BitVec 1 := Scalar.cmpi .sgt arg0 c0_i32_6
  let v19 : BitVec 32 := Scalar.extui v18
  let c0_i32_7 : BitVec 32 := 0#32
  let v20 : BitVec 1 := Scalar.cmpi .slt arg0 c0_i32_7
  let v21 : BitVec 32 := Scalar.extui v20
  let v22 : BitVec 32 := Scalar.subi v19 v21
  let c0_i32_8 : BitVec 32 := 0#32
  let v23 : BitVec 1 := Scalar.cmpi .sgt c1_i32_5 c0_i32_8
  let v24 : BitVec 32 := Scalar.extui v23
  let c0_i32_9 : BitVec 32 := 0#32
  let v25 : BitVec 1 := Scalar.cmpi .slt c1_i32_5 c0_i32_9
  let v26 : BitVec 32 := Scalar.extui v25
  let v27 : BitVec 32 := Scalar.subi v24 v26
  let v28 : BitVec 1 := Scalar.cmpi .ne v22 v27
  let v29 : BitVec 32 := Scalar.remsi arg0 c1_i32_5
  let c0_i32_10 : BitVec 32 := 0#32
  let v30 : BitVec 1 := Scalar.cmpi .ne v29 c0_i32_10
  let v31 : BitVec 1 := Scalar.andi v28 v30
  let c1_i32_11 : BitVec 32 := 1#32
  let v32 : BitVec 32 := Scalar.subi v17 c1_i32_11
  let v33 : BitVec 32 := Scalar.select v31 v32 v17
  let c1_i32_12 : BitVec 32 := 1#32
  let c0_i32_13 : BitVec 32 := 0#32
  let v34 : BitVec 1 := Scalar.cmpi .eq c1_i32_12 c0_i32_13
  let c1_i32_14 : BitVec 32 := 1#32
  let v35 : BitVec 32 := Scalar.select v34 c1_i32_14 c1_i32_12
  let v36 : BitVec 32 := Scalar.remsi arg1 v35
  let c0_i32_15 : BitVec 32 := 0#32
  let v37 : BitVec 1 := Scalar.cmpi .ne v36 c0_i32_15
  let c0_i32_16 : BitVec 32 := 0#32
  let v38 : BitVec 1 := Scalar.cmpi .slt v36 c0_i32_16
  let c0_i32_17 : BitVec 32 := 0#32
  let v39 : BitVec 1 := Scalar.cmpi .slt v35 c0_i32_17
  let v40 : BitVec 1 := Scalar.xori v38 v39
  let v41 : BitVec 1 := Scalar.andi v40 v37
  let v42 : BitVec 32 := Scalar.addi v36 v35
  let v43 : BitVec 32 := Scalar.select v41 v42 v36
  let c1_i32_18 : BitVec 32 := 1#32
  let c0_i32_19 : BitVec 32 := 0#32
  let v44 : BitVec 1 := Scalar.cmpi .eq c1_i32_18 c0_i32_19
  let c1_i32_20 : BitVec 32 := 1#32
  let v45 : BitVec 32 := Scalar.select v44 c1_i32_20 c1_i32_18
  let v46 : BitVec 32 := Scalar.remsi arg0 v45
  let c0_i32_21 : BitVec 32 := 0#32
  let v47 : BitVec 1 := Scalar.cmpi .ne v46 c0_i32_21
  let c0_i32_22 : BitVec 32 := 0#32
  let v48 : BitVec 1 := Scalar.cmpi .slt v46 c0_i32_22
  let c0_i32_23 : BitVec 32 := 0#32
  let v49 : BitVec 1 := Scalar.cmpi .slt v45 c0_i32_23
  let v50 : BitVec 1 := Scalar.xori v48 v49
  let v51 : BitVec 1 := Scalar.andi v50 v47
  let v52 : BitVec 32 := Scalar.addi v46 v45
  let v53 : BitVec 32 := Scalar.select v51 v52 v46
  let c0_i32_24 : BitVec 32 := 0#32
  ![v16.toNat, v33.toNat, v43.toNat, v53.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefGwInIdeal.lean ====
abbrev S2048x2048 : Shape := ⟨2, ![2048, 2048]⟩
abbrev S2048x3072 : Shape := ⟨2, ![2048, 3072]⟩
abbrev S_ : Shape := ⟨0, ![]⟩
abbrev S3072x2048 : Shape := ⟨2, ![3072, 2048]⟩
abbrev S2x1024x4x768 : Shape := ⟨4, ![2, 1024, 4, 768]⟩
abbrev S2x4x1024x768 : Shape := ⟨4, ![2, 4, 1024, 768]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x3072, .bf16⟩
  | .hbm, ⟨2, _⟩ => ⟨S_, .f32⟩
  | .hbm, ⟨3, _⟩ => ⟨S2048x3072, .f32⟩
  | .hbm, ⟨4, _⟩ => ⟨S2048x3072, .f32⟩
  | .hbm, ⟨5, _⟩ => ⟨S2048x2048, .f32⟩
  | .hbm, ⟨6, _⟩ => ⟨S2048x3072, .f32⟩
  | .hbm, ⟨7, _⟩ => ⟨S3072x2048, .f32⟩
  | .hbm, ⟨8, _⟩ => ⟨S2048x3072, .f32⟩
  | .hbm, ⟨9, _⟩ => ⟨S2x1024x4x768, .f32⟩
  | .hbm, ⟨10, _⟩ => ⟨S2x4x1024x768, .f32⟩
  | .hbm, ⟨11, _⟩ => ⟨S2x4x1024x768, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Wada.lean ====
abbrev S8x2048 : Shape := ⟨2, ![8, 2048]⟩
abbrev S8x3072 : Shape := ⟨2, ![8, 3072]⟩
abbrev S2048x3072 : Shape := ⟨2, ![2048, 3072]⟩
abbrev S2048x8 : Shape := ⟨2, ![2048, 8]⟩
abbrev S256x8 : Shape := ⟨2, ![256, 8]⟩
abbrev S8x1024 : Shape := ⟨2, ![8, 1024]⟩
abbrev S256x1024 : Shape := ⟨2, ![256, 1024]⟩
abbrev S256x1 : Shape := ⟨2, ![256, 1]⟩
abbrev S1x1024 : Shape := ⟨2, ![1, 1024]⟩

abbrev nBuf : Space → Nat
  | .hbm => 10
  | .vmem => 18
  | .smem => 0
  | _ => 0

abbrev bufTy : (tb : Table) → Fin (tcTables nBuf tb) → BufTy
  | .hbm, ⟨0, _⟩ => ⟨S8x2048, .f32⟩
  | .hbm, ⟨1, _⟩ => ⟨S8x3072, .f32⟩
  | .hbm, ⟨2, _⟩ => ⟨S2048x3072, .f32⟩
  | .hbm, ⟨3, _⟩ => ⟨S2048x3072, .f32⟩
  | .hbm, ⟨4, _⟩ => ⟨S2048x3072, .f32⟩
  | .hbm, ⟨5, _⟩ => ⟨S2048x8, .f32⟩
  | .hbm, ⟨6, _⟩ => ⟨S2048x3072, .f32⟩
  | .hbm, ⟨7, _⟩ => ⟨S2048x3072, .f32⟩
  | .hbm, ⟨8, _⟩ => ⟨S2048x3072, .f32⟩
  | .hbm, ⟨9, _⟩ => ⟨S2048x3072, .f32⟩
  | .local _ .vmem, ⟨0, _⟩ => ⟨S256x8, .f32⟩
  | .local _ .vmem, ⟨1, _⟩ => ⟨S256x8, .f32⟩
  | .local _ .vmem, ⟨2, _⟩ => ⟨S8x1024, .f32⟩
  | .local _ .vmem, ⟨3, _⟩ => ⟨S8x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== RefWadaIdeal.lean ====
abbrev S8x2048 : Shape := ⟨2, ![8, 2048]⟩
abbrev S8x3072 : Shape := ⟨2, ![8, 3072]⟩
abbrev S2048x3072 : Shape := ⟨2, ![2048, 3072]⟩
abbrev S_ : Shape := ⟨0, ![]⟩
abbrev S3072x2048 : Shape := ⟨2, ![3072, 2048]⟩

abbrev nBuf : Space → Nat
  | .hbm => 50
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S8x3072, .f32⟩
  | .hbm, ⟨2, _⟩ => ⟨S2048x3072, .f32⟩
  | .hbm, ⟨3, _⟩ => ⟨S2048x3072, .f32⟩
  | .hbm, ⟨4, _⟩ => ⟨S2048x3072, .f32⟩
  | .hbm, ⟨5, _⟩ => ⟨S8x2048, .f32⟩
  | .hbm, ⟨6, _⟩ => ⟨S8x2048, .f32⟩
  | .hbm, ⟨7, _⟩ => ⟨S_, .f32⟩
  | .hbm, ⟨8, _⟩ => ⟨S8x2048, .f32⟩
  | .hbm, ⟨9, _⟩ => ⟨S8x2048, .f32⟩
  | .hbm, ⟨10, _⟩ => ⟨S_, .f32⟩
  | .hbm, ⟨11, _⟩ => ⟨S8x2048, .f32⟩
  | .hbm, ⟨12, _⟩ => ⟨S8x2048, .f32⟩
  | .hbm, ⟨13, _⟩ => ⟨S8x2048, .f32⟩
  | .hbm, ⟨14, _⟩ => ⟨S8x3072, .f32⟩
  | .hbm, ⟨15, _⟩ => ⟨S3072x2048, .f32⟩
  | .hbm, ⟨16, _⟩ => ⟨S2048x3072, .f32⟩
  | .hbm, ⟨17, _⟩ => ⟨S_, .f32⟩
  | .hbm, ⟨18, _⟩ => ⟨S2048x3072, .f32⟩
  | .hbm, ⟨19, _⟩ => ⟨S2048x3072, .f32⟩
  | .hbm, ⟨20, _⟩ => ⟨S_, .f32⟩
  | .hbm, ⟨21, _⟩ => ⟨S2048x3072, .f32⟩
  | .hbm, ⟨22, _⟩ => ⟨S2048x3072, .f32⟩
  | .hbm, ⟨23, _⟩ => ⟨S2048x3072, .f32⟩
  | .hbm, ⟨24, _⟩ => ⟨S_, .f32⟩
  | .hbm, ⟨25, _⟩ => ⟨S2048x3072, .f32⟩
  | .hbm, ⟨26, _⟩ => ⟨S2048x3072, .f32⟩
  | .hbm, ⟨27, _⟩ => ⟨S2048x3072, .f32⟩
  | .hbm, ⟨28, _⟩ => ⟨S_, .f32⟩
  | .hbm, ⟨29, _⟩ => ⟨S2048x3072, .f32⟩
  | .hbm, ⟨30, _⟩ => ⟨S2048x3072, .f32⟩
  | .hbm, ⟨31, _⟩ => ⟨S2048x3072, .f32⟩
  | .hbm, ⟨32, _⟩ => ⟨S_, .f32⟩
  | .hbm, ⟨33, _⟩ => ⟨S2048x3072, .f32⟩
  | .hbm, ⟨34, _⟩ => ⟨S2048x3072, .f32⟩
  | .hbm, ⟨35, _⟩ => ⟨S_, .f32⟩
  | .hbm, ⟨36, _⟩ => ⟨S2048x3072, .f32⟩
  | .hbm, ⟨37, _⟩ => ⟨S2048x3072, .f32⟩
  | .hbm, ⟨38, _⟩ => ⟨S2048x3072, .f32⟩
  | .hbm, ⟨39, _⟩ => ⟨S_, .f32⟩
  | .hbm, ⟨40, _⟩ => ⟨S2048x3072, .f32⟩
  | .hbm, ⟨41, _⟩ => ⟨S2048x3072, .f32⟩
  | .hbm, ⟨42, _⟩ => ⟨S2048x3072, .f32⟩
  | .hbm, ⟨43, _⟩ => ⟨S_, .f32⟩
  | .hbm, ⟨44, _⟩ => ⟨S2048x3072, .f32⟩
  | .hbm, ⟨45, _⟩ => ⟨S2048x3072, .f32⟩
  | .hbm, ⟨46, _⟩ => ⟨S2048x3072, .f32⟩
  | .hbm, ⟨47, _⟩ => ⟨S_, .f32⟩
  | .hbm, ⟨48, _⟩ => ⟨S2048x3072, .f32⟩
  | .hbm, ⟨49, _⟩ => ⟨S2048x3072, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_2 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_3 : Ref sig .tc := ⟨.hbm, 32, rfl⟩
abbrev main_v15 : Ref sig .tc := ⟨.hbm, 33, rfl⟩
abbrev main_v16 : Ref sig .tc := ⟨.hbm, 34, rfl⟩
abbrev main_cst_4 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_5 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_6 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_7 : Ref sig .tc := ⟨.hbm, 47, rfl⟩
abbrev main_v26 : Ref sig .tc := ⟨.hbm, 48, rfl⟩
abbrev main_v27 : Ref sig .tc := ⟨.hbm, 49, rfl⟩

abbrev nD : Nat := 1
abbrev τ : Topo := Topo.v7x

variable {F : FTy → Type} [FloatOps F]
-- ==== AdamIn.lean ====
abbrev S2048x768 : Shape := ⟨2, ![2048, 768]⟩
abbrev S256x768 : Shape := ⟨2, ![256, 768]⟩

abbrev nBuf : Space → Nat
  | .hbm => 8
  | .vmem => 16
  | .smem => 0
  | _ => 0

abbrev bufTy : (tb : Table) → Fin (tcTables nBuf tb) → BufTy
  | .hbm, ⟨0, _⟩ => ⟨S2048x768, .f32⟩
  | .hbm, ⟨1, _⟩ => ⟨S2048x768, .f32⟩
  | .hbm, ⟨2, _⟩ => ⟨S2048x768, .f32⟩
  | .hbm, ⟨3, _⟩ => ⟨S2048x768, .f32⟩
  | .hbm, ⟨4, _⟩ => ⟨S2048x768, .f32⟩
  | .hbm, ⟨5, _⟩ => ⟨S2048x768, .f32⟩
  | .hbm, ⟨6, _⟩ => ⟨S2048x768, .f32⟩
  | .hbm, ⟨7, _⟩ => ⟨S2048x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== RefAdamInIdeal.lean ====
abbrev S2048x768 : Shape := ⟨2, ![2048, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x768, .f32⟩
  | .hbm, ⟨1, _⟩ => ⟨S2048x768, .f32⟩
  | .hbm, ⟨2, _⟩ => ⟨S2048x768, .f32⟩
  | .hbm, ⟨3, _⟩ => ⟨S2048x768, .f32⟩
  | .hbm, ⟨4, _⟩ => ⟨S_, .f32⟩
  | .hbm, ⟨5, _⟩ => ⟨S2048x768, .f32⟩
  | .hbm, ⟨6, _⟩ => ⟨S2048x768, .f32⟩
  | .hbm, ⟨7, _⟩ => ⟨S_, .f32⟩
  | .hbm, ⟨8, _⟩ => ⟨S2048x768, .f32⟩
  | .hbm, ⟨9, _⟩ => ⟨S2048x768, .f32⟩
  | .hbm, ⟨10, _⟩ => ⟨S2048x768, .f32⟩
  | .hbm, ⟨11, _⟩ => ⟨S_, .f32⟩
  | .hbm, ⟨12, _⟩ => ⟨S2048x768, .f32⟩
  | .hbm, ⟨13, _⟩ => ⟨S2048x768, .f32⟩
  | .hbm, ⟨14, _⟩ => ⟨S2048x768, .f32⟩
  | .hbm, ⟨15, _⟩ => ⟨S_, .f32⟩
  | .hbm, ⟨16, _⟩ => ⟨S2048x768, .f32⟩
  | .hbm, ⟨17, _⟩ => ⟨S2048x768, .f32⟩
  | .hbm, ⟨18, _⟩ => ⟨S2048x768, .f32⟩
  | .hbm, ⟨19, _⟩ => ⟨S_, .f32⟩
  | .hbm, ⟨20, _⟩ => ⟨S2048x768, .f32⟩
  | .hbm, ⟨21, _⟩ => ⟨S2048x768, .f32⟩
  | .hbm, ⟨22, _⟩ => ⟨S_, .f32⟩
  | .hbm, ⟨23, _⟩ => ⟨S2048x768, .f32⟩
  | .hbm, ⟨24, _⟩ => ⟨S2048x768, .f32⟩
  | .hbm, ⟨25, _⟩ => ⟨S2048x768, .f32⟩
  | .hbm, ⟨26, _⟩ => ⟨S_, .f32⟩
  | .hbm, ⟨27, _⟩ => ⟨S2048x768, .f32⟩
  | .hbm, ⟨28, _⟩ => ⟨S2048x768, .f32⟩
  | .hbm, ⟨29, _⟩ => ⟨S2048x768, .f32⟩
  | .hbm, ⟨30, _⟩ => ⟨S_, .f32⟩
  | .hbm, ⟨31, _⟩ => ⟨S2048x768, .f32⟩
  | .hbm, ⟨32, _⟩ => ⟨S2048x768, .f32⟩
  | .hbm, ⟨33, _⟩ => ⟨S2048x768, .f32⟩
  | .hbm, ⟨34, _⟩ => ⟨S_, .f32⟩
  | .hbm, ⟨35, _⟩ => ⟨S2048x768, .f32⟩
  | .hbm, ⟨36, _⟩ => ⟨S2048x768, .f32⟩
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamUp.lean ====
abbrev S2048x2816 : Shape := ⟨2, ![2048, 2816]⟩
abbrev S64x2816 : Shape := ⟨2, ![64, 2816]⟩

abbrev nBuf : Space → Nat
  | .hbm => 8
  | .vmem => 16
  | .smem => 0
  | _ => 0

abbrev bufTy : (tb : Table) → Fin (tcTables nBuf tb) → BufTy
  | .hbm, ⟨0, _⟩ => ⟨S2048x2816, .f32⟩
  | .hbm, ⟨1, _⟩ => ⟨S2048x2816, .f32⟩
  | .hbm, ⟨2, _⟩ => ⟨S2048x2816, .f32⟩
  | .hbm, ⟨3, _⟩ => ⟨S2048x2816, .f32⟩
  | .hbm, ⟨4, _⟩ => ⟨S2048x2816, .f32⟩
  | .hbm, ⟨5, _⟩ => ⟨S2048x2816, .f32⟩
  | .hbm, ⟨6, _⟩ => ⟨S2048x2816, .f32⟩
  | .hbm, ⟨7, _⟩ => ⟨S2048x2816, .f32⟩
  | .local _ .vmem, ⟨0, _⟩ => ⟨S64x2816, .f32⟩
  | .local _ .vmem, ⟨1, _⟩ => ⟨S64x2816, .f32⟩
  | .local _ .vmem, ⟨2, _⟩ => ⟨S64x2816, .f32⟩
  | .local _ .vmem, ⟨3, _⟩ => ⟨S64x2816, .f32⟩
  | .local _ .vmem, ⟨4, _⟩ => ⟨S64x2816, .f32⟩
  | .local _ .vmem, ⟨5, _⟩ => ⟨S64x2816, .f32⟩
  | .local _ .vmem, ⟨6, _⟩ => ⟨S64x2816, .f32⟩
  | .local _ .vmem, ⟨7, _⟩ => ⟨S64x2816, .f32⟩
  | .local _ .vmem, ⟨8, _⟩ => ⟨S64x2816, .f32⟩
  | .local _ .vmem, ⟨9, _⟩ => ⟨S64x2816, .f32⟩
  | .local _ .vmem, ⟨10, _⟩ => ⟨S64x2816, .f32⟩
  | .local _ .vmem, ⟨11, _⟩ => ⟨S64x2816, .f32⟩
  | .local _ .vmem, ⟨12, _⟩ => ⟨S64x2816, .f32⟩
  | .local _ .vmem, ⟨13, _⟩ => ⟨S64x2816, .f32⟩
  | .local _ .vmem, ⟨14, _⟩ => ⟨S64x2816, .f32⟩
  | .local _ .vmem, ⟨15, _⟩ => ⟨S64x2816, .f32⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S64x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== RefAdamUpIdeal.lean ====
abbrev S2048x2816 : Shape := ⟨2, ![2048, 2816]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2048x2816, .f32⟩
  | .hbm, ⟨2, _⟩ => ⟨S2048x2816, .f32⟩
  | .hbm, ⟨3, _⟩ => ⟨S2048x2816, .f32⟩
  | .hbm, ⟨4, _⟩ => ⟨S_, .f32⟩
  | .hbm, ⟨5, _⟩ => ⟨S2048x2816, .f32⟩
  | .hbm, ⟨6, _⟩ => ⟨S2048x2816, .f32⟩
  | .hbm, ⟨7, _⟩ => ⟨S_, .f32⟩
  | .hbm, ⟨8, _⟩ => ⟨S2048x2816, .f32⟩
  | .hbm, ⟨9, _⟩ => ⟨S2048x2816, .f32⟩
  | .hbm, ⟨10, _⟩ => ⟨S2048x2816, .f32⟩
  | .hbm, ⟨11, _⟩ => ⟨S_, .f32⟩
  | .hbm, ⟨12, _⟩ => ⟨S2048x2816, .f32⟩
  | .hbm, ⟨13, _⟩ => ⟨S2048x2816, .f32⟩
  | .hbm, ⟨14, _⟩ => ⟨S2048x2816, .f32⟩
  | .hbm, ⟨15, _⟩ => ⟨S_, .f32⟩
  | .hbm, ⟨16, _⟩ => ⟨S2048x2816, .f32⟩
  | .hbm, ⟨17, _⟩ => ⟨S2048x2816, .f32⟩
  | .hbm, ⟨18, _⟩ => ⟨S2048x2816, .f32⟩
  | .hbm, ⟨19, _⟩ => ⟨S_, .f32⟩
  | .hbm, ⟨20, _⟩ => ⟨S2048x2816, .f32⟩
  | .hbm, ⟨21, _⟩ => ⟨S2048x2816, .f32⟩
  | .hbm, ⟨22, _⟩ => ⟨S_, .f32⟩
  | .hbm, ⟨23, _⟩ => ⟨S2048x2816, .f32⟩
  | .hbm, ⟨24, _⟩ => ⟨S2048x2816, .f32⟩
  | .hbm, ⟨25, _⟩ => ⟨S2048x2816, .f32⟩
  | .hbm, ⟨26, _⟩ => ⟨S_, .f32⟩
  | .hbm, ⟨27, _⟩ => ⟨S2048x2816, .f32⟩
  | .hbm, ⟨28, _⟩ => ⟨S2048x2816, .f32⟩
  | .hbm, ⟨29, _⟩ => ⟨S2048x2816, .f32⟩
  | .hbm, ⟨30, _⟩ => ⟨S_, .f32⟩
  | .hbm, ⟨31, _⟩ => ⟨S2048x2816, .f32⟩
  | .hbm, ⟨32, _⟩ => ⟨S2048x2816, .f32⟩
  | .hbm, ⟨33, _⟩ => ⟨S2048x2816, .f32⟩
  | .hbm, ⟨34, _⟩ => ⟨S_, .f32⟩
  | .hbm, ⟨35, _⟩ => ⟨S2048x2816, .f32⟩
  | .hbm, ⟨36, _⟩ => ⟨S2048x2816, .f32⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOut.lean ====
abbrev S512x2048 : Shape := ⟨2, ![512, 2048]⟩
abbrev S2x512x1024 : Shape := ⟨3, ![2, 512, 1024]⟩
abbrev S256x1024 : Shape := ⟨2, ![256, 1024]⟩
abbrev S1x256x1024 : Shape := ⟨3, ![1, 256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S512x2048, .f32⟩
  | .hbm, ⟨1, _⟩ => ⟨S2x512x1024, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .local _ .vmem, ⟨0, _⟩ => ⟨S256x1024, .f32⟩
  | .local _ .vmem, ⟨1, _⟩ => ⟨S256x1024, .f32⟩
  | .local _ .vmem, ⟨2, _⟩ => ⟨S1x256x1024, .f32⟩
  | .local _ .vmem, ⟨3, _⟩ => ⟨S1x256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== RefAdamOutIdeal.lean ====
abbrev S512x2048 : Shape := ⟨2, ![512, 2048]⟩
abbrev S2x512x1024 : Shape := ⟨3, ![2, 512, 1024]⟩
abbrev S512x2x1024 : Shape := ⟨3, ![512, 2, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S2x512x1024, .f32⟩
  | .hbm, ⟨2, _⟩ => ⟨S512x2048, .f32⟩
  | .hbm, ⟨3, _⟩ => ⟨S512x2048, .f32⟩
  | .hbm, ⟨4, _⟩ => ⟨S512x2x1024, .f32⟩
  | .hbm, ⟨5, _⟩ => ⟨S512x2048, .f32⟩
  | .hbm, ⟨6, _⟩ => ⟨S_, .f32⟩
  | .hbm, ⟨7, _⟩ => ⟨S512x2048, .f32⟩
  | .hbm, ⟨8, _⟩ => ⟨S512x2048, .f32⟩
  | .hbm, ⟨9, _⟩ => ⟨S_, .f32⟩
  | .hbm, ⟨10, _⟩ => ⟨S512x2048, .f32⟩
  | .hbm, ⟨11, _⟩ => ⟨S512x2048, .f32⟩
  | .hbm, ⟨12, _⟩ => ⟨S512x2048, .f32⟩
  | .hbm, ⟨13, _⟩ => ⟨S_, .f32⟩
  | .hbm, ⟨14, _⟩ => ⟨S512x2048, .f32⟩
  | .hbm, ⟨15, _⟩ => ⟨S512x2048, .f32⟩
  | .hbm, ⟨16, _⟩ => ⟨S512x2048, .f32⟩
  | .hbm, ⟨17, _⟩ => ⟨S_, .f32⟩
  | .hbm, ⟨18, _⟩ => ⟨S512x2048, .f32⟩
  | .hbm, ⟨19, _⟩ => ⟨S512x2048, .f32⟩
  | .hbm, ⟨20, _⟩ => ⟨S512x2048, .f32⟩
  | .hbm, ⟨21, _⟩ => ⟨S_, .f32⟩
  | .hbm, ⟨22, _⟩ => ⟨S512x2048, .f32⟩
  | .hbm, ⟨23, _⟩ => ⟨S512x2048, .f32⟩
  | .hbm, ⟨24, _⟩ => ⟨S_, .f32⟩
  | .hbm, ⟨25, _⟩ => ⟨S512x2048, .f32⟩
  | .hbm, ⟨26, _⟩ => ⟨S512x2048, .f32⟩
  | .hbm, ⟨27, _⟩ => ⟨S512x2048, .f32⟩
  | .hbm, ⟨28, _⟩ => ⟨S_, .f32⟩
  | .hbm, ⟨29, _⟩ => ⟨S512x2048, .f32⟩
  | .hbm, ⟨30, _⟩ => ⟨S512x2048, .f32⟩
  | .hbm, ⟨31, _⟩ => ⟨S512x2048, .f32⟩
  | .hbm, ⟨32, _⟩ => ⟨S_, .f32⟩
  | .hbm, ⟨33, _⟩ => ⟨S512x2048, .f32⟩
  | .hbm, ⟨34, _⟩ => ⟨S512x2048, .f32⟩
  | .hbm, ⟨35, _⟩ => ⟨S512x2048, .f32⟩
  | .hbm, ⟨36, _⟩ => ⟨S_, .f32⟩
  | .hbm, ⟨37, _⟩ => ⟨S512x2048, .f32⟩
  | .hbm, ⟨38, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== AdamDown.lean ====
abbrev S1408x2048 : Shape := ⟨2, ![1408, 2048]⟩
abbrev S2x1408x1024 : Shape := ⟨3, ![2, 1408, 1024]⟩
abbrev S176x1024 : Shape := ⟨2, ![176, 1024]⟩
abbrev S1x176x1024 : Shape := ⟨3, ![1, 176, 1024]⟩

abbrev nBuf : Space → Nat
  | .hbm => 8
  | .vmem => 16
  | .smem => 0
  | _ => 0

abbrev bufTy : (tb : Table) → Fin (tcTables nBuf tb) → BufTy
  | .hbm, ⟨0, _⟩ => ⟨S1408x2048, .f32⟩
  | .hbm, ⟨1, _⟩ => ⟨S2x1408x1024, .f32⟩
  | .hbm, ⟨2, _⟩ => ⟨S1408x2048, .f32⟩
  | .hbm, ⟨3, _⟩ => ⟨S1408x2048, .f32⟩
  | .hbm, ⟨4, _⟩ => ⟨S1408x2048, .f32⟩
  | .hbm, ⟨5, _⟩ => ⟨S1408x2048, .f32⟩
  | .hbm, ⟨6, _⟩ => ⟨S1408x2048, .f32⟩
  | .hbm, ⟨7, _⟩ => ⟨S1408x2048, .f32⟩
  | .local _ .vmem, ⟨0, _⟩ => ⟨S176x1024, .f32⟩
  | .local _ .vmem, ⟨1, _⟩ => ⟨S176x1024, .f32⟩
  | .local _ .vmem, ⟨2, _⟩ => ⟨S1x176x1024, .f32⟩
  | .local _ .vmem, ⟨3, _⟩ => ⟨S1x176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== RefAdamDownIdeal.lean ====
abbrev S1408x2048 : Shape := ⟨2, ![1408, 2048]⟩
abbrev S2x1408x1024 : Shape := ⟨3, ![2, 1408, 1024]⟩
abbrev S1408x2x1024 : Shape := ⟨3, ![1408, 2, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1408x2048, .f32⟩
  | .hbm, ⟨1, _⟩ => ⟨S2x1408x1024, .f32⟩
  | .hbm, ⟨2, _⟩ => ⟨S1408x2048, .f32⟩
  | .hbm, ⟨3, _⟩ => ⟨S1408x2048, .f32⟩
  | .hbm, ⟨4, _⟩ => ⟨S1408x2x1024, .f32⟩
  | .hbm, ⟨5, _⟩ => ⟨S1408x2048, .f32⟩
  | .hbm, ⟨6, _⟩ => ⟨S_, .f32⟩
  | .hbm, ⟨7, _⟩ => ⟨S1408x2048, .f32⟩
  | .hbm, ⟨8, _⟩ => ⟨S1408x2048, .f32⟩
  | .hbm, ⟨9, _⟩ => ⟨S_, .f32⟩
  | .hbm, ⟨10, _⟩ => ⟨S1408x2048, .f32⟩
  | .hbm, ⟨11, _⟩ => ⟨S1408x2048, .f32⟩
  | .hbm, ⟨12, _⟩ => ⟨S1408x2048, .f32⟩
  | .hbm, ⟨13, _⟩ => ⟨S_, .f32⟩
  | .hbm, ⟨14, _⟩ => ⟨S1408x2048, .f32⟩
  | .hbm, ⟨15, _⟩ => ⟨S1408x2048, .f32⟩
  | .hbm, ⟨16, _⟩ => ⟨S1408x2048, .f32⟩
  | .hbm, ⟨17, _⟩ => ⟨S_, .f32⟩
  | .hbm, ⟨18, _⟩ => ⟨S1408x2048, .f32⟩
  | .hbm, ⟨19, _⟩ => ⟨S1408x2048, .f32⟩
  | .hbm, ⟨20, _⟩ => ⟨S1408x2048, .f32⟩
  | .hbm, ⟨21, _⟩ => ⟨S_, .f32⟩
  | .hbm, ⟨22, _⟩ => ⟨S1408x2048, .f32⟩
  | .hbm, ⟨23, _⟩ => ⟨S1408x2048, .f32⟩
  | .hbm, ⟨24, _⟩ => ⟨S_, .f32⟩
  | .hbm, ⟨25, _⟩ => ⟨S1408x2048, .f32⟩
  | .hbm, ⟨26, _⟩ => ⟨S1408x2048, .f32⟩
  | .hbm, ⟨27, _⟩ => ⟨S1408x2048, .f32⟩
  | .hbm, ⟨28, _⟩ => ⟨S_, .f32⟩
  | .hbm, ⟨29, _⟩ => ⟨S1408x2048, .f32⟩
  | .hbm, ⟨30, _⟩ => ⟨S1408x2048, .f32⟩
  | .hbm, ⟨31, _⟩ => ⟨S1408x2048, .f32⟩
  | .hbm, ⟨32, _⟩ => ⟨S_, .f32⟩
  | .hbm, ⟨33, _⟩ => ⟨S1408x2048, .f32⟩
  | .hbm, ⟨34, _⟩ => ⟨S1408x2048, .f32⟩
  | .hbm, ⟨35, _⟩ => ⟨S1408x2048, .f32⟩
  | .hbm, ⟨36, _⟩ => ⟨S_, .f32⟩
  | .hbm, ⟨37, _⟩ => ⟨S1408x2048, .f32⟩
  | .hbm, ⟨38, _⟩ => ⟨S1408x2048, .f32⟩
  | _, _ => ⟨S1408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== Proof.Forms.lean ====
/- Arrays of real numbers as arrays of extended reals, and what each operation of the two programs makes of them.

   `T1 f`, `T2 f`, `T3 f`, `T4 f` are the arrays whose entry at (a), (a, b), … is the real number `f a`, `f a b`, …
   Every operation on such arrays gives such an array again; the lemmas of this file say which. -/
module

public import Idealize.ShloMosaic.Lib.ValueIdx
public import Idealize.ShloMosaic.Lib.IdealHost
public import Idealize.ShloMosaic.Lib.Pipeline.Value

@[expose] public section

set_option maxRecDepth 16384

noncomputable section

open scoped BigOperators

namespace Cert.Forms

open Idealize.ShloMosaic Idealize.ShloMosaic.ValueIdx

/-- The one-axis array of the reals `f a`. -/
def T1 {n : ℕ} (f : Fin n → ℝ) : (⟨1, ![n]⟩ : Shape).Idx → EReal := fun i => ((f (i 0) : ℝ) : EReal)
/-- The two-axis array of the reals `f a b`. -/
def T2 {n m : ℕ} (f : Fin n → Fin m → ℝ) : (⟨2, ![n, m]⟩ : Shape).Idx → EReal := fun i => ((f (i 0) (i 1) : ℝ) : EReal)
/-- The three-axis array of the reals `f a b c`. -/
def T3 {n m p : ℕ} (f : Fin n → Fin m → Fin p → ℝ) : (⟨3, ![n, m, p]⟩ : Shape).Idx → EReal :=
  fun i => ((f (i 0) (i 1) (i 2) : ℝ) : EReal)

/-- A sum of reals, taken in the extended reals. -/
theorem coe_sum {ι : Type} (s : Finset ι) (f : ι → ℝ) : (((∑ i ∈ s, f i : ℝ)) : EReal) = ∑ i ∈ s, ((f i : ℝ) : EReal) := by
  classical
  induction s using Finset.induction_on with
  | empty => simp
  | insert a s h ih => rw [Finset.sum_insert h, Finset.sum_insert h, EReal.coe_add, ih]

/-- A quotient by a nonzero real. -/
theorem div_coe_coe (x y : ℝ) (h : y ≠ 0) : Ideal.div (x : EReal) (y : EReal) = ((x / y : ℝ) : EReal) := by
  have hy : (y : EReal) ≠ 0 := by exact_mod_cast h
  unfold Ideal.div
  rw [if_neg hy, div_eq_mul_inv, EReal.coe_mul, EReal.coe_inv]

/-! ## Constants -/

theorem c_half : Ideal.ofBits .f32 0x3F000000#32 = (((1 : ℝ) / 2 : ℝ) : EReal) := by
  simp [Ideal.ofBits, Ideal.ieee, -EReal.coe_mul]; norm_num
theorem c_neg_half : Ideal.ofBits .f32 0xBF000000#32 = ((-((1 : ℝ) / 2) : ℝ) : EReal) := by
  simp [Ideal.ofBits, Ideal.ieee, -EReal.coe_mul]; norm_num
theorem c_one : Ideal.ofBits .f32 0x3F800000#32 = (((1 : ℝ) : ℝ) : EReal) := by
  rw [Ideal.ofBits_one_f32]; rfl
theorem c_zero : Ideal.ofBits .f32 0x00000000#32 = (((0 : ℝ) : ℝ) : EReal) := by
  rw [Ideal.ofBits_zero_f32]; rfl
theorem c_1024 : Ideal.ofBits .f32 0x44800000#32 = ((1024 : ℝ) : EReal) := by
  simp [Ideal.ofBits, Ideal.ieee, -EReal.coe_mul]; norm_num
/-- `sqrt(2/π)` rounded to a 32-bit float. -/
theorem c_gelu : Ideal.ofBits .f32 0x3F4C422A#32 = ((13386282 / 16777216 : ℝ) : EReal) := by
  simp [Ideal.ofBits, Ideal.ieee, -EReal.coe_mul]; norm_num
/-- The normalisation's `1e-6` rounded to a 32-bit float. -/
theorem c_eps : Ideal.ofBits .f32 0x358637BD#32 = ((8796093 / 8796093022208 : ℝ) : EReal) := by
  simp [Ideal.ofBits, Ideal.ieee, -EReal.coe_mul]; norm_num

/-! ## Operations on two-axis arrays -/

section two
variable {n m : ℕ} {φ ψ : FTy}

theorem mulf2 (f g : Fin n → Fin m → ℝ) :
    mulf (F := Ideal) (φ := φ) (T2 f) (T2 g) = T2 fun r c => f r c * g r c :=
  funext fun i => (EReal.coe_mul _ _).symm
theorem addf2 (f g : Fin n → Fin m → ℝ) :
    addf (F := Ideal) (φ := φ) (T2 f) (T2 g) = T2 fun r c => f r c + g r c :=
  funext fun i => (EReal.coe_add _ _).symm
theorem subf2 (f g : Fin n → Fin m → ℝ) :
    subf (F := Ideal) (φ := φ) (T2 f) (T2 g) = T2 fun r c => f r c - g r c :=
  funext fun i => (EReal.coe_sub _ _).symm
theorem tanh2 (f : Fin n → Fin m → ℝ) : tanh (F := Ideal) (φ := φ) (T2 f) = T2 fun r c => Real.tanh (f r c) := rfl
theorem divf2 (f : Fin n → Fin m → ℝ) (c : ℝ) (h : c ≠ 0) :
    divf (F := Ideal) (φ := φ) (T2 f) (T2 fun _ _ => c) = T2 fun r k => f r k / c :=
  funext fun i => div_coe_coe _ _ h
theorem rsqrt2 (f : Fin n → Fin m → ℝ) (h : ∀ r c, 0 < f r c) :
    rsqrt (F := Ideal) (φ := φ) (T2 f) = T2 fun r c => (Real.sqrt (f r c))⁻¹ := by
  funext i
  show Ideal.rsqrt ((f (i 0) (i 1) : ℝ) : EReal) = _
  have h0 := h (i 0) (i 1)
  rw [Ideal.rsqrt_coe, if_neg (not_lt.2 h0.le), if_neg h0.ne']; rfl
theorem truncf2 (f : Fin n → Fin m → ℝ) (h : ψ.bits < φ.bits) :
    truncf (F := Ideal) (φ := φ) ψ (T2 f) h = T2 f := rfl
theorem extf2 (f : Fin n → Fin m → ℝ) (h : φ.bits < ψ.bits) :
    extf (F := Ideal) (φ := φ) ψ (T2 f) h = T2 f := rfl
theorem broadcast2 (c : ℝ) : broadcast (⟨2, ![n, m]⟩ : Shape) ((c : ℝ) : EReal) = T2 fun _ _ => c := rfl
theorem constant2 : constant (F := Ideal) (⟨2, ![n, m]⟩ : Shape) .f32 0x00000000#32 = T2 fun _ _ => 0 :=
  funext fun _ => c_zero
/-- A column repeated along the rows' entries. -/
theorem bcol (f : Fin n → Fin 1 → ℝ) (h : (⟨2, ![n, 1]⟩ : Shape).Broadcasts ⟨2, ![n, m]⟩) (hn : n ≠ 1) :
    broadcastTo (⟨2, ![n, m]⟩ : Shape) (T2 f) h = T2 fun r _ => f r 0 := by
  funext j
  exact broadcastTo_apply (T2 f) h j (ix2 (j 0) (0 : Fin 1)) fun a => by
    match a with
    | ⟨0, _⟩ => exact (if_neg hn).symm
    | ⟨1, _⟩ => rfl
/-- A row repeated along the rows. -/
theorem brow (f : Fin 1 → Fin m → ℝ) (h : (⟨2, ![1, m]⟩ : Shape).Broadcasts ⟨2, ![n, m]⟩) (hm : m ≠ 1) :
    broadcastTo (⟨2, ![n, m]⟩ : Shape) (T2 f) h = T2 fun _ c => f 0 c := by
  funext j
  exact broadcastTo_apply (T2 f) h j (ix2 (0 : Fin 1) (j 1)) fun a => by
    match a with
    | ⟨0, _⟩ => rfl
    | ⟨1, _⟩ => exact (if_neg hm).symm
/-- A block of columns. -/
theorem slice2 {k o : ℕ} (f : Fin n → Fin m → ℝ) (h : (⟨2, ![n, m]⟩ : Shape).Slices ![0, o] ⟨2, ![n, k]⟩) :
    extractStridedSlice (⟨2, ![n, k]⟩ : Shape) ![0, o] (T2 f) h
      = T2 (n := n) (m := k) fun (r : Fin n) (c : Fin k) => f r ⟨o + c.val, Nat.lt_of_lt_of_le (Nat.add_lt_add_left c.isLt o) (h.2 1)⟩ := by
  funext j
  exact extractStridedSlice_apply ![0, o] (T2 f) h j
    (ix2 (j 0) ⟨o + (j 1).val, Nat.lt_of_lt_of_le (Nat.add_lt_add_left (j 1).isLt o) (h.2 1)⟩) fun a => by
    match a with
    | ⟨0, _⟩ => exact (Nat.zero_add _).symm
    | ⟨1, _⟩ => rfl
/-- The sum of each row … -/
theorem rowsum (f : Fin n → Fin m → ℝ) (h : (⟨2, ![n, m]⟩ : Shape).Reduces [1] ⟨1, ![n]⟩)
    (hφ : FKind.Formats .f32) (hacc : (0x00000000#32 : BitVec 32) = FKind.add.neutral .f32 hφ) :
    multiReduction (F := Ideal) (φ := .f32) .add [1] (⟨1, ![n]⟩ : Shape) (T2 f) 0x00000000#32 h hφ hacc = T1 fun r => ∑ c, f r c := by
  funext j
  rw [Ideal.multiReduction_add_single]
  show _ = (((∑ c, f (j 0) c : ℝ)) : EReal)
  rw [coe_sum]
  exact Finset.sum_congr rfl fun k _ => rfl
/-- … and of each column. -/
theorem colsum (f : Fin n → Fin m → ℝ) (h : (⟨2, ![n, m]⟩ : Shape).Reduces [0] ⟨1, ![m]⟩)
    (hφ : FKind.Formats .f32) (hacc : (0x00000000#32 : BitVec 32) = FKind.add.neutral .f32 hφ) :
    multiReduction (F := Ideal) (φ := .f32) .add [0] (⟨1, ![m]⟩ : Shape) (T2 f) 0x00000000#32 h hφ hacc = T1 fun c => ∑ r, f r c := by
  funext j
  rw [Ideal.multiReduction_add_single]
  show _ = (((∑ r, f r (j 0) : ℝ)) : EReal)
  rw [coe_sum]
  exact Finset.sum_congr rfl fun k _ => rfl
end two

/-! ## Changes of shape -/

theorem cast_col {n : ℕ} (f : Fin n → ℝ) (h : (⟨1, ![n]⟩ : Shape).ShapeCasts ⟨2, ![n, 1]⟩) :
    shapeCast (⟨2, ![n, 1]⟩ : Shape) (T1 f) h = T2 fun r _ => f r := by
  funext j
  have h1 : (j 1).val = 0 := by have := (j 1).isLt; simp at this; omega
  exact shapeCast_apply (T1 f) h j (ix1 (j 0)) (by
    rw [Shape.rowMajor_val_one, Shape.rowMajor_val_two]
    show (j 0).val = (j 0).val * 1 + (j 1).val
    omega)
theorem cast_row {n : ℕ} (f : Fin n → ℝ) (h : (⟨1, ![n]⟩ : Shape).ShapeCasts ⟨2, ![1, n]⟩) :
    shapeCast (⟨2, ![1, n]⟩ : Shape) (T1 f) h = T2 fun _ c => f c := by
  funext j
  have h0 : (j 0).val = 0 := by have := (j 0).isLt; simp at this; omega
  exact shapeCast_apply (T1 f) h j (ix1 (j 1)) (by
    rw [Shape.rowMajor_val_one, Shape.rowMajor_val_two]
    show (j 1).val = (j 0).val * n + (j 1).val
    rw [h0]; omega)
theorem cast_32 {n m : ℕ} (f : Fin 1 → Fin n → Fin m → ℝ) (h : (⟨3, ![1, n, m]⟩ : Shape).ShapeCasts ⟨2, ![n, m]⟩) :
    shapeCast (⟨2, ![n, m]⟩ : Shape) (T3 f) h = T2 fun r c => f 0 r c := by
  funext j
  exact shapeCast_apply (T3 f) h j (ix3 (0 : Fin 1) (j 0) (j 1)) (by
    rw [Shape.rowMajor_val_three, Shape.rowMajor_val_two]
    show (0 * n + (j 0).val) * m + (j 1).val = (j 0).val * m + (j 1).val
    simp)
theorem cast_23 {n m : ℕ} (f : Fin n → Fin m → ℝ) (h : (⟨2, ![n, m]⟩ : Shape).ShapeCasts ⟨3, ![1, n, m]⟩) :
    shapeCast (⟨3, ![1, n, m]⟩ : Shape) (T2 f) h = T3 fun _ r c => f r c := by
  funext j
  have h0 : (j 0).val = 0 := by have := (j 0).isLt; simp at this; omega
  exact shapeCast_apply (T2 f) h j (ix2 (j 1) (j 2)) (by
    rw [Shape.rowMajor_val_three, Shape.rowMajor_val_two]
    show (j 1).val * m + (j 2).val = ((j 0).val * n + (j 1).val) * m + (j 2).val
    rw [h0]; simp)

/-! ## Loads and stores of blocks -/

/-- A slab of a three-axis array, loaded. -/
theorem ld_slab_f32 {p n m o : ℕ} (f : Fin p → Fin n → Fin m → ℝ)
    (inb : ∀ a, (![o, 0, 0] : Fin 3 → ℕ) a + (⟨3, ![1, n, m]⟩ : Shape).size a ≤ (⟨3, ![p, n, m]⟩ : Shape).size a) :
    View.ld (Val := Elt Ideal) (e' := .f32) (T3 f)
        (Rect.unit (s := ⟨3, ![p, n, m]⟩) ![o, 0, 0] (⟨3, ![1, n, m]⟩ : Shape).size inb)
      = T3 (n := 1) (m := n) (p := m) fun _ r c => f ⟨o, inb 0⟩ r c := by
  funext x
  have h0 : (x 0).val = 0 := by have h : (x 0).val < 1 := (x 0).isLt; omega
  have e0 : (((Rect.unit (s := ⟨3, ![p, n, m]⟩) ![o, 0, 0] (⟨3, ![1, n, m]⟩ : Shape).size inb).idx x) 0 : Fin p) = ⟨o, inb 0⟩ :=
    Fin.ext (by show o + 1 * (x 0).val = o; omega)
  have e1 : (((Rect.unit (s := ⟨3, ![p, n, m]⟩) ![o, 0, 0] (⟨3, ![1, n, m]⟩ : Shape).size inb).idx x) 1 : Fin n) = x 1 :=
    Fin.ext (by show 0 + 1 * (x 1).val = (x 1).val; omega)
  have e2 : (((Rect.unit (s := ⟨3, ![p, n, m]⟩) ![o, 0, 0] (⟨3, ![1, n, m]⟩ : Shape).size inb).idx x) 2 : Fin m) = x 2 :=
    Fin.ext (by show 0 + 1 * (x 2).val = (x 2).val; omega)
  show ((f _ _ _ : ℝ) : EReal) = ((f _ _ _ : ℝ) : EReal)
  rw [e0, e1, e2]
  rfl

/-- The same for 16-bit entries. -/
theorem ld_slab_bf16 {p n m o : ℕ} (f : Fin p → Fin n → Fin m → ℝ)
    (inb : ∀ a, (![o, 0, 0] : Fin 3 → ℕ) a + (⟨3, ![1, n, m]⟩ : Shape).size a ≤ (⟨3, ![p, n, m]⟩ : Shape).size a) :
    View.ld (Val := Elt Ideal) (e' := .bf16) (T3 f)
        (Rect.unit (s := ⟨3, ![p, n, m]⟩) ![o, 0, 0] (⟨3, ![1, n, m]⟩ : Shape).size inb)
      = T3 (n := 1) (m := n) (p := m) fun _ r c => f ⟨o, inb 0⟩ r c := by
  funext x
  have h0 : (x 0).val = 0 := by have h : (x 0).val < 1 := (x 0).isLt; omega
  have e0 : (((Rect.unit (s := ⟨3, ![p, n, m]⟩) ![o, 0, 0] (⟨3, ![1, n, m]⟩ : Shape).size inb).idx x) 0 : Fin p) = ⟨o, inb 0⟩ :=
    Fin.ext (by show o + 1 * (x 0).val = o; omega)
  have e1 : (((Rect.unit (s := ⟨3, ![p, n, m]⟩) ![o, 0, 0] (⟨3, ![1, n, m]⟩ : Shape).size inb).idx x) 1 : Fin n) = x 1 :=
    Fin.ext (by show 0 + 1 * (x 1).val = (x 1).val; omega)
  have e2 : (((Rect.unit (s := ⟨3, ![p, n, m]⟩) ![o, 0, 0] (⟨3, ![1, n, m]⟩ : Shape).size inb).idx x) 2 : Fin m) = x 2 :=
    Fin.ext (by show 0 + 1 * (x 2).val = (x 2).val; omega)
  show ((f _ _ _ : ℝ) : EReal) = ((f _ _ _ : ℝ) : EReal)
  rw [e0, e1, e2]
  rfl

/-- A block of columns of `G`, at the block's place in the whole. -/
theorem piece2 {N M n m o : ℕ} (f : Fin n → Fin m → ℝ) (G : Fin N → Fin M → ℝ)
    (inb : ∀ a, (![0, o] : Fin 2 → ℕ) a + (![n, m] : Fin 2 → ℕ) a ≤ (⟨2, ![N, M]⟩ : Shape).size a)
    (h : ∀ (r : Fin n) (c : Fin m) (hr : r.val < N) (hc : o + c.val < M), f r c = G ⟨r.val, hr⟩ ⟨o + c.val, hc⟩)
    (x : (⟨2, ![n, m]⟩ : Shape).Idx) : T2 f x = T2 G ((Rect.unit (s := ⟨2, ![N, M]⟩) ![0, o] ![n, m] inb).emb x) := by
  have i0 : 0 + n ≤ N := inb 0
  have i1 : o + m ≤ M := inb 1
  have x0 : (x 0).val < n := (x 0).isLt
  have x1 : (x 1).val < m := (x 1).isLt
  have h0 : (x 0).val < N := by omega
  have h1 : o + (x 1).val < M := by omega
  have e0 : (((Rect.unit (s := ⟨2, ![N, M]⟩) ![0, o] ![n, m] inb).emb x) 0 : Fin N) = ⟨(x 0).val, h0⟩ :=
    Fin.ext (by show 0 + 1 * (x 0).val = (x 0).val; omega)
  have e1 : (((Rect.unit (s := ⟨2, ![N, M]⟩) ![0, o] ![n, m] inb).emb x) 1 : Fin M) = ⟨o + (x 1).val, h1⟩ :=
    Fin.ext (by show o + 1 * (x 1).val = o + (x 1).val; omega)
  show ((f (x 0) (x 1) : ℝ) : EReal) = ((G _ _ : ℝ) : EReal)
  exact (congrArg (fun t : ℝ => (t : EReal)) (h (x 0) (x 1) h0 h1)).trans
    (congrArg₂ (fun a b => ((G a b : ℝ) : EReal)) e0.symm e1.symm)

/-- A slab of `G`, at its place in the whole. -/
theorem piece3 {P n m o : ℕ} (f : Fin 1 → Fin n → Fin m → ℝ) (G : Fin P → Fin n → Fin m → ℝ)
    (inb : ∀ a, (![o, 0, 0] : Fin 3 → ℕ) a + (![1, n, m] : Fin 3 → ℕ) a ≤ (⟨3, ![P, n, m]⟩ : Shape).size a) (ho : o < P)
    (h : ∀ (r : Fin n) (c : Fin m), f 0 r c = G ⟨o, ho⟩ r c)
    (x : (⟨3, ![1, n, m]⟩ : Shape).Idx) : T3 f x = T3 G ((Rect.unit (s := ⟨3, ![P, n, m]⟩) ![o, 0, 0] ![1, n, m] inb).emb x) := by
  have h0 : (x 0).val = 0 := by have h : (x 0).val < 1 := (x 0).isLt; omega
  have h0' : (x 0 : Fin 1) = (0 : Fin 1) := Fin.ext h0
  have e0 : (((Rect.unit (s := ⟨3, ![P, n, m]⟩) ![o, 0, 0] ![1, n, m] inb).emb x) 0 : Fin P) = ⟨o, ho⟩ :=
    Fin.ext (by show o + 1 * (x 0).val = o; omega)
  have e1 : (((Rect.unit (s := ⟨3, ![P, n, m]⟩) ![o, 0, 0] ![1, n, m] inb).emb x) 1 : Fin n) = x 1 :=
    Fin.ext (by show 0 + 1 * (x 1).val = (x 1).val; omega)
  have e2 : (((Rect.unit (s := ⟨3, ![P, n, m]⟩) ![o, 0, 0] ![1, n, m] inb).emb x) 2 : Fin m) = x 2 :=
    Fin.ext (by show 0 + 1 * (x 2).val = (x 2).val; omega)
  show ((f (x 0) (x 1) (x 2) : ℝ) : EReal) = ((G _ _ _ : ℝ) : EReal)
  rw [e0, e1, e2]
  exact (congrArg (fun a : Fin 1 => ((f a (x 1) (x 2) : ℝ) : EReal)) h0').trans
    (congrArg (fun t : ℝ => (t : EReal)) (h (x 1) (x 2)))

end Cert.Forms

end
-- ==== Proof.Gate.lean ====
/- The gradient of the spatial-gating mixer, over the real numbers.

   One chunk is 128 positions (rows) of 1024 channels (columns); the channels are 8 heads of 128.
   The mixer gates `gelu(zu)` by `mix`, the mixing along the positions of the chunk (one 128 × 128 matrix per
   head) of the layer-normalised `gelu(zv)`. -/
module

public import Mathlib.Analysis.SpecialFunctions.Trigonometric.DerivHyp
public import Mathlib.Tactic.Ring
public import Mathlib.Tactic.FieldSimp

@[expose] public section

noncomputable section

open scoped BigOperators

namespace Cert.Gate

/-- `sqrt(2/π)` as both programs hold it, a 32-bit float. -/
def cG : ℝ := 13386282 / 16777216
/-- The layer norm's small constant as both programs hold it. -/
def eps : ℝ := 8796093 / 8796093022208

/-- The inner hyperbolic tangent of gelu. -/
def tnh (x : ℝ) : ℝ := Real.tanh (cG * (x + 8943 / 200000 * (x * x * x)))
/-- gelu. -/
def gel (x : ℝ) : ℝ := 1 / 2 * x * (1 + tnh x)
/-- Its derivative. -/
def gelD (x : ℝ) : ℝ :=
  1 / 2 * (1 + tnh x) + 1 / 2 * x * (1 - tnh x * tnh x) * (cG * (1 + 26829 / 200000 * x * x))

/-- The mean of a row. -/
def rowMean (f : Fin 1024 → ℝ) : ℝ := (∑ j, f j) / 1024
/-- The row with its mean taken away. -/
def cen (f : Fin 1024 → ℝ) (j : Fin 1024) : ℝ := f j - rowMean f
/-- The variance of a row, plus the small constant. -/
def varE (f : Fin 1024 → ℝ) : ℝ := rowMean (fun j => cen f j * cen f j) + eps
/-- The reciprocal standard deviation. -/
def rstd (f : Fin 1024 → ℝ) : ℝ := (Real.sqrt (varE f))⁻¹
/-- The normalised row. -/
def nrm (f : Fin 1024 → ℝ) (j : Fin 1024) : ℝ := cen f j * rstd f

theorem varE_pos (f : Fin 1024 → ℝ) : 0 < varE f := by
  unfold varE rowMean eps
  have : 0 ≤ ∑ j, cen f j * cen f j := Finset.sum_nonneg fun j _ => mul_self_nonneg _
  positivity

/-- Channel `d` of head `h`. -/
def col (h : Fin 8) (d : Fin 128) : Fin 1024 := ⟨128 * h.val + d.val, by omega⟩
/-- The head of a channel … -/
def hd (j : Fin 1024) : Fin 8 := ⟨j.val / 128, by omega⟩
/-- … and its place in the head. -/
def ln (j : Fin 1024) : Fin 128 := ⟨j.val % 128, by omega⟩

theorem col_hd_ln (j : Fin 1024) : col (hd j) (ln j) = j := Fin.ext (by
  show 128 * (j.val / 128) + j.val % 128 = j.val; omega)
theorem hd_col (h : Fin 8) (d : Fin 128) : hd (col h d) = h := Fin.ext (by
  show (128 * h.val + d.val) / 128 = h.val; omega)
theorem ln_col (h : Fin 8) (d : Fin 128) : ln (col h d) = d := Fin.ext (by
  show (128 * h.val + d.val) % 128 = d.val; omega)

/-- What one chunk's gradient is computed from. -/
structure Chunk where
  /-- The gate's half and the value's half of the projection. -/
  zu : Fin 128 → Fin 1024 → ℝ
  zv : Fin 128 → Fin 1024 → ℝ
  /-- The gradient that arrives. -/
  dy : Fin 128 → Fin 1024 → ℝ
  /-- The layer norm's scale and shift. -/
  g : Fin 1024 → ℝ
  b : Fin 1024 → ℝ
  /-- The mixing matrices and their biases. -/
  w : Fin 8 → Fin 128 → Fin 128 → ℝ
  s : Fin 8 → Fin 128 → ℝ

namespace Chunk
variable (B : Chunk)

/-- Row `r` of gelu(zv). -/
def gv (r : Fin 128) : Fin 1024 → ℝ := fun j => gel (B.zv r j)
/-- The normalised value … -/
def vh (r : Fin 128) (j : Fin 1024) : ℝ := nrm (B.gv r) j
/-- … scaled and shifted. -/
def v (r : Fin 128) (j : Fin 1024) : ℝ := B.vh r j * B.g j + B.b j
/-- The mixed value, head by head. -/
def mixH (h : Fin 8) (r d : Fin 128) : ℝ := (∑ k, B.w h r k * B.v k (col h d)) + B.s h r
/-- The gradient of the mixed value. -/
def dm (r : Fin 128) (j : Fin 1024) : ℝ := B.dy r j * gel (B.zu r j)
/-- The gradient of the gate's half of the projection, head by head. -/
def dzuH (h : Fin 8) (r d : Fin 128) : ℝ := B.dy r (col h d) * B.mixH h r d * gelD (B.zu r (col h d))
/-- The gradient of the normalised value, head by head and whole. -/
def dvH (h : Fin 8) (k d : Fin 128) : ℝ := ∑ i, B.w h i k * B.dm i (col h d)
def dv (r : Fin 128) (j : Fin 1024) : ℝ := B.dvH (hd j) r (ln j)
/-- This chunk's part of the gradients of the layer norm's scale and shift, of the matrices and of the biases. -/
def dg (j : Fin 1024) : ℝ := ∑ r, B.dv r j * B.vh r j
def db (j : Fin 1024) : ℝ := ∑ r, B.dv r j
def dw (h : Fin 8) (i k : Fin 128) : ℝ := ∑ d, B.dm i (col h d) * B.v k (col h d)
def ds (h : Fin 8) (i : Fin 128) : ℝ := ∑ d, B.dm i (col h d)
/-- The gradient of the normalised row, scaled. -/
def dvh (r : Fin 128) (j : Fin 1024) : ℝ := B.dv r j * B.g j
/-- The gradient of gelu(zv), up to the reciprocal standard deviation … -/
def dgv (r : Fin 128) (j : Fin 1024) : ℝ :=
  B.dvh r j - rowMean (B.dvh r) - B.vh r j * rowMean (fun j => B.dvh r j * B.vh r j)
/-- … and that of the value's half of the projection. -/
def dzv (r : Fin 128) (j : Fin 1024) : ℝ := rstd (B.gv r) * B.dgv r j * gelD (B.zv r j)
end Chunk

end Cert.Gate

end
-- ==== Proof.Blocks.lean ====
/- What one grid point of the kernel leaves in each output's block, as real numbers. -/
module

public import proofs.«01_k».proof.Proof.Gen.KernelIdeal.Frame
public import proofs.«01_k».proof.Proof.Forms
public import proofs.«01_k».proof.Proof.Gate
public import Idealize.ShloMosaic.Lib.Pipeline.ReadBack

@[expose] public section

set_option maxRecDepth 16384

noncomputable section

open scoped BigOperators

namespace Cert.Blocks

open Idealize.ShloMosaic Idealize.ShloMosaic.ValueIdx Idealize.ShloMosaic.TcCoe Idealize.ShloMosaic.Tactic
open Cert.KernelIdeal Cert.KernelIdeal.Gen Cert.Forms Cert.Gate

/-! ## The named constants and the other scalars -/

theorem k_a : Named.named (F := Ideal) κ "gelu_a" (φ := .f32) 0x3D372713#32 = ((8943 / 200000 : ℝ) : EReal) := rfl
theorem k_3a : Named.named (F := Ideal) κ "gelu_3a" (φ := .f32) 0x3E095D4F#32 = ((26829 / 200000 : ℝ) : EReal) := rfl
theorem s_half : FloatOps.ofBits (F := Ideal) .f32 0x3F000000#32 = (((1 : ℝ) / 2 : ℝ) : EReal) := c_half
theorem s_one : FloatOps.ofBits (F := Ideal) .f32 0x3F800000#32 = ((1 : ℝ) : EReal) := c_one
theorem s_zero : FloatOps.ofBits (F := Ideal) .f32 0x00000000#32 = ((0 : ℝ) : EReal) := c_zero
theorem s_1024 : FloatOps.ofBits (F := Ideal) .f32 0x44800000#32 = ((1024 : ℝ) : EReal) := c_1024
theorem s_gelu : FloatOps.ofBits (F := Ideal) .f32 0x3F4C422A#32 = ((cG : ℝ) : EReal) := c_gelu
theorem s_eps : FloatOps.ofBits (F := Ideal) .f32 0x358637BD#32 = ((eps : ℝ) : EReal) := c_eps

/-! ## The three kinds of product of 128 × 128 matrices -/

theorem dot_nn {φ₁ φ₂ : FTy} (f g : Fin 128 → Fin 128 → ℝ) :
    matmul (F := Ideal) (φ₁ := φ₁) (φ₂ := φ₂) dot_S128x128_S128x128_S128x128_1_0_0_1_n_n none (T2 f) (T2 g) (T2 fun _ _ => 0)
      = T2 fun r c => ∑ k, f r k * g k c := by
  funext j
  refine (Ideal.matmul_apply _ _ _ _ _ j).trans ?_
  show ((0 : ℝ) : EReal) + _ = ((∑ k, f (j 0) k * g k (j 1) : ℝ) : EReal)
  rw [EReal.coe_zero, zero_add, coe_sum,
    ← Equiv.sum_comp (contrEquiv1 dot_S128x128_S128x128_S128x128_1_0_0_1_n_n 128 rfl rfl).symm]
  exact Finset.sum_congr rfl fun k _ => (EReal.coe_mul _ _).symm

theorem dot_nt {φ₁ φ₂ : FTy} (f g : Fin 128 → Fin 128 → ℝ) :
    matmul (F := Ideal) (φ₁ := φ₁) (φ₂ := φ₂) dot_S128x128_S128x128_S128x128_1_1_0_0_n_n none (T2 f) (T2 g) (T2 fun _ _ => 0)
      = T2 fun r c => ∑ k, f r k * g c k := by
  funext j
  refine (Ideal.matmul_apply _ _ _ _ _ j).trans ?_
  show ((0 : ℝ) : EReal) + _ = ((∑ k, f (j 0) k * g (j 1) k : ℝ) : EReal)
  rw [EReal.coe_zero, zero_add, coe_sum,
    ← Equiv.sum_comp (contrEquiv1 dot_S128x128_S128x128_S128x128_1_1_0_0_n_n 128 rfl rfl).symm]
  exact Finset.sum_congr rfl fun k _ => (EReal.coe_mul _ _).symm

theorem dot_tn {φ₁ φ₂ : FTy} (f g : Fin 128 → Fin 128 → ℝ) :
    matmul (F := Ideal) (φ₁ := φ₁) (φ₂ := φ₂) dot_S128x128_S128x128_S128x128_0_0_1_1_n_n none (T2 f) (T2 g) (T2 fun _ _ => 0)
      = T2 fun r c => ∑ k, f k r * g k c := by
  funext j
  refine (Ideal.matmul_apply _ _ _ _ _ j).trans ?_
  show ((0 : ℝ) : EReal) + _ = ((∑ k, f k (j 0) * g k (j 1) : ℝ) : EReal)
  rw [EReal.coe_zero, zero_add, coe_sum,
    ← Equiv.sum_comp (contrEquiv1 dot_S128x128_S128x128_S128x128_0_0_1_1_n_n 128 rfl rfl).symm]
  exact Finset.sum_congr rfl fun k _ => (EReal.coe_mul _ _).symm

/-! ## gelu and the normalisation -/

theorem rows1024 (f : Fin 128 → Fin 1024 → ℝ) :
    multiReduction (F := Ideal) .add [1] S128 (T2 f : FVec Ideal S128x1024 .f32) 0x00000000#32 reduces_S128x1024_S128 (.inl rfl) rfl
      = T1 fun r => ∑ c, f r c :=
  rowsum f _ (.inl rfl) rfl
theorem rows128 (f : Fin 128 → Fin 128 → ℝ) :
    multiReduction (F := Ideal) .add [1] S128 (T2 f : FVec Ideal S128x128 .f32) 0x00000000#32 reduces_S128x128_S128 (.inl rfl) rfl
      = T1 fun r => ∑ c, f r c :=
  rowsum f _ (.inl rfl) rfl
theorem cols1024 (f : Fin 128 → Fin 1024 → ℝ) :
    multiReduction (F := Ideal) .add [0] S1024 (T2 f : FVec Ideal S128x1024 .f32) 0x00000000#32 reduces_S128x1024_S1024 (.inl rfl) rfl
      = T1 fun c => ∑ r, f r c :=
  colsum f _ (.inl rfl) rfl

theorem pay5 (f : Fin 128 → Fin 1024 → ℝ) : k0_pay5 (F := Ideal) (T2 f) = T2 fun r c => gel (f r c) := by
  unfold k0_pay5
  simp -proj only [k_a, s_half, s_one, s_gelu, broadcast2, mulf2, addf2, tanh2]
  rfl

theorem pay6 (f : Fin 128 → Fin 1024 → ℝ) : k0_pay6 (F := Ideal) (T2 f) = T2 fun r c => cen (fun j => gel (f r j)) c := by
  unfold k0_pay6
  simp -proj only [k_a, s_half, s_one, s_gelu, s_1024, broadcast2, mulf2, addf2, tanh2, rows1024, cast_col, divf2 _ (1024 : ℝ) (by norm_num),
    bcol _ _ (by decide : (128 : ℕ) ≠ 1), subf2]
  rfl

theorem pay7 (f : Fin 128 → Fin 1024 → ℝ) :
    k0_pay7 (F := Ideal) (T2 f) = T2 fun r _ => ∑ j, cen (fun j => gel (f r j)) j * cen (fun j => gel (f r j)) j := by
  unfold k0_pay7
  simp -proj only [pay6, mulf2, rows1024, cast_col]

/-- The reciprocal standard deviation, as the kernel takes it. -/
theorem rstd_form (f : Fin 128 → Fin 1024 → ℝ) :
    rsqrt (F := Ideal) (φ := .f32)
        (T2 fun r (_ : Fin 1) => (∑ j, cen (fun j => gel (f r j)) j * cen (fun j => gel (f r j)) j) / 1024 + eps)
      = T2 fun r _ => rstd (fun j => gel (f r j)) :=
  rsqrt2 _ fun r _ => varE_pos (fun j => gel (f r j))

/-! ## Loads and stores -/

theorem zero2 : (![0, 0] : Fin 2 → ℕ) = fun _ => 0 := by decide
theorem zero3 : (![0, 0, 0] : Fin 3 → ℕ) = fun _ => 0 := by decide

theorem ld_a (X : S128x1024.Idx → EReal) (inb) :
    View.ld (Val := Elt Ideal) (e' := .f32) X (Rect.unit (s := S128x1024) ![0, 0] S128x1024.size inb) = X :=
  View.ld_unit_zero zero2 inb _
theorem ld_a' (X : S128x1024.Idx → EReal) (inb) :
    View.ld (Val := Elt Ideal) (e' := .f32) X (Rect.unit (s := S128x1024) ![0, 0] ![128, 1024] inb) = X :=
  ld_a X inb
theorem ld_b (X : S1x1024.Idx → EReal) (inb) :
    View.ld (Val := Elt Ideal) (e' := .f32) X (Rect.unit (s := S1x1024) ![0, 0] S1x1024.size inb) = X :=
  View.ld_unit_zero zero2 inb _
/-- The first slab of the two blocks that are read back. -/
theorem ld_first (f : Fin 8 → Fin 128 → Fin 128 → ℝ) (inb) :
    View.ld (Val := Elt Ideal) (e' := .f32) (T3 f) (Rect.unit (s := S8x128x128) ![0, 0, 0] ![1, 128, 128] inb)
      = T3 (n := 1) (m := 128) (p := 128) fun _ r c => f 0 r c := ld_slab_f32 f inb
theorem ld_first' (f : Fin 8 → Fin 128 → Fin 1 → ℝ) (inb) :
    View.ld (Val := Elt Ideal) (e' := .f32) (T3 f) (Rect.unit (s := S8x128x1) ![0, 0, 0] ![1, 128, 1] inb)
      = T3 (n := 1) (m := 128) (p := 1) fun _ r c => f 0 r c := ld_slab_f32 f inb
theorem st_b (X : S1x1024.Idx → EReal) (inb) (L) :
    View.canon (Val := Elt Ideal) (e := .f32) (⟨Rect.unit (s := S1x1024) ![0, 0] ![1, 1024] inb, X⟩ :: L) = X :=
  View.canon_cons_unit_zero (Val := Elt Ideal) (S := S1x1024) (e := .f32) zero2 inb X L

/-- Eight blocks of 128 columns, one per head, read together: the whole they are blocks of. -/
theorem heads_read (v : View sig .tc .vmem S128x1024 .f32) (G : Fin 128 → Fin 1024 → ℝ) (f0 f1 f2 f3 f4 f5 f6 f7 : Fin 128 → Fin 128 → ℝ)
    (h0 : ∀ r d, f0 r d = G r (col 0 d))
    (h1 : ∀ r d, f1 r d = G r (col 1 d))
    (h2 : ∀ r d, f2 r d = G r (col 2 d))
    (h3 : ∀ r d, f3 r d = G r (col 3 d))
    (h4 : ∀ r d, f4 r d = G r (col 4 d))
    (h5 : ∀ r d, f5 r d = G r (col 5 d))
    (h6 : ∀ r d, f6 r d = G r (col 6 d))
    (h7 : ∀ r d, f7 r d = G r (col 7 d))
    (i0 i1 i2 i3 i4 i5 i6 i7) (inb) :
    v.readCov (Val := Elt Ideal)
       [⟨Rect.unit (s := S128x1024) ![0, 896] S128x128.size i7, T2 f7⟩,
        ⟨Rect.unit (s := S128x1024) ![0, 768] S128x128.size i6, T2 f6⟩,
        ⟨Rect.unit (s := S128x1024) ![0, 640] S128x128.size i5, T2 f5⟩,
        ⟨Rect.unit (s := S128x1024) ![0, 512] S128x128.size i4, T2 f4⟩,
        ⟨Rect.unit (s := S128x1024) ![0, 384] S128x128.size i3, T2 f3⟩,
        ⟨Rect.unit (s := S128x1024) ![0, 256] S128x128.size i2, T2 f2⟩,
        ⟨Rect.unit (s := S128x1024) ![0, 128] S128x128.size i1, T2 f1⟩,
        ⟨Rect.unit (s := S128x1024) ![0, 0] S128x128.size i0, T2 f0⟩]
      (Rect.unit (s := S128x1024) ![0, 0] S128x1024.size inb).toLoadRect = T2 G := by
  rw [View.readCov_eq_canon']
  refine Eq.trans ?_ (ld_a (T2 G) inb)
  funext j
  refine View.canon_apply_of_pieces (T2 G) _ ?_ _
    (View.cover_of_tiledL (Val := Elt Ideal) (e := .f32) (s := S128x1024) _ S128x128.size (by sl_kernel_rfl) _)
  simp only [List.mem_cons, List.not_mem_nil, or_false, forall_eq_or_imp, forall_eq]
  refine ⟨?_, ?_, ?_, ?_, ?_, ?_, ?_, ?_⟩
  · exact piece2 f7 G i7 fun r c hr hc => h7 r c
  · exact piece2 f6 G i6 fun r c hr hc => h6 r c
  · exact piece2 f5 G i5 fun r c hr hc => h5 r c
  · exact piece2 f4 G i4 fun r c hr hc => h4 r c
  · exact piece2 f3 G i3 fun r c hr hc => h3 r c
  · exact piece2 f2 G i2 fun r c hr hc => h2 r c
  · exact piece2 f1 G i1 fun r c hr hc => h1 r c
  · exact piece2 f0 G i0 fun r c hr hc => h0 r c

/-- Eight matrices, one per head, stored one after another. -/
theorem slabs_w (G : Fin 8 → Fin 128 → Fin 128 → ℝ) (f0 f1 f2 f3 f4 f5 f6 f7 : Fin 1 → Fin 128 → Fin 128 → ℝ)
    (h0 : ∀ r d, f0 0 r d = G 0 r d)
    (h1 : ∀ r d, f1 0 r d = G 1 r d)
    (h2 : ∀ r d, f2 0 r d = G 2 r d)
    (h3 : ∀ r d, f3 0 r d = G 3 r d)
    (h4 : ∀ r d, f4 0 r d = G 4 r d)
    (h5 : ∀ r d, f5 0 r d = G 5 r d)
    (h6 : ∀ r d, f6 0 r d = G 6 r d)
    (h7 : ∀ r d, f7 0 r d = G 7 r d)
    (i0 i1 i2 i3 i4 i5 i6 i7) :
    View.canon (Val := Elt Ideal) (e := .f32)
       [⟨Rect.unit (s := S8x128x128) ![7, 0, 0] ![1, 128, 128] i7, T3 f7⟩,
        ⟨Rect.unit (s := S8x128x128) ![6, 0, 0] ![1, 128, 128] i6, T3 f6⟩,
        ⟨Rect.unit (s := S8x128x128) ![5, 0, 0] ![1, 128, 128] i5, T3 f5⟩,
        ⟨Rect.unit (s := S8x128x128) ![4, 0, 0] ![1, 128, 128] i4, T3 f4⟩,
        ⟨Rect.unit (s := S8x128x128) ![3, 0, 0] ![1, 128, 128] i3, T3 f3⟩,
        ⟨Rect.unit (s := S8x128x128) ![2, 0, 0] ![1, 128, 128] i2, T3 f2⟩,
        ⟨Rect.unit (s := S8x128x128) ![1, 0, 0] ![1, 128, 128] i1, T3 f1⟩,
        ⟨Rect.unit (s := S8x128x128) ![0, 0, 0] ![1, 128, 128] i0, T3 f0⟩] = T3 G := by
  funext j
  refine View.canon_apply_of_pieces (T3 G) _ ?_ _
    (View.cover_of_tiledL (Val := Elt Ideal) (e := .f32) (s := S8x128x128) _ ![1, 128, 128] (by sl_kernel_rfl) _)
  simp only [List.mem_cons, List.not_mem_nil, or_false, forall_eq_or_imp, forall_eq]
  exact ⟨piece3 f7 G i7 (by omega) h7, piece3 f6 G i6 (by omega) h6, piece3 f5 G i5 (by omega) h5, piece3 f4 G i4 (by omega) h4, piece3 f3 G i3 (by omega) h3, piece3 f2 G i2 (by omega) h2, piece3 f1 G i1 (by omega) h1, piece3 f0 G i0 (by omega) h0⟩

/-- Eight columns, one per head, stored one after another. -/
theorem slabs_s (G : Fin 8 → Fin 128 → Fin 1 → ℝ) (f0 f1 f2 f3 f4 f5 f6 f7 : Fin 1 → Fin 128 → Fin 1 → ℝ)
    (h0 : ∀ r d, f0 0 r d = G 0 r d)
    (h1 : ∀ r d, f1 0 r d = G 1 r d)
    (h2 : ∀ r d, f2 0 r d = G 2 r d)
    (h3 : ∀ r d, f3 0 r d = G 3 r d)
    (h4 : ∀ r d, f4 0 r d = G 4 r d)
    (h5 : ∀ r d, f5 0 r d = G 5 r d)
    (h6 : ∀ r d, f6 0 r d = G 6 r d)
    (h7 : ∀ r d, f7 0 r d = G 7 r d)
    (i0 i1 i2 i3 i4 i5 i6 i7) :
    View.canon (Val := Elt Ideal) (e := .f32)
       [⟨Rect.unit (s := S8x128x1) ![7, 0, 0] ![1, 128, 1] i7, T3 f7⟩,
        ⟨Rect.unit (s := S8x128x1) ![6, 0, 0] ![1, 128, 1] i6, T3 f6⟩,
        ⟨Rect.unit (s := S8x128x1) ![5, 0, 0] ![1, 128, 1] i5, T3 f5⟩,
        ⟨Rect.unit (s := S8x128x1) ![4, 0, 0] ![1, 128, 1] i4, T3 f4⟩,
        ⟨Rect.unit (s := S8x128x1) ![3, 0, 0] ![1, 128, 1] i3, T3 f3⟩,
        ⟨Rect.unit (s := S8x128x1) ![2, 0, 0] ![1, 128, 1] i2, T3 f2⟩,
        ⟨Rect.unit (s := S8x128x1) ![1, 0, 0] ![1, 128, 1] i1, T3 f1⟩,
        ⟨Rect.unit (s := S8x128x1) ![0, 0, 0] ![1, 128, 1] i0, T3 f0⟩] = T3 G := by
  funext j
  refine View.canon_apply_of_pieces (T3 G) _ ?_ _
    (View.cover_of_tiledL (Val := Elt Ideal) (e := .f32) (s := S8x128x1) _ ![1, 128, 1] (by sl_kernel_rfl) _)
  simp only [List.mem_cons, List.not_mem_nil, or_false, forall_eq_or_imp, forall_eq]
  exact ⟨piece3 f7 G i7 (by omega) h7, piece3 f6 G i6 (by omega) h6, piece3 f5 G i5 (by omega) h5, piece3 f4 G i4 (by omega) h4, piece3 f3 G i3 (by omega) h3, piece3 f2 G i2 (by omega) h2, piece3 f1 G i1 (by omega) h1, piece3 f0 G i0 (by omega) h0⟩

/-- Eight matrices stored over an earlier store. -/
theorem slabs_w_over (G : Fin 8 → Fin 128 → Fin 128 → ℝ) (f0 f1 f2 f3 f4 f5 f6 f7 : Fin 1 → Fin 128 → Fin 128 → ℝ)
    (h0 : ∀ r d, f0 0 r d = G 0 r d)
    (h1 : ∀ r d, f1 0 r d = G 1 r d)
    (h2 : ∀ r d, f2 0 r d = G 2 r d)
    (h3 : ∀ r d, f3 0 r d = G 3 r d)
    (h4 : ∀ r d, f4 0 r d = G 4 r d)
    (h5 : ∀ r d, f5 0 r d = G 5 r d)
    (h6 : ∀ r d, f6 0 r d = G 6 r d)
    (h7 : ∀ r d, f7 0 r d = G 7 r d)
    (i0 i1 i2 i3 i4 i5 i6 i7) (Z : View.Piece (Elt Ideal) S8x128x128 .f32) :
    View.canon (Val := Elt Ideal) (e := .f32)
       [⟨Rect.unit (s := S8x128x128) ![7, 0, 0] ![1, 128, 128] i7, T3 f7⟩,
        ⟨Rect.unit (s := S8x128x128) ![6, 0, 0] ![1, 128, 128] i6, T3 f6⟩,
        ⟨Rect.unit (s := S8x128x128) ![5, 0, 0] ![1, 128, 128] i5, T3 f5⟩,
        ⟨Rect.unit (s := S8x128x128) ![4, 0, 0] ![1, 128, 128] i4, T3 f4⟩,
        ⟨Rect.unit (s := S8x128x128) ![3, 0, 0] ![1, 128, 128] i3, T3 f3⟩,
        ⟨Rect.unit (s := S8x128x128) ![2, 0, 0] ![1, 128, 128] i2, T3 f2⟩,
        ⟨Rect.unit (s := S8x128x128) ![1, 0, 0] ![1, 128, 128] i1, T3 f1⟩,
        ⟨Rect.unit (s := S8x128x128) ![0, 0, 0] ![1, 128, 128] i0, T3 f0⟩,
        Z] = T3 G := by
  funext j
  refine View.canon_append_of_pieces (Val := Elt Ideal) (S := S8x128x128) (e := .f32) (T3 G) [Z]
       [⟨Rect.unit (s := S8x128x128) ![7, 0, 0] ![1, 128, 128] i7, T3 f7⟩,
        ⟨Rect.unit (s := S8x128x128) ![6, 0, 0] ![1, 128, 128] i6, T3 f6⟩,
        ⟨Rect.unit (s := S8x128x128) ![5, 0, 0] ![1, 128, 128] i5, T3 f5⟩,
        ⟨Rect.unit (s := S8x128x128) ![4, 0, 0] ![1, 128, 128] i4, T3 f4⟩,
        ⟨Rect.unit (s := S8x128x128) ![3, 0, 0] ![1, 128, 128] i3, T3 f3⟩,
        ⟨Rect.unit (s := S8x128x128) ![2, 0, 0] ![1, 128, 128] i2, T3 f2⟩,
        ⟨Rect.unit (s := S8x128x128) ![1, 0, 0] ![1, 128, 128] i1, T3 f1⟩,
        ⟨Rect.unit (s := S8x128x128) ![0, 0, 0] ![1, 128, 128] i0, T3 f0⟩] ?_ _
    (View.cover_of_tiledL (Val := Elt Ideal) (e := .f32) (s := S8x128x128) _ ![1, 128, 128] (by sl_kernel_rfl) _)
  simp only [List.mem_cons, List.not_mem_nil, or_false, forall_eq_or_imp, forall_eq]
  exact ⟨piece3 f7 G i7 (by omega) h7, piece3 f6 G i6 (by omega) h6, piece3 f5 G i5 (by omega) h5, piece3 f4 G i4 (by omega) h4, piece3 f3 G i3 (by omega) h3, piece3 f2 G i2 (by omega) h2, piece3 f1 G i1 (by omega) h1, piece3 f0 G i0 (by omega) h0⟩

/-- Eight columns stored over an earlier store. -/
theorem slabs_s_over (G : Fin 8 → Fin 128 → Fin 1 → ℝ) (f0 f1 f2 f3 f4 f5 f6 f7 : Fin 1 → Fin 128 → Fin 1 → ℝ)
    (h0 : ∀ r d, f0 0 r d = G 0 r d)
    (h1 : ∀ r d, f1 0 r d = G 1 r d)
    (h2 : ∀ r d, f2 0 r d = G 2 r d)
    (h3 : ∀ r d, f3 0 r d = G 3 r d)
    (h4 : ∀ r d, f4 0 r d = G 4 r d)
    (h5 : ∀ r d, f5 0 r d = G 5 r d)
    (h6 : ∀ r d, f6 0 r d = G 6 r d)
    (h7 : ∀ r d, f7 0 r d = G 7 r d)
    (i0 i1 i2 i3 i4 i5 i6 i7) (Z : View.Piece (Elt Ideal) S8x128x1 .f32) :
    View.canon (Val := Elt Ideal) (e := .f32)
       [⟨Rect.unit (s := S8x128x1) ![7, 0, 0] ![1, 128, 1] i7, T3 f7⟩,
        ⟨Rect.unit (s := S8x128x1) ![6, 0, 0] ![1, 128, 1] i6, T3 f6⟩,
        ⟨Rect.unit (s := S8x128x1) ![5, 0, 0] ![1, 128, 1] i5, T3 f5⟩,
        ⟨Rect.unit (s := S8x128x1) ![4, 0, 0] ![1, 128, 1] i4, T3 f4⟩,
        ⟨Rect.unit (s := S8x128x1) ![3, 0, 0] ![1, 128, 1] i3, T3 f3⟩,
        ⟨Rect.unit (s := S8x128x1) ![2, 0, 0] ![1, 128, 1] i2, T3 f2⟩,
        ⟨Rect.unit (s := S8x128x1) ![1, 0, 0] ![1, 128, 1] i1, T3 f1⟩,
        ⟨Rect.unit (s := S8x128x1) ![0, 0, 0] ![1, 128, 1] i0, T3 f0⟩,
        Z] = T3 G := by
  funext j
  refine View.canon_append_of_pieces (Val := Elt Ideal) (S := S8x128x1) (e := .f32) (T3 G) [Z]
       [⟨Rect.unit (s := S8x128x1) ![7, 0, 0] ![1, 128, 1] i7, T3 f7⟩,
        ⟨Rect.unit (s := S8x128x1) ![6, 0, 0] ![1, 128, 1] i6, T3 f6⟩,
        ⟨Rect.unit (s := S8x128x1) ![5, 0, 0] ![1, 128, 1] i5, T3 f5⟩,
        ⟨Rect.unit (s := S8x128x1) ![4, 0, 0] ![1, 128, 1] i4, T3 f4⟩,
        ⟨Rect.unit (s := S8x128x1) ![3, 0, 0] ![1, 128, 1] i3, T3 f3⟩,
        ⟨Rect.unit (s := S8x128x1) ![2, 0, 0] ![1, 128, 1] i2, T3 f2⟩,
        ⟨Rect.unit (s := S8x128x1) ![1, 0, 0] ![1, 128, 1] i1, T3 f1⟩,
        ⟨Rect.unit (s := S8x128x1) ![0, 0, 0] ![1, 128, 1] i0, T3 f0⟩] ?_ _
    (View.cover_of_tiledL (Val := Elt Ideal) (e := .f32) (s := S8x128x1) _ ![1, 128, 1] (by sl_kernel_rfl) _)
  simp only [List.mem_cons, List.not_mem_nil, or_false, forall_eq_or_imp, forall_eq]
  exact ⟨piece3 f7 G i7 (by omega) h7, piece3 f6 G i6 (by omega) h6, piece3 f5 G i5 (by omega) h5, piece3 f4 G i4 (by omega) h4, piece3 f3 G i3 (by omega) h3, piece3 f2 G i2 (by omega) h2, piece3 f1 G i1 (by omega) h1, piece3 f0 G i0 (by omega) h0⟩

/-- A row filled and read back. -/
theorem fill_b (v : View sig .tc .vmem S1x1024 .f32) (X : S1x1024.Idx → EReal) (inb inb') :
    v.readCov (Val := Elt Ideal) [⟨Rect.unit (s := S1x1024) ![0, 0] S1x1024.size inb, X⟩]
      (Rect.unit (s := S1x1024) ![0, 0] S1x1024.size inb').toLoadRect = X :=
  View.readCov_unit_zero (Val := Elt Ideal) (S := S1x1024) (e := .f32) v zero2 inb X
/-- The order of the slabs. -/
theorem slab_lt : (0 : ℕ) < 1 ∧ (0 : ℕ) < 2 ∧ (1 : ℕ) < 2 ∧ (0 : ℕ) < 3 ∧ (1 : ℕ) < 3 ∧ (2 : ℕ) < 3 ∧ (0 : ℕ) < 4 ∧ (1 : ℕ) < 4 ∧ (2 : ℕ) < 4 ∧ (3 : ℕ) < 4
    ∧ (0 : ℕ) < 5 ∧ (1 : ℕ) < 5 ∧ (2 : ℕ) < 5 ∧ (3 : ℕ) < 5 ∧ (4 : ℕ) < 5 ∧ (0 : ℕ) < 6 ∧ (1 : ℕ) < 6 ∧ (2 : ℕ) < 6 ∧ (3 : ℕ) < 6 ∧ (4 : ℕ) < 6 ∧ (5 : ℕ) < 6
    ∧ (0 : ℕ) < 7 ∧ (1 : ℕ) < 7 ∧ (2 : ℕ) < 7 ∧ (3 : ℕ) < 7 ∧ (4 : ℕ) < 7 ∧ (5 : ℕ) < 7 ∧ (6 : ℕ) < 7 := by decide
/-- A slab read after an earlier slab was stored … -/
theorem skip_w (v : View sig .tc .vmem S8x128x128 .f32) {o o' : ℕ} (w : S1x128x128.Idx → EReal) (L) (inb inb') (h : o < o') :
    v.readCov (Val := Elt Ideal) (⟨Rect.unit (s := S8x128x128) ![o, 0, 0] S1x128x128.size inb, w⟩ :: L)
        (Rect.unit (s := S8x128x128) ![o', 0, 0] S1x128x128.size inb').toLoadRect
      = v.readCov (Val := Elt Ideal) L (Rect.unit (s := S8x128x128) ![o', 0, 0] S1x128x128.size inb').toLoadRect :=
  View.readCov_cons_of_disjoint v _ L _ (Finset.disjoint_left.2 fun y h1 h2 => by
    obtain ⟨x, rfl⟩ := LoadRect.exists_idx_of_mem (Rect.unit (s := S8x128x128) ![o, 0, 0] S1x128x128.size inb).toLoadRect h1
    obtain ⟨z, hz⟩ := LoadRect.exists_idx_of_mem (Rect.unit (s := S8x128x128) ![o', 0, 0] S1x128x128.size inb').toLoadRect h2
    have e : o' + 1 * (z 0).val = o + 1 * (x 0).val := congrArg (fun t : S8x128x128.Idx => (t 0).val) hz
    have hx : (x 0).val < 1 := (x 0).isLt
    omega)
/-- … and after the whole was filled. -/
theorem fill_w (v : View sig .tc .vmem S8x128x128 .f32) {o : ℕ} (f : Fin 8 → Fin 128 → Fin 128 → ℝ) (inb inb') :
    v.readCov (Val := Elt Ideal) [⟨Rect.unit (s := S8x128x128) ![0, 0, 0] S8x128x128.size inb, T3 f⟩]
        (Rect.unit (s := S8x128x128) ![o, 0, 0] S1x128x128.size inb').toLoadRect
      = T3 (n := 1) (m := 128) (p := 128) fun _ r c => f ⟨o, inb' 0⟩ r c :=
  (View.readCov_fill (Val := Elt Ideal) v inb (T3 f) [] _ (fun a => congrFun zero3 a)).trans (ld_slab_f32 f inb')
theorem broadcast_w (r : ℝ) : broadcast S8x128x128 ((r : ℝ) : EReal) = T3 fun _ _ _ => r := rfl
/-- A slab read after an earlier slab was stored … -/
theorem skip_s (v : View sig .tc .vmem S8x128x1 .f32) {o o' : ℕ} (w : S1x128x1.Idx → EReal) (L) (inb inb') (h : o < o') :
    v.readCov (Val := Elt Ideal) (⟨Rect.unit (s := S8x128x1) ![o, 0, 0] S1x128x1.size inb, w⟩ :: L)
        (Rect.unit (s := S8x128x1) ![o', 0, 0] S1x128x1.size inb').toLoadRect
      = v.readCov (Val := Elt Ideal) L (Rect.unit (s := S8x128x1) ![o', 0, 0] S1x128x1.size inb').toLoadRect :=
  View.readCov_cons_of_disjoint v _ L _ (Finset.disjoint_left.2 fun y h1 h2 => by
    obtain ⟨x, rfl⟩ := LoadRect.exists_idx_of_mem (Rect.unit (s := S8x128x1) ![o, 0, 0] S1x128x1.size inb).toLoadRect h1
    obtain ⟨z, hz⟩ := LoadRect.exists_idx_of_mem (Rect.unit (s := S8x128x1) ![o', 0, 0] S1x128x1.size inb').toLoadRect h2
    have e : o' + 1 * (z 0).val = o + 1 * (x 0).val := congrArg (fun t : S8x128x1.Idx => (t 0).val) hz
    have hx : (x 0).val < 1 := (x 0).isLt
    omega)
/-- … and after the whole was filled. -/
theorem fill_s (v : View sig .tc .vmem S8x128x1 .f32) {o : ℕ} (f : Fin 8 → Fin 128 → Fin 1 → ℝ) (inb inb') :
    v.readCov (Val := Elt Ideal) [⟨Rect.unit (s := S8x128x1) ![0, 0, 0] S8x128x1.size inb, T3 f⟩]
        (Rect.unit (s := S8x128x1) ![o, 0, 0] S1x128x1.size inb').toLoadRect
      = T3 (n := 1) (m := 128) (p := 1) fun _ r c => f ⟨o, inb' 0⟩ r c :=
  (View.readCov_fill (Val := Elt Ideal) v inb (T3 f) [] _ (fun a => congrFun zero3 a)).trans (ld_slab_f32 f inb')
theorem broadcast_s (r : ℝ) : broadcast S8x128x1 ((r : ℝ) : EReal) = T3 fun _ _ _ => r := rfl

theorem dv_col (B : Chunk) (h : Fin 8) (r d : Fin 128) : B.dv r (col h d) = B.dvH h r d := by
  unfold Chunk.dv
  rw [hd_col, ln_col]

/-- The eight products that the kernel puts into its scratch array, read together. -/
theorem scratch_read (v : View sig .tc .vmem S128x1024 .f32) (B : Chunk) (i0 i1 i2 i3 i4 i5 i6 i7)
    (inb) :
    v.readCov (Val := Elt Ideal)
       [⟨Rect.unit (s := S128x1024) ![0, 896] S128x128.size i7,
          T2 fun r c => ∑ k, B.w ⟨7, by omega⟩ k r * (B.dy k ⟨896 + c.val, by omega⟩ * gel (B.zu k ⟨896 + c.val, by omega⟩))⟩,
        ⟨Rect.unit (s := S128x1024) ![0, 768] S128x128.size i6,
          T2 fun r c => ∑ k, B.w ⟨6, by omega⟩ k r * (B.dy k ⟨768 + c.val, by omega⟩ * gel (B.zu k ⟨768 + c.val, by omega⟩))⟩,
        ⟨Rect.unit (s := S128x1024) ![0, 640] S128x128.size i5,
          T2 fun r c => ∑ k, B.w ⟨5, by omega⟩ k r * (B.dy k ⟨640 + c.val, by omega⟩ * gel (B.zu k ⟨640 + c.val, by omega⟩))⟩,
        ⟨Rect.unit (s := S128x1024) ![0, 512] S128x128.size i4,
          T2 fun r c => ∑ k, B.w ⟨4, by omega⟩ k r * (B.dy k ⟨512 + c.val, by omega⟩ * gel (B.zu k ⟨512 + c.val, by omega⟩))⟩,
        ⟨Rect.unit (s := S128x1024) ![0, 384] S128x128.size i3,
          T2 fun r c => ∑ k, B.w ⟨3, by omega⟩ k r * (B.dy k ⟨384 + c.val, by omega⟩ * gel (B.zu k ⟨384 + c.val, by omega⟩))⟩,
        ⟨Rect.unit (s := S128x1024) ![0, 256] S128x128.size i2,
          T2 fun r c => ∑ k, B.w ⟨2, by omega⟩ k r * (B.dy k ⟨256 + c.val, by omega⟩ * gel (B.zu k ⟨256 + c.val, by omega⟩))⟩,
        ⟨Rect.unit (s := S128x1024) ![0, 128] S128x128.size i1,
          T2 fun r c => ∑ k, B.w ⟨1, by omega⟩ k r * (B.dy k ⟨128 + c.val, by omega⟩ * gel (B.zu k ⟨128 + c.val, by omega⟩))⟩,
        ⟨Rect.unit (s := S128x1024) ![0, 0] S128x128.size i0,
          T2 fun r c => ∑ k, B.w ⟨0, by omega⟩ k r * (B.dy k ⟨0 + c.val, by omega⟩ * gel (B.zu k ⟨0 + c.val, by omega⟩))⟩]
      (Rect.unit (s := S128x1024) ![0, 0] S128x1024.size inb).toLoadRect = T2 B.dv :=
  heads_read v B.dv _ _ _ _ _ _ _ _ (fun r d => (dv_col B 0 r d).symm) (fun r d => (dv_col B 1 r d).symm) (fun r d => (dv_col B 2 r d).symm) (fun r d => (dv_col B 3 r d).symm) (fun r d => (dv_col B 4 r d).symm) (fun r d => (dv_col B 5 r d).symm) (fun r d => (dv_col B 6 r d).symm) (fun r d => (dv_col B 7 r d).symm)
    _ _ _ _ _ _ _ _ inb

/-! ## The block of the first output -/

/-- What a chunk's rows hold: the part that passes through, then the two halves' gradients. -/
def outRow (B : Chunk) (x : S128x1024.Idx → EReal) (r : Fin 128) (c : Fin 3072) : EReal :=
  if h : c.val < 1024 then x (ix2 r ⟨c.val, h⟩)
  else if h' : c.val < 2048 then ((B.dzuH (hd ⟨c.val - 1024, by omega⟩) r (ln ⟨c.val - 1024, by omega⟩) : ℝ) : EReal)
  else ((B.dzv r ⟨c.val - 2048, by omega⟩ : ℝ) : EReal)

/-- A block of the columns of `G`, at the block's place in the whole. -/
theorem pieceE {n m o : ℕ} (P : (⟨2, ![n, m]⟩ : Shape).Idx → EReal) (G : Fin 128 → Fin 3072 → EReal)
    (inb : ∀ a, (![0, o] : Fin 2 → ℕ) a + (![n, m] : Fin 2 → ℕ) a ≤ S128x3072.size a)
    (h : ∀ (r : Fin n) (c : Fin m) (hr : r.val < 128) (hc : o + c.val < 3072), P (ix2 r c) = G ⟨r.val, hr⟩ ⟨o + c.val, hc⟩)
    (x : (⟨2, ![n, m]⟩ : Shape).Idx) :
    P x = (fun y : S128x3072.Idx => G (y 0) (y 1)) ((Rect.unit (s := S128x3072) ![0, o] ![n, m] inb).emb x) := by
  have i0 : 0 + n ≤ 128 := inb 0
  have i1 : o + m ≤ 3072 := inb 1
  have x0 : (x 0).val < n := (x 0).isLt
  have x1 : (x 1).val < m := (x 1).isLt
  have h0 : (x 0).val < 128 := by omega
  have h1 : o + (x 1).val < 3072 := by omega
  have e0 : (((Rect.unit (s := S128x3072) ![0, o] ![n, m] inb).emb x) 0 : Fin 128) = ⟨(x 0).val, h0⟩ :=
    Fin.ext (by show 0 + 1 * (x 0).val = (x 0).val; omega)
  have e1 : (((Rect.unit (s := S128x3072) ![0, o] ![n, m] inb).emb x) 1 : Fin 3072) = ⟨o + (x 1).val, h1⟩ :=
    Fin.ext (by show o + 1 * (x 1).val = o + (x 1).val; omega)
  rw [eq_ix2 x]
  exact (h (x 0) (x 1) h0 h1).trans (congrArg₂ G e0.symm e1.symm)

theorem outRow_pass (B : Chunk) (x) (r : Fin 128) (c : Fin 1024) (hc : 0 + c.val < 3072) :
    x (ix2 r c) = outRow B x r ⟨0 + c.val, hc⟩ := by
  unfold outRow
  rw [dif_pos (show (0 + c.val) < 1024 by omega)]
  exact congrArg (fun k => x (ix2 r k)) (Fin.ext (by show c.val = 0 + c.val; omega))
theorem outRow_zu (B : Chunk) (x) (h : Fin 8) {o : ℕ} (ho : o = 1024 + 128 * h.val) (r : Fin 128) (c : Fin 128) (hc : o + c.val < 3072) :
    ((B.dzuH h r c : ℝ) : EReal) = outRow B x r ⟨o + c.val, hc⟩ := by
  subst ho
  have h1 := h.isLt
  have h2 := c.isLt
  unfold outRow
  rw [dif_neg (show ¬ (1024 + 128 * h.val + c.val) < 1024 by omega), dif_pos (show (1024 + 128 * h.val + c.val) < 2048 by omega)]
  have e : (⟨1024 + 128 * h.val + c.val - 1024, by omega⟩ : Fin 1024) = col h c := Fin.ext (by
    show 1024 + 128 * h.val + c.val - 1024 = 128 * h.val + c.val; omega)
  rw [e, hd_col, ln_col]
theorem outRow_zv (B : Chunk) (x) (r : Fin 128) (c : Fin 1024) (hc : 2048 + c.val < 3072) :
    ((B.dzv r c : ℝ) : EReal) = outRow B x r ⟨2048 + c.val, hc⟩ := by
  unfold outRow
  rw [dif_neg (show ¬ (2048 + c.val) < 1024 by omega), dif_neg (show ¬ (2048 + c.val) < 2048 by omega)]
  exact congrArg (fun k => ((B.dzv r k : ℝ) : EReal)) (Fin.ext (by show c.val = 2048 + c.val - 2048; omega))

/-- The ten blocks of columns that the kernel stores into it. -/
theorem rows_stored (B : Chunk) (x : S128x1024.Idx → EReal) (fv : Fin 128 → Fin 1024 → ℝ) (f0 f1 f2 f3 f4 f5 f6 f7 : Fin 128 → Fin 128 → ℝ)
    (hv : fv = B.dzv)
    (h0 : f0 = B.dzuH 0)
    (h1 : f1 = B.dzuH 1)
    (h2 : f2 = B.dzuH 2)
    (h3 : f3 = B.dzuH 3)
    (h4 : f4 = B.dzuH 4)
    (h5 : f5 = B.dzuH 5)
    (h6 : f6 = B.dzuH 6)
    (h7 : f7 = B.dzuH 7)
    (iv i0 i1 i2 i3 i4 i5 i6 i7 ip) :
    View.canon (Val := Elt Ideal) (e := .bf16)
       [⟨Rect.unit (s := S128x3072) ![0, 2048] ![128, 1024] iv, T2 fv⟩,
        ⟨Rect.unit (s := S128x3072) ![0, 1920] ![128, 128] i7, T2 f7⟩,
        ⟨Rect.unit (s := S128x3072) ![0, 1792] ![128, 128] i6, T2 f6⟩,
        ⟨Rect.unit (s := S128x3072) ![0, 1664] ![128, 128] i5, T2 f5⟩,
        ⟨Rect.unit (s := S128x3072) ![0, 1536] ![128, 128] i4, T2 f4⟩,
        ⟨Rect.unit (s := S128x3072) ![0, 1408] ![128, 128] i3, T2 f3⟩,
        ⟨Rect.unit (s := S128x3072) ![0, 1280] ![128, 128] i2, T2 f2⟩,
        ⟨Rect.unit (s := S128x3072) ![0, 1152] ![128, 128] i1, T2 f1⟩,
        ⟨Rect.unit (s := S128x3072) ![0, 1024] ![128, 128] i0, T2 f0⟩,
        ⟨Rect.unit (s := S128x3072) ![0, 0] ![128, 1024] ip, x⟩]
      = fun y => outRow B x (y 0) (y 1) := by
  subst hv h0 h1 h2 h3 h4 h5 h6 h7
  funext j
  refine View.canon_apply_of_pieces (fun y : S128x3072.Idx => outRow B x (y 0) (y 1)) _ ?_ _
    (View.cover_of_tiledBy (Val := Elt Ideal) (e := .bf16) (s := S128x3072) _ ![128, 128] (by sl_kernel_rfl) _)
  simp only [List.mem_cons, List.not_mem_nil, or_false, forall_eq_or_imp, forall_eq]
  exact ⟨pieceE _ _ iv fun r c hr hc => outRow_zv B x r c hc,
    pieceE _ _ i7 fun r c hr hc => outRow_zu B x 7 rfl r c hc, pieceE _ _ i6 fun r c hr hc => outRow_zu B x 6 rfl r c hc, pieceE _ _ i5 fun r c hr hc => outRow_zu B x 5 rfl r c hc, pieceE _ _ i4 fun r c hr hc => outRow_zu B x 4 rfl r c hc, pieceE _ _ i3 fun r c hr hc => outRow_zu B x 3 rfl r c hc, pieceE _ _ i2 fun r c hr hc => outRow_zu B x 2 rfl r c hc, pieceE _ _ i1 fun r c hr hc => outRow_zu B x 1 rfl r c hc, pieceE _ _ i0 fun r c hr hc => outRow_zu B x 0 rfl r c hc,
    pieceE _ _ ip fun r c hr hc => outRow_pass B x r c hc⟩

theorem truncE (X : S128x1024.Idx → EReal) (h) : truncf (F := Ideal) (φ := .f32) .bf16 X h = X := rfl

end Cert.Blocks

end
-- ==== Proof.OutsA.lean ====
/- What the first grid point leaves in each output's block: its own part of the sums, over zeros. -/
module

public import proofs.«01_k».proof.Proof.Blocks

@[expose] public section

set_option maxRecDepth 16384
set_option maxHeartbeats 400000

noncomputable section

open scoped BigOperators

namespace Cert.Blocks

open Idealize.ShloMosaic Idealize.ShloMosaic.ValueIdx Idealize.ShloMosaic.TcCoe Idealize.ShloMosaic.Tactic
open Cert.KernelIdeal Cert.KernelIdeal.Gen Cert.Forms Cert.Gate

variable (c : Dev nD) (i : grid0.Coords)
  (arg1 : Memref sig .tc .vmem S128x1024 .f32) (harg1 : arg1.IsWhole)
  (arg2 : Memref sig .tc .vmem S128x1024 .f32) (harg2 : arg2.IsWhole)
  (arg3 : Memref sig .tc .vmem S128x1024 .f32) (harg3 : arg3.IsWhole)
  (arg4 : Memref sig .tc .vmem S128x1024 .f32) (harg4 : arg4.IsWhole)
  (arg5 : Memref sig .tc .vmem S1x1024 .f32) (harg5 : arg5.IsWhole)
  (arg6 : Memref sig .tc .vmem S1x1024 .f32) (harg6 : arg6.IsWhole)
  (arg7 : Memref sig .tc .vmem S8x128x128 .bf16) (harg7 : arg7.IsWhole)
  (arg8 : Memref sig .tc .vmem S8x128x1 .f32) (harg8 : arg8.IsWhole)
  (arg9 : Memref sig .tc .vmem S128x3072 .bf16) (harg9 : arg9.IsWhole)
  (arg10 : Memref sig .tc .vmem S1x1024 .f32) (harg10 : arg10.IsWhole)
  (arg11 : Memref sig .tc .vmem S1x1024 .f32) (harg11 : arg11.IsWhole)
  (arg12 : Memref sig .tc .vmem S8x128x128 .f32) (harg12 : arg12.IsWhole)
  (arg13 : Memref sig .tc .vmem S8x128x1 .f32) (harg13 : arg13.IsWhole)
  (arg14 : Memref sig .tc .vmem S128x1024 .f32) (harg14 : arg14.IsWhole)

/-- The rows of the first output. -/
theorem A_8 (h0 : cond0_0 i) (B : Chunk) (x : Vec Ideal S128x1024 .f32) :
    out0_A_8 (F := Ideal) c i arg1 harg1 arg2 harg2 arg3 harg3 arg4 harg4 arg5 harg5 arg6 harg6 arg7 harg7
    arg8 harg8 arg9 harg9 arg10 harg10 arg11 harg11 arg12 harg12 arg13 harg13 arg14 harg14
      h0 (T2 B.zu) (T2 B.zv) (T2 B.dy) x (T2 fun _ => B.g) (T2 fun _ => B.b) (T3 B.w)
      (T3 fun h r _ => B.s h r)
      = fun y => outRow B x (y 0) (y 1) := by
  unfold out0_A_8
  rw [View.read_writes_eq_canon _ _ _ (cover0_A_8 c i arg1 harg1 arg2 harg2 arg3 harg3 arg4 harg4 arg5 harg5 arg6 harg6 arg7 harg7
    arg8 harg8 arg9 harg9 arg10 harg10 arg11 harg11 arg12 harg12 arg13 harg13 arg14 harg14 h0 _ _ _ _ _ _ _ _)]
  unfold kernelRun0_A
  dsimp only
  sl_unfold_words
  simp -proj only [slab_lt, ↓skip_w, ↓skip_s, fill_w, fill_s, fill_b, broadcast_w, broadcast_s, View.readAt_eq_ld, harg1.read_unread, harg2.read_unread, harg3.read_unread, harg4.read_unread, harg5.read_unread, harg6.read_unread, harg7.read_unread, harg8.read_unread,
      ld_a, ld_a', ld_b, ld_first, ld_first', ld_slab_f32, ld_slab_bf16, truncE, scratch_read, st_b, pay5, pay6, pay7, rstd_form, shapeCast_self,
      constant2, dot_nn, dot_nt, dot_tn, slice2, truncf2, extf2, cast_32, cast_23, cast_col, cast_row, rows1024, rows128, cols1024,
      mulf2, addf2, subf2, tanh2, divf2 _ (1024 : ℝ) (by norm_num), broadcast2, k_a, k_3a, s_half, s_one, s_zero, s_1024, s_gelu, s_eps,
      bcol _ _ (by decide : (128 : ℕ) ≠ 1), brow _ _ (by decide : (1024 : ℕ) ≠ 1),
      k0_pay1, k0_pay2, k0_pay3, k0_pay4, k0_pay8, k0_pay9, k0_pay10, k0_pay11, k0_pay12, k0_pay13, k0_pay14, k0_pay15,
      k0_pay16, k0_pay17, k0_pay18, k0_pay19, k0_pay20, k0_pay21, k0_pay22, k0_pay23, k0_pay24, k0_pay25, k0_pay26, k0_pay27,
      k0_pay28, k0_pay29, k0_pay30, k0_pay31, k0_pay32, k0_pay33, k0_pay34, k0_pay35, k0_pay36, k0_pay37, k0_pay38, k0_pay39,
      k0_pay40, k0_pay41, k0_pay42, k0_pay43, k0_pay44, k0_pay45, k0_pay46, k0_pay47, k0_pay48, k0_pay49, k0_pay50, k0_pay51,
      k0_pay52, k0_pay53, k0_pay54, k0_pay55, k0_pay56, k0_pay57, k0_pay58, k0_pay59, k0_pay60, k0_pay61, k0_pay62, k0_pay63,
      k0_pay64, k0_pay65, k0_pay66, k0_pay67, k0_pay68, k0_pay69, k0_pay70, k0_pay71, k0_pay72, k0_pay73, k0_pay74, k0_pay75,
      k0_pay76, k0_pay77, k0_pay78, k0_pay79, k0_pay80, k0_pay81, k0_pay82, k0_pay83, k0_pay84, k0_pay85, k0_pay86, k0_pay87,
      k0_pay88, k0_pay89, k0_pay90, k0_pay91, k0_pay92, k0_pay93, k0_pay94, k0_pay95, k0_pay96, k0_pay97, k0_pay98, k0_pay99,
      k0_pay100, k0_pay101, k0_pay102, k0_pay103, k0_pay104, k0_pay105, k0_pay106, k0_pay107, k0_pay108, k0_pay109, k0_pay110, k0_pay111,
      k0_pay112]
  exact rows_stored B x _ _ _ _ _ _ _ _ _ rfl rfl rfl rfl rfl rfl rfl rfl rfl _ _ _ _ _ _ _ _ _ _
/-- The gradient of the layer norm's scale. -/
theorem A_9 (h0 : cond0_0 i) (B : Chunk) (x : Vec Ideal S128x1024 .f32) :
    out0_A_9 (F := Ideal) c i arg1 harg1 arg2 harg2 arg3 harg3 arg4 harg4 arg5 harg5 arg6 harg6 arg7 harg7
    arg8 harg8 arg9 harg9 arg10 harg10 arg11 harg11 arg12 harg12 arg13 harg13 arg14 harg14
      h0 (T2 B.zu) (T2 B.zv) (T2 B.dy) x (T2 fun _ => B.g) (T2 fun _ => B.b) (T3 B.w)
      (T3 fun h r _ => B.s h r)
      = T2 fun _ j => 0 + B.dg j := by
  unfold out0_A_9
  rw [View.read_writes_eq_canon _ _ _ (cover0_A_9 c i arg1 harg1 arg2 harg2 arg3 harg3 arg4 harg4 arg5 harg5 arg6 harg6 arg7 harg7
    arg8 harg8 arg9 harg9 arg10 harg10 arg11 harg11 arg12 harg12 arg13 harg13 arg14 harg14 h0 _ _ _ _ _ _ _ _)]
  unfold kernelRun0_A
  dsimp only
  sl_unfold_words
  simp -proj only [slab_lt, ↓skip_w, ↓skip_s, fill_w, fill_s, fill_b, broadcast_w, broadcast_s, View.readAt_eq_ld, harg1.read_unread, harg2.read_unread, harg3.read_unread, harg4.read_unread, harg5.read_unread, harg6.read_unread, harg7.read_unread, harg8.read_unread,
      ld_a, ld_a', ld_b, ld_first, ld_first', ld_slab_f32, ld_slab_bf16, truncE, scratch_read, st_b, pay5, pay6, pay7, rstd_form, shapeCast_self,
      constant2, dot_nn, dot_nt, dot_tn, slice2, truncf2, extf2, cast_32, cast_23, cast_col, cast_row, rows1024, rows128, cols1024,
      mulf2, addf2, subf2, tanh2, divf2 _ (1024 : ℝ) (by norm_num), broadcast2, k_a, k_3a, s_half, s_one, s_zero, s_1024, s_gelu, s_eps,
      bcol _ _ (by decide : (128 : ℕ) ≠ 1), brow _ _ (by decide : (1024 : ℕ) ≠ 1),
      k0_pay1, k0_pay2, k0_pay3, k0_pay4, k0_pay8, k0_pay9, k0_pay10, k0_pay11, k0_pay12, k0_pay13, k0_pay14, k0_pay15,
      k0_pay16, k0_pay17, k0_pay18, k0_pay19, k0_pay20, k0_pay21, k0_pay22, k0_pay23, k0_pay24, k0_pay25, k0_pay26, k0_pay27,
      k0_pay28, k0_pay29, k0_pay30, k0_pay31, k0_pay32, k0_pay33, k0_pay34, k0_pay35, k0_pay36, k0_pay37, k0_pay38, k0_pay39,
      k0_pay40, k0_pay41, k0_pay42, k0_pay43, k0_pay44, k0_pay45, k0_pay46, k0_pay47, k0_pay48, k0_pay49, k0_pay50, k0_pay51,
      k0_pay52, k0_pay53, k0_pay54, k0_pay55, k0_pay56, k0_pay57, k0_pay58, k0_pay59, k0_pay60, k0_pay61, k0_pay62, k0_pay63,
      k0_pay64, k0_pay65, k0_pay66, k0_pay67, k0_pay68, k0_pay69, k0_pay70, k0_pay71, k0_pay72, k0_pay73, k0_pay74, k0_pay75,
      k0_pay76, k0_pay77, k0_pay78, k0_pay79, k0_pay80, k0_pay81, k0_pay82, k0_pay83, k0_pay84, k0_pay85, k0_pay86, k0_pay87,
      k0_pay88, k0_pay89, k0_pay90, k0_pay91, k0_pay92, k0_pay93, k0_pay94, k0_pay95, k0_pay96, k0_pay97, k0_pay98, k0_pay99,
      k0_pay100, k0_pay101, k0_pay102, k0_pay103, k0_pay104, k0_pay105, k0_pay106, k0_pay107, k0_pay108, k0_pay109, k0_pay110, k0_pay111,
      k0_pay112]
  rfl
/-- The gradient of the layer norm's shift. -/
theorem A_10 (h0 : cond0_0 i) (B : Chunk) (x : Vec Ideal S128x1024 .f32) :
    out0_A_10 (F := Ideal) c i arg1 harg1 arg2 harg2 arg3 harg3 arg4 harg4 arg5 harg5 arg6 harg6 arg7 harg7
    arg8 harg8 arg9 harg9 arg10 harg10 arg11 harg11 arg12 harg12 arg13 harg13 arg14 harg14
      h0 (T2 B.zu) (T2 B.zv) (T2 B.dy) x (T2 fun _ => B.g) (T2 fun _ => B.b) (T3 B.w)
      (T3 fun h r _ => B.s h r)
      = T2 fun _ j => 0 + B.db j := by
  unfold out0_A_10
  rw [View.read_writes_eq_canon _ _ _ (cover0_A_10 c i arg1 harg1 arg2 harg2 arg3 harg3 arg4 harg4 arg5 harg5 arg6 harg6 arg7 harg7
    arg8 harg8 arg9 harg9 arg10 harg10 arg11 harg11 arg12 harg12 arg13 harg13 arg14 harg14 h0 _ _ _ _ _ _ _ _)]
  unfold kernelRun0_A
  dsimp only
  sl_unfold_words
  simp -proj only [slab_lt, ↓skip_w, ↓skip_s, fill_w, fill_s, fill_b, broadcast_w, broadcast_s, View.readAt_eq_ld, harg1.read_unread, harg2.read_unread, harg3.read_unread, harg4.read_unread, harg5.read_unread, harg6.read_unread, harg7.read_unread, harg8.read_unread,
      ld_a, ld_a', ld_b, ld_first, ld_first', ld_slab_f32, ld_slab_bf16, truncE, scratch_read, st_b, pay5, pay6, pay7, rstd_form, shapeCast_self,
      constant2, dot_nn, dot_nt, dot_tn, slice2, truncf2, extf2, cast_32, cast_23, cast_col, cast_row, rows1024, rows128, cols1024,
      mulf2, addf2, subf2, tanh2, divf2 _ (1024 : ℝ) (by norm_num), broadcast2, k_a, k_3a, s_half, s_one, s_zero, s_1024, s_gelu, s_eps,
      bcol _ _ (by decide : (128 : ℕ) ≠ 1), brow _ _ (by decide : (1024 : ℕ) ≠ 1),
      k0_pay1, k0_pay2, k0_pay3, k0_pay4, k0_pay8, k0_pay9, k0_pay10, k0_pay11, k0_pay12, k0_pay13, k0_pay14, k0_pay15,
      k0_pay16, k0_pay17, k0_pay18, k0_pay19, k0_pay20, k0_pay21, k0_pay22, k0_pay23, k0_pay24, k0_pay25, k0_pay26, k0_pay27,
      k0_pay28, k0_pay29, k0_pay30, k0_pay31, k0_pay32, k0_pay33, k0_pay34, k0_pay35, k0_pay36, k0_pay37, k0_pay38, k0_pay39,
      k0_pay40, k0_pay41, k0_pay42, k0_pay43, k0_pay44, k0_pay45, k0_pay46, k0_pay47, k0_pay48, k0_pay49, k0_pay50, k0_pay51,
      k0_pay52, k0_pay53, k0_pay54, k0_pay55, k0_pay56, k0_pay57, k0_pay58, k0_pay59, k0_pay60, k0_pay61, k0_pay62, k0_pay63,
      k0_pay64, k0_pay65, k0_pay66, k0_pay67, k0_pay68, k0_pay69, k0_pay70, k0_pay71, k0_pay72, k0_pay73, k0_pay74, k0_pay75,
      k0_pay76, k0_pay77, k0_pay78, k0_pay79, k0_pay80, k0_pay81, k0_pay82, k0_pay83, k0_pay84, k0_pay85, k0_pay86, k0_pay87,
      k0_pay88, k0_pay89, k0_pay90, k0_pay91, k0_pay92, k0_pay93, k0_pay94, k0_pay95, k0_pay96, k0_pay97, k0_pay98, k0_pay99,
      k0_pay100, k0_pay101, k0_pay102, k0_pay103, k0_pay104, k0_pay105, k0_pay106, k0_pay107, k0_pay108, k0_pay109, k0_pay110, k0_pay111,
      k0_pay112]
  rfl
/-- The gradient of the mixing matrices. -/
theorem A_11 (h0 : cond0_0 i) (B : Chunk) (x : Vec Ideal S128x1024 .f32) :
    out0_A_11 (F := Ideal) c i arg1 harg1 arg2 harg2 arg3 harg3 arg4 harg4 arg5 harg5 arg6 harg6 arg7 harg7
    arg8 harg8 arg9 harg9 arg10 harg10 arg11 harg11 arg12 harg12 arg13 harg13 arg14 harg14
      h0 (T2 B.zu) (T2 B.zv) (T2 B.dy) x (T2 fun _ => B.g) (T2 fun _ => B.b) (T3 B.w)
      (T3 fun h r _ => B.s h r)
      = T3 fun h r d => 0 + B.dw h r d := by
  unfold out0_A_11
  rw [View.read_writes_eq_canon _ _ _ (cover0_A_11 c i arg1 harg1 arg2 harg2 arg3 harg3 arg4 harg4 arg5 harg5 arg6 harg6 arg7 harg7
    arg8 harg8 arg9 harg9 arg10 harg10 arg11 harg11 arg12 harg12 arg13 harg13 arg14 harg14 h0 _ _ _ _ _ _ _ _)]
  unfold kernelRun0_A
  dsimp only
  sl_unfold_words
  simp -proj only [slab_lt, ↓skip_w, ↓skip_s, fill_w, fill_s, fill_b, broadcast_w, broadcast_s, View.readAt_eq_ld, harg1.read_unread, harg2.read_unread, harg3.read_unread, harg4.read_unread, harg5.read_unread, harg6.read_unread, harg7.read_unread, harg8.read_unread,
      ld_a, ld_a', ld_b, ld_first, ld_first', ld_slab_f32, ld_slab_bf16, truncE, scratch_read, st_b, pay5, pay6, pay7, rstd_form, shapeCast_self,
      constant2, dot_nn, dot_nt, dot_tn, slice2, truncf2, extf2, cast_32, cast_23, cast_col, cast_row, rows1024, rows128, cols1024,
      mulf2, addf2, subf2, tanh2, divf2 _ (1024 : ℝ) (by norm_num), broadcast2, k_a, k_3a, s_half, s_one, s_zero, s_1024, s_gelu, s_eps,
      bcol _ _ (by decide : (128 : ℕ) ≠ 1), brow _ _ (by decide : (1024 : ℕ) ≠ 1),
      k0_pay1, k0_pay2, k0_pay3, k0_pay4, k0_pay8, k0_pay9, k0_pay10, k0_pay11, k0_pay12, k0_pay13, k0_pay14, k0_pay15,
      k0_pay16, k0_pay17, k0_pay18, k0_pay19, k0_pay20, k0_pay21, k0_pay22, k0_pay23, k0_pay24, k0_pay25, k0_pay26, k0_pay27,
      k0_pay28, k0_pay29, k0_pay30, k0_pay31, k0_pay32, k0_pay33, k0_pay34, k0_pay35, k0_pay36, k0_pay37, k0_pay38, k0_pay39,
      k0_pay40, k0_pay41, k0_pay42, k0_pay43, k0_pay44, k0_pay45, k0_pay46, k0_pay47, k0_pay48, k0_pay49, k0_pay50, k0_pay51,
      k0_pay52, k0_pay53, k0_pay54, k0_pay55, k0_pay56, k0_pay57, k0_pay58, k0_pay59, k0_pay60, k0_pay61, k0_pay62, k0_pay63,
      k0_pay64, k0_pay65, k0_pay66, k0_pay67, k0_pay68, k0_pay69, k0_pay70, k0_pay71, k0_pay72, k0_pay73, k0_pay74, k0_pay75,
      k0_pay76, k0_pay77, k0_pay78, k0_pay79, k0_pay80, k0_pay81, k0_pay82, k0_pay83, k0_pay84, k0_pay85, k0_pay86, k0_pay87,
      k0_pay88, k0_pay89, k0_pay90, k0_pay91, k0_pay92, k0_pay93, k0_pay94, k0_pay95, k0_pay96, k0_pay97, k0_pay98, k0_pay99,
      k0_pay100, k0_pay101, k0_pay102, k0_pay103, k0_pay104, k0_pay105, k0_pay106, k0_pay107, k0_pay108, k0_pay109, k0_pay110, k0_pay111,
      k0_pay112]
  exact slabs_w_over _ _ _ _ _ _ _ _ _ (fun r d => rfl) (fun r d => rfl) (fun r d => rfl) (fun r d => rfl) (fun r d => rfl) (fun r d => rfl) (fun r d => rfl) (fun r d => rfl) _ _ _ _ _ _ _ _ _
/-- The gradient of the biases. -/
theorem A_12 (h0 : cond0_0 i) (B : Chunk) (x : Vec Ideal S128x1024 .f32) :
    out0_A_12 (F := Ideal) c i arg1 harg1 arg2 harg2 arg3 harg3 arg4 harg4 arg5 harg5 arg6 harg6 arg7 harg7
    arg8 harg8 arg9 harg9 arg10 harg10 arg11 harg11 arg12 harg12 arg13 harg13 arg14 harg14
      h0 (T2 B.zu) (T2 B.zv) (T2 B.dy) x (T2 fun _ => B.g) (T2 fun _ => B.b) (T3 B.w)
      (T3 fun h r _ => B.s h r)
      = T3 fun h r _ => 0 + B.ds h r := by
  unfold out0_A_12
  rw [View.read_writes_eq_canon _ _ _ (cover0_A_12 c i arg1 harg1 arg2 harg2 arg3 harg3 arg4 harg4 arg5 harg5 arg6 harg6 arg7 harg7
    arg8 harg8 arg9 harg9 arg10 harg10 arg11 harg11 arg12 harg12 arg13 harg13 arg14 harg14 h0 _ _ _ _ _ _ _ _)]
  unfold kernelRun0_A
  dsimp only
  sl_unfold_words
  simp -proj only [slab_lt, ↓skip_w, ↓skip_s, fill_w, fill_s, fill_b, broadcast_w, broadcast_s, View.readAt_eq_ld, harg1.read_unread, harg2.read_unread, harg3.read_unread, harg4.read_unread, harg5.read_unread, harg6.read_unread, harg7.read_unread, harg8.read_unread,
      ld_a, ld_a', ld_b, ld_first, ld_first', ld_slab_f32, ld_slab_bf16, truncE, scratch_read, st_b, pay5, pay6, pay7, rstd_form, shapeCast_self,
      constant2, dot_nn, dot_nt, dot_tn, slice2, truncf2, extf2, cast_32, cast_23, cast_col, cast_row, rows1024, rows128, cols1024,
      mulf2, addf2, subf2, tanh2, divf2 _ (1024 : ℝ) (by norm_num), broadcast2, k_a, k_3a, s_half, s_one, s_zero, s_1024, s_gelu, s_eps,
      bcol _ _ (by decide : (128 : ℕ) ≠ 1), brow _ _ (by decide : (1024 : ℕ) ≠ 1),
      k0_pay1, k0_pay2, k0_pay3, k0_pay4, k0_pay8, k0_pay9, k0_pay10, k0_pay11, k0_pay12, k0_pay13, k0_pay14, k0_pay15,
      k0_pay16, k0_pay17, k0_pay18, k0_pay19, k0_pay20, k0_pay21, k0_pay22, k0_pay23, k0_pay24, k0_pay25, k0_pay26, k0_pay27,
      k0_pay28, k0_pay29, k0_pay30, k0_pay31, k0_pay32, k0_pay33, k0_pay34, k0_pay35, k0_pay36, k0_pay37, k0_pay38, k0_pay39,
      k0_pay40, k0_pay41, k0_pay42, k0_pay43, k0_pay44, k0_pay45, k0_pay46, k0_pay47, k0_pay48, k0_pay49, k0_pay50, k0_pay51,
      k0_pay52, k0_pay53, k0_pay54, k0_pay55, k0_pay56, k0_pay57, k0_pay58, k0_pay59, k0_pay60, k0_pay61, k0_pay62, k0_pay63,
      k0_pay64, k0_pay65, k0_pay66, k0_pay67, k0_pay68, k0_pay69, k0_pay70, k0_pay71, k0_pay72, k0_pay73, k0_pay74, k0_pay75,
      k0_pay76, k0_pay77, k0_pay78, k0_pay79, k0_pay80, k0_pay81, k0_pay82, k0_pay83, k0_pay84, k0_pay85, k0_pay86, k0_pay87,
      k0_pay88, k0_pay89, k0_pay90, k0_pay91, k0_pay92, k0_pay93, k0_pay94, k0_pay95, k0_pay96, k0_pay97, k0_pay98, k0_pay99,
      k0_pay100, k0_pay101, k0_pay102, k0_pay103, k0_pay104, k0_pay105, k0_pay106, k0_pay107, k0_pay108, k0_pay109, k0_pay110, k0_pay111,
      k0_pay112]
  exact slabs_s_over _ _ _ _ _ _ _ _ _ (fun r d => rfl) (fun r d => rfl) (fun r d => rfl) (fun r d => rfl) (fun r d => rfl) (fun r d => rfl) (fun r d => rfl) (fun r d => rfl) _ _ _ _ _ _ _ _ _

end Cert.Blocks

end
-- ==== Proof.OutsB.lean ====
/- What a grid point after the first leaves in each output's block: the sums so far and its own part. -/
module

public import proofs.«01_k».proof.Proof.Blocks

@[expose] public section

set_option maxRecDepth 16384
set_option maxHeartbeats 400000

noncomputable section

open scoped BigOperators

namespace Cert.Blocks

open Idealize.ShloMosaic Idealize.ShloMosaic.ValueIdx Idealize.ShloMosaic.TcCoe Idealize.ShloMosaic.Tactic
open Cert.KernelIdeal Cert.KernelIdeal.Gen Cert.Forms Cert.Gate

variable (c : Dev nD) (i : grid0.Coords)
  (arg1 : Memref sig .tc .vmem S128x1024 .f32) (harg1 : arg1.IsWhole)
  (arg2 : Memref sig .tc .vmem S128x1024 .f32) (harg2 : arg2.IsWhole)
  (arg3 : Memref sig .tc .vmem S128x1024 .f32) (harg3 : arg3.IsWhole)
  (arg4 : Memref sig .tc .vmem S128x1024 .f32) (harg4 : arg4.IsWhole)
  (arg5 : Memref sig .tc .vmem S1x1024 .f32) (harg5 : arg5.IsWhole)
  (arg6 : Memref sig .tc .vmem S1x1024 .f32) (harg6 : arg6.IsWhole)
  (arg7 : Memref sig .tc .vmem S8x128x128 .bf16) (harg7 : arg7.IsWhole)
  (arg8 : Memref sig .tc .vmem S8x128x1 .f32) (harg8 : arg8.IsWhole)
  (arg9 : Memref sig .tc .vmem S128x3072 .bf16) (harg9 : arg9.IsWhole)
  (arg10 : Memref sig .tc .vmem S1x1024 .f32) (harg10 : arg10.IsWhole)
  (arg11 : Memref sig .tc .vmem S1x1024 .f32) (harg11 : arg11.IsWhole)
  (arg12 : Memref sig .tc .vmem S8x128x128 .f32) (harg12 : arg12.IsWhole)
  (arg13 : Memref sig .tc .vmem S8x128x1 .f32) (harg13 : arg13.IsWhole)
  (arg14 : Memref sig .tc .vmem S128x1024 .f32) (harg14 : arg14.IsWhole)

/-- The rows of the first output. -/
theorem B_8 (h0 : ¬cond0_0 i) (B : Chunk) (x : Vec Ideal S128x1024 .f32) (o9 o10 : Fin 1024 → ℝ) (o11 : Fin 8 → Fin 128 → Fin 128 → ℝ) (o12 : Fin 8 → Fin 128 → ℝ) :
    out0_B_8 (F := Ideal) c i arg1 harg1 arg2 harg2 arg3 harg3 arg4 harg4 arg5 harg5 arg6 harg6 arg7 harg7
    arg8 harg8 arg9 harg9 arg10 harg10 arg11 harg11 arg12 harg12 arg13 harg13 arg14 harg14
      h0 (T2 B.zu) (T2 B.zv) (T2 B.dy) x (T2 fun _ => B.g) (T2 fun _ => B.b) (T3 B.w)
      (T3 fun h r _ => B.s h r) (T2 fun _ => o9) (T2 fun _ => o10) (T3 o11) (T3 fun h r _ => o12 h r)
      = fun y => outRow B x (y 0) (y 1) := by
  unfold out0_B_8
  rw [View.read_writes_eq_canon _ _ _ (cover0_B_8 c i arg1 harg1 arg2 harg2 arg3 harg3 arg4 harg4 arg5 harg5 arg6 harg6 arg7 harg7
    arg8 harg8 arg9 harg9 arg10 harg10 arg11 harg11 arg12 harg12 arg13 harg13 arg14 harg14 h0 _ _ _ _ _ _ _ _ _ _ _ _)]
  unfold kernelRun0_B
  dsimp only
  sl_unfold_words
  simp -proj only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread,
      ld_a, ld_a', ld_b, ld_first, ld_first', ld_slab_f32, ld_slab_bf16, truncE, scratch_read, st_b, pay5, pay6, pay7, rstd_form, shapeCast_self,
      constant2, dot_nn, dot_nt, dot_tn, slice2, truncf2, extf2, cast_32, cast_23, cast_col, cast_row, rows1024, rows128, cols1024,
      mulf2, addf2, subf2, tanh2, divf2 _ (1024 : ℝ) (by norm_num), broadcast2, k_a, k_3a, s_half, s_one, s_zero, s_1024, s_gelu, s_eps,
      bcol _ _ (by decide : (128 : ℕ) ≠ 1), brow _ _ (by decide : (1024 : ℕ) ≠ 1),
      k0_pay1, k0_pay2, k0_pay3, k0_pay4, k0_pay8, k0_pay9, k0_pay10, k0_pay11, k0_pay12, k0_pay13, k0_pay14, k0_pay15,
      k0_pay16, k0_pay17, k0_pay18, k0_pay19, k0_pay20, k0_pay21, k0_pay22, k0_pay23, k0_pay24, k0_pay25, k0_pay26, k0_pay27,
      k0_pay28, k0_pay29, k0_pay30, k0_pay31, k0_pay32, k0_pay33, k0_pay34, k0_pay35, k0_pay36, k0_pay37, k0_pay38, k0_pay39,
      k0_pay40, k0_pay41, k0_pay42, k0_pay43, k0_pay44, k0_pay45, k0_pay46, k0_pay47, k0_pay48, k0_pay49, k0_pay50, k0_pay51,
      k0_pay52, k0_pay53, k0_pay54, k0_pay55, k0_pay56, k0_pay57, k0_pay58, k0_pay59, k0_pay60, k0_pay61, k0_pay62, k0_pay63,
      k0_pay64, k0_pay65, k0_pay66, k0_pay67, k0_pay68, k0_pay69, k0_pay70, k0_pay71, k0_pay72, k0_pay73, k0_pay74, k0_pay75,
      k0_pay76, k0_pay77, k0_pay78, k0_pay79, k0_pay80, k0_pay81, k0_pay82, k0_pay83, k0_pay84, k0_pay85, k0_pay86, k0_pay87,
      k0_pay88, k0_pay89, k0_pay90, k0_pay91, k0_pay92, k0_pay93, k0_pay94, k0_pay95, k0_pay96, k0_pay97, k0_pay98, k0_pay99,
      k0_pay100, k0_pay101, k0_pay102, k0_pay103, k0_pay104, k0_pay105, k0_pay106, k0_pay107, k0_pay108, k0_pay109, k0_pay110, k0_pay111,
      k0_pay112]
  exact rows_stored B x _ _ _ _ _ _ _ _ _ rfl rfl rfl rfl rfl rfl rfl rfl rfl _ _ _ _ _ _ _ _ _ _
/-- The gradient of the layer norm's scale. -/
theorem B_9 (h0 : ¬cond0_0 i) (B : Chunk) (x : Vec Ideal S128x1024 .f32) (o9 o10 : Fin 1024 → ℝ) (o11 : Fin 8 → Fin 128 → Fin 128 → ℝ) (o12 : Fin 8 → Fin 128 → ℝ) :
    out0_B_9 (F := Ideal) c i arg1 harg1 arg2 harg2 arg3 harg3 arg4 harg4 arg5 harg5 arg6 harg6 arg7 harg7
    arg8 harg8 arg9 harg9 arg10 harg10 arg11 harg11 arg12 harg12 arg13 harg13 arg14 harg14
      h0 (T2 B.zu) (T2 B.zv) (T2 B.dy) x (T2 fun _ => B.g) (T2 fun _ => B.b) (T3 B.w)
      (T3 fun h r _ => B.s h r) (T2 fun _ => o9) (T2 fun _ => o10) (T3 o11) (T3 fun h r _ => o12 h r)
      = T2 fun _ j => o9 j + B.dg j := by
  unfold out0_B_9
  rw [View.read_writes_eq_canon _ _ _ (cover0_B_9 c i arg1 harg1 arg2 harg2 arg3 harg3 arg4 harg4 arg5 harg5 arg6 harg6 arg7 harg7
    arg8 harg8 arg9 harg9 arg10 harg10 arg11 harg11 arg12 harg12 arg13 harg13 arg14 harg14 h0 _ _ _ _ _ _ _ _ _ _ _ _)]
  unfold kernelRun0_B
  dsimp only
  sl_unfold_words
  simp -proj only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread,
      ld_a, ld_a', ld_b, ld_first, ld_first', ld_slab_f32, ld_slab_bf16, truncE, scratch_read, st_b, pay5, pay6, pay7, rstd_form, shapeCast_self,
      constant2, dot_nn, dot_nt, dot_tn, slice2, truncf2, extf2, cast_32, cast_23, cast_col, cast_row, rows1024, rows128, cols1024,
      mulf2, addf2, subf2, tanh2, divf2 _ (1024 : ℝ) (by norm_num), broadcast2, k_a, k_3a, s_half, s_one, s_zero, s_1024, s_gelu, s_eps,
      bcol _ _ (by decide : (128 : ℕ) ≠ 1), brow _ _ (by decide : (1024 : ℕ) ≠ 1),
      k0_pay1, k0_pay2, k0_pay3, k0_pay4, k0_pay8, k0_pay9, k0_pay10, k0_pay11, k0_pay12, k0_pay13, k0_pay14, k0_pay15,
      k0_pay16, k0_pay17, k0_pay18, k0_pay19, k0_pay20, k0_pay21, k0_pay22, k0_pay23, k0_pay24, k0_pay25, k0_pay26, k0_pay27,
      k0_pay28, k0_pay29, k0_pay30, k0_pay31, k0_pay32, k0_pay33, k0_pay34, k0_pay35, k0_pay36, k0_pay37, k0_pay38, k0_pay39,
      k0_pay40, k0_pay41, k0_pay42, k0_pay43, k0_pay44, k0_pay45, k0_pay46, k0_pay47, k0_pay48, k0_pay49, k0_pay50, k0_pay51,
      k0_pay52, k0_pay53, k0_pay54, k0_pay55, k0_pay56, k0_pay57, k0_pay58, k0_pay59, k0_pay60, k0_pay61, k0_pay62, k0_pay63,
      k0_pay64, k0_pay65, k0_pay66, k0_pay67, k0_pay68, k0_pay69, k0_pay70, k0_pay71, k0_pay72, k0_pay73, k0_pay74, k0_pay75,
      k0_pay76, k0_pay77, k0_pay78, k0_pay79, k0_pay80, k0_pay81, k0_pay82, k0_pay83, k0_pay84, k0_pay85, k0_pay86, k0_pay87,
      k0_pay88, k0_pay89, k0_pay90, k0_pay91, k0_pay92, k0_pay93, k0_pay94, k0_pay95, k0_pay96, k0_pay97, k0_pay98, k0_pay99,
      k0_pay100, k0_pay101, k0_pay102, k0_pay103, k0_pay104, k0_pay105, k0_pay106, k0_pay107, k0_pay108, k0_pay109, k0_pay110, k0_pay111,
      k0_pay112]
  rfl
/-- The gradient of the layer norm's shift. -/
theorem B_10 (h0 : ¬cond0_0 i) (B : Chunk) (x : Vec Ideal S128x1024 .f32) (o9 o10 : Fin 1024 → ℝ) (o11 : Fin 8 → Fin 128 → Fin 128 → ℝ) (o12 : Fin 8 → Fin 128 → ℝ) :
    out0_B_10 (F := Ideal) c i arg1 harg1 arg2 harg2 arg3 harg3 arg4 harg4 arg5 harg5 arg6 harg6 arg7 harg7
    arg8 harg8 arg9 harg9 arg10 harg10 arg11 harg11 arg12 harg12 arg13 harg13 arg14 harg14
      h0 (T2 B.zu) (T2 B.zv) (T2 B.dy) x (T2 fun _ => B.g) (T2 fun _ => B.b) (T3 B.w)
      (T3 fun h r _ => B.s h r) (T2 fun _ => o9) (T2 fun _ => o10) (T3 o11) (T3 fun h r _ => o12 h r)
      = T2 fun _ j => o10 j + B.db j := by
  unfold out0_B_10
  rw [View.read_writes_eq_canon _ _ _ (cover0_B_10 c i arg1 harg1 arg2 harg2 arg3 harg3 arg4 harg4 arg5 harg5 arg6 harg6 arg7 harg7
    arg8 harg8 arg9 harg9 arg10 harg10 arg11 harg11 arg12 harg12 arg13 harg13 arg14 harg14 h0 _ _ _ _ _ _ _ _ _ _ _ _)]
  unfold kernelRun0_B
  dsimp only
  sl_unfold_words
  simp -proj only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread,
      ld_a, ld_a', ld_b, ld_first, ld_first', ld_slab_f32, ld_slab_bf16, truncE, scratch_read, st_b, pay5, pay6, pay7, rstd_form, shapeCast_self,
      constant2, dot_nn, dot_nt, dot_tn, slice2, truncf2, extf2, cast_32, cast_23, cast_col, cast_row, rows1024, rows128, cols1024,
      mulf2, addf2, subf2, tanh2, divf2 _ (1024 : ℝ) (by norm_num), broadcast2, k_a, k_3a, s_half, s_one, s_zero, s_1024, s_gelu, s_eps,
      bcol _ _ (by decide : (128 : ℕ) ≠ 1), brow _ _ (by decide : (1024 : ℕ) ≠ 1),
      k0_pay1, k0_pay2, k0_pay3, k0_pay4, k0_pay8, k0_pay9, k0_pay10, k0_pay11, k0_pay12, k0_pay13, k0_pay14, k0_pay15,
      k0_pay16, k0_pay17, k0_pay18, k0_pay19, k0_pay20, k0_pay21, k0_pay22, k0_pay23, k0_pay24, k0_pay25, k0_pay26, k0_pay27,
      k0_pay28, k0_pay29, k0_pay30, k0_pay31, k0_pay32, k0_pay33, k0_pay34, k0_pay35, k0_pay36, k0_pay37, k0_pay38, k0_pay39,
      k0_pay40, k0_pay41, k0_pay42, k0_pay43, k0_pay44, k0_pay45, k0_pay46, k0_pay47, k0_pay48, k0_pay49, k0_pay50, k0_pay51,
      k0_pay52, k0_pay53, k0_pay54, k0_pay55, k0_pay56, k0_pay57, k0_pay58, k0_pay59, k0_pay60, k0_pay61, k0_pay62, k0_pay63,
      k0_pay64, k0_pay65, k0_pay66, k0_pay67, k0_pay68, k0_pay69, k0_pay70, k0_pay71, k0_pay72, k0_pay73, k0_pay74, k0_pay75,
      k0_pay76, k0_pay77, k0_pay78, k0_pay79, k0_pay80, k0_pay81, k0_pay82, k0_pay83, k0_pay84, k0_pay85, k0_pay86, k0_pay87,
      k0_pay88, k0_pay89, k0_pay90, k0_pay91, k0_pay92, k0_pay93, k0_pay94, k0_pay95, k0_pay96, k0_pay97, k0_pay98, k0_pay99,
      k0_pay100, k0_pay101, k0_pay102, k0_pay103, k0_pay104, k0_pay105, k0_pay106, k0_pay107, k0_pay108, k0_pay109, k0_pay110, k0_pay111,
      k0_pay112]
  rfl
/-- The gradient of the mixing matrices. -/
theorem B_11 (h0 : ¬cond0_0 i) (B : Chunk) (x : Vec Ideal S128x1024 .f32) (o9 o10 : Fin 1024 → ℝ) (o11 : Fin 8 → Fin 128 → Fin 128 → ℝ) (o12 : Fin 8 → Fin 128 → ℝ) :
    out0_B_11 (F := Ideal) c i arg1 harg1 arg2 harg2 arg3 harg3 arg4 harg4 arg5 harg5 arg6 harg6 arg7 harg7
    arg8 harg8 arg9 harg9 arg10 harg10 arg11 harg11 arg12 harg12 arg13 harg13 arg14 harg14
      h0 (T2 B.zu) (T2 B.zv) (T2 B.dy) x (T2 fun _ => B.g) (T2 fun _ => B.b) (T3 B.w)
      (T3 fun h r _ => B.s h r) (T2 fun _ => o9) (T2 fun _ => o10) (T3 o11) (T3 fun h r _ => o12 h r)
      = T3 fun h r d => o11 h r d + B.dw h r d := by
  unfold out0_B_11
  rw [View.read_writes_eq_canon _ _ _ (cover0_B_11 c i arg1 harg1 arg2 harg2 arg3 harg3 arg4 harg4 arg5 harg5 arg6 harg6 arg7 harg7
    arg8 harg8 arg9 harg9 arg10 harg10 arg11 harg11 arg12 harg12 arg13 harg13 arg14 harg14 h0 _ _ _ _ _ _ _ _ _ _ _ _)]
  unfold kernelRun0_B
  dsimp only
  sl_unfold_words
  simp -proj only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread,
      ld_a, ld_a', ld_b, ld_first, ld_first', ld_slab_f32, ld_slab_bf16, truncE, scratch_read, st_b, pay5, pay6, pay7, rstd_form, shapeCast_self,
      constant2, dot_nn, dot_nt, dot_tn, slice2, truncf2, extf2, cast_32, cast_23, cast_col, cast_row, rows1024, rows128, cols1024,
      mulf2, addf2, subf2, tanh2, divf2 _ (1024 : ℝ) (by norm_num), broadcast2, k_a, k_3a, s_half, s_one, s_zero, s_1024, s_gelu, s_eps,
      bcol _ _ (by decide : (128 : ℕ) ≠ 1), brow _ _ (by decide : (1024 : ℕ) ≠ 1),
      k0_pay1, k0_pay2, k0_pay3, k0_pay4, k0_pay8, k0_pay9, k0_pay10, k0_pay11, k0_pay12, k0_pay13, k0_pay14, k0_pay15,
      k0_pay16, k0_pay17, k0_pay18, k0_pay19, k0_pay20, k0_pay21, k0_pay22, k0_pay23, k0_pay24, k0_pay25, k0_pay26, k0_pay27,
      k0_pay28, k0_pay29, k0_pay30, k0_pay31, k0_pay32, k0_pay33, k0_pay34, k0_pay35, k0_pay36, k0_pay37, k0_pay38, k0_pay39,
      k0_pay40, k0_pay41, k0_pay42, k0_pay43, k0_pay44, k0_pay45, k0_pay46, k0_pay47, k0_pay48, k0_pay49, k0_pay50, k0_pay51,
      k0_pay52, k0_pay53, k0_pay54, k0_pay55, k0_pay56, k0_pay57, k0_pay58, k0_pay59, k0_pay60, k0_pay61, k0_pay62, k0_pay63,
      k0_pay64, k0_pay65, k0_pay66, k0_pay67, k0_pay68, k0_pay69, k0_pay70, k0_pay71, k0_pay72, k0_pay73, k0_pay74, k0_pay75,
      k0_pay76, k0_pay77, k0_pay78, k0_pay79, k0_pay80, k0_pay81, k0_pay82, k0_pay83, k0_pay84, k0_pay85, k0_pay86, k0_pay87,
      k0_pay88, k0_pay89, k0_pay90, k0_pay91, k0_pay92, k0_pay93, k0_pay94, k0_pay95, k0_pay96, k0_pay97, k0_pay98, k0_pay99,
      k0_pay100, k0_pay101, k0_pay102, k0_pay103, k0_pay104, k0_pay105, k0_pay106, k0_pay107, k0_pay108, k0_pay109, k0_pay110, k0_pay111,
      k0_pay112]
  exact slabs_w _ _ _ _ _ _ _ _ _ (fun r d => rfl) (fun r d => rfl) (fun r d => rfl) (fun r d => rfl) (fun r d => rfl) (fun r d => rfl) (fun r d => rfl) (fun r d => rfl) _ _ _ _ _ _ _ _
/-- The gradient of the biases. -/
theorem B_12 (h0 : ¬cond0_0 i) (B : Chunk) (x : Vec Ideal S128x1024 .f32) (o9 o10 : Fin 1024 → ℝ) (o11 : Fin 8 → Fin 128 → Fin 128 → ℝ) (o12 : Fin 8 → Fin 128 → ℝ) :
    out0_B_12 (F := Ideal) c i arg1 harg1 arg2 harg2 arg3 harg3 arg4 harg4 arg5 harg5 arg6 harg6 arg7 harg7
    arg8 harg8 arg9 harg9 arg10 harg10 arg11 harg11 arg12 harg12 arg13 harg13 arg14 harg14
      h0 (T2 B.zu) (T2 B.zv) (T2 B.dy) x (T2 fun _ => B.g) (T2 fun _ => B.b) (T3 B.w)
      (T3 fun h r _ => B.s h r) (T2 fun _ => o9) (T2 fun _ => o10) (T3 o11) (T3 fun h r _ => o12 h r)
      = T3 fun h r _ => o12 h r + B.ds h r := by
  unfold out0_B_12
  rw [View.read_writes_eq_canon _ _ _ (cover0_B_12 c i arg1 harg1 arg2 harg2 arg3 harg3 arg4 harg4 arg5 harg5 arg6 harg6 arg7 harg7
    arg8 harg8 arg9 harg9 arg10 harg10 arg11 harg11 arg12 harg12 arg13 harg13 arg14 harg14 h0 _ _ _ _ _ _ _ _ _ _ _ _)]
  unfold kernelRun0_B
  dsimp only
  sl_unfold_words
  simp -proj only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread,
      ld_a, ld_a', ld_b, ld_first, ld_first', ld_slab_f32, ld_slab_bf16, truncE, scratch_read, st_b, pay5, pay6, pay7, rstd_form, shapeCast_self,
      constant2, dot_nn, dot_nt, dot_tn, slice2, truncf2, extf2, cast_32, cast_23, cast_col, cast_row, rows1024, rows128, cols1024,
      mulf2, addf2, subf2, tanh2, divf2 _ (1024 : ℝ) (by norm_num), broadcast2, k_a, k_3a, s_half, s_one, s_zero, s_1024, s_gelu, s_eps,
      bcol _ _ (by decide : (128 : ℕ) ≠ 1), brow _ _ (by decide : (1024 : ℕ) ≠ 1),
      k0_pay1, k0_pay2, k0_pay3, k0_pay4, k0_pay8, k0_pay9, k0_pay10, k0_pay11, k0_pay12, k0_pay13, k0_pay14, k0_pay15,
      k0_pay16, k0_pay17, k0_pay18, k0_pay19, k0_pay20, k0_pay21, k0_pay22, k0_pay23, k0_pay24, k0_pay25, k0_pay26, k0_pay27,
      k0_pay28, k0_pay29, k0_pay30, k0_pay31, k0_pay32, k0_pay33, k0_pay34, k0_pay35, k0_pay36, k0_pay37, k0_pay38, k0_pay39,
      k0_pay40, k0_pay41, k0_pay42, k0_pay43, k0_pay44, k0_pay45, k0_pay46, k0_pay47, k0_pay48, k0_pay49, k0_pay50, k0_pay51,
      k0_pay52, k0_pay53, k0_pay54, k0_pay55, k0_pay56, k0_pay57, k0_pay58, k0_pay59, k0_pay60, k0_pay61, k0_pay62, k0_pay63,
      k0_pay64, k0_pay65, k0_pay66, k0_pay67, k0_pay68, k0_pay69, k0_pay70, k0_pay71, k0_pay72, k0_pay73, k0_pay74, k0_pay75,
      k0_pay76, k0_pay77, k0_pay78, k0_pay79, k0_pay80, k0_pay81, k0_pay82, k0_pay83, k0_pay84, k0_pay85, k0_pay86, k0_pay87,
      k0_pay88, k0_pay89, k0_pay90, k0_pay91, k0_pay92, k0_pay93, k0_pay94, k0_pay95, k0_pay96, k0_pay97, k0_pay98, k0_pay99,
      k0_pay100, k0_pay101, k0_pay102, k0_pay103, k0_pay104, k0_pay105, k0_pay106, k0_pay107, k0_pay108, k0_pay109, k0_pay110, k0_pay111,
      k0_pay112]
  exact slabs_s _ _ _ _ _ _ _ _ _ (fun r d => rfl) (fun r d => rfl) (fun r d => rfl) (fun r d => rfl) (fun r d => rfl) (fun r d => rfl) (fun r d => rfl) (fun r d => rfl) _ _ _ _ _ _ _ _

end Cert.Blocks

end
-- ==== Proof.Fold.lean ====
/- The kernel's five outputs after the last grid point: the rows of the first, chunk by chunk, and the sums over the chunks. -/
module

public import proofs.«01_k».proof.Proof.OutsA
public import proofs.«01_k».proof.Proof.OutsB
public import proofs.«01_k».proof.Proof.Gen.KernelIdeal.Value

@[expose] public section

set_option maxRecDepth 16384

noncomputable section

open scoped BigOperators

namespace Cert.Gate

/-- The arrays of the whole call: the projection, the gradient that arrives, the layer norm's scale and shift, the masked
    mixing matrices and their biases. -/
structure Data where
  z : Fin 2048 → Fin 3072 → ℝ
  dy : Fin 2048 → Fin 1024 → ℝ
  g : Fin 1024 → ℝ
  b : Fin 1024 → ℝ
  w : Fin 8 → Fin 128 → Fin 128 → ℝ
  s : Fin 8 → Fin 128 → ℝ

/-- Row `r` of chunk `n`. -/
def row (n : Fin 16) (r : Fin 128) : Fin 2048 := ⟨128 * n.val + r.val, by omega⟩
/-- The chunk of a row … -/
def ck (R : Fin 2048) : Fin 16 := ⟨R.val / 128, by omega⟩
/-- … and its place in the chunk. -/
def rk (R : Fin 2048) : Fin 128 := ⟨R.val % 128, by omega⟩

theorem ck_row (n : Fin 16) (r : Fin 128) : ck (row n r) = n := Fin.ext (by
  show (128 * n.val + r.val) / 128 = n.val; omega)
theorem rk_row (n : Fin 16) (r : Fin 128) : rk (row n r) = r := Fin.ext (by
  show (128 * n.val + r.val) % 128 = r.val; omega)
theorem row_ck_rk (R : Fin 2048) : row (ck R) (rk R) = R := Fin.ext (by
  show 128 * (R.val / 128) + R.val % 128 = R.val; omega)

/-- Chunk `n`: 128 rows. -/
def Data.chunk (D : Data) (n : Fin 16) : Chunk where
  zu r j := D.z (row n r) ⟨1024 + j.val, by omega⟩
  zv r j := D.z (row n r) ⟨2048 + j.val, by omega⟩
  dy r j := D.dy (row n r) j
  g := D.g
  b := D.b
  w := D.w
  s := D.s

/-- A sum over the chunks up to `n`, in the kernel's order. -/
def upto (f : Fin 16 → ℝ) : (n : ℕ) → n < 16 → ℝ
  | 0, h => 0 + f ⟨0, h⟩
  | n + 1, h => upto f n (by omega) + f ⟨n + 1, h⟩

theorem upto_last (f : Fin 16 → ℝ) (h : 15 < 16) : upto f 15 h = ∑ n, f n := by
  simp only [upto, Fin.sum_univ_succ, Finset.univ_eq_empty, Finset.sum_empty]
  simp only [Fin.succ, Fin.zero_eta, Fin.mk_one]
  norm_num
  ring_nf

end Cert.Gate

namespace Cert.Fold

open Idealize.ShloMosaic Idealize.ShloMosaic.ValueIdx Idealize.ShloMosaic.TcCoe Idealize.SL.Sem
open Idealize.ShloMosaic.Pipeline (Dat)
open Cert.KernelIdeal Cert.KernelIdeal.Gen Cert.Forms Cert.Gate Cert.Blocks

/-- The grid point as a chunk. -/
def pt (t : Fin cfg0.N) : Fin 16 := ⟨t.val, lt_of_lt_of_eq t.isLt N_0⟩

variable (m : (ℓ : Loc nD τ sig) → Buf (Elt Ideal) ℓ) (c : Dev nD) (D : Data)

/-! ## What the windows read -/

theorem iblk0 (h : V m c main_arg0 = T2 D.z) (t : Fin cfg0.N) :
    (iblk m c 0 t : Vec Ideal S128x1024 .f32) = T2 (D.chunk (pt t)).zu := by
  have hi : win0_0.index t 0 = t.val ∧ win0_0.index t 1 = 1 := by
    rcases fin_N0 t with rfl | rfl | rfl | rfl | rfl | rfl | rfl | rfl | rfl | rfl | rfl | rfl | rfl | rfl | rfl | rfl <;> decide
  funext j
  unfold iblk
  rw [View.read_apply]
  show V m c main_arg0 _ = _
  rw [h]
  refine congrArg (Real.toEReal) (congrArg₂ D.z (Fin.ext ?_) (Fin.ext ?_))
  · show win0_0.index t 0 * 128 + 1 * (j 0).val = 128 * t.val + (j 0).val; rw [hi.1]; omega
  · show win0_0.index t 1 * 1024 + 1 * (j 1).val = 1024 + (j 1).val; rw [hi.2]; omega

theorem iblk1 (h : V m c main_arg0 = T2 D.z) (t : Fin cfg0.N) :
    (iblk m c 1 t : Vec Ideal S128x1024 .f32) = T2 (D.chunk (pt t)).zv := by
  have hi : win0_1.index t 0 = t.val ∧ win0_1.index t 1 = 2 := by
    rcases fin_N0 t with rfl | rfl | rfl | rfl | rfl | rfl | rfl | rfl | rfl | rfl | rfl | rfl | rfl | rfl | rfl | rfl <;> decide
  funext j
  unfold iblk
  rw [View.read_apply]
  show V m c main_arg0 _ = _
  rw [h]
  refine congrArg (Real.toEReal) (congrArg₂ D.z (Fin.ext ?_) (Fin.ext ?_))
  · show win0_1.index t 0 * 128 + 1 * (j 0).val = 128 * t.val + (j 0).val; rw [hi.1]; omega
  · show win0_1.index t 1 * 1024 + 1 * (j 1).val = 2048 + (j 1).val; rw [hi.2]; omega

theorem iblk2 (h : V m c main_arg1 = T2 D.dy) (t : Fin cfg0.N) :
    (iblk m c 2 t : Vec Ideal S128x1024 .f32) = T2 (D.chunk (pt t)).dy := by
  have hi : win0_2.index t 0 = t.val ∧ win0_2.index t 1 = 0 := by
    rcases fin_N0 t with rfl | rfl | rfl | rfl | rfl | rfl | rfl | rfl | rfl | rfl | rfl | rfl | rfl | rfl | rfl | rfl <;> decide
  funext j
  unfold iblk
  rw [View.read_apply]
  show V m c main_arg1 _ = _
  rw [h]
  refine congrArg (Real.toEReal) (congrArg₂ D.dy (Fin.ext ?_) (Fin.ext ?_))
  · show win0_2.index t 0 * 128 + 1 * (j 0).val = 128 * t.val + (j 0).val; rw [hi.1]; omega
  · show win0_2.index t 1 * 1024 + 1 * (j 1).val = (j 1).val; rw [hi.2]; omega

/-- The rows that pass through. -/
def pass (X : S2048x1024.Idx → EReal) (n : Fin 16) : S128x1024.Idx → EReal := fun j => X (ix2 (row n (j 0)) (j 1))

theorem iblk3 (X : S2048x1024.Idx → EReal) (h : V m c main_arg2 = X) (t : Fin cfg0.N) :
    (iblk m c 3 t : Vec Ideal S128x1024 .f32) = pass X (pt t) := by
  have hi : win0_3.index t 0 = t.val ∧ win0_3.index t 1 = 0 := by
    rcases fin_N0 t with rfl | rfl | rfl | rfl | rfl | rfl | rfl | rfl | rfl | rfl | rfl | rfl | rfl | rfl | rfl | rfl <;> decide
  funext j
  unfold iblk
  rw [View.read_apply]
  show V m c main_arg2 _ = _
  rw [h]
  refine congrArg X (funext fun a => Fin.ext ?_)
  match a with
  | ⟨0, _⟩ => show win0_3.index t 0 * 128 + 1 * (j 0).val = 128 * t.val + (j 0).val; rw [hi.1]; omega
  | ⟨1, _⟩ => show win0_3.index t 1 * 1024 + 1 * (j 1).val = (j 1).val; rw [hi.2]; omega

theorem iblk4 (X : S1x1024.Idx → EReal) (h : V m c main_arg3 = X) (t : Fin cfg0.N) :
    (iblk m c 4 t : Vec Ideal S1x1024 .f32) = X := by
  have hi : win0_4.index t 0 = 0 ∧ win0_4.index t 1 = 0 := by
    rcases fin_N0 t with rfl | rfl | rfl | rfl | rfl | rfl | rfl | rfl | rfl | rfl | rfl | rfl | rfl | rfl | rfl | rfl <;> decide
  funext j
  unfold iblk
  rw [View.read_apply]
  show V m c main_arg3 _ = _
  rw [h]
  refine congrArg X (funext fun a => Fin.ext ?_)
  match a with
  | ⟨0, _⟩ => show win0_4.index t 0 * 1 + 1 * (j 0).val = (j 0).val; rw [hi.1]; omega
  | ⟨1, _⟩ => show win0_4.index t 1 * 1024 + 1 * (j 1).val = (j 1).val; rw [hi.2]; omega

theorem iblk5 (X : S1x1024.Idx → EReal) (h : V m c main_arg4 = X) (t : Fin cfg0.N) :
    (iblk m c 5 t : Vec Ideal S1x1024 .f32) = X := by
  have hi : win0_5.index t 0 = 0 ∧ win0_5.index t 1 = 0 := by
    rcases fin_N0 t with rfl | rfl | rfl | rfl | rfl | rfl | rfl | rfl | rfl | rfl | rfl | rfl | rfl | rfl | rfl | rfl <;> decide
  funext j
  unfold iblk
  rw [View.read_apply]
  show V m c main_arg4 _ = _
  rw [h]
  refine congrArg X (funext fun a => Fin.ext ?_)
  match a with
  | ⟨0, _⟩ => show win0_5.index t 0 * 1 + 1 * (j 0).val = (j 0).val; rw [hi.1]; omega
  | ⟨1, _⟩ => show win0_5.index t 1 * 1024 + 1 * (j 1).val = (j 1).val; rw [hi.2]; omega

theorem iblk6 (X : S8x128x128.Idx → EReal) (h : V m c main_v5 = X) (t : Fin cfg0.N) :
    (iblk m c 6 t : Vec Ideal S8x128x128 .bf16) = X := by
  have hi : win0_6.index t 0 = 0 ∧ win0_6.index t 1 = 0 ∧ win0_6.index t 2 = 0 := by
    rcases fin_N0 t with rfl | rfl | rfl | rfl | rfl | rfl | rfl | rfl | rfl | rfl | rfl | rfl | rfl | rfl | rfl | rfl <;> decide
  funext j
  unfold iblk
  rw [View.read_apply]
  show V m c main_v5 _ = _
  rw [h]
  refine congrArg X (funext fun a => Fin.ext ?_)
  match a with
  | ⟨0, _⟩ => show win0_6.index t 0 * 8 + 1 * (j 0).val = (j 0).val; rw [hi.1]; omega
  | ⟨1, _⟩ => show win0_6.index t 1 * 128 + 1 * (j 1).val = (j 1).val; rw [hi.2.1]; omega
  | ⟨2, _⟩ => show win0_6.index t 2 * 128 + 1 * (j 2).val = (j 2).val; rw [hi.2.2]; omega

theorem iblk7 (X : S8x128x1.Idx → EReal) (h : V m c main_v6 = X) (t : Fin cfg0.N) :
    (iblk m c 7 t : Vec Ideal S8x128x1 .f32) = X := by
  have hi : win0_7.index t 0 = 0 ∧ win0_7.index t 1 = 0 ∧ win0_7.index t 2 = 0 := by
    rcases fin_N0 t with rfl | rfl | rfl | rfl | rfl | rfl | rfl | rfl | rfl | rfl | rfl | rfl | rfl | rfl | rfl | rfl <;> decide
  funext j
  unfold iblk
  rw [View.read_apply]
  show V m c main_v6 _ = _
  rw [h]
  refine congrArg X (funext fun a => Fin.ext ?_)
  match a with
  | ⟨0, _⟩ => show win0_7.index t 0 * 8 + 1 * (j 0).val = (j 0).val; rw [hi.1]; omega
  | ⟨1, _⟩ => show win0_7.index t 1 * 128 + 1 * (j 1).val = (j 1).val; rw [hi.2.1]; omega
  | ⟨2, _⟩ => show win0_7.index t 2 * 1 + 1 * (j 2).val = (j 2).val; rw [hi.2.2]; omega

/-- What the region finds in the windows' arrays. -/
structure Found (X : S2048x1024.Idx → EReal) : Prop where
  z : V m c main_arg0 = T2 D.z
  dy : V m c main_arg1 = T2 D.dy
  x : V m c main_arg2 = X
  g : V m c main_arg3 = T2 fun (_ : Fin 1) => D.g
  b : V m c main_arg4 = T2 fun (_ : Fin 1) => D.b
  w : V m c main_v5 = T3 D.w
  s : V m c main_v6 = T3 fun h r (_ : Fin 1) => D.s h r

variable (X : S2048x1024.Idx → EReal)

/-! ## One grid point's step of each output -/

theorem stepA_8 (t : Fin cfg0.N) (h0 : cond0_0 (grid0.coords t))
    (v0 : Vec Ideal S128x1024 .f32) (e0 : v0 = T2 (D.chunk (pt t)).zu)
    (v1 : Vec Ideal S128x1024 .f32) (e1 : v1 = T2 (D.chunk (pt t)).zv)
    (v2 : Vec Ideal S128x1024 .f32) (e2 : v2 = T2 (D.chunk (pt t)).dy)
    (v3 : Vec Ideal S128x1024 .f32) (e3 : v3 = pass X (pt t))
    (v4 : Vec Ideal S1x1024 .f32) (e4 : v4 = T2 fun (_ : Fin 1) => (D.chunk (pt t)).g)
    (v5 : Vec Ideal S1x1024 .f32) (e5 : v5 = T2 fun (_ : Fin 1) => (D.chunk (pt t)).b)
    (v6 : Vec Ideal S8x128x128 .bf16) (e6 : v6 = T3 (D.chunk (pt t)).w)
    (v7 : Vec Ideal S8x128x1 .f32) (e7 : v7 = T3 fun h r (_ : Fin 1) => (D.chunk (pt t)).s h r) :
    out0_A_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) h0 v0 v1 v2 v3 v4 v5 v6 v7
      = fun y : S128x3072.Idx => outRow (D.chunk (pt t)) (pass X (pt t)) (y 0) (y 1) := by
  subst e0 e1 e2 e3 e4 e5 e6 e7
  exact A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) h0 (D.chunk (pt t)) (pass X (pt t))

theorem stepB_8 (t : Fin cfg0.N) (h0 : ¬cond0_0 (grid0.coords t)) (o9 o10 : Fin 1024 → ℝ) (o11 : Fin 8 → Fin 128 → Fin 128 → ℝ) (o12 : Fin 8 → Fin 128 → ℝ)
    (v0 : Vec Ideal S128x1024 .f32) (e0 : v0 = T2 (D.chunk (pt t)).zu)
    (v1 : Vec Ideal S128x1024 .f32) (e1 : v1 = T2 (D.chunk (pt t)).zv)
    (v2 : Vec Ideal S128x1024 .f32) (e2 : v2 = T2 (D.chunk (pt t)).dy)
    (v3 : Vec Ideal S128x1024 .f32) (e3 : v3 = pass X (pt t))
    (v4 : Vec Ideal S1x1024 .f32) (e4 : v4 = T2 fun (_ : Fin 1) => (D.chunk (pt t)).g)
    (v5 : Vec Ideal S1x1024 .f32) (e5 : v5 = T2 fun (_ : Fin 1) => (D.chunk (pt t)).b)
    (v6 : Vec Ideal S8x128x128 .bf16) (e6 : v6 = T3 (D.chunk (pt t)).w)
    (v7 : Vec Ideal S8x128x1 .f32) (e7 : v7 = T3 fun h r (_ : Fin 1) => (D.chunk (pt t)).s h r)
    (w9 : Vec Ideal S1x1024 .f32) (f9 : w9 = T2 fun (_ : Fin 1) => o9)
    (w10 : Vec Ideal S1x1024 .f32) (f10 : w10 = T2 fun (_ : Fin 1) => o10)
    (w11 : Vec Ideal S8x128x128 .f32) (f11 : w11 = T3 o11)
    (w12 : Vec Ideal S8x128x1 .f32) (f12 : w12 = T3 fun h r (_ : Fin 1) => o12 h r) :
    out0_B_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) h0 v0 v1 v2 v3 v4 v5 v6 v7 w9 w10 w11 w12
      = fun y : S128x3072.Idx => outRow (D.chunk (pt t)) (pass X (pt t)) (y 0) (y 1) := by
  subst e0 e1 e2 e3 e4 e5 e6 e7 f9 f10 f11 f12
  exact B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) h0 (D.chunk (pt t)) (pass X (pt t)) o9 o10 o11 o12

theorem stepA_9 (t : Fin cfg0.N) (h0 : cond0_0 (grid0.coords t))
    (v0 : Vec Ideal S128x1024 .f32) (e0 : v0 = T2 (D.chunk (pt t)).zu)
    (v1 : Vec Ideal S128x1024 .f32) (e1 : v1 = T2 (D.chunk (pt t)).zv)
    (v2 : Vec Ideal S128x1024 .f32) (e2 : v2 = T2 (D.chunk (pt t)).dy)
    (v3 : Vec Ideal S128x1024 .f32) (e3 : v3 = pass X (pt t))
    (v4 : Vec Ideal S1x1024 .f32) (e4 : v4 = T2 fun (_ : Fin 1) => (D.chunk (pt t)).g)
    (v5 : Vec Ideal S1x1024 .f32) (e5 : v5 = T2 fun (_ : Fin 1) => (D.chunk (pt t)).b)
    (v6 : Vec Ideal S8x128x128 .bf16) (e6 : v6 = T3 (D.chunk (pt t)).w)
    (v7 : Vec Ideal S8x128x1 .f32) (e7 : v7 = T3 fun h r (_ : Fin 1) => (D.chunk (pt t)).s h r) :
    out0_A_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) h0 v0 v1 v2 v3 v4 v5 v6 v7
      = T2 fun (_ : Fin 1) j => 0 + (D.chunk (pt t)).dg j := by
  subst e0 e1 e2 e3 e4 e5 e6 e7
  exact A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) h0 (D.chunk (pt t)) (pass X (pt t))

theorem stepB_9 (t : Fin cfg0.N) (h0 : ¬cond0_0 (grid0.coords t)) (o9 o10 : Fin 1024 → ℝ) (o11 : Fin 8 → Fin 128 → Fin 128 → ℝ) (o12 : Fin 8 → Fin 128 → ℝ)
    (v0 : Vec Ideal S128x1024 .f32) (e0 : v0 = T2 (D.chunk (pt t)).zu)
    (v1 : Vec Ideal S128x1024 .f32) (e1 : v1 = T2 (D.chunk (pt t)).zv)
    (v2 : Vec Ideal S128x1024 .f32) (e2 : v2 = T2 (D.chunk (pt t)).dy)
    (v3 : Vec Ideal S128x1024 .f32) (e3 : v3 = pass X (pt t))
    (v4 : Vec Ideal S1x1024 .f32) (e4 : v4 = T2 fun (_ : Fin 1) => (D.chunk (pt t)).g)
    (v5 : Vec Ideal S1x1024 .f32) (e5 : v5 = T2 fun (_ : Fin 1) => (D.chunk (pt t)).b)
    (v6 : Vec Ideal S8x128x128 .bf16) (e6 : v6 = T3 (D.chunk (pt t)).w)
    (v7 : Vec Ideal S8x128x1 .f32) (e7 : v7 = T3 fun h r (_ : Fin 1) => (D.chunk (pt t)).s h r)
    (w9 : Vec Ideal S1x1024 .f32) (f9 : w9 = T2 fun (_ : Fin 1) => o9)
    (w10 : Vec Ideal S1x1024 .f32) (f10 : w10 = T2 fun (_ : Fin 1) => o10)
    (w11 : Vec Ideal S8x128x128 .f32) (f11 : w11 = T3 o11)
    (w12 : Vec Ideal S8x128x1 .f32) (f12 : w12 = T3 fun h r (_ : Fin 1) => o12 h r) :
    out0_B_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) h0 v0 v1 v2 v3 v4 v5 v6 v7 w9 w10 w11 w12
      = T2 fun (_ : Fin 1) j => o9 j + (D.chunk (pt t)).dg j := by
  subst e0 e1 e2 e3 e4 e5 e6 e7 f9 f10 f11 f12
  exact B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) h0 (D.chunk (pt t)) (pass X (pt t)) o9 o10 o11 o12

theorem stepA_10 (t : Fin cfg0.N) (h0 : cond0_0 (grid0.coords t))
    (v0 : Vec Ideal S128x1024 .f32) (e0 : v0 = T2 (D.chunk (pt t)).zu)
    (v1 : Vec Ideal S128x1024 .f32) (e1 : v1 = T2 (D.chunk (pt t)).zv)
    (v2 : Vec Ideal S128x1024 .f32) (e2 : v2 = T2 (D.chunk (pt t)).dy)
    (v3 : Vec Ideal S128x1024 .f32) (e3 : v3 = pass X (pt t))
    (v4 : Vec Ideal S1x1024 .f32) (e4 : v4 = T2 fun (_ : Fin 1) => (D.chunk (pt t)).g)
    (v5 : Vec Ideal S1x1024 .f32) (e5 : v5 = T2 fun (_ : Fin 1) => (D.chunk (pt t)).b)
    (v6 : Vec Ideal S8x128x128 .bf16) (e6 : v6 = T3 (D.chunk (pt t)).w)
    (v7 : Vec Ideal S8x128x1 .f32) (e7 : v7 = T3 fun h r (_ : Fin 1) => (D.chunk (pt t)).s h r) :
    out0_A_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) h0 v0 v1 v2 v3 v4 v5 v6 v7
      = T2 fun (_ : Fin 1) j => 0 + (D.chunk (pt t)).db j := by
  subst e0 e1 e2 e3 e4 e5 e6 e7
  exact A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) h0 (D.chunk (pt t)) (pass X (pt t))

theorem stepB_10 (t : Fin cfg0.N) (h0 : ¬cond0_0 (grid0.coords t)) (o9 o10 : Fin 1024 → ℝ) (o11 : Fin 8 → Fin 128 → Fin 128 → ℝ) (o12 : Fin 8 → Fin 128 → ℝ)
    (v0 : Vec Ideal S128x1024 .f32) (e0 : v0 = T2 (D.chunk (pt t)).zu)
    (v1 : Vec Ideal S128x1024 .f32) (e1 : v1 = T2 (D.chunk (pt t)).zv)
    (v2 : Vec Ideal S128x1024 .f32) (e2 : v2 = T2 (D.chunk (pt t)).dy)
    (v3 : Vec Ideal S128x1024 .f32) (e3 : v3 = pass X (pt t))
    (v4 : Vec Ideal S1x1024 .f32) (e4 : v4 = T2 fun (_ : Fin 1) => (D.chunk (pt t)).g)
    (v5 : Vec Ideal S1x1024 .f32) (e5 : v5 = T2 fun (_ : Fin 1) => (D.chunk (pt t)).b)
    (v6 : Vec Ideal S8x128x128 .bf16) (e6 : v6 = T3 (D.chunk (pt t)).w)
    (v7 : Vec Ideal S8x128x1 .f32) (e7 : v7 = T3 fun h r (_ : Fin 1) => (D.chunk (pt t)).s h r)
    (w9 : Vec Ideal S1x1024 .f32) (f9 : w9 = T2 fun (_ : Fin 1) => o9)
    (w10 : Vec Ideal S1x1024 .f32) (f10 : w10 = T2 fun (_ : Fin 1) => o10)
    (w11 : Vec Ideal S8x128x128 .f32) (f11 : w11 = T3 o11)
    (w12 : Vec Ideal S8x128x1 .f32) (f12 : w12 = T3 fun h r (_ : Fin 1) => o12 h r) :
    out0_B_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) h0 v0 v1 v2 v3 v4 v5 v6 v7 w9 w10 w11 w12
      = T2 fun (_ : Fin 1) j => o10 j + (D.chunk (pt t)).db j := by
  subst e0 e1 e2 e3 e4 e5 e6 e7 f9 f10 f11 f12
  exact B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) h0 (D.chunk (pt t)) (pass X (pt t)) o9 o10 o11 o12

theorem stepA_11 (t : Fin cfg0.N) (h0 : cond0_0 (grid0.coords t))
    (v0 : Vec Ideal S128x1024 .f32) (e0 : v0 = T2 (D.chunk (pt t)).zu)
    (v1 : Vec Ideal S128x1024 .f32) (e1 : v1 = T2 (D.chunk (pt t)).zv)
    (v2 : Vec Ideal S128x1024 .f32) (e2 : v2 = T2 (D.chunk (pt t)).dy)
    (v3 : Vec Ideal S128x1024 .f32) (e3 : v3 = pass X (pt t))
    (v4 : Vec Ideal S1x1024 .f32) (e4 : v4 = T2 fun (_ : Fin 1) => (D.chunk (pt t)).g)
    (v5 : Vec Ideal S1x1024 .f32) (e5 : v5 = T2 fun (_ : Fin 1) => (D.chunk (pt t)).b)
    (v6 : Vec Ideal S8x128x128 .bf16) (e6 : v6 = T3 (D.chunk (pt t)).w)
    (v7 : Vec Ideal S8x128x1 .f32) (e7 : v7 = T3 fun h r (_ : Fin 1) => (D.chunk (pt t)).s h r) :
    out0_A_11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) h0 v0 v1 v2 v3 v4 v5 v6 v7
      = T3 fun h r d => 0 + (D.chunk (pt t)).dw h r d := by
  subst e0 e1 e2 e3 e4 e5 e6 e7
  exact A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) h0 (D.chunk (pt t)) (pass X (pt t))

theorem stepB_11 (t : Fin cfg0.N) (h0 : ¬cond0_0 (grid0.coords t)) (o9 o10 : Fin 1024 → ℝ) (o11 : Fin 8 → Fin 128 → Fin 128 → ℝ) (o12 : Fin 8 → Fin 128 → ℝ)
    (v0 : Vec Ideal S128x1024 .f32) (e0 : v0 = T2 (D.chunk (pt t)).zu)
    (v1 : Vec Ideal S128x1024 .f32) (e1 : v1 = T2 (D.chunk (pt t)).zv)
    (v2 : Vec Ideal S128x1024 .f32) (e2 : v2 = T2 (D.chunk (pt t)).dy)
    (v3 : Vec Ideal S128x1024 .f32) (e3 : v3 = pass X (pt t))
    (v4 : Vec Ideal S1x1024 .f32) (e4 : v4 = T2 fun (_ : Fin 1) => (D.chunk (pt t)).g)
    (v5 : Vec Ideal S1x1024 .f32) (e5 : v5 = T2 fun (_ : Fin 1) => (D.chunk (pt t)).b)
    (v6 : Vec Ideal S8x128x128 .bf16) (e6 : v6 = T3 (D.chunk (pt t)).w)
    (v7 : Vec Ideal S8x128x1 .f32) (e7 : v7 = T3 fun h r (_ : Fin 1) => (D.chunk (pt t)).s h r)
    (w9 : Vec Ideal S1x1024 .f32) (f9 : w9 = T2 fun (_ : Fin 1) => o9)
    (w10 : Vec Ideal S1x1024 .f32) (f10 : w10 = T2 fun (_ : Fin 1) => o10)
    (w11 : Vec Ideal S8x128x128 .f32) (f11 : w11 = T3 o11)
    (w12 : Vec Ideal S8x128x1 .f32) (f12 : w12 = T3 fun h r (_ : Fin 1) => o12 h r) :
    out0_B_11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) h0 v0 v1 v2 v3 v4 v5 v6 v7 w9 w10 w11 w12
      = T3 fun h r d => o11 h r d + (D.chunk (pt t)).dw h r d := by
  subst e0 e1 e2 e3 e4 e5 e6 e7 f9 f10 f11 f12
  exact B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) h0 (D.chunk (pt t)) (pass X (pt t)) o9 o10 o11 o12

theorem stepA_12 (t : Fin cfg0.N) (h0 : cond0_0 (grid0.coords t))
    (v0 : Vec Ideal S128x1024 .f32) (e0 : v0 = T2 (D.chunk (pt t)).zu)
    (v1 : Vec Ideal S128x1024 .f32) (e1 : v1 = T2 (D.chunk (pt t)).zv)
    (v2 : Vec Ideal S128x1024 .f32) (e2 : v2 = T2 (D.chunk (pt t)).dy)
    (v3 : Vec Ideal S128x1024 .f32) (e3 : v3 = pass X (pt t))
    (v4 : Vec Ideal S1x1024 .f32) (e4 : v4 = T2 fun (_ : Fin 1) => (D.chunk (pt t)).g)
    (v5 : Vec Ideal S1x1024 .f32) (e5 : v5 = T2 fun (_ : Fin 1) => (D.chunk (pt t)).b)
    (v6 : Vec Ideal S8x128x128 .bf16) (e6 : v6 = T3 (D.chunk (pt t)).w)
    (v7 : Vec Ideal S8x128x1 .f32) (e7 : v7 = T3 fun h r (_ : Fin 1) => (D.chunk (pt t)).s h r) :
    out0_A_12 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) h0 v0 v1 v2 v3 v4 v5 v6 v7
      = T3 fun h r (_ : Fin 1) => 0 + (D.chunk (pt t)).ds h r := by
  subst e0 e1 e2 e3 e4 e5 e6 e7
  exact A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) h0 (D.chunk (pt t)) (pass X (pt t))

theorem stepB_12 (t : Fin cfg0.N) (h0 : ¬cond0_0 (grid0.coords t)) (o9 o10 : Fin 1024 → ℝ) (o11 : Fin 8 → Fin 128 → Fin 128 → ℝ) (o12 : Fin 8 → Fin 128 → ℝ)
    (v0 : Vec Ideal S128x1024 .f32) (e0 : v0 = T2 (D.chunk (pt t)).zu)
    (v1 : Vec Ideal S128x1024 .f32) (e1 : v1 = T2 (D.chunk (pt t)).zv)
    (v2 : Vec Ideal S128x1024 .f32) (e2 : v2 = T2 (D.chunk (pt t)).dy)
    (v3 : Vec Ideal S128x1024 .f32) (e3 : v3 = pass X (pt t))
    (v4 : Vec Ideal S1x1024 .f32) (e4 : v4 = T2 fun (_ : Fin 1) => (D.chunk (pt t)).g)
    (v5 : Vec Ideal S1x1024 .f32) (e5 : v5 = T2 fun (_ : Fin 1) => (D.chunk (pt t)).b)
    (v6 : Vec Ideal S8x128x128 .bf16) (e6 : v6 = T3 (D.chunk (pt t)).w)
    (v7 : Vec Ideal S8x128x1 .f32) (e7 : v7 = T3 fun h r (_ : Fin 1) => (D.chunk (pt t)).s h r)
    (w9 : Vec Ideal S1x1024 .f32) (f9 : w9 = T2 fun (_ : Fin 1) => o9)
    (w10 : Vec Ideal S1x1024 .f32) (f10 : w10 = T2 fun (_ : Fin 1) => o10)
    (w11 : Vec Ideal S8x128x128 .f32) (f11 : w11 = T3 o11)
    (w12 : Vec Ideal S8x128x1 .f32) (f12 : w12 = T3 fun h r (_ : Fin 1) => o12 h r) :
    out0_B_12 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) h0 v0 v1 v2 v3 v4 v5 v6 v7 w9 w10 w11 w12
      = T3 fun h r (_ : Fin 1) => o12 h r + (D.chunk (pt t)).ds h r := by
  subst e0 e1 e2 e3 e4 e5 e6 e7 f9 f10 f11 f12
  exact B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) h0 (D.chunk (pt t)) (pass X (pt t)) o9 o10 o11 o12

omit D in
theorem after8A (t : Fin cfg0.N) (h0 : t.val % 16 = 0) :
    (outsAt0 m c t.val t.isLt).1 = out0_A_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) := by
  rw [outsAt0_A m c t h0]
omit D in
theorem after8B (t : Fin cfg0.N) (h0 : ¬t.val % 16 = 0) :
    (outsAt0 m c t.val t.isLt).1 = out0_B_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t)
      (outsAt0 m c (t.val - 1) (Nat.lt_of_le_of_lt (Nat.sub_le _ _) t.isLt)).2.1 (outsAt0 m c (t.val - 1) (Nat.lt_of_le_of_lt (Nat.sub_le _ _) t.isLt)).2.2.1
      (outsAt0 m c (t.val - 1) (Nat.lt_of_le_of_lt (Nat.sub_le _ _) t.isLt)).2.2.2.1 (outsAt0 m c (t.val - 1) (Nat.lt_of_le_of_lt (Nat.sub_le _ _) t.isLt)).2.2.2.2 := by
  rw [outsAt0_B m c t h0]

omit D in
theorem after9A (t : Fin cfg0.N) (h0 : t.val % 16 = 0) :
    (outsAt0 m c t.val t.isLt).2.1 = out0_A_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) := by
  rw [outsAt0_A m c t h0]
omit D in
theorem after9B (t : Fin cfg0.N) (h0 : ¬t.val % 16 = 0) :
    (outsAt0 m c t.val t.isLt).2.1 = out0_B_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t)
      (outsAt0 m c (t.val - 1) (Nat.lt_of_le_of_lt (Nat.sub_le _ _) t.isLt)).2.1 (outsAt0 m c (t.val - 1) (Nat.lt_of_le_of_lt (Nat.sub_le _ _) t.isLt)).2.2.1
      (outsAt0 m c (t.val - 1) (Nat.lt_of_le_of_lt (Nat.sub_le _ _) t.isLt)).2.2.2.1 (outsAt0 m c (t.val - 1) (Nat.lt_of_le_of_lt (Nat.sub_le _ _) t.isLt)).2.2.2.2 := by
  rw [outsAt0_B m c t h0]

omit D in
theorem after10A (t : Fin cfg0.N) (h0 : t.val % 16 = 0) :
    (outsAt0 m c t.val t.isLt).2.2.1 = out0_A_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) := by
  rw [outsAt0_A m c t h0]
omit D in
theorem after10B (t : Fin cfg0.N) (h0 : ¬t.val % 16 = 0) :
    (outsAt0 m c t.val t.isLt).2.2.1 = out0_B_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t)
      (outsAt0 m c (t.val - 1) (Nat.lt_of_le_of_lt (Nat.sub_le _ _) t.isLt)).2.1 (outsAt0 m c (t.val - 1) (Nat.lt_of_le_of_lt (Nat.sub_le _ _) t.isLt)).2.2.1
      (outsAt0 m c (t.val - 1) (Nat.lt_of_le_of_lt (Nat.sub_le _ _) t.isLt)).2.2.2.1 (outsAt0 m c (t.val - 1) (Nat.lt_of_le_of_lt (Nat.sub_le _ _) t.isLt)).2.2.2.2 := by
  rw [outsAt0_B m c t h0]

omit D in
theorem after11A (t : Fin cfg0.N) (h0 : t.val % 16 = 0) :
    (outsAt0 m c t.val t.isLt).2.2.2.1 = out0_A_11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) := by
  rw [outsAt0_A m c t h0]
omit D in
theorem after11B (t : Fin cfg0.N) (h0 : ¬t.val % 16 = 0) :
    (outsAt0 m c t.val t.isLt).2.2.2.1 = out0_B_11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t)
      (outsAt0 m c (t.val - 1) (Nat.lt_of_le_of_lt (Nat.sub_le _ _) t.isLt)).2.1 (outsAt0 m c (t.val - 1) (Nat.lt_of_le_of_lt (Nat.sub_le _ _) t.isLt)).2.2.1
      (outsAt0 m c (t.val - 1) (Nat.lt_of_le_of_lt (Nat.sub_le _ _) t.isLt)).2.2.2.1 (outsAt0 m c (t.val - 1) (Nat.lt_of_le_of_lt (Nat.sub_le _ _) t.isLt)).2.2.2.2 := by
  rw [outsAt0_B m c t h0]

omit D in
theorem after12A (t : Fin cfg0.N) (h0 : t.val % 16 = 0) :
    (outsAt0 m c t.val t.isLt).2.2.2.2 = out0_A_12 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) := by
  rw [outsAt0_A m c t h0]
omit D in
theorem after12B (t : Fin cfg0.N) (h0 : ¬t.val % 16 = 0) :
    (outsAt0 m c t.val t.isLt).2.2.2.2 = out0_B_12 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t)
      (outsAt0 m c (t.val - 1) (Nat.lt_of_le_of_lt (Nat.sub_le _ _) t.isLt)).2.1 (outsAt0 m c (t.val - 1) (Nat.lt_of_le_of_lt (Nat.sub_le _ _) t.isLt)).2.2.1
      (outsAt0 m c (t.val - 1) (Nat.lt_of_le_of_lt (Nat.sub_le _ _) t.isLt)).2.2.2.1 (outsAt0 m c (t.val - 1) (Nat.lt_of_le_of_lt (Nat.sub_le _ _) t.isLt)).2.2.2.2 := by
  rw [outsAt0_B m c t h0]

/-! ## The staging buffers after each point -/

/-- The four sums after point `n`. -/
def sum9 (D : Data) (n : ℕ) (h : n < 16) (j : Fin 1024) : ℝ := upto (fun k => (D.chunk k).dg j) n h
def sum10 (D : Data) (n : ℕ) (h : n < 16) (j : Fin 1024) : ℝ := upto (fun k => (D.chunk k).db j) n h
def sum11 (D : Data) (n : ℕ) (h : n < 16) (a : Fin 8) (r d : Fin 128) : ℝ := upto (fun k => (D.chunk k).dw a r d) n h
def sum12 (D : Data) (n : ℕ) (h : n < 16) (a : Fin 8) (r : Fin 128) : ℝ := upto (fun k => (D.chunk k).ds a r) n h

variable {m c D}
variable {X} (H : Found m c D X)
include H

theorem outs (n : ℕ) (h : n < cfg0.N) (h' : n < 16) :
    (outsAt0 m c n h).2.1 = T2 (fun (_ : Fin 1) j => sum9 D n h' j)
    ∧ (outsAt0 m c n h).2.2.1 = T2 (fun (_ : Fin 1) j => sum10 D n h' j)
    ∧ (outsAt0 m c n h).2.2.2.1 = T3 (sum11 D n h')
    ∧ (outsAt0 m c n h).2.2.2.2 = T3 (fun a r (_ : Fin 1) => sum12 D n h' a r) := by
  induction n with
  | zero =>
    refine ⟨?_, ?_, ?_, ?_⟩
    · exact (after9A m c ⟨0, h⟩ rfl).trans (stepA_9 c D X ⟨0, h⟩ _ _ (iblk0 m c D H.z ⟨0, h⟩) _ (iblk1 m c D H.z ⟨0, h⟩) _ (iblk2 m c D H.dy ⟨0, h⟩) _ (iblk3 m c X H.x ⟨0, h⟩) _ (iblk4 m c _ H.g ⟨0, h⟩) _ (iblk5 m c _ H.b ⟨0, h⟩) _ (iblk6 m c _ H.w ⟨0, h⟩) _ (iblk7 m c _ H.s ⟨0, h⟩))
    · exact (after10A m c ⟨0, h⟩ rfl).trans (stepA_10 c D X ⟨0, h⟩ _ _ (iblk0 m c D H.z ⟨0, h⟩) _ (iblk1 m c D H.z ⟨0, h⟩) _ (iblk2 m c D H.dy ⟨0, h⟩) _ (iblk3 m c X H.x ⟨0, h⟩) _ (iblk4 m c _ H.g ⟨0, h⟩) _ (iblk5 m c _ H.b ⟨0, h⟩) _ (iblk6 m c _ H.w ⟨0, h⟩) _ (iblk7 m c _ H.s ⟨0, h⟩))
    · exact (after11A m c ⟨0, h⟩ rfl).trans (stepA_11 c D X ⟨0, h⟩ _ _ (iblk0 m c D H.z ⟨0, h⟩) _ (iblk1 m c D H.z ⟨0, h⟩) _ (iblk2 m c D H.dy ⟨0, h⟩) _ (iblk3 m c X H.x ⟨0, h⟩) _ (iblk4 m c _ H.g ⟨0, h⟩) _ (iblk5 m c _ H.b ⟨0, h⟩) _ (iblk6 m c _ H.w ⟨0, h⟩) _ (iblk7 m c _ H.s ⟨0, h⟩))
    · exact (after12A m c ⟨0, h⟩ rfl).trans (stepA_12 c D X ⟨0, h⟩ _ _ (iblk0 m c D H.z ⟨0, h⟩) _ (iblk1 m c D H.z ⟨0, h⟩) _ (iblk2 m c D H.dy ⟨0, h⟩) _ (iblk3 m c X H.x ⟨0, h⟩) _ (iblk4 m c _ H.g ⟨0, h⟩) _ (iblk5 m c _ H.b ⟨0, h⟩) _ (iblk6 m c _ H.w ⟨0, h⟩) _ (iblk7 m c _ H.s ⟨0, h⟩))
  | succ n ih =>
    obtain ⟨i9, i10, i11, i12⟩ := ih (by omega) (by omega)
    have hB : ¬(⟨n + 1, h⟩ : Fin cfg0.N).val % 16 = 0 := by dsimp only; omega
    refine ⟨?_, ?_, ?_, ?_⟩
    · exact (after9B m c ⟨n + 1, h⟩ hB).trans (stepB_9 c D X ⟨n + 1, h⟩ _ _ _ _ _ _ (iblk0 m c D H.z ⟨n + 1, h⟩) _ (iblk1 m c D H.z ⟨n + 1, h⟩) _ (iblk2 m c D H.dy ⟨n + 1, h⟩) _ (iblk3 m c X H.x ⟨n + 1, h⟩) _ (iblk4 m c _ H.g ⟨n + 1, h⟩) _ (iblk5 m c _ H.b ⟨n + 1, h⟩) _ (iblk6 m c _ H.w ⟨n + 1, h⟩) _ (iblk7 m c _ H.s ⟨n + 1, h⟩) _ i9 _ i10 _ i11 _ i12)
    · exact (after10B m c ⟨n + 1, h⟩ hB).trans (stepB_10 c D X ⟨n + 1, h⟩ _ _ _ _ _ _ (iblk0 m c D H.z ⟨n + 1, h⟩) _ (iblk1 m c D H.z ⟨n + 1, h⟩) _ (iblk2 m c D H.dy ⟨n + 1, h⟩) _ (iblk3 m c X H.x ⟨n + 1, h⟩) _ (iblk4 m c _ H.g ⟨n + 1, h⟩) _ (iblk5 m c _ H.b ⟨n + 1, h⟩) _ (iblk6 m c _ H.w ⟨n + 1, h⟩) _ (iblk7 m c _ H.s ⟨n + 1, h⟩) _ i9 _ i10 _ i11 _ i12)
    · exact (after11B m c ⟨n + 1, h⟩ hB).trans (stepB_11 c D X ⟨n + 1, h⟩ _ _ _ _ _ _ (iblk0 m c D H.z ⟨n + 1, h⟩) _ (iblk1 m c D H.z ⟨n + 1, h⟩) _ (iblk2 m c D H.dy ⟨n + 1, h⟩) _ (iblk3 m c X H.x ⟨n + 1, h⟩) _ (iblk4 m c _ H.g ⟨n + 1, h⟩) _ (iblk5 m c _ H.b ⟨n + 1, h⟩) _ (iblk6 m c _ H.w ⟨n + 1, h⟩) _ (iblk7 m c _ H.s ⟨n + 1, h⟩) _ i9 _ i10 _ i11 _ i12)
    · exact (after12B m c ⟨n + 1, h⟩ hB).trans (stepB_12 c D X ⟨n + 1, h⟩ _ _ _ _ _ _ (iblk0 m c D H.z ⟨n + 1, h⟩) _ (iblk1 m c D H.z ⟨n + 1, h⟩) _ (iblk2 m c D H.dy ⟨n + 1, h⟩) _ (iblk3 m c X H.x ⟨n + 1, h⟩) _ (iblk4 m c _ H.g ⟨n + 1, h⟩) _ (iblk5 m c _ H.b ⟨n + 1, h⟩) _ (iblk6 m c _ H.w ⟨n + 1, h⟩) _ (iblk7 m c _ H.s ⟨n + 1, h⟩) _ i9 _ i10 _ i11 _ i12)

/-- The first output's block. -/
theorem outs8 (t : Fin cfg0.N) :
    (outsAt0 m c t.val t.isLt).1 = fun y : S128x3072.Idx => outRow (D.chunk (pt t)) (pass X (pt t)) (y 0) (y 1) := by
  have h16 := lt_of_lt_of_eq t.isLt N_0
  by_cases h0 : t.val % 16 = 0
  · exact (after8A m c t h0).trans (stepA_8 c D X t _ _ (iblk0 m c D H.z t) _ (iblk1 m c D H.z t) _ (iblk2 m c D H.dy t) _ (iblk3 m c X H.x t) _ (iblk4 m c _ H.g t) _ (iblk5 m c _ H.b t) _ (iblk6 m c _ H.w t) _ (iblk7 m c _ H.s t))
  · obtain ⟨i9, i10, i11, i12⟩ := outs H (t.val - 1) (by omega) (by omega)
    exact (after8B m c t h0).trans (stepB_8 c D X t _ _ _ _ _ _ (iblk0 m c D H.z t) _ (iblk1 m c D H.z t) _ (iblk2 m c D H.dy t) _ (iblk3 m c X H.x t) _ (iblk4 m c _ H.g t) _ (iblk5 m c _ H.b t) _ (iblk6 m c _ H.w t) _ (iblk7 m c _ H.s t) _ i9 _ i10 _ i11 _ i12)

/-! ## The outputs' arrays after the last point -/

/-- The first output: every row is its chunk's. -/
def rows (D : Data) (X : S2048x1024.Idx → EReal) : S2048x3072.Idx → EReal :=
  fun y => outRow (D.chunk (ck (y 0))) (pass X (ck (y 0))) (rk (y 0)) (y 1)

omit H in
theorem rows_row (n : Fin 16) (r : Fin 128) (y : S2048x3072.Idx)
    (hy : (y 0).val = 128 * n.val + r.val) (k : Fin 3072) (hk : (y 1).val = k.val) :
    rows D X y = outRow (D.chunk n) (pass X n) r k := by
  have e : y 0 = row n r := Fin.ext hy
  have e1 : y 1 = k := Fin.ext hk
  unfold rows
  rw [show ck (y 0) = n from (congrArg ck e).trans (ck_row n r), show rk (y 0) = r from (congrArg rk e).trans (rk_row n r)]
  exact congrArg (outRow (D.chunk n) (pass X n) r) e1

theorem final8 : (dats m 0 c).arrAt 8 cfg0.N = rows D X :=
  (dats m 0 c).arrAt_eq_of_cover 8 (rows D X) (fun t _ => by
    have hi : win0_8.index t 0 = t.val ∧ win0_8.index t 1 = 0 := by
      rcases fin_N0 t with rfl | rfl | rfl | rfl | rfl | rfl | rfl | rfl | rfl | rfl | rfl | rfl | rfl | rfl | rfl | rfl <;> decide
    rw [Cert.KernelIdeal.Value.flushed8 m c t, outs8 H t]
    funext j
    rw [View.read_apply]
    refine (rows_row (pt t) (j 0) _ ?_ (j 1) ?_).symm
    · show win0_8.index t 0 * 128 + 1 * (j 0).val = 128 * t.val + (j 0).val; rw [hi.1]; omega
    · show win0_8.index t 1 * 3072 + 1 * (j 1).val = (j 1).val; rw [hi.2]; omega) fun i => by
    have h0 : (i 0 : Nat) < 2048 := (i 0).isLt
    have h1 : (i 1 : Nat) < 3072 := (i 1).isLt
    have hN : cfg0.N = 16 := N_0
    refine ⟨⟨(i 0 : Nat) / 128, by omega⟩, flush0_8 _, ?_⟩
    generalize ht : (⟨(i 0 : Nat) / 128, by omega⟩ : Fin cfg0.N) = t
    have tv : t.val = (i 0 : Nat) / 128 := by rw [← ht]
    have hi : win0_8.index t 0 * win0_8.size 0 = 128 * t.val ∧ win0_8.index t 1 * win0_8.size 1 = 0
        ∧ win0_8.xsize (grid0.coords t) 0 = 128 ∧ win0_8.xsize (grid0.coords t) 1 = 3072 := by
      clear tv ht
      rcases fin_N0 t with rfl | rfl | rfl | rfl | rfl | rfl | rfl | rfl | rfl | rfl | rfl | rfl | rfl | rfl | rfl | rfl <;> decide
    show i ∈ ((View.whole main_v7_0).slice (win0_8.rect t)).set
    rw [View.set_slice_whole, Rect.mem_set_unit]
    intro a
    match a with
    | ⟨0, _⟩ => show win0_8.index t 0 * win0_8.size 0 ≤ (i 0 : Nat) ∧ (i 0 : Nat) < win0_8.index t 0 * win0_8.size 0 + win0_8.xsize (grid0.coords t) 0
                rw [hi.1, hi.2.2.1]; omega
    | ⟨1, _⟩ => show win0_8.index t 1 * win0_8.size 1 ≤ (i 1 : Nat) ∧ (i 1 : Nat) < win0_8.index t 1 * win0_8.size 1 + win0_8.xsize (grid0.coords t) 1
                rw [hi.2.1, hi.2.2.2]; omega

theorem final9 : (dats m 0 c).arrAt 9 cfg0.N = T2 (fun (_ : Fin 1) j => ∑ n, (D.chunk n).dg j) :=
  (dats m 0 c).arrAt_eq_of_cover 9 (T2 (fun (_ : Fin 1) j => ∑ n, (D.chunk n).dg j) : Buf (Elt Ideal) ((c : Thread nD τ).loc main_v7_1)) (fun t hf => by
    have hN : cfg0.N = 16 := N_0
    have h3 : t.val = 15 := by have := (flush0_9 t).mp hf; have := t.isLt; omega
    obtain rfl : t = t0_15 := Fin.ext h3
    rw [Cert.KernelIdeal.Value.flushed9 m c t0_15,
      show (outsAt0 m c t0_15.val t0_15.isLt).2.1 = T2 (fun (_ : Fin 1) j => ∑ n, (D.chunk n).dg j) from
        ((outs H 15 t0_15.isLt (by omega)).1).trans (funext fun i => congrArg Real.toEReal (upto_last _ _))]
    have hz' : (fun a => win0_9.index t0_15 a * main_v7_1.ty.shape.size a) = fun _ => 0 := funext fun a => by fin_cases a <;> decide
    exact (Memref.read_access_unit_zero (Elt Ideal) main_v7_1 hz' (fun a => by rw [congrFun hz' a]; simp) _).symm)
    fun i => ⟨t0_15, (flush0_9 t0_15).mpr rfl, by
    show i ∈ ((View.whole main_v7_1).slice (win0_9.rect t0_15)).set
    rw [View.set_slice_whole, Rect.mem_set_unit]
    intro a
    have h0 : (i 0 : Nat) < 1 := (i 0).isLt
    have h1 : (i 1 : Nat) < 1024 := (i 1).isLt
    match a with
    | ⟨0, _⟩ => show win0_9.index t0_15 0 * win0_9.size 0 ≤ (i 0 : Nat) ∧ (i 0 : Nat) < win0_9.index t0_15 0 * win0_9.size 0 + win0_9.xsize (grid0.coords t0_15) 0
                rw [show win0_9.index t0_15 0 * win0_9.size 0 = 0 from by decide +kernel, show win0_9.xsize (grid0.coords t0_15) 0 = 1 from by decide +kernel]; omega
    | ⟨1, _⟩ => show win0_9.index t0_15 1 * win0_9.size 1 ≤ (i 1 : Nat) ∧ (i 1 : Nat) < win0_9.index t0_15 1 * win0_9.size 1 + win0_9.xsize (grid0.coords t0_15) 1
                rw [show win0_9.index t0_15 1 * win0_9.size 1 = 0 from by decide +kernel, show win0_9.xsize (grid0.coords t0_15) 1 = 1024 from by decide +kernel]; omega⟩

theorem final10 : (dats m 0 c).arrAt 10 cfg0.N = T2 (fun (_ : Fin 1) j => ∑ n, (D.chunk n).db j) :=
  (dats m 0 c).arrAt_eq_of_cover 10 (T2 (fun (_ : Fin 1) j => ∑ n, (D.chunk n).db j) : Buf (Elt Ideal) ((c : Thread nD τ).loc main_v7_2)) (fun t hf => by
    have hN : cfg0.N = 16 := N_0
    have h3 : t.val = 15 := by have := (flush0_10 t).mp hf; have := t.isLt; omega
    obtain rfl : t = t0_15 := Fin.ext h3
    rw [Cert.KernelIdeal.Value.flushed10 m c t0_15,
      show (outsAt0 m c t0_15.val t0_15.isLt).2.2.1 = T2 (fun (_ : Fin 1) j => ∑ n, (D.chunk n).db j) from
        ((outs H 15 t0_15.isLt (by omega)).2.1).trans (funext fun i => congrArg Real.toEReal (upto_last _ _))]
    have hz' : (fun a => win0_10.index t0_15 a * main_v7_2.ty.shape.size a) = fun _ => 0 := funext fun a => by fin_cases a <;> decide
    exact (Memref.read_access_unit_zero (Elt Ideal) main_v7_2 hz' (fun a => by rw [congrFun hz' a]; simp) _).symm)
    fun i => ⟨t0_15, (flush0_10 t0_15).mpr rfl, by
    show i ∈ ((View.whole main_v7_2).slice (win0_10.rect t0_15)).set
    rw [View.set_slice_whole, Rect.mem_set_unit]
    intro a
    have h0 : (i 0 : Nat) < 1 := (i 0).isLt
    have h1 : (i 1 : Nat) < 1024 := (i 1).isLt
    match a with
    | ⟨0, _⟩ => show win0_10.index t0_15 0 * win0_10.size 0 ≤ (i 0 : Nat) ∧ (i 0 : Nat) < win0_10.index t0_15 0 * win0_10.size 0 + win0_10.xsize (grid0.coords t0_15) 0
                rw [show win0_10.index t0_15 0 * win0_10.size 0 = 0 from by decide +kernel, show win0_10.xsize (grid0.coords t0_15) 0 = 1 from by decide +kernel]; omega
    | ⟨1, _⟩ => show win0_10.index t0_15 1 * win0_10.size 1 ≤ (i 1 : Nat) ∧ (i 1 : Nat) < win0_10.index t0_15 1 * win0_10.size 1 + win0_10.xsize (grid0.coords t0_15) 1
                rw [show win0_10.index t0_15 1 * win0_10.size 1 = 0 from by decide +kernel, show win0_10.xsize (grid0.coords t0_15) 1 = 1024 from by decide +kernel]; omega⟩

theorem final11 : (dats m 0 c).arrAt 11 cfg0.N = T3 (fun a r d => ∑ n, (D.chunk n).dw a r d) :=
  (dats m 0 c).arrAt_eq_of_cover 11 (T3 (fun a r d => ∑ n, (D.chunk n).dw a r d) : Buf (Elt Ideal) ((c : Thread nD τ).loc main_v7_3)) (fun t hf => by
    have hN : cfg0.N = 16 := N_0
    have h3 : t.val = 15 := by have := (flush0_11 t).mp hf; have := t.isLt; omega
    obtain rfl : t = t0_15 := Fin.ext h3
    rw [Cert.KernelIdeal.Value.flushed11 m c t0_15,
      show (outsAt0 m c t0_15.val t0_15.isLt).2.2.2.1 = T3 (fun a r d => ∑ n, (D.chunk n).dw a r d) from
        ((outs H 15 t0_15.isLt (by omega)).2.2.1).trans (funext fun i => congrArg Real.toEReal (upto_last _ _))]
    have hz' : (fun a => win0_11.index t0_15 a * main_v7_3.ty.shape.size a) = fun _ => 0 := funext fun a => by fin_cases a <;> decide
    exact (Memref.read_access_unit_zero (Elt Ideal) main_v7_3 hz' (fun a => by rw [congrFun hz' a]; simp) _).symm)
    fun i => ⟨t0_15, (flush0_11 t0_15).mpr rfl, by
    show i ∈ ((View.whole main_v7_3).slice (win0_11.rect t0_15)).set
    rw [View.set_slice_whole, Rect.mem_set_unit]
    intro a
    have h0 : (i 0 : Nat) < 8 := (i 0).isLt
    have h1 : (i 1 : Nat) < 128 := (i 1).isLt
    have h2 : (i 2 : Nat) < 128 := (i 2).isLt
    match a with
    | ⟨0, _⟩ => show win0_11.index t0_15 0 * win0_11.size 0 ≤ (i 0 : Nat) ∧ (i 0 : Nat) < win0_11.index t0_15 0 * win0_11.size 0 + win0_11.xsize (grid0.coords t0_15) 0
                rw [show win0_11.index t0_15 0 * win0_11.size 0 = 0 from by decide +kernel, show win0_11.xsize (grid0.coords t0_15) 0 = 8 from by decide +kernel]; omega
    | ⟨1, _⟩ => show win0_11.index t0_15 1 * win0_11.size 1 ≤ (i 1 : Nat) ∧ (i 1 : Nat) < win0_11.index t0_15 1 * win0_11.size 1 + win0_11.xsize (grid0.coords t0_15) 1
                rw [show win0_11.index t0_15 1 * win0_11.size 1 = 0 from by decide +kernel, show win0_11.xsize (grid0.coords t0_15) 1 = 128 from by decide +kernel]; omega
    | ⟨2, _⟩ => show win0_11.index t0_15 2 * win0_11.size 2 ≤ (i 2 : Nat) ∧ (i 2 : Nat) < win0_11.index t0_15 2 * win0_11.size 2 + win0_11.xsize (grid0.coords t0_15) 2
                rw [show win0_11.index t0_15 2 * win0_11.size 2 = 0 from by decide +kernel, show win0_11.xsize (grid0.coords t0_15) 2 = 128 from by decide +kernel]; omega⟩

theorem final12 : (dats m 0 c).arrAt 12 cfg0.N = T3 (fun a r (_ : Fin 1) => ∑ n, (D.chunk n).ds a r) :=
  (dats m 0 c).arrAt_eq_of_cover 12 (T3 (fun a r (_ : Fin 1) => ∑ n, (D.chunk n).ds a r) : Buf (Elt Ideal) ((c : Thread nD τ).loc main_v7_4)) (fun t hf => by
    have hN : cfg0.N = 16 := N_0
    have h3 : t.val = 15 := by have := (flush0_12 t).mp hf; have := t.isLt; omega
    obtain rfl : t = t0_15 := Fin.ext h3
    rw [Cert.KernelIdeal.Value.flushed12 m c t0_15,
      show (outsAt0 m c t0_15.val t0_15.isLt).2.2.2.2 = T3 (fun a r (_ : Fin 1) => ∑ n, (D.chunk n).ds a r) from
        ((outs H 15 t0_15.isLt (by omega)).2.2.2).trans (funext fun i => congrArg Real.toEReal (upto_last _ _))]
    have hz' : (fun a => win0_12.index t0_15 a * main_v7_4.ty.shape.size a) = fun _ => 0 := funext fun a => by fin_cases a <;> decide
    exact (Memref.read_access_unit_zero (Elt Ideal) main_v7_4 hz' (fun a => by rw [congrFun hz' a]; simp) _).symm)
    fun i => ⟨t0_15, (flush0_12 t0_15).mpr rfl, by
    show i ∈ ((View.whole main_v7_4).slice (win0_12.rect t0_15)).set
    rw [View.set_slice_whole, Rect.mem_set_unit]
    intro a
    have h0 : (i 0 : Nat) < 8 := (i 0).isLt
    have h1 : (i 1 : Nat) < 128 := (i 1).isLt
    have h2 : (i 2 : Nat) < 1 := (i 2).isLt
    match a with
    | ⟨0, _⟩ => show win0_12.index t0_15 0 * win0_12.size 0 ≤ (i 0 : Nat) ∧ (i 0 : Nat) < win0_12.index t0_15 0 * win0_12.size 0 + win0_12.xsize (grid0.coords t0_15) 0
                rw [show win0_12.index t0_15 0 * win0_12.size 0 = 0 from by decide +kernel, show win0_12.xsize (grid0.coords t0_15) 0 = 8 from by decide +kernel]; omega
    | ⟨1, _⟩ => show win0_12.index t0_15 1 * win0_12.size 1 ≤ (i 1 : Nat) ∧ (i 1 : Nat) < win0_12.index t0_15 1 * win0_12.size 1 + win0_12.xsize (grid0.coords t0_15) 1
                rw [show win0_12.index t0_15 1 * win0_12.size 1 = 0 from by decide +kernel, show win0_12.xsize (grid0.coords t0_15) 1 = 128 from by decide +kernel]; omega
    | ⟨2, _⟩ => show win0_12.index t0_15 2 * win0_12.size 2 ≤ (i 2 : Nat) ∧ (i 2 : Nat) < win0_12.index t0_15 2 * win0_12.size 2 + win0_12.xsize (grid0.coords t0_15) 2
                rw [show win0_12.index t0_15 2 * win0_12.size 2 = 0 from by decide +kernel, show win0_12.xsize (grid0.coords t0_15) 2 = 1 from by decide +kernel]; omega⟩

end Cert.Fold

end
-- ==== Proof.Host.lean ====
/- What the host operations before the region leave: the masked matrices and the column of biases. -/
module

public import proofs.«01_k».proof.Proof.Fold
public import Idealize.ShloMosaic.Lib.WordCmp

@[expose] public section

set_option maxRecDepth 16384

noncomputable section

namespace Cert.Fold

open Idealize.ShloMosaic Idealize.ShloMosaic.ValueIdx Idealize.ShloMosaic.TcCoe Idealize.SL.Sem
open Cert.KernelIdeal Cert.KernelIdeal.Gen Cert.Forms Cert.Gate Idealize.ShloMosaic.StableHlo

variable (m : (ℓ : Loc nD τ sig) → Buf (Elt Ideal) ℓ) (c : Dev nD)

/-- The causal mask: entry (i, k) of a matrix is kept where `k ≤ i` and zero elsewhere. -/
def tri (w : Fin 8 → Fin 128 → Fin 128 → ℝ) (a : Fin 8) (i k : Fin 128) : ℝ := if k.val ≤ i.val then w a i k else 0

/-- The comparison the mask is made with. -/
theorem mask_bit (i k : Fin 128) :
    IntOp.cmpi .sge (IntOp.addi (BitVec.ofNat 32 i.val) 0#32) (BitVec.ofNat 32 k.val) = BitVec.ofBool (decide (k.val ≤ i.val)) := by
  have h : IntOp.addi (BitVec.ofNat 32 i.val) 0#32 = BitVec.ofNat 32 i.val := BitVec.add_zero _
  rw [h]
  exact WordCmp.cmpi_sge_ofNat (by omega) (by omega)

theorem V_main_v6 (s : Fin 8 → Fin 128 → ℝ) (h : m ((c : Thread nD τ).loc main_arg6) = T2 s) :
    V m c main_v6 = T3 fun a r (_ : Fin 1) => s a r := by
  unfold V
  simp only [hostOps0, hostOps0_1, hostOps0_2, List.flatten_cons, List.flatten_nil, List.append_nil, List.cons_append, List.nil_append]
  after_results
  funext i
  show shapeCast S8x128x1 (m ((c : Thread nD τ).loc main_arg6)) shapeCasts_S8x128_S8x128x1 i = _
  rw [h]
  have h2 : (i 2).val = 0 := by have : (i 2).val < 1 := (i 2).isLt; omega
  exact shapeCast_apply (T2 s) shapeCasts_S8x128_S8x128x1 i (ix2 (i 0) (i 1)) (by
    rw [Shape.rowMajor_val_three, Shape.rowMajor_val_two]
    show (i 0).val * 128 + (i 1).val = ((i 0).val * 128 + (i 1).val) * 1 + (i 2).val
    omega)

theorem V_main_v5 (w : Fin 8 → Fin 128 → Fin 128 → ℝ) (h : m ((c : Thread nD τ).loc main_arg5) = T3 w) :
    V m c main_v5 = T3 (tri w) := by
  unfold V
  simp only [hostOps0, hostOps0_1, hostOps0_2, List.flatten_cons, List.flatten_nil, List.append_nil, List.cons_append, List.nil_append]
  after_results
  funext i
  show @HMul.hMul EReal EReal EReal _ (m ((c : Thread nD τ).loc main_arg5) i) (Scalar.select
    (IntOp.cmpi .sge (IntOp.addi (BitVec.ofNat 32 (i 1).val) 0#32) (BitVec.ofNat 32 (i 2).val))
    (Ideal.ofBits .f32 0x3F800000#32) (Ideal.ofBits .f32 0x00000000#32)) = _
  rw [h, mask_bit (i 1) (i 2), c_one, c_zero]
  show ((w (i 0) (i 1) (i 2) : ℝ) : EReal) * _ = ((tri w (i 0) (i 1) (i 2) : ℝ) : EReal)
  unfold tri
  by_cases hk : (i 2).val ≤ (i 1).val
  · rw [if_pos hk, decide_eq_true hk]
    show ((w (i 0) (i 1) (i 2) : ℝ) : EReal) * ((1 : ℝ) : EReal) = _
    rw [← EReal.coe_mul, mul_one]
  · rw [if_neg hk, decide_eq_false hk]
    show ((w (i 0) (i 1) (i 2) : ℝ) : EReal) * ((0 : ℝ) : EReal) = _
    rw [← EReal.coe_mul, mul_zero]

/-- The region finds what the data say, if the arguments hold it. -/
theorem found {z : Fin 2048 → Fin 3072 → ℝ} {dy : Fin 2048 → Fin 1024 → ℝ} {g b : Fin 1024 → ℝ}
    {w : Fin 8 → Fin 128 → Fin 128 → ℝ} {s : Fin 8 → Fin 128 → ℝ}
    (h0 : m ((c : Thread nD τ).loc main_arg0) = T2 z) (h1 : m ((c : Thread nD τ).loc main_arg1) = T2 dy)
    (h3 : m ((c : Thread nD τ).loc main_arg3) = T2 fun (_ : Fin 1) => g) (h4 : m ((c : Thread nD τ).loc main_arg4) = T2 fun (_ : Fin 1) => b)
    (h5 : m ((c : Thread nD τ).loc main_arg5) = T3 w) (h6 : m ((c : Thread nD τ).loc main_arg6) = T2 s) :
    Found m c ⟨z, dy, g, b, tri w, s⟩ (m ((c : Thread nD τ).loc main_arg2)) where
  z := (V_main_arg0 m c).trans h0
  dy := (V_main_arg1 m c).trans h1
  x := V_main_arg2 m c
  g := (V_main_arg3 m c).trans h3
  b := (V_main_arg4 m c).trans h4
  w := V_main_v5 m c w h5
  s := V_main_v6 m c s h6

end Cert.Fold

end
-- ==== Proof.Finite.lean ====
/- The arguments, each of whose entries is finite, as arrays of reals. -/
module

public import proofs.«01_k».proof.Defs
public import proofs.«01_k».proof.Proof.Forms
public import Idealize.ShloMosaic.Lib.ReduceAll

@[expose] public section

noncomputable section

namespace Cert.Finite

open Idealize.ShloMosaic Idealize.ShloMosaic.ValueIdx Cert.Forms

/-- `|x| < ∞` says that `x` is a real number. -/
theorem real_of_abs_lt (x : EReal) (h : Ideal.cmp .olt (max x (-x)) (Ideal.ofBits .f32 0x7F800000#32) = 1#1) :
    ((x.toReal : ℝ) : EReal) = x := by
  have htop : Ideal.ofBits .f32 0x7F800000#32 = ⊤ := by simp [Ideal.ofBits, Ideal.ieee]
  rw [htop] at h
  have h' : max x (-x) < ⊤ := by
    by_contra hn
    unfold Ideal.cmp at h
    simp only [decide_eq_false hn] at h
    exact absurd h (by decide)
  rw [max_lt_iff] at h'
  refine EReal.coe_toReal h'.1.ne fun hb => ?_
  rw [hb] at h'
  simp at h'

theorem real2 {n m : ℕ} (x : (⟨2, ![n, m]⟩ : Shape).Idx → EReal)
    (h : ∀ i, Ideal.cmp .olt (max (x i) (-(x i))) (Ideal.ofBits .f32 0x7F800000#32) = 1#1) :
    x = T2 fun a b => (x (ix2 a b)).toReal := by
  funext i
  have e : ix2 (i 0) (i 1) = i := funext fun a => by match a with | ⟨0, _⟩ => rfl | ⟨1, _⟩ => rfl
  exact (real_of_abs_lt _ (h i)).symm.trans (congrArg (fun k => (((x k).toReal : ℝ) : EReal)) e.symm)

theorem real3 {n m p : ℕ} (x : (⟨3, ![n, m, p]⟩ : Shape).Idx → EReal)
    (h : ∀ i, Ideal.cmp .olt (max (x i) (-(x i))) (Ideal.ofBits .f32 0x7F800000#32) = 1#1) :
    x = T3 fun a b c => (x (ix3 a b c)).toReal := by
  funext i
  have e : ix3 (i 0) (i 1) (i 2) = i := funext fun a => by match a with | ⟨0, _⟩ => rfl | ⟨1, _⟩ => rfl | ⟨2, _⟩ => rfl
  exact (real_of_abs_lt _ (h i)).symm.trans (congrArg (fun k => (((x k).toReal : ℝ) : EReal)) e.symm)

/-- The precondition says of six of the seven arguments that their entries are real numbers. -/
theorem reals [Cert.Pre_finite.Facts] (x0 : FVec Ideal Cert.Pre_finite.S2048x3072 .f32) (x1 x2 : FVec Ideal Cert.Pre_finite.S2048x1024 .f32)
    (x3 x4 : FVec Ideal Cert.Pre_finite.S1x1024 .f32) (x5 : FVec Ideal Cert.Pre_finite.S8x128x128 .f32)
    (x6 : FVec Ideal Cert.Pre_finite.S8x128 .f32)
    (h : Cert.Pre_finite.fn (F := Ideal) x0 x1 x2 x3 x4 x5 x6 = fun _ => 1#1) :
    (∃ z, x0 = T2 z) ∧ (∃ dy, x1 = T2 dy) ∧ (∃ g, x3 = T2 fun (_ : Fin 1) => g) ∧ (∃ b, x4 = T2 fun (_ : Fin 1) => b)
      ∧ (∃ w, x5 = T3 w) ∧ (∃ s, x6 = T2 s) := by
  have hj := congrFun h (fun a => a.elim0)
  unfold Cert.Pre_finite.fn Cert.Pre_finite.fn_part1 at hj
  obtain ⟨hj, h6⟩ := IntOp.andi_eq_one.1 hj
  obtain ⟨hj, h5⟩ := IntOp.andi_eq_one.1 hj
  obtain ⟨hj, h4⟩ := IntOp.andi_eq_one.1 hj
  obtain ⟨hj, h3⟩ := IntOp.andi_eq_one.1 hj
  obtain ⟨h0, h1⟩ := IntOp.andi_eq_one.1 hj
  have : Subsingleton Cert.Pre_finite.S_.Idx := ⟨fun a b => funext fun k => k.elim0⟩
  have h0' := Host.reduce_andi_all _ _ _ _ _ h0
  have h1' := Host.reduce_andi_all _ _ _ _ _ h1
  have h3' := Host.reduce_andi_all _ _ _ _ _ h3
  have h4' := Host.reduce_andi_all _ _ _ _ _ h4
  have h5' := Host.reduce_andi_all _ _ _ _ _ h5
  have h6' := Host.reduce_andi_all _ _ _ _ _ h6
  refine ⟨⟨_, real2 x0 h0'⟩, ⟨_, real2 x1 h1'⟩, ⟨fun j => (x3 (ix2 0 j)).toReal, ?_⟩, ⟨fun j => (x4 (ix2 0 j)).toReal, ?_⟩,
    ⟨_, real3 x5 h5'⟩, ⟨_, real2 x6 h6'⟩⟩
  · refine (real2 x3 h3').trans (congrArg T2 (funext fun a => ?_))
    rw [Subsingleton.elim a 0]
  · refine (real2 x4 h4').trans (congrArg T2 (funext fun a => ?_))
    rw [Subsingleton.elim a 0]

end Cert.Finite

end
-- ==== Proof.RefReal.lean ====
/- The reference's values over the real numbers, one definition per operation, and what they come to: the sums over the
   chunks and the rows that the kernel leaves. `rN` is the value of the operation written `%N` in the reference's listing. -/
module

public import proofs.«01_k».proof.Proof.Host

@[expose] public section

noncomputable section

open scoped BigOperators

namespace Cert.Ref

open Cert.Gate Cert.Fold

def r0 (E : Data) (R : Fin 2048) (j : Fin 1024) : ℝ := E.z R ⟨1024 + j.val, by omega⟩
def r1 (E : Data) (R : Fin 2048) (j : Fin 1024) : ℝ := E.z R ⟨2048 + j.val, by omega⟩
def r7 (E : Data) (R : Fin 2048) (j : Fin 1024) : ℝ := (1 / 2) * r0 E R j
def r8 (E : Data) (R : Fin 2048) (j : Fin 1024) : ℝ := r0 E R j * r0 E R j
def r9 (E : Data) (R : Fin 2048) (j : Fin 1024) : ℝ := r8 E R j * r0 E R j
def r10 (E : Data) (R : Fin 2048) (j : Fin 1024) : ℝ := r0 E R j * r0 E R j
def r12 (E : Data) (R : Fin 2048) (j : Fin 1024) : ℝ := 3 * r10 E R j
def r14 (E : Data) (R : Fin 2048) (j : Fin 1024) : ℝ := 8943 * r9 E R j
def r16 (E : Data) (R : Fin 2048) (j : Fin 1024) : ℝ := r14 E R j / 200000
def r17 (E : Data) (R : Fin 2048) (j : Fin 1024) : ℝ := r0 E R j + r16 E R j
def r19 (E : Data) (R : Fin 2048) (j : Fin 1024) : ℝ := cG * r17 E R j
def r20 (E : Data) (R : Fin 2048) (j : Fin 1024) : ℝ := Real.tanh (r19 E R j)
def r22 (E : Data) (R : Fin 2048) (j : Fin 1024) : ℝ := 1 + r20 E R j
def r24 (E : Data) (R : Fin 2048) (j : Fin 1024) : ℝ := 1 - r20 E R j
def r25 (E : Data) (R : Fin 2048) (j : Fin 1024) : ℝ := r22 E R j * r24 E R j
def r27 (E : Data) (R : Fin 2048) (j : Fin 1024) : ℝ := 1 + r20 E R j
def r28 (E : Data) (R : Fin 2048) (j : Fin 1024) : ℝ := r7 E R j * r27 E R j
def r30 (E : Data) (R : Fin 2048) (j : Fin 1024) : ℝ := (1 / 2) * r1 E R j
def r31 (E : Data) (R : Fin 2048) (j : Fin 1024) : ℝ := r1 E R j * r1 E R j
def r32 (E : Data) (R : Fin 2048) (j : Fin 1024) : ℝ := r31 E R j * r1 E R j
def r33 (E : Data) (R : Fin 2048) (j : Fin 1024) : ℝ := r1 E R j * r1 E R j
def r35 (E : Data) (R : Fin 2048) (j : Fin 1024) : ℝ := 3 * r33 E R j
def r37 (E : Data) (R : Fin 2048) (j : Fin 1024) : ℝ := 8943 * r32 E R j
def r39 (E : Data) (R : Fin 2048) (j : Fin 1024) : ℝ := r37 E R j / 200000
def r40 (E : Data) (R : Fin 2048) (j : Fin 1024) : ℝ := r1 E R j + r39 E R j
def r42 (E : Data) (R : Fin 2048) (j : Fin 1024) : ℝ := cG * r40 E R j
def r43 (E : Data) (R : Fin 2048) (j : Fin 1024) : ℝ := Real.tanh (r42 E R j)
def r45 (E : Data) (R : Fin 2048) (j : Fin 1024) : ℝ := 1 + r43 E R j
def r47 (E : Data) (R : Fin 2048) (j : Fin 1024) : ℝ := 1 - r43 E R j
def r48 (E : Data) (R : Fin 2048) (j : Fin 1024) : ℝ := r45 E R j * r47 E R j
def r50 (E : Data) (R : Fin 2048) (j : Fin 1024) : ℝ := 1 + r43 E R j
def r51 (E : Data) (R : Fin 2048) (j : Fin 1024) : ℝ := r30 E R j * r50 E R j
def r52 (E : Data) (R : Fin 2048) : ℝ := ∑ j, r51 E R j
def r53 (E : Data) (R : Fin 2048) (j : Fin 1) : ℝ := r52 E R
def r55 (E : Data) (R : Fin 2048) (j : Fin 1) : ℝ := r53 E R j / 1024
def r56 (E : Data) (R : Fin 2048) (_ : Fin 1024) : ℝ := r55 E R 0
def r57 (E : Data) (R : Fin 2048) (j : Fin 1024) : ℝ := r51 E R j - r56 E R j
def r58 (E : Data) (R : Fin 2048) (j : Fin 1024) : ℝ := r57 E R j * r57 E R j
def r59 (E : Data) (R : Fin 2048) : ℝ := ∑ j, r58 E R j
def r60 (E : Data) (R : Fin 2048) (j : Fin 1) : ℝ := r59 E R
def r62 (E : Data) (R : Fin 2048) (j : Fin 1) : ℝ := r60 E R j / 1024
def r64 (E : Data) (R : Fin 2048) (j : Fin 1) : ℝ := r62 E R j + eps
def r65 (E : Data) (R : Fin 2048) (j : Fin 1) : ℝ := (Real.sqrt (r64 E R j))⁻¹
def r66 (E : Data) (R : Fin 2048) (j : Fin 1) : ℝ := r65 E R j / r64 E R j
def r68 (E : Data) (R : Fin 2048) (j : Fin 1) : ℝ := (-(1 / 2)) * r66 E R j
def r69 (E : Data) (R : Fin 2048) (_ : Fin 1024) : ℝ := r65 E R 0
def r70 (E : Data) (R : Fin 2048) (j : Fin 1024) : ℝ := r57 E R j * r69 E R j
def r71 (E : Data) (_ : Fin 2048) (j : Fin 1024) : ℝ := E.g j
def r72 (E : Data) (R : Fin 2048) (j : Fin 1024) : ℝ := r70 E R j * r71 E R j
def r73 (E : Data) (_ : Fin 2048) (j : Fin 1024) : ℝ := E.b j
def r74 (E : Data) (R : Fin 2048) (j : Fin 1024) : ℝ := r72 E R j + r73 E R j
def r75 (E : Data) (n : Fin 16) (k : Fin 128) (h : Fin 8) (d : Fin 128) : ℝ := r74 E (row n k) (col h d)
def r76 (E : Data) (h : Fin 8) (n : Fin 16) (d i : Fin 128) : ℝ := ∑ k, r75 E n k h d * tri E.w h i k
def r77 (E : Data) (n : Fin 16) (i : Fin 128) (h : Fin 8) (d : Fin 128) : ℝ := r76 E h n d i
def r78 (E : Data) (i : Fin 128) (h : Fin 8) : ℝ := E.s h i
def r79 (E : Data) (_ : Fin 1) (i : Fin 128) (h : Fin 8) (_ : Fin 1) : ℝ := r78 E i h
def r80 (E : Data) (_ : Fin 16) (i : Fin 128) (h : Fin 8) (_ : Fin 128) : ℝ := r79 E 0 i h 0
def r81 (E : Data) (n : Fin 16) (i : Fin 128) (h : Fin 8) (d : Fin 128) : ℝ := r77 E n i h d + r80 E n i h d
def r82 (E : Data) (R : Fin 2048) (j : Fin 1024) : ℝ := r81 E (ck R) (rk R) (hd j) (ln j)
def r84 (E : Data) (R : Fin 2048) (j : Fin 1024) : ℝ := r28 E R j * E.dy R j
def r85 (E : Data) (R : Fin 2048) (j : Fin 1024) : ℝ := E.dy R j * r82 E R j
def r86 (E : Data) (n : Fin 16) (k : Fin 128) (h : Fin 8) (d : Fin 128) : ℝ := r84 E (row n k) (col h d)
def r87 (E : Data) (i : Fin 128) (h : Fin 8) : ℝ := ∑ n, ∑ d, r86 E n i h d
def r88 (E : Data) (_ : Fin 1) (i : Fin 128) (h : Fin 8) (_ : Fin 1) : ℝ := r87 E i h
def r89 (E : Data) (i : Fin 128) (h : Fin 8) : ℝ := ∑ a, ∑ b, r88 E a i h b
def r90 (E : Data) (h : Fin 8) (i : Fin 128) : ℝ := r89 E i h
def r91 (E : Data) (h : Fin 8) (n : Fin 16) (d i : Fin 128) : ℝ := r86 E n i h d
def r92 (E : Data) (h : Fin 8) (i k : Fin 128) : ℝ := ∑ n, ∑ d, r91 E h n d i * r75 E n k h d
def r93 (E : Data) (h : Fin 8) (n : Fin 16) (d k : Fin 128) : ℝ := ∑ i, r91 E h n d i * tri E.w h i k
def r94 (E : Data) (n : Fin 16) (i : Fin 128) (h : Fin 8) (d : Fin 128) : ℝ := r93 E h n d i
def r95 (E : Data) (R : Fin 2048) (j : Fin 1024) : ℝ := r94 E (ck R) (rk R) (hd j) (ln j)
def r96 (E : Data) (j : Fin 1024) : ℝ := ∑ R, r95 E R j
def r97 (E : Data) (_ : Fin 1) (j : Fin 1024) : ℝ := r96 E j
def r98 (E : Data) (R : Fin 2048) (j : Fin 1024) : ℝ := r70 E R j * r95 E R j
def r99 (E : Data) (j : Fin 1024) : ℝ := ∑ R, r98 E R j
def r100 (E : Data) (_ : Fin 1) (j : Fin 1024) : ℝ := r99 E j
def r101 (E : Data) (_ : Fin 2048) (j : Fin 1024) : ℝ := E.g j
def r102 (E : Data) (R : Fin 2048) (j : Fin 1024) : ℝ := r95 E R j * r101 E R j
def r103 (E : Data) (R : Fin 2048) (j : Fin 1024) : ℝ := r57 E R j * r102 E R j
def r104 (E : Data) (R : Fin 2048) : ℝ := ∑ j, r103 E R j
def r105 (E : Data) (R : Fin 2048) (j : Fin 1) : ℝ := r104 E R
def r106 (E : Data) (R : Fin 2048) (_ : Fin 1024) : ℝ := r65 E R 0
def r107 (E : Data) (R : Fin 2048) (j : Fin 1024) : ℝ := r102 E R j * r106 E R j
def r108 (E : Data) (R : Fin 2048) (j : Fin 1) : ℝ := r105 E R j * r68 E R j
def r110 (E : Data) (R : Fin 2048) (j : Fin 1) : ℝ := r108 E R j / 1024
def r111 (E : Data) (R : Fin 2048) : ℝ := ∑ j, r110 E R j
def r112 (E : Data) (R : Fin 2048) (_ : Fin 1024) : ℝ := r111 E R
def r113 (E : Data) (R : Fin 2048) (j : Fin 1024) : ℝ := r57 E R j * r112 E R j
def r114 (E : Data) (R : Fin 2048) (j : Fin 1024) : ℝ := r107 E R j + r113 E R j
def r115 (E : Data) (R : Fin 2048) (j : Fin 1024) : ℝ := r112 E R j * r57 E R j
def r116 (E : Data) (R : Fin 2048) (j : Fin 1024) : ℝ := r114 E R j + r115 E R j
def r117 (E : Data) (R : Fin 2048) (j : Fin 1024) : ℝ := -(r116 E R j)
def r118 (E : Data) (R : Fin 2048) : ℝ := ∑ j, r117 E R j
def r119 (E : Data) (R : Fin 2048) (j : Fin 1) : ℝ := r118 E R
def r121 (E : Data) (R : Fin 2048) (j : Fin 1) : ℝ := r119 E R j / 1024
def r122 (E : Data) (R : Fin 2048) : ℝ := ∑ j, r121 E R j
def r123 (E : Data) (R : Fin 2048) (_ : Fin 1024) : ℝ := r122 E R
def r124 (E : Data) (R : Fin 2048) (j : Fin 1024) : ℝ := r116 E R j + r123 E R j
def r125 (E : Data) (R : Fin 2048) (j : Fin 1024) : ℝ := r30 E R j * r124 E R j
def r126 (E : Data) (R : Fin 2048) (j : Fin 1024) : ℝ := r124 E R j * r50 E R j
def r127 (E : Data) (R : Fin 2048) (j : Fin 1024) : ℝ := r125 E R j * r48 E R j
def r129 (E : Data) (R : Fin 2048) (j : Fin 1024) : ℝ := cG * r127 E R j
def r131 (E : Data) (R : Fin 2048) (j : Fin 1024) : ℝ := r129 E R j / 200000
def r133 (E : Data) (R : Fin 2048) (j : Fin 1024) : ℝ := 8943 * r131 E R j
def r134 (E : Data) (R : Fin 2048) (j : Fin 1024) : ℝ := r133 E R j * r35 E R j
def r135 (E : Data) (R : Fin 2048) (j : Fin 1024) : ℝ := r129 E R j + r134 E R j
def r137 (E : Data) (R : Fin 2048) (j : Fin 1024) : ℝ := (1 / 2) * r126 E R j
def r138 (E : Data) (R : Fin 2048) (j : Fin 1024) : ℝ := r135 E R j + r137 E R j
def r139 (E : Data) (R : Fin 2048) (j : Fin 1024) : ℝ := r7 E R j * r85 E R j
def r140 (E : Data) (R : Fin 2048) (j : Fin 1024) : ℝ := r85 E R j * r27 E R j
def r141 (E : Data) (R : Fin 2048) (j : Fin 1024) : ℝ := r139 E R j * r25 E R j
def r143 (E : Data) (R : Fin 2048) (j : Fin 1024) : ℝ := cG * r141 E R j
def r145 (E : Data) (R : Fin 2048) (j : Fin 1024) : ℝ := r143 E R j / 200000
def r147 (E : Data) (R : Fin 2048) (j : Fin 1024) : ℝ := 8943 * r145 E R j
def r148 (E : Data) (R : Fin 2048) (j : Fin 1024) : ℝ := r147 E R j * r12 E R j
def r149 (E : Data) (R : Fin 2048) (j : Fin 1024) : ℝ := r143 E R j + r148 E R j
def r151 (E : Data) (R : Fin 2048) (j : Fin 1024) : ℝ := (1 / 2) * r140 E R j
def r152 (E : Data) (R : Fin 2048) (j : Fin 1024) : ℝ := r149 E R j + r151 E R j
def r155 (E : Data) (h : Fin 8) (i : Fin 128) (_ : Fin 1) : ℝ := r90 E h i

theorem sum_nonneg_div (f : Fin 1024 → ℝ) : 0 ≤ (∑ j, f j * f j) / 1024 :=
  div_nonneg (Finset.sum_nonneg fun j _ => mul_self_nonneg _) (by norm_num)
theorem r64_pos (E : Data) (R : Fin 2048) (j : Fin 1) : 0 < r64 E R j := by
  have h := sum_nonneg_div (r57 E R)
  show 0 < (∑ k, r57 E R k * r57 E R k) / 1024 + eps
  have : 0 < eps := by unfold eps; norm_num
  linarith

/-! ## What they come to -/

/-- The data with the matrices masked. -/
def msk (E : Data) : Data := ⟨E.z, E.dy, E.g, E.b, tri E.w, E.s⟩

/-- A sum over the rows is a sum over the chunks of sums over each chunk's rows. -/
theorem sum_rows (f : Fin 2048 → ℝ) : ∑ R, f R = ∑ n, ∑ r, f (row n r) := by
  let e : Fin 16 × Fin 128 ≃ Fin 2048 := ⟨fun p => row p.1 p.2, fun R => (ck R, rk R),
    fun p => Prod.ext (ck_row _ _) (rk_row _ _), fun R => row_ck_rk R⟩
  rw [← Equiv.sum_comp e f, Fintype.sum_prod_type]
  rfl

section
variable (E : Data)

theorem e20 (R : Fin 2048) (j : Fin 1024) : r20 E R j = tnh (r0 E R j) := by
  unfold r20 r19 r17 r16 r14 r9 r8 tnh
  congr 2; ring
theorem e28 (R : Fin 2048) (j : Fin 1024) : r28 E R j = gel (r0 E R j) := by
  unfold r28 r7 r27 gel; rw [e20]
theorem e43 (R : Fin 2048) (j : Fin 1024) : r43 E R j = tnh (r1 E R j) := by
  unfold r43 r42 r40 r39 r37 r32 r31 tnh
  congr 2; ring
theorem e51 (R : Fin 2048) (j : Fin 1024) : r51 E R j = gel (r1 E R j) := by
  unfold r51 r30 r50 gel; rw [e43]
/-- The rows of gelu(zv). -/
def gvR (R : Fin 2048) : Fin 1024 → ℝ := fun j => gel (r1 E R j)
theorem e57 (R : Fin 2048) (j : Fin 1024) : r57 E R j = cen (gvR E R) j := by
  unfold r57 r56 r55 r53 r52 cen rowMean
  rw [e51, Finset.sum_congr rfl fun k _ => e51 E R k]; rfl
theorem e64 (R : Fin 2048) (j : Fin 1) : r64 E R j = varE (gvR E R) := by
  unfold r64 r62 r60 r59 varE rowMean
  rw [Finset.sum_congr rfl fun k _ => show r58 E R k = cen (gvR E R) k * cen (gvR E R) k by unfold r58; rw [e57]]
theorem e65 (R : Fin 2048) (j : Fin 1) : r65 E R j = rstd (gvR E R) := by
  unfold r65 rstd; rw [e64]
theorem e70 (R : Fin 2048) (j : Fin 1024) : r70 E R j = nrm (gvR E R) j := by
  unfold r70 r69 nrm; rw [e57, e65]
theorem vh_chunk (n : Fin 16) (r : Fin 128) (j : Fin 1024) : ((msk E).chunk n).vh r j = r70 E (row n r) j := (e70 E _ _).symm
theorem v_chunk (n : Fin 16) (r : Fin 128) (j : Fin 1024) : ((msk E).chunk n).v r j = r74 E (row n r) j := by
  unfold Chunk.v; rw [vh_chunk]; rfl
theorem mix_chunk (n : Fin 16) (r : Fin 128) (j : Fin 1024) :
    ((msk E).chunk n).mixH (hd j) r (ln j) = r82 E (row n r) j := by
  unfold Chunk.mixH r82
  rw [ck_row, rk_row]
  unfold r81 r80 r79 r78 r77 r76
  refine congrArg₂ (· + ·) (Finset.sum_congr rfl fun k _ => ?_) rfl
  rw [v_chunk, mul_comm]; rfl
theorem dm_chunk (n : Fin 16) (r : Fin 128) (j : Fin 1024) : ((msk E).chunk n).dm r j = r84 E (row n r) j := by
  unfold Chunk.dm r84; rw [e28, mul_comm]; rfl
theorem dv_chunk (n : Fin 16) (r : Fin 128) (j : Fin 1024) : ((msk E).chunk n).dv r j = r95 E (row n r) j := by
  unfold Chunk.dv Chunk.dvH r95
  rw [ck_row, rk_row]
  unfold r94 r93 r91 r86
  refine Finset.sum_congr rfl fun i _ => ?_
  rw [dm_chunk, mul_comm]; rfl

/-- The gradient of the layer norm's scale … -/
theorem grad_g (a : Fin 1) (j : Fin 1024) : r100 E a j = ∑ n, ((msk E).chunk n).dg j := by
  unfold r100 r99
  rw [sum_rows]
  refine Finset.sum_congr rfl fun n _ => Finset.sum_congr rfl fun r _ => ?_
  rw [dv_chunk, vh_chunk]; exact mul_comm _ _
/-- … and shift … -/
theorem grad_b (a : Fin 1) (j : Fin 1024) : r97 E a j = ∑ n, ((msk E).chunk n).db j := by
  unfold r97 r96
  rw [sum_rows]
  refine Finset.sum_congr rfl fun n _ => Finset.sum_congr rfl fun r _ => ?_
  rw [dv_chunk]
/-- … of the masked matrices … -/
theorem grad_w (h : Fin 8) (i k : Fin 128) : r92 E h i k = ∑ n, ((msk E).chunk n).dw h i k := by
  unfold r92
  refine Finset.sum_congr rfl fun n _ => Finset.sum_congr rfl fun d _ => ?_
  rw [dm_chunk, v_chunk]; rfl
/-- … and of the biases. -/
theorem grad_s (h : Fin 8) (i : Fin 128) (a : Fin 1) : r155 E h i a = ∑ n, ((msk E).chunk n).ds h i := by
  unfold r155 r90 r89 r88 r87
  rw [Fin.sum_univ_one, Fin.sum_univ_one]
  refine Finset.sum_congr rfl fun n _ => Finset.sum_congr rfl fun d _ => ?_
  rw [dm_chunk]; rfl

/-- The gradient of the gate's half of the projection. -/
theorem grad_zu (n : Fin 16) (r : Fin 128) (j : Fin 1024) :
    r152 E (row n r) j = ((msk E).chunk n).dzuH (hd j) r (ln j) := by
  unfold Chunk.dzuH
  rw [mix_chunk, col_hd_ln]
  show _ = E.dy (row n r) j * r82 E (row n r) j * gelD (r0 E (row n r) j)
  unfold r152 r151 r149 r148 r147 r145 r143 r141 r140 r139 r85 r25 r22 r24 r27 r12 r10 r7
  rw [e20]
  unfold gelD
  ring

theorem sum_cen (f : Fin 1024 → ℝ) : ∑ j, cen f j = 0 := by
  unfold cen rowMean
  rw [Finset.sum_sub_distrib, Finset.sum_const, Finset.card_univ, Fintype.card_fin, nsmul_eq_mul]
  push_cast; ring
theorem rstd_sq (f : Fin 1024 → ℝ) : rstd f * rstd f = (varE f)⁻¹ := by
  unfold rstd
  rw [← mul_inv, Real.mul_self_sqrt (varE_pos f).le]

/-- The gradient of a normalised row, as the reference spells it and as the kernel does. -/
theorem norm_back (f q : Fin 1024 → ℝ) (j : Fin 1024) :
    (q j * rstd f + cen f j * ((∑ k, cen f k * q k) * (-(1 / 2) * (rstd f / varE f)) / 1024)
        + ((∑ k, cen f k * q k) * (-(1 / 2) * (rstd f / varE f)) / 1024) * cen f j)
      + (∑ k, -(q k * rstd f + cen f k * ((∑ k, cen f k * q k) * (-(1 / 2) * (rstd f / varE f)) / 1024)
        + ((∑ k, cen f k * q k) * (-(1 / 2) * (rstd f / varE f)) / 1024) * cen f k)) / 1024
      = rstd f * (q j - rowMean q - nrm f j * rowMean (fun k => q k * nrm f k)) := by
  have h1 : ∑ k, q k * nrm f k = (∑ k, cen f k * q k) * rstd f := by
    rw [Finset.sum_mul]; exact Finset.sum_congr rfl fun k _ => by unfold nrm; ring
  have hv : rstd f / varE f = rstd f * (rstd f * rstd f) := by rw [rstd_sq]; rfl
  unfold rowMean
  rw [h1, hv]
  generalize (∑ k, cen f k * q k) = S
  have h2 : (∑ k, -(q k * rstd f + cen f k * (S * (-(1 / 2) * (rstd f * (rstd f * rstd f))) / 1024)
        + (S * (-(1 / 2) * (rstd f * (rstd f * rstd f))) / 1024) * cen f k)) = -((∑ k, q k) * rstd f) := by
    rw [Finset.sum_neg_distrib, Finset.sum_add_distrib, Finset.sum_add_distrib, ← Finset.sum_mul, ← Finset.sum_mul, ← Finset.mul_sum,
      sum_cen]
    ring
  rw [h2]
  unfold nrm
  ring

theorem e124 (n : Fin 16) (r : Fin 128) (j : Fin 1024) :
    r124 E (row n r) j = rstd (gvR E (row n r)) * ((msk E).chunk n).dgv r j := by
  have hq : ∀ k, ((msk E).chunk n).dvh r k = r102 E (row n r) k := fun k => by
    unfold Chunk.dvh; rw [dv_chunk]; rfl
  have hq' : ((msk E).chunk n).dvh r = r102 E (row n r) := funext hq
  have h112 : ∀ k, r112 E (row n r) k = (∑ k, cen (gvR E (row n r)) k * r102 E (row n r) k)
      * (-(1 / 2) * (rstd (gvR E (row n r)) / varE (gvR E (row n r)))) / 1024 := fun k => by
    unfold r112 r111
    rw [Fin.sum_univ_one]
    unfold r110 r108 r105 r104 r68 r66
    rw [e65, e64]
    refine congrArg (fun t => t * _ / 1024) (Finset.sum_congr rfl fun k _ => ?_)
    unfold r103; rw [e57]
  have h116 : ∀ k, r116 E (row n r) k = r102 E (row n r) k * rstd (gvR E (row n r))
      + cen (gvR E (row n r)) k * ((∑ k, cen (gvR E (row n r)) k * r102 E (row n r) k)
      * (-(1 / 2) * (rstd (gvR E (row n r)) / varE (gvR E (row n r)))) / 1024)
      + ((∑ k, cen (gvR E (row n r)) k * r102 E (row n r) k)
      * (-(1 / 2) * (rstd (gvR E (row n r)) / varE (gvR E (row n r)))) / 1024) * cen (gvR E (row n r)) k := fun k => by
    unfold r116 r114 r115 r113 r107 r106
    rw [h112, e57, e65]
  have hd : ((msk E).chunk n).dgv r j = r102 E (row n r) j - rowMean (r102 E (row n r))
      - nrm (gvR E (row n r)) j * rowMean (fun k => r102 E (row n r) k * nrm (gvR E (row n r)) k) := by
    unfold Chunk.dgv; rw [hq']; rfl
  rw [hd, ← norm_back]
  unfold r124 r123 r122
  rw [Fin.sum_univ_one]
  unfold r121 r119 r118
  rw [h116 j]
  refine congrArg (fun t => _ + t / 1024) (Finset.sum_congr rfl fun k _ => ?_)
  unfold r117; rw [h116 k]

/-- The gradient of the value's half of the projection. -/
theorem grad_zv (n : Fin 16) (r : Fin 128) (j : Fin 1024) : r138 E (row n r) j = ((msk E).chunk n).dzv r j := by
  show _ = rstd (gvR E (row n r)) * ((msk E).chunk n).dgv r j * gelD (r1 E (row n r) j)
  rw [← e124]
  unfold r138 r137 r135 r134 r133 r131 r129 r127 r126 r125 r48 r45 r47 r50 r35 r33 r30
  rw [e43]
  unfold gelD
  ring
end

end Cert.Ref

end
-- ==== Proof.Ref.lean ====
/- The reference's operations on arrays of real numbers: each gives the array of the reals `rN`. -/
module

public import proofs.«01_k».proof.Proof.RefReal
public import proofs.«01_k».proof.Proof.Gen.ReferenceIdeal.Read
public import Idealize.ShloMosaic.Lib.TwoAxisContraction
public import Idealize.ShloMosaic.Lib.WordCmp
public import Idealize.ShloMosaic.Lib.Pointwise

@[expose] public section

set_option maxRecDepth 16384

noncomputable section

open scoped BigOperators

namespace Cert.Ref

open Idealize.ShloMosaic Idealize.ShloMosaic.ValueIdx Idealize.ShloMosaic.StableHlo
open Cert.ReferenceIdeal Cert.ReferenceIdeal.Gen Cert.ReferenceIdeal.Value Cert.ReferenceIdeal.Read Cert.Forms Cert.Gate Cert.Fold

/-- The four-axis array of the reals `f a b c d`. -/
def T4 {n m p q : ℕ} (f : Fin n → Fin m → Fin p → Fin q → ℝ) : (⟨4, ![n, m, p, q]⟩ : Shape).Idx → EReal :=
  fun i => ((f (i 0) (i 1) (i 2) (i 3) : ℝ) : EReal)

theorem c_three : Ideal.ofBits .f32 0x40400000#32 = ((3 : ℝ) : EReal) := by
  simp [Ideal.ofBits, Ideal.ieee, -EReal.coe_mul]; norm_num
theorem c_8943 : Ideal.ofBits .f32 0x460BBC00#32 = ((8943 : ℝ) : EReal) := by
  simp [Ideal.ofBits, Ideal.ieee, -EReal.coe_mul]; norm_num
theorem c_200000 : Ideal.ofBits .f32 0x48435000#32 = ((200000 : ℝ) : EReal) := by
  simp [Ideal.ofBits, Ideal.ieee, -EReal.coe_mul]; norm_num

section
variable {n m : ℕ} {φ : FTy}
theorem hdivf2 (f g : Fin n → Fin m → ℝ) (h : ∀ r c, g r c ≠ 0) :
    Host.divf (F := Ideal) (φ := φ) (T2 f) (T2 g) = T2 fun r c => f r c / g r c :=
  funext fun i => div_coe_coe _ _ (h _ _)
theorem htanh2 (f : Fin n → Fin m → ℝ) : Host.tanh (F := Ideal) (φ := φ) (T2 f) = T2 fun r c => Real.tanh (f r c) := rfl
theorem hnegf2 (f : Fin n → Fin m → ℝ) : Host.negf (F := Ideal) (φ := φ) (T2 f) = T2 fun r c => -(f r c) :=
  funext fun i => (EReal.coe_neg _).symm
theorem hrsqrt2 (f : Fin n → Fin m → ℝ) (h : ∀ r c, 0 < f r c) :
    Host.rsqrt (F := Ideal) (φ := φ) (T2 f) = T2 fun r c => (Real.sqrt (f r c))⁻¹ := by
  funext i
  show Ideal.rsqrt ((f (i 0) (i 1) : ℝ) : EReal) = _
  have h0 := h (i 0) (i 1)
  rw [Ideal.rsqrt_coe, if_neg (not_lt.2 h0.le), if_neg h0.ne']; rfl
end
theorem addf4 {n m p q : ℕ} {φ : FTy} (f g : Fin n → Fin m → Fin p → Fin q → ℝ) :
    addf (F := Ideal) (φ := φ) (T4 f) (T4 g) = T4 fun a b c d => f a b c d + g a b c d :=
  funext fun i => (EReal.coe_add _ _).symm

/-- A sum that starts from the zero constant. -/
theorem sum_from_zero {k : ℕ} (f : Fin k → ℝ) :
    @HAdd.hAdd EReal EReal EReal _ (Ideal.ofBits .f32 0x00000000#32) (∑ a, ((f a : ℝ) : EReal)) = (((∑ a, f a : ℝ)) : EReal) := by
  rw [c_zero, coe_sum]; exact zero_add _
/-! An array at an index whose coordinates are known. -/
theorem T1_at {n : ℕ} (f : Fin n → ℝ) (k : (⟨1, ![n]⟩ : Shape).Idx) (a : Fin n) (h0 : (k 0).val = a.val) :
    T1 f k = ((f a : ℝ) : EReal) :=
  congrArg (fun a => ((f a : ℝ) : EReal)) (Fin.ext h0 : (k 0 : Fin n) = a)
theorem T2_at {n m : ℕ} (f : Fin n → Fin m → ℝ) (k : (⟨2, ![n, m]⟩ : Shape).Idx) (a : Fin n) (b : Fin m) (h0 : (k 0).val = a.val)
    (h1 : (k 1).val = b.val) : T2 f k = ((f a b : ℝ) : EReal) :=
  congrArg₂ (fun a b => ((f a b : ℝ) : EReal)) (Fin.ext h0 : (k 0 : Fin n) = a) (Fin.ext h1 : (k 1 : Fin m) = b)
theorem T3_at {n m p : ℕ} (f : Fin n → Fin m → Fin p → ℝ) (k : (⟨3, ![n, m, p]⟩ : Shape).Idx) (a : Fin n) (b : Fin m) (c : Fin p)
    (h0 : (k 0).val = a.val) (h1 : (k 1).val = b.val) (h2 : (k 2).val = c.val) : T3 f k = ((f a b c : ℝ) : EReal) := by
  have e0 : (k 0 : Fin n) = a := Fin.ext h0
  have e1 : (k 1 : Fin m) = b := Fin.ext h1
  have e2 : (k 2 : Fin p) = c := Fin.ext h2
  subst e0 e1 e2
  rfl
theorem T4_at {n m p q : ℕ} (f : Fin n → Fin m → Fin p → Fin q → ℝ) (k : (⟨4, ![n, m, p, q]⟩ : Shape).Idx) (a : Fin n) (b : Fin m)
    (c : Fin p) (d : Fin q) (h0 : (k 0).val = a.val) (h1 : (k 1).val = b.val) (h2 : (k 2).val = c.val) (h3 : (k 3).val = d.val) :
    T4 f k = ((f a b c d : ℝ) : EReal) := by
  have e0 : (k 0 : Fin n) = a := Fin.ext h0
  have e1 : (k 1 : Fin m) = b := Fin.ext h1
  have e2 : (k 2 : Fin p) = c := Fin.ext h2
  have e3 : (k 3 : Fin q) = d := Fin.ext h3
  subst e0 e1 e2 e3
  rfl

/-- A sum of products. -/
theorem sum_of_products {k : ℕ} (f g : Fin k → ℝ) (x y : Fin k → EReal) (hx : ∀ a, x a = ((f a : ℝ) : EReal))
    (hy : ∀ a, y a = ((g a : ℝ) : EReal)) : (∑ a, x a * y a) = (((∑ a, f a * g a : ℝ)) : EReal) := by
  rw [coe_sum]
  exact Finset.sum_congr rfl fun a _ => by rw [hx, hy]; exact (EReal.coe_mul _ _).symm

/-- A row of the whole as chunk, position, head, place in the head … -/
theorem split_rows (f : Fin 2048 → Fin 1024 → ℝ) (i : (⟨4, ![16, 128, 8, 128]⟩ : Shape).Idx) (k : (⟨2, ![2048, 1024]⟩ : Shape).Idx)
    (h0 : (k 0).val = ((((i 0).val * 128 + (i 1).val) * 8 + (i 2).val) * 128 + (i 3).val) / 1024)
    (h1 : (k 1).val = ((((i 0).val * 128 + (i 1).val) * 8 + (i 2).val) * 128 + (i 3).val) % 1024) :
    T2 f k = ((f (row (i 0) (i 1)) (col (i 2) (i 3)) : ℝ) : EReal) := by
  have i0 : (i 0).val < 16 := (i 0).isLt
  have i1 : (i 1).val < 128 := (i 1).isLt
  have i2 : (i 2).val < 8 := (i 2).isLt
  have i3 : (i 3).val < 128 := (i 3).isLt
  exact T2_at f k (row (i 0) (i 1)) (col (i 2) (i 3)) (by rw [h0]; show _ = 128 * (i 0).val + (i 1).val; omega)
    (by rw [h1]; show _ = 128 * (i 2).val + (i 3).val; omega)
/-- … and back. -/
theorem join_rows (f : Fin 16 → Fin 128 → Fin 8 → Fin 128 → ℝ) (i : (⟨2, ![2048, 1024]⟩ : Shape).Idx)
    (k : (⟨4, ![16, 128, 8, 128]⟩ : Shape).Idx)
    (h0 : (k 0).val = ((i 0).val * 1024 + (i 1).val) / 131072) (h1 : (k 1).val = ((i 0).val * 1024 + (i 1).val) / 1024 % 128)
    (h2 : (k 2).val = ((i 0).val * 1024 + (i 1).val) / 128 % 8) (h3 : (k 3).val = ((i 0).val * 1024 + (i 1).val) % 128) :
    T4 f k = ((f (ck (i 0)) (rk (i 0)) (hd (i 1)) (ln (i 1)) : ℝ) : EReal) := by
  have i0 : (i 0).val < 2048 := (i 0).isLt
  have i1 : (i 1).val < 1024 := (i 1).isLt
  exact T4_at f k (ck (i 0)) (rk (i 0)) (hd (i 1)) (ln (i 1)) (by rw [h0]; show _ = (i 0).val / 128; omega)
    (by rw [h1]; show _ = (i 0).val % 128; omega) (by rw [h2]; show _ = (i 1).val / 128; omega)
    (by rw [h3]; show _ = (i 1).val % 128; omega)
theorem drop_units (f : Fin 128 → Fin 8 → ℝ) (i : (⟨4, ![1, 128, 8, 1]⟩ : Shape).Idx) (k : (⟨2, ![128, 8]⟩ : Shape).Idx)
    (h0 : (k 0).val = ((((i 0).val * 128 + (i 1).val) * 8 + (i 2).val) * 1 + (i 3).val) / 8)
    (h1 : (k 1).val = ((((i 0).val * 128 + (i 1).val) * 8 + (i 2).val) * 1 + (i 3).val) % 8) :
    T2 f k = ((f (i 1) (i 2) : ℝ) : EReal) := by
  have i0 : (i 0).val < 1 := (i 0).isLt
  have i1 : (i 1).val < 128 := (i 1).isLt
  have i2 : (i 2).val < 8 := (i 2).isLt
  have i3 : (i 3).val < 1 := (i 3).isLt
  exact T2_at f k (i 1) (i 2) (by rw [h0]; omega) (by rw [h1]; omega)
theorem col_of (i : (⟨2, ![2048, 1]⟩ : Shape).Idx) : ((i 0).val * 1 + (i 1).val) = (i 0).val := by
  have i1 : (i 1).val < 1 := (i 1).isLt
  omega
/-- A one-axis array as a row. -/
theorem row_of (f : Fin 1024 → ℝ) (i : (⟨2, ![1, 1024]⟩ : Shape).Idx) (k : (⟨1, ![1024]⟩ : Shape).Idx)
    (hk : (k 0).val = (i 0).val * 1024 + (i 1).val := by rfl) : T1 f k = T2 (fun _ j => f j) i := by
  have i0 : (i 0).val < 1 := (i 0).isLt
  have e : (k 0 : Fin 1024) = i 1 := Fin.ext (by rw [hk]; omega)
  exact congrArg (fun a => ((f a : ℝ) : EReal)) e

/-- A host sum at an index, the operand's indices that reduce to it given as a family. -/
theorem host_sum {s t : Shape} {axes : List (Fin s.rank)} {κ : Type} [Fintype κ] (h : s.ReducesTo axes t) (v : s.Idx → EReal) (init : EReal)
    (j : t.Idx) (g : κ → s.Idx) (hg : Function.Injective g) (hp : ∀ i, h.drop i = j ↔ ∃ k, g k = i) :
    Ideal.hostReduceAdd h v init j = init + ∑ k, v (g k) :=
  congrArg (init + ·) (Finset.sum_filter_eq_sum_of_fiber _ g hg hp v)
/-- The sum over the first and the last of four axes. -/
theorem sum_03 {p q : ℕ} (f : Fin p → Fin 128 → Fin 8 → Fin q → ℝ) (init : S_.Idx → EReal)
    (hi : init (Shape.Idx.first h_S_) = ((0 : ℝ) : EReal))
    (h : (⟨4, ![p, 128, 8, q]⟩ : Shape).ReducesTo [0, 3] ⟨2, ![128, 8]⟩) (hu : 0 < S_.numel) :
    Host.reduceAdd (F := Ideal) (φ := .f32) (T4 f) init h hu = T2 fun i k => ∑ a, ∑ d, f a i k d := by
  funext j
  refine (hostReduceAdd_apply (T4 f) init h hu j).trans ?_
  rw [hi]
  have key := host_sum h (T4 f) ((0 : ℝ) : EReal) j (fun k : Fin p × Fin q => ValueIdx.ix4 k.1 (j 0) (j 1) k.2)
    (fun _ _ e => Prod.ext (congrFun e 0) (congrFun e 3)) fun i => by
      constructor
      · intro e
        refine ⟨(i 0, i 3), ?_⟩
        subst e
        funext a; apply Fin.ext
        match a with
        | ⟨0, _⟩ => rfl
        | ⟨1, _⟩ => rfl
        | ⟨2, _⟩ => rfl
        | ⟨3, _⟩ => rfl
      · rintro ⟨k, rfl⟩
        funext b; apply Fin.ext
        match b with
        | ⟨0, _⟩ => rfl
        | ⟨1, _⟩ => rfl
  rw [Fintype.sum_prod_type] at key
  refine key.trans ?_
  show ((0 : ℝ) : EReal) + _ = (((∑ a, ∑ d, f a (j 0) (j 1) d : ℝ)) : EReal)
  rw [coe_sum, EReal.coe_zero, zero_add]
  exact Finset.sum_congr rfl fun a _ => (coe_sum _ _).symm

/-- The product that contracts two axes. -/
theorem dot_two (f : Fin 8 → Fin 16 → Fin 128 → Fin 128 → ℝ) (g : Fin 16 → Fin 128 → Fin 8 → Fin 128 → ℝ) :
    Host.dotGeneral (F := Ideal) (φ₁ := .f32) (φ₂ := .f32) dot_S8x16x128x128_S16x128x8x128_S8x128x128_12_03_3_1_0_2 none (T4 f) (T4 g)
      = T3 fun h i k => ∑ n, ∑ d, f h n d i * g n k h d := by
  funext j
  let D := dot_S8x16x128x128_S16x128x8x128_S8x128x128_12_03_3_1_0_2
  have hr : D.contr.rank = 2 := rfl
  have c0 : D.contr.size ⟨0, by rw [hr]; omega⟩ = 16 := rfl
  have c1 : D.contr.size ⟨1, by rw [hr]; omega⟩ = 128 := rfl
  simp only [Host.dotGeneral]
  rw [Ideal.dotGeneral_apply, ← Equiv.sum_comp (contrEquiv2 D 16 128 hr c0 c1).symm, Fintype.sum_prod_type]
  show _ = (((∑ n, ∑ d, f (j 0) n d (j 1) * g n (j 2) (j 0) d : ℝ)) : EReal)
  rw [coe_sum]
  refine Finset.sum_congr rfl fun a _ => ?_
  rw [coe_sum]
  refine Finset.sum_congr rfl fun b _ => ?_
  have h0 := contrEquiv2_symm_val0 D 16 128 hr c0 c1 (a, b)
  have h1 := contrEquiv2_symm_val1 D 16 128 hr c0 c1 (a, b)
  have el : D.lhsIdx j ((contrEquiv2 D 16 128 hr c0 c1).symm (a, b)) = ValueIdx.ix4 (j 0) a b (j 1) := by
    funext x; apply Fin.ext
    match x with
    | ⟨0, _⟩ => rfl
    | ⟨1, _⟩ => exact h0
    | ⟨2, _⟩ => exact h1
    | ⟨3, _⟩ => rfl
  have er : D.rhsIdx j ((contrEquiv2 D 16 128 hr c0 c1).symm (a, b)) = ValueIdx.ix4 a (j 2) (j 0) b := by
    funext x; apply Fin.ext
    match x with
    | ⟨0, _⟩ => exact h0
    | ⟨1, _⟩ => rfl
    | ⟨2, _⟩ => rfl
    | ⟨3, _⟩ => exact h1
  rw [el, er]
  exact (EReal.coe_mul _ _).symm

/-! ## The arguments -/

def a0 (E : Data) : S2048x3072.Idx → EReal := T2 E.z
def a1 (E : Data) : S2048x1024.Idx → EReal := T2 E.dy
def a3 (E : Data) : S1x1024.Idx → EReal := T2 fun (_ : Fin 1) => E.g
def a4 (E : Data) : S1x1024.Idx → EReal := T2 fun (_ : Fin 1) => E.b
def a5 (E : Data) : S8x128x128.Idx → EReal := T3 E.w
def a6 (E : Data) : S8x128.Idx → EReal := T2 E.s

section
variable (E : Data)

theorem s5 : val_main_v5 (F := Ideal) (a5 E) = T3 (tri E.w) := by
  funext i
  have hb : val_main_call0_v4 (F := Ideal) (idx_main_v4 (idx_main_call1_v1 i)) = BitVec.ofBool (decide ((i 2).val ≤ (i 1).val)) := by
    show IntOp.cmpi .sge (IntOp.addi (BitVec.ofNat 32 (i 1).val) (val_main_call0_v1 (F := Ideal) _)) (BitVec.ofNat 32 (i 2).val) = _
    rw [val_main_call0_v1_apply]
    exact mask_bit (i 1) (i 2)
  rw [val_main_v5_apply, val_main_call1_v1_apply, val_main_v4_apply, val_main_v3_apply, hb, val_main_v2_apply, val_main_call0_v5_apply,
    val_main_call1_v2_apply]
  have hz : val_main_call1_v0 (F := Ideal) (idx_main_call1_v2 i) = ((0 : ℝ) : EReal) := c_zero
  rw [hz]
  show _ = ((tri E.w (i 0) (i 1) (i 2) : ℝ) : EReal)
  unfold tri
  by_cases hk : (i 2).val ≤ (i 1).val
  · rw [if_pos hk, decide_eq_true hk]; rfl
  · rw [if_neg hk, decide_eq_false hk]; rfl

theorem s0 : val_main_v0 (F := Ideal) (a0 E) = T2 (r0 E) := by
  funext i
  exact val_main_v0_apply (F := Ideal) (a0 E) i
theorem s1 : val_main_v1 (F := Ideal) (a0 E) = T2 (r1 E) := by
  funext i
  exact val_main_v1_apply (F := Ideal) (a0 E) i
theorem s6 : val_main_v6 (F := Ideal) = T2 (n := 2048) (m := 1024) fun _ _ => 1 / 2 := funext fun i => (val_main_v6_apply i).trans c_half
theorem s7 : val_main_v7 (F := Ideal) (a0 E) = T2 (r7 E) := by
  unfold val_main_v7
  rw [s6, s0]
  exact mulf2 _ _
theorem s8 : val_main_v8 (F := Ideal) (a0 E) = T2 (r8 E) := by
  unfold val_main_v8
  rw [s0]
  exact mulf2 _ _
theorem s9 : val_main_v9 (F := Ideal) (a0 E) = T2 (r9 E) := by
  unfold val_main_v9
  rw [s8, s0]
  exact mulf2 _ _
theorem s10 : val_main_v10 (F := Ideal) (a0 E) = T2 (r10 E) := by
  unfold val_main_v10
  rw [s0]
  exact mulf2 _ _
theorem s11 : val_main_v11 (F := Ideal) = T2 (n := 2048) (m := 1024) fun _ _ => 3 := funext fun i => (val_main_v11_apply i).trans c_three
theorem s12 : val_main_v12 (F := Ideal) (a0 E) = T2 (r12 E) := by
  unfold val_main_v12
  rw [s11, s10]
  exact mulf2 _ _
theorem s13 : val_main_v13 (F := Ideal) = T2 (n := 2048) (m := 1024) fun _ _ => 8943 := funext fun i => (val_main_v13_apply i).trans c_8943
theorem s14 : val_main_v14 (F := Ideal) (a0 E) = T2 (r14 E) := by
  unfold val_main_v14
  rw [s13, s9]
  exact mulf2 _ _
theorem s15 : val_main_v15 (F := Ideal) = T2 (n := 2048) (m := 1024) fun _ _ => 200000 := funext fun i => (val_main_v15_apply i).trans c_200000
theorem s16 : val_main_v16 (F := Ideal) (a0 E) = T2 (r16 E) := by
  unfold val_main_v16
  rw [s14, s15]
  exact hdivf2 _ _ (fun _ _ => by norm_num)
theorem s17 : val_main_v17 (F := Ideal) (a0 E) = T2 (r17 E) := by
  unfold val_main_v17
  rw [s0, s16]
  exact addf2 _ _
theorem s18 : val_main_v18 (F := Ideal) = T2 (n := 2048) (m := 1024) fun _ _ => cG := funext fun i => (val_main_v18_apply i).trans c_gelu
theorem s19 : val_main_v19 (F := Ideal) (a0 E) = T2 (r19 E) := by
  unfold val_main_v19
  rw [s18, s17]
  exact mulf2 _ _
theorem s20 : val_main_v20 (F := Ideal) (a0 E) = T2 (r20 E) := by
  unfold val_main_v20
  rw [s19]
  exact htanh2 _
theorem s21 : val_main_v21 (F := Ideal) = T2 (n := 2048) (m := 1024) fun _ _ => 1 := funext fun i => (val_main_v21_apply i).trans c_one
theorem s22 : val_main_v22 (F := Ideal) (a0 E) = T2 (r22 E) := by
  unfold val_main_v22
  rw [s21, s20]
  exact addf2 _ _
theorem s23 : val_main_v23 (F := Ideal) = T2 (n := 2048) (m := 1024) fun _ _ => 1 := funext fun i => (val_main_v23_apply i).trans c_one
theorem s24 : val_main_v24 (F := Ideal) (a0 E) = T2 (r24 E) := by
  unfold val_main_v24
  rw [s23, s20]
  exact subf2 _ _
theorem s25 : val_main_v25 (F := Ideal) (a0 E) = T2 (r25 E) := by
  unfold val_main_v25
  rw [s22, s24]
  exact mulf2 _ _
theorem s26 : val_main_v26 (F := Ideal) = T2 (n := 2048) (m := 1024) fun _ _ => 1 := funext fun i => (val_main_v26_apply i).trans c_one
theorem s27 : val_main_v27 (F := Ideal) (a0 E) = T2 (r27 E) := by
  unfold val_main_v27
  rw [s26, s20]
  exact addf2 _ _
theorem s28 : val_main_v28 (F := Ideal) (a0 E) = T2 (r28 E) := by
  unfold val_main_v28
  rw [s7, s27]
  exact mulf2 _ _
theorem s29 : val_main_v29 (F := Ideal) = T2 (n := 2048) (m := 1024) fun _ _ => 1 / 2 := funext fun i => (val_main_v29_apply i).trans c_half
theorem s30 : val_main_v30 (F := Ideal) (a0 E) = T2 (r30 E) := by
  unfold val_main_v30
  rw [s29, s1]
  exact mulf2 _ _
theorem s31 : val_main_v31 (F := Ideal) (a0 E) = T2 (r31 E) := by
  unfold val_main_v31
  rw [s1]
  exact mulf2 _ _
theorem s32 : val_main_v32 (F := Ideal) (a0 E) = T2 (r32 E) := by
  unfold val_main_v32
  rw [s31, s1]
  exact mulf2 _ _
theorem s33 : val_main_v33 (F := Ideal) (a0 E) = T2 (r33 E) := by
  unfold val_main_v33
  rw [s1]
  exact mulf2 _ _
theorem s34 : val_main_v34 (F := Ideal) = T2 (n := 2048) (m := 1024) fun _ _ => 3 := funext fun i => (val_main_v34_apply i).trans c_three
theorem s35 : val_main_v35 (F := Ideal) (a0 E) = T2 (r35 E) := by
  unfold val_main_v35
  rw [s34, s33]
  exact mulf2 _ _
theorem s36 : val_main_v36 (F := Ideal) = T2 (n := 2048) (m := 1024) fun _ _ => 8943 := funext fun i => (val_main_v36_apply i).trans c_8943
theorem s37 : val_main_v37 (F := Ideal) (a0 E) = T2 (r37 E) := by
  unfold val_main_v37
  rw [s36, s32]
  exact mulf2 _ _
theorem s38 : val_main_v38 (F := Ideal) = T2 (n := 2048) (m := 1024) fun _ _ => 200000 := funext fun i => (val_main_v38_apply i).trans c_200000
theorem s39 : val_main_v39 (F := Ideal) (a0 E) = T2 (r39 E) := by
  unfold val_main_v39
  rw [s37, s38]
  exact hdivf2 _ _ (fun _ _ => by norm_num)
theorem s40 : val_main_v40 (F := Ideal) (a0 E) = T2 (r40 E) := by
  unfold val_main_v40
  rw [s1, s39]
  exact addf2 _ _
theorem s41 : val_main_v41 (F := Ideal) = T2 (n := 2048) (m := 1024) fun _ _ => cG := funext fun i => (val_main_v41_apply i).trans c_gelu
theorem s42 : val_main_v42 (F := Ideal) (a0 E) = T2 (r42 E) := by
  unfold val_main_v42
  rw [s41, s40]
  exact mulf2 _ _
theorem s43 : val_main_v43 (F := Ideal) (a0 E) = T2 (r43 E) := by
  unfold val_main_v43
  rw [s42]
  exact htanh2 _
theorem s44 : val_main_v44 (F := Ideal) = T2 (n := 2048) (m := 1024) fun _ _ => 1 := funext fun i => (val_main_v44_apply i).trans c_one
theorem s45 : val_main_v45 (F := Ideal) (a0 E) = T2 (r45 E) := by
  unfold val_main_v45
  rw [s44, s43]
  exact addf2 _ _
theorem s46 : val_main_v46 (F := Ideal) = T2 (n := 2048) (m := 1024) fun _ _ => 1 := funext fun i => (val_main_v46_apply i).trans c_one
theorem s47 : val_main_v47 (F := Ideal) (a0 E) = T2 (r47 E) := by
  unfold val_main_v47
  rw [s46, s43]
  exact subf2 _ _
theorem s48 : val_main_v48 (F := Ideal) (a0 E) = T2 (r48 E) := by
  unfold val_main_v48
  rw [s45, s47]
  exact mulf2 _ _
theorem s49 : val_main_v49 (F := Ideal) = T2 (n := 2048) (m := 1024) fun _ _ => 1 := funext fun i => (val_main_v49_apply i).trans c_one
theorem s50 : val_main_v50 (F := Ideal) (a0 E) = T2 (r50 E) := by
  unfold val_main_v50
  rw [s49, s43]
  exact addf2 _ _
theorem s51 : val_main_v51 (F := Ideal) (a0 E) = T2 (r51 E) := by
  unfold val_main_v51
  rw [s30, s50]
  exact mulf2 _ _
theorem s52 : val_main_v52 (F := Ideal) (a0 E) = T1 (r52 E) := by
  funext i
  refine (val_main_v52_apply (a0 E) i).trans ?_
  rw [s51]
  exact sum_from_zero _
theorem s53 : val_main_v53 (F := Ideal) (a0 E) = T2 (r53 E) := by
  funext i
  refine (val_main_v53_apply (F := Ideal) (a0 E) i).trans ?_
  rw [s52]
  exact T1_at (r52 E) _ (i 0) rfl
theorem s54 : val_main_v54 (F := Ideal) = T2 (n := 2048) (m := 1) fun _ _ => 1024 := funext fun i => (val_main_v54_apply i).trans c_1024
theorem s55 : val_main_v55 (F := Ideal) (a0 E) = T2 (r55 E) := by
  unfold val_main_v55
  rw [s53, s54]
  exact hdivf2 _ _ (fun _ _ => by norm_num)
theorem s56 : val_main_v56 (F := Ideal) (a0 E) = T2 (r56 E) := by
  funext i
  refine (val_main_v56_apply (F := Ideal) (a0 E) i).trans ?_
  rw [s55]
  exact T2_at (r55 E) _ (i 0) 0 rfl rfl
theorem s57 : val_main_v57 (F := Ideal) (a0 E) = T2 (r57 E) := by
  unfold val_main_v57
  rw [s51, s56]
  exact subf2 _ _
theorem s58 : val_main_v58 (F := Ideal) (a0 E) = T2 (r58 E) := by
  unfold val_main_v58
  rw [s57]
  exact mulf2 _ _
theorem s59 : val_main_v59 (F := Ideal) (a0 E) = T1 (r59 E) := by
  funext i
  refine (val_main_v59_apply (a0 E) i).trans ?_
  rw [s58]
  exact sum_from_zero _
theorem s60 : val_main_v60 (F := Ideal) (a0 E) = T2 (r60 E) := by
  funext i
  refine (val_main_v60_apply (F := Ideal) (a0 E) i).trans ?_
  rw [s59]
  exact T1_at (r59 E) _ (i 0) rfl
theorem s61 : val_main_v61 (F := Ideal) = T2 (n := 2048) (m := 1) fun _ _ => 1024 := funext fun i => (val_main_v61_apply i).trans c_1024
theorem s62 : val_main_v62 (F := Ideal) (a0 E) = T2 (r62 E) := by
  unfold val_main_v62
  rw [s60, s61]
  exact hdivf2 _ _ (fun _ _ => by norm_num)
theorem s63 : val_main_v63 (F := Ideal) = T2 (n := 2048) (m := 1) fun _ _ => eps := funext fun i => (val_main_v63_apply i).trans c_eps
theorem s64 : val_main_v64 (F := Ideal) (a0 E) = T2 (r64 E) := by
  unfold val_main_v64
  rw [s62, s63]
  exact addf2 _ _
theorem s65 : val_main_v65 (F := Ideal) (a0 E) = T2 (r65 E) := by
  unfold val_main_v65
  rw [s64]
  exact hrsqrt2 _ (r64_pos E)
theorem s66 : val_main_v66 (F := Ideal) (a0 E) = T2 (r66 E) := by
  unfold val_main_v66
  rw [s65, s64]
  exact hdivf2 _ _ (fun R j => (r64_pos E R j).ne')
theorem s67 : val_main_v67 (F := Ideal) = T2 (n := 2048) (m := 1) fun _ _ => -(1 / 2) := funext fun i => (val_main_v67_apply i).trans c_neg_half
theorem s68 : val_main_v68 (F := Ideal) (a0 E) = T2 (r68 E) := by
  unfold val_main_v68
  rw [s67, s66]
  exact mulf2 _ _
theorem s69 : val_main_v69 (F := Ideal) (a0 E) = T2 (r69 E) := by
  funext i
  refine (val_main_v69_apply (F := Ideal) (a0 E) i).trans ?_
  rw [s65]
  exact T2_at (r65 E) _ (i 0) 0 rfl rfl
theorem s70 : val_main_v70 (F := Ideal) (a0 E) = T2 (r70 E) := by
  unfold val_main_v70
  rw [s57, s69]
  exact mulf2 _ _
theorem s71 : val_main_v71 (F := Ideal) (a3 E) = T2 (r71 E) := by
  funext i
  exact val_main_v71_apply (F := Ideal) (a3 E) i
theorem s72 : val_main_v72 (F := Ideal) (a0 E) (a3 E) = T2 (r72 E) := by
  unfold val_main_v72
  rw [s70, s71]
  exact mulf2 _ _
theorem s73 : val_main_v73 (F := Ideal) (a4 E) = T2 (r73 E) := by
  funext i
  exact val_main_v73_apply (F := Ideal) (a4 E) i
theorem s74 : val_main_v74 (F := Ideal) (a0 E) (a3 E) (a4 E) = T2 (r74 E) := by
  unfold val_main_v74
  rw [s72, s73]
  exact addf2 _ _
theorem s75 : val_main_v75 (F := Ideal) (a0 E) (a3 E) (a4 E) = T4 (r75 E) := by
  funext i
  refine (val_main_v75_apply (F := Ideal) (a0 E) (a3 E) (a4 E) i).trans ?_
  rw [s74]
  exact split_rows (r74 E) i _ rfl rfl
theorem s76 : val_main_v76 (F := Ideal) (a0 E) (a3 E) (a4 E) (a5 E) = T4 (r76 E) := by
  funext i
  refine (val_main_v76_apply (a0 E) (a3 E) (a4 E) (a5 E) i).trans ?_
  rw [s75, s5]
  exact sum_of_products (fun k => r75 E (i 1) k (i 0) (i 2)) (fun k => tri E.w (i 0) (i 3) k) _ _
    (fun k => T4_at (r75 E) _ (i 1) k (i 0) (i 2) rfl rfl rfl rfl) (fun k => T3_at (tri E.w) _ (i 0) (i 3) k rfl rfl rfl)
theorem s77 : val_main_v77 (F := Ideal) (a0 E) (a3 E) (a4 E) (a5 E) = T4 (r77 E) := by
  funext i
  refine (val_main_v77_apply (F := Ideal) (a0 E) (a3 E) (a4 E) (a5 E) i).trans ?_
  rw [s76]
  exact T4_at (r76 E) _ (i 2) (i 0) (i 3) (i 1) rfl rfl rfl rfl
theorem s78 : val_main_v78 (F := Ideal) (a6 E) = T2 (r78 E) := by
  funext i
  exact val_main_v78_apply (F := Ideal) (a6 E) i
theorem s79 : val_main_v79 (F := Ideal) (a6 E) = T4 (r79 E) := by
  funext i
  refine (val_main_v79_apply (F := Ideal) (a6 E) i).trans ?_
  rw [s78]
  exact T2_at (r78 E) _ (i 1) (i 2) rfl rfl
theorem s80 : val_main_v80 (F := Ideal) (a6 E) = T4 (r80 E) := by
  funext i
  refine (val_main_v80_apply (F := Ideal) (a6 E) i).trans ?_
  rw [s79]
  exact T4_at (r79 E) _ 0 (i 1) (i 2) 0 rfl rfl rfl rfl
theorem s81 : val_main_v81 (F := Ideal) (a0 E) (a3 E) (a4 E) (a5 E) (a6 E) = T4 (r81 E) := by
  unfold val_main_v81
  rw [s77, s80]
  exact addf4 _ _
theorem s82 : val_main_v82 (F := Ideal) (a0 E) (a3 E) (a4 E) (a5 E) (a6 E) = T2 (r82 E) := by
  funext i
  refine (val_main_v82_apply (F := Ideal) (a0 E) (a3 E) (a4 E) (a5 E) (a6 E) i).trans ?_
  rw [s81]
  exact join_rows (r81 E) i _ rfl rfl rfl rfl
theorem s84 : val_main_v84 (F := Ideal) (a0 E) (a1 E) = T2 (r84 E) := by
  unfold val_main_v84
  rw [s28]
  exact mulf2 _ _
theorem s85 : val_main_v85 (F := Ideal) (a0 E) (a1 E) (a3 E) (a4 E) (a5 E) (a6 E) = T2 (r85 E) := by
  unfold val_main_v85
  rw [s82]
  exact mulf2 _ _
theorem s86 : val_main_v86 (F := Ideal) (a0 E) (a1 E) = T4 (r86 E) := by
  funext i
  refine (val_main_v86_apply (F := Ideal) (a0 E) (a1 E) i).trans ?_
  rw [s84]
  exact split_rows (r84 E) i _ rfl rfl
theorem s87 : val_main_v87 (F := Ideal) (a0 E) (a1 E) = T2 (r87 E) := by
  unfold val_main_v87
  rw [s86]
  exact sum_03 (r86 E) _ c_zero _ _
theorem s88 : val_main_v88 (F := Ideal) (a0 E) (a1 E) = T4 (r88 E) := by
  funext i
  refine (val_main_v88_apply (F := Ideal) (a0 E) (a1 E) i).trans ?_
  rw [s87]
  exact drop_units (r87 E) i _ rfl rfl
theorem s89 : val_main_v89 (F := Ideal) (a0 E) (a1 E) = T2 (r89 E) := by
  unfold val_main_v89
  rw [s88]
  exact sum_03 (r88 E) _ c_zero _ _
theorem s90 : val_main_v90 (F := Ideal) (a0 E) (a1 E) = T2 (r90 E) := by
  funext i
  refine (val_main_v90_apply (F := Ideal) (a0 E) (a1 E) i).trans ?_
  rw [s89]
  exact T2_at (r89 E) _ (i 1) (i 0) rfl rfl
theorem s91 : val_main_v91 (F := Ideal) (a0 E) (a1 E) = T4 (r91 E) := by
  funext i
  refine (val_main_v91_apply (F := Ideal) (a0 E) (a1 E) i).trans ?_
  rw [s86]
  exact T4_at (r86 E) _ (i 1) (i 3) (i 0) (i 2) rfl rfl rfl rfl
theorem s92 : val_main_v92 (F := Ideal) (a0 E) (a1 E) (a3 E) (a4 E) = T3 (r92 E) := by
  unfold val_main_v92
  rw [s91, s75]
  exact dot_two (r91 E) (r75 E)
theorem s93 : val_main_v93 (F := Ideal) (a0 E) (a1 E) (a5 E) = T4 (r93 E) := by
  funext i
  refine (val_main_v93_apply (a0 E) (a1 E) (a5 E) i).trans ?_
  rw [s91, s5]
  exact sum_of_products (fun k => r91 E (i 0) (i 1) (i 2) k) (fun k => tri E.w (i 0) k (i 3)) _ _
    (fun k => T4_at (r91 E) _ (i 0) (i 1) (i 2) k rfl rfl rfl rfl) (fun k => T3_at (tri E.w) _ (i 0) k (i 3) rfl rfl rfl)
theorem s94 : val_main_v94 (F := Ideal) (a0 E) (a1 E) (a5 E) = T4 (r94 E) := by
  funext i
  refine (val_main_v94_apply (F := Ideal) (a0 E) (a1 E) (a5 E) i).trans ?_
  rw [s93]
  exact T4_at (r93 E) _ (i 2) (i 0) (i 3) (i 1) rfl rfl rfl rfl
theorem s95 : val_main_v95 (F := Ideal) (a0 E) (a1 E) (a5 E) = T2 (r95 E) := by
  funext i
  refine (val_main_v95_apply (F := Ideal) (a0 E) (a1 E) (a5 E) i).trans ?_
  rw [s94]
  exact join_rows (r94 E) i _ rfl rfl rfl rfl
theorem s96 : val_main_v96 (F := Ideal) (a0 E) (a1 E) (a5 E) = T1 (r96 E) := by
  funext i
  refine (val_main_v96_apply (a0 E) (a1 E) (a5 E) i).trans ?_
  rw [s95]
  exact sum_from_zero _
theorem s97 : val_main_v97 (F := Ideal) (a0 E) (a1 E) (a5 E) = T2 (r97 E) := by
  funext i
  refine (val_main_v97_apply (F := Ideal) (a0 E) (a1 E) (a5 E) i).trans ?_
  rw [s96]
  exact row_of (r96 E) i _
theorem s98 : val_main_v98 (F := Ideal) (a0 E) (a1 E) (a5 E) = T2 (r98 E) := by
  unfold val_main_v98
  rw [s70, s95]
  exact mulf2 _ _
theorem s99 : val_main_v99 (F := Ideal) (a0 E) (a1 E) (a5 E) = T1 (r99 E) := by
  funext i
  refine (val_main_v99_apply (a0 E) (a1 E) (a5 E) i).trans ?_
  rw [s98]
  exact sum_from_zero _
theorem s100 : val_main_v100 (F := Ideal) (a0 E) (a1 E) (a5 E) = T2 (r100 E) := by
  funext i
  refine (val_main_v100_apply (F := Ideal) (a0 E) (a1 E) (a5 E) i).trans ?_
  rw [s99]
  exact row_of (r99 E) i _
theorem s101 : val_main_v101 (F := Ideal) (a3 E) = T2 (r101 E) := by
  funext i
  exact val_main_v101_apply (F := Ideal) (a3 E) i
theorem s102 : val_main_v102 (F := Ideal) (a0 E) (a1 E) (a3 E) (a5 E) = T2 (r102 E) := by
  unfold val_main_v102
  rw [s95, s101]
  exact mulf2 _ _
theorem s103 : val_main_v103 (F := Ideal) (a0 E) (a1 E) (a3 E) (a5 E) = T2 (r103 E) := by
  unfold val_main_v103
  rw [s57, s102]
  exact mulf2 _ _
theorem s104 : val_main_v104 (F := Ideal) (a0 E) (a1 E) (a3 E) (a5 E) = T1 (r104 E) := by
  funext i
  refine (val_main_v104_apply (a0 E) (a1 E) (a3 E) (a5 E) i).trans ?_
  rw [s103]
  exact sum_from_zero _
theorem s105 : val_main_v105 (F := Ideal) (a0 E) (a1 E) (a3 E) (a5 E) = T2 (r105 E) := by
  funext i
  refine (val_main_v105_apply (F := Ideal) (a0 E) (a1 E) (a3 E) (a5 E) i).trans ?_
  rw [s104]
  exact T1_at (r104 E) _ (i 0) (col_of i)
theorem s106 : val_main_v106 (F := Ideal) (a0 E) = T2 (r106 E) := by
  funext i
  refine (val_main_v106_apply (F := Ideal) (a0 E) i).trans ?_
  rw [s65]
  exact T2_at (r65 E) _ (i 0) 0 rfl rfl
theorem s107 : val_main_v107 (F := Ideal) (a0 E) (a1 E) (a3 E) (a5 E) = T2 (r107 E) := by
  unfold val_main_v107
  rw [s102, s106]
  exact mulf2 _ _
theorem s108 : val_main_v108 (F := Ideal) (a0 E) (a1 E) (a3 E) (a5 E) = T2 (r108 E) := by
  unfold val_main_v108
  rw [s105, s68]
  exact mulf2 _ _
theorem s109 : val_main_v109 (F := Ideal) = T2 (n := 2048) (m := 1) fun _ _ => 1024 := funext fun i => (val_main_v109_apply i).trans c_1024
theorem s110 : val_main_v110 (F := Ideal) (a0 E) (a1 E) (a3 E) (a5 E) = T2 (r110 E) := by
  unfold val_main_v110
  rw [s108, s109]
  exact hdivf2 _ _ (fun _ _ => by norm_num)
theorem s111 : val_main_v111 (F := Ideal) (a0 E) (a1 E) (a3 E) (a5 E) = T1 (r111 E) := by
  funext i
  refine (val_main_v111_apply (a0 E) (a1 E) (a3 E) (a5 E) i).trans ?_
  rw [s110]
  exact sum_from_zero _
theorem s112 : val_main_v112 (F := Ideal) (a0 E) (a1 E) (a3 E) (a5 E) = T2 (r112 E) := by
  funext i
  refine (val_main_v112_apply (F := Ideal) (a0 E) (a1 E) (a3 E) (a5 E) i).trans ?_
  rw [s111]
  exact T1_at (r111 E) _ (i 0) rfl
theorem s113 : val_main_v113 (F := Ideal) (a0 E) (a1 E) (a3 E) (a5 E) = T2 (r113 E) := by
  unfold val_main_v113
  rw [s57, s112]
  exact mulf2 _ _
theorem s114 : val_main_v114 (F := Ideal) (a0 E) (a1 E) (a3 E) (a5 E) = T2 (r114 E) := by
  unfold val_main_v114
  rw [s107, s113]
  exact addf2 _ _
theorem s115 : val_main_v115 (F := Ideal) (a0 E) (a1 E) (a3 E) (a5 E) = T2 (r115 E) := by
  unfold val_main_v115
  rw [s112, s57]
  exact mulf2 _ _
theorem s116 : val_main_v116 (F := Ideal) (a0 E) (a1 E) (a3 E) (a5 E) = T2 (r116 E) := by
  unfold val_main_v116
  rw [s114, s115]
  exact addf2 _ _
theorem s117 : val_main_v117 (F := Ideal) (a0 E) (a1 E) (a3 E) (a5 E) = T2 (r117 E) := by
  unfold val_main_v117
  rw [s116]
  exact hnegf2 _
theorem s118 : val_main_v118 (F := Ideal) (a0 E) (a1 E) (a3 E) (a5 E) = T1 (r118 E) := by
  funext i
  refine (val_main_v118_apply (a0 E) (a1 E) (a3 E) (a5 E) i).trans ?_
  rw [s117]
  exact sum_from_zero _
theorem s119 : val_main_v119 (F := Ideal) (a0 E) (a1 E) (a3 E) (a5 E) = T2 (r119 E) := by
  funext i
  refine (val_main_v119_apply (F := Ideal) (a0 E) (a1 E) (a3 E) (a5 E) i).trans ?_
  rw [s118]
  exact T1_at (r118 E) _ (i 0) (col_of i)
theorem s120 : val_main_v120 (F := Ideal) = T2 (n := 2048) (m := 1) fun _ _ => 1024 := funext fun i => (val_main_v120_apply i).trans c_1024
theorem s121 : val_main_v121 (F := Ideal) (a0 E) (a1 E) (a3 E) (a5 E) = T2 (r121 E) := by
  unfold val_main_v121
  rw [s119, s120]
  exact hdivf2 _ _ (fun _ _ => by norm_num)
theorem s122 : val_main_v122 (F := Ideal) (a0 E) (a1 E) (a3 E) (a5 E) = T1 (r122 E) := by
  funext i
  refine (val_main_v122_apply (a0 E) (a1 E) (a3 E) (a5 E) i).trans ?_
  rw [s121]
  exact sum_from_zero _
theorem s123 : val_main_v123 (F := Ideal) (a0 E) (a1 E) (a3 E) (a5 E) = T2 (r123 E) := by
  funext i
  refine (val_main_v123_apply (F := Ideal) (a0 E) (a1 E) (a3 E) (a5 E) i).trans ?_
  rw [s122]
  exact T1_at (r122 E) _ (i 0) rfl
theorem s124 : val_main_v124 (F := Ideal) (a0 E) (a1 E) (a3 E) (a5 E) = T2 (r124 E) := by
  unfold val_main_v124
  rw [s116, s123]
  exact addf2 _ _
theorem s125 : val_main_v125 (F := Ideal) (a0 E) (a1 E) (a3 E) (a5 E) = T2 (r125 E) := by
  unfold val_main_v125
  rw [s30, s124]
  exact mulf2 _ _
theorem s126 : val_main_v126 (F := Ideal) (a0 E) (a1 E) (a3 E) (a5 E) = T2 (r126 E) := by
  unfold val_main_v126
  rw [s124, s50]
  exact mulf2 _ _
theorem s127 : val_main_v127 (F := Ideal) (a0 E) (a1 E) (a3 E) (a5 E) = T2 (r127 E) := by
  unfold val_main_v127
  rw [s125, s48]
  exact mulf2 _ _
theorem s128 : val_main_v128 (F := Ideal) = T2 (n := 2048) (m := 1024) fun _ _ => cG := funext fun i => (val_main_v128_apply i).trans c_gelu
theorem s129 : val_main_v129 (F := Ideal) (a0 E) (a1 E) (a3 E) (a5 E) = T2 (r129 E) := by
  unfold val_main_v129
  rw [s128, s127]
  exact mulf2 _ _
theorem s130 : val_main_v130 (F := Ideal) = T2 (n := 2048) (m := 1024) fun _ _ => 200000 := funext fun i => (val_main_v130_apply i).trans c_200000
theorem s131 : val_main_v131 (F := Ideal) (a0 E) (a1 E) (a3 E) (a5 E) = T2 (r131 E) := by
  unfold val_main_v131
  rw [s129, s130]
  exact hdivf2 _ _ (fun _ _ => by norm_num)
theorem s132 : val_main_v132 (F := Ideal) = T2 (n := 2048) (m := 1024) fun _ _ => 8943 := funext fun i => (val_main_v132_apply i).trans c_8943
theorem s133 : val_main_v133 (F := Ideal) (a0 E) (a1 E) (a3 E) (a5 E) = T2 (r133 E) := by
  unfold val_main_v133
  rw [s132, s131]
  exact mulf2 _ _
theorem s134 : val_main_v134 (F := Ideal) (a0 E) (a1 E) (a3 E) (a5 E) = T2 (r134 E) := by
  unfold val_main_v134
  rw [s133, s35]
  exact mulf2 _ _
theorem s135 : val_main_v135 (F := Ideal) (a0 E) (a1 E) (a3 E) (a5 E) = T2 (r135 E) := by
  unfold val_main_v135
  rw [s129, s134]
  exact addf2 _ _
theorem s136 : val_main_v136 (F := Ideal) = T2 (n := 2048) (m := 1024) fun _ _ => 1 / 2 := funext fun i => (val_main_v136_apply i).trans c_half
theorem s137 : val_main_v137 (F := Ideal) (a0 E) (a1 E) (a3 E) (a5 E) = T2 (r137 E) := by
  unfold val_main_v137
  rw [s136, s126]
  exact mulf2 _ _
theorem s138 : val_main_v138 (F := Ideal) (a0 E) (a1 E) (a3 E) (a5 E) = T2 (r138 E) := by
  unfold val_main_v138
  rw [s135, s137]
  exact addf2 _ _
theorem s139 : val_main_v139 (F := Ideal) (a0 E) (a1 E) (a3 E) (a4 E) (a5 E) (a6 E) = T2 (r139 E) := by
  unfold val_main_v139
  rw [s7, s85]
  exact mulf2 _ _
theorem s140 : val_main_v140 (F := Ideal) (a0 E) (a1 E) (a3 E) (a4 E) (a5 E) (a6 E) = T2 (r140 E) := by
  unfold val_main_v140
  rw [s85, s27]
  exact mulf2 _ _
theorem s141 : val_main_v141 (F := Ideal) (a0 E) (a1 E) (a3 E) (a4 E) (a5 E) (a6 E) = T2 (r141 E) := by
  unfold val_main_v141
  rw [s139, s25]
  exact mulf2 _ _
theorem s142 : val_main_v142 (F := Ideal) = T2 (n := 2048) (m := 1024) fun _ _ => cG := funext fun i => (val_main_v142_apply i).trans c_gelu
theorem s143 : val_main_v143 (F := Ideal) (a0 E) (a1 E) (a3 E) (a4 E) (a5 E) (a6 E) = T2 (r143 E) := by
  unfold val_main_v143
  rw [s142, s141]
  exact mulf2 _ _
theorem s144 : val_main_v144 (F := Ideal) = T2 (n := 2048) (m := 1024) fun _ _ => 200000 := funext fun i => (val_main_v144_apply i).trans c_200000
theorem s145 : val_main_v145 (F := Ideal) (a0 E) (a1 E) (a3 E) (a4 E) (a5 E) (a6 E) = T2 (r145 E) := by
  unfold val_main_v145
  rw [s143, s144]
  exact hdivf2 _ _ (fun _ _ => by norm_num)
theorem s146 : val_main_v146 (F := Ideal) = T2 (n := 2048) (m := 1024) fun _ _ => 8943 := funext fun i => (val_main_v146_apply i).trans c_8943
theorem s147 : val_main_v147 (F := Ideal) (a0 E) (a1 E) (a3 E) (a4 E) (a5 E) (a6 E) = T2 (r147 E) := by
  unfold val_main_v147
  rw [s146, s145]
  exact mulf2 _ _
theorem s148 : val_main_v148 (F := Ideal) (a0 E) (a1 E) (a3 E) (a4 E) (a5 E) (a6 E) = T2 (r148 E) := by
  unfold val_main_v148
  rw [s147, s12]
  exact mulf2 _ _
theorem s149 : val_main_v149 (F := Ideal) (a0 E) (a1 E) (a3 E) (a4 E) (a5 E) (a6 E) = T2 (r149 E) := by
  unfold val_main_v149
  rw [s143, s148]
  exact addf2 _ _
theorem s150 : val_main_v150 (F := Ideal) = T2 (n := 2048) (m := 1024) fun _ _ => 1 / 2 := funext fun i => (val_main_v150_apply i).trans c_half
theorem s151 : val_main_v151 (F := Ideal) (a0 E) (a1 E) (a3 E) (a4 E) (a5 E) (a6 E) = T2 (r151 E) := by
  unfold val_main_v151
  rw [s150, s140]
  exact mulf2 _ _
theorem s152 : val_main_v152 (F := Ideal) (a0 E) (a1 E) (a3 E) (a4 E) (a5 E) (a6 E) = T2 (r152 E) := by
  unfold val_main_v152
  rw [s149, s151]
  exact addf2 _ _
theorem s155 : val_main_v155 (F := Ideal) (a0 E) (a1 E) = T3 (r155 E) := by
  funext i
  refine (val_main_v155_apply (F := Ideal) (a0 E) (a1 E) i).trans ?_
  rw [s90]
  exact T2_at (r90 E) _ (i 0) (i 1) rfl rfl
end

end Cert.Ref

end
-- ==== Proof.Final.lean ====
/- The five results of the reference, on arrays of real numbers, as the arrays the kernel ends with. -/
module

public import proofs.«01_k».proof.Proof.Ref
public import proofs.«01_k».proof.Proof.Host

@[expose] public section

set_option maxRecDepth 16384

noncomputable section

open scoped BigOperators

namespace Cert.Ref

open Idealize.ShloMosaic Idealize.ShloMosaic.ValueIdx Idealize.ShloMosaic.StableHlo
open Cert.ReferenceIdeal Cert.ReferenceIdeal.Gen Cert.ReferenceIdeal.Value Cert.ReferenceIdeal.Read Cert.Forms Cert.Gate Cert.Blocks Cert.Fold

variable (E : Data)

theorem zu_at (R : Fin 2048) (j : Fin 1024) :
    r152 E R j = ((msk E).chunk (ck R)).dzuH (hd j) (rk R) (ln j) := by
  have h := grad_zu E (ck R) (rk R) j
  rwa [row_ck_rk] at h

theorem zv_at (R : Fin 2048) (j : Fin 1024) :
    r138 E R j = ((msk E).chunk (ck R)).dzv (rk R) j := by
  have h := grad_zv E (ck R) (rk R) j
  rwa [row_ck_rk] at h

/-- Three arrays of 1024 columns set side by side, at a column of the first, of the second and of the third. -/
theorem beside (X U W : S2048x1024.Idx → EReal) (y : S2048x3072.Idx) :
    concatenate S2048x3072 1 [⟨S2048x1024, X⟩, ⟨S2048x1024, U⟩, ⟨S2048x1024, W⟩]
        concatenates_S2048x1024_S2048x1024_S2048x1024_S2048x3072_d1 y
      = if h : (y 1).val < 1024 then X (ValueIdx.ix2 (y 0) ⟨(y 1).val, h⟩)
        else if h' : (y 1).val < 2048 then U (ValueIdx.ix2 (y 0) ⟨(y 1).val - 1024, by omega⟩)
        else W (ValueIdx.ix2 (y 0) ⟨(y 1).val - 2048, by have : (y 1).val < 3072 := (y 1).isLt; omega⟩) := by
  split_ifs with h h'
  · refine concatenate_apply_piece 1 _ _ y 0 (by simp) S2048x1024 X rfl rfl 0 rfl _ ?_ ?_
    · intro b hb
      match b, hb with
      | ⟨0, _⟩, _ => rfl
      | ⟨1, _⟩, hb => exact absurd rfl hb
    · show 0 + (y 1).val = (y 1).val
      omega
  · refine concatenate_apply_piece 1 _ _ y 1 (by simp) S2048x1024 U rfl rfl 1024 rfl _ ?_ ?_
    · intro b hb
      match b, hb with
      | ⟨0, _⟩, _ => rfl
      | ⟨1, _⟩, hb => exact absurd rfl hb
    · show 1024 + ((y 1).val - 1024) = (y 1).val
      omega
  · refine concatenate_apply_piece 1 _ _ y 2 (by simp) S2048x1024 W rfl rfl 2048 rfl _ ?_ ?_
    · intro b hb
      match b, hb with
      | ⟨0, _⟩, _ => rfl
      | ⟨1, _⟩, hb => exact absurd rfl hb
    · show 2048 + ((y 1).val - 2048) = (y 1).val
      omega

/-- The gradient of the pre-activations, with the columns passed through in front. -/
theorem res154 (X : S2048x1024.Idx → EReal) :
    val_main_v154 (F := Ideal) (a0 E) (a1 E) X (a3 E) (a4 E) (a5 E) (a6 E) = rows (msk E) X := by
  funext y
  refine (val_main_v154_apply (F := Ideal) (a0 E) (a1 E) X (a3 E) (a4 E) (a5 E) (a6 E) y).trans ?_
  show val_main_v153 (F := Ideal) (a0 E) (a1 E) X (a3 E) (a4 E) (a5 E) (a6 E) y = _
  unfold val_main_v153
  rw [s152, s138]
  refine (beside X (T2 (r152 E)) (T2 (r138 E)) y).trans ?_
  unfold rows outRow
  split_ifs with h h'
  · exact congrArg (fun R => X (ValueIdx.ix2 R ⟨(y 1).val, h⟩)) (row_ck_rk (y 0)).symm
  · exact congrArg (fun r : ℝ => (r : EReal)) (zu_at E (y 0) ⟨(y 1).val - 1024, by omega⟩)
  · exact congrArg (fun r : ℝ => (r : EReal)) (zv_at E (y 0) ⟨(y 1).val - 2048, by have : (y 1).val < 3072 := (y 1).isLt; omega⟩)

/-- The gradient of the scale of the normalisation. -/
theorem res100 : val_main_v100 (F := Ideal) (a0 E) (a1 E) (a5 E) = T2 (fun (_ : Fin 1) j => ∑ n, ((msk E).chunk n).dg j) :=
  (s100 E).trans (congrArg T2 (funext fun a => funext fun j => grad_g E a j))
/-- The gradient of its shift. -/
theorem res97 : val_main_v97 (F := Ideal) (a0 E) (a1 E) (a5 E) = T2 (fun (_ : Fin 1) j => ∑ n, ((msk E).chunk n).db j) :=
  (s97 E).trans (congrArg T2 (funext fun a => funext fun j => grad_b E a j))
/-- The gradient of the masked weights. -/
theorem res92 : val_main_v92 (F := Ideal) (a0 E) (a1 E) (a3 E) (a4 E) = T3 (fun a r d => ∑ n, ((msk E).chunk n).dw a r d) :=
  (s92 E).trans (congrArg T3 (funext fun a => funext fun r => funext fun d => grad_w E a r d))
/-- The gradient of the biases. -/
theorem res155 : val_main_v155 (F := Ideal) (a0 E) (a1 E) = T3 (fun a r (_ : Fin 1) => ∑ n, ((msk E).chunk n).ds a r) :=
  (s155 E).trans (congrArg T3 (funext fun a => funext fun r => funext fun d => grad_s E a r d))

end Cert.Ref

end
-- ==== Proof.Product.lean ====
/- What the step's product calls share: the three kinds of product of two blocks over the extended reals, read at one
   entry, with the blocks' unit axes. -/
module

public import Idealize.ShloMosaic.Lib.Pipeline.Value
public import Idealize.ShloMosaic.Lib.Pipeline.ReadBack
public import Idealize.ShloMosaic.Lib.ValueIdx
public import Idealize.ShloMosaic.Lib.Pipeline.ValueKit.Point
public import Idealize.ShloMosaic.PureOps.Ideal.Laws

@[expose] public section

noncomputable section

open scoped BigOperators

namespace Cert.Product

open Idealize.ShloMosaic
open ValueIdx (contrEquiv1)

theorem zero2 : (![0, 0] : Fin 2 → Nat) = fun _ => 0 := funext fun a => by fin_cases a <;> rfl
theorem zero3 : (![0, 0, 0] : Fin 3 → Nat) = fun _ => 0 := funext fun a => by fin_cases a <;> rfl
theorem zero4 : (![0, 0, 0, 0] : Fin 4 → Nat) = fun _ => 0 := funext fun a => by fin_cases a <;> rfl

/-- An entry of a product of two blocks is the sum over the one contracted axis. -/
theorem entry {sl sr so : Shape} {φ₁ φ₂ : FTy} (D : DotDims sl sr so) (n : Nat) (h₁ : D.contr.rank = 1)
    (h₂ : D.contr.size ⟨0, by omega⟩ = n) (a : FVec Ideal sl φ₁) (b : FVec Ideal sr φ₂) (j : so.Idx) :
    matmul D none a b (constant (F := Ideal) so .f32 0x00000000#32) j
      = ∑ k : Fin n, a (D.lhsIdx j ((contrEquiv1 D n h₁ h₂).symm k)) * b (D.rhsIdx j ((contrEquiv1 D n h₁ h₂).symm k)) := by
  refine (Ideal.matmul_apply _ _ _ _ _ j).trans ?_
  rw [← Equiv.sum_comp (contrEquiv1 D n h₁ h₂).symm]
  refine Eq.trans (congrArg (· + _) ?_) (zero_add _)
  exact Ideal.ofBits_zero_f32

variable {M K N : Nat} {φ₁ φ₂ : FTy}

/-- A product whose left operand is contracted on its first axis. -/
def transposedLhs (M K N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

theorem nn (a : FVec Ideal ⟨2, ![M, K]⟩ φ₁) (b : FVec Ideal ⟨2, ![K, N]⟩ φ₂) (j : (⟨2, ![M, N]⟩ : Shape).Idx) :
    matmul (DotDims.plain M K N) none a b (constant (F := Ideal) ⟨2, ![M, N]⟩ .f32 0x00000000#32) j
      = ∑ k : Fin K, a (ix2 (j 0) k) * b (ix2 k (j 1)) := by
  refine (entry _ K rfl rfl a b j).trans (Finset.sum_congr rfl fun k _ => congrArg₂ (· * ·) (congrArg a ?_) (congrArg b ?_))
  all_goals
    funext x
    match x with
    | ⟨0, _⟩ => rfl
    | ⟨1, _⟩ => rfl

theorem nt (a : FVec Ideal ⟨2, ![M, K]⟩ φ₁) (b : FVec Ideal ⟨2, ![N, K]⟩ φ₂) (j : (⟨2, ![M, N]⟩ : Shape).Idx) :
    matmul (DotDims.transposedRhs M K N) none a b (constant (F := Ideal) ⟨2, ![M, N]⟩ .f32 0x00000000#32) j
      = ∑ k : Fin K, a (ix2 (j 0) k) * b (ix2 (j 1) k) := by
  refine (entry _ K rfl rfl a b j).trans (Finset.sum_congr rfl fun k _ => congrArg₂ (· * ·) (congrArg a ?_) (congrArg b ?_))
  all_goals
    funext x
    match x with
    | ⟨0, _⟩ => rfl
    | ⟨1, _⟩ => rfl

theorem tn (a : FVec Ideal ⟨2, ![K, M]⟩ φ₁) (b : FVec Ideal ⟨2, ![K, N]⟩ φ₂) (j : (⟨2, ![M, N]⟩ : Shape).Idx) :
    matmul (transposedLhs M K N) none a b (constant (F := Ideal) ⟨2, ![M, N]⟩ .f32 0x00000000#32) j
      = ∑ k : Fin K, a (ix2 k (j 0)) * b (ix2 k (j 1)) := by
  refine (entry _ K rfl rfl a b j).trans (Finset.sum_congr rfl fun k _ => congrArg₂ (· * ·) (congrArg a ?_) (congrArg b ?_))
  all_goals
    funext x
    match x with
    | ⟨0, _⟩ => rfl
    | ⟨1, _⟩ => rfl

/-- A block without its leading unit axis. -/
theorem drop {α : Type} (x : (⟨3, ![1, M, N]⟩ : Shape).Idx → α) (h : (⟨3, ![1, M, N]⟩ : Shape).ShapeCasts ⟨2, ![M, N]⟩)
    (r : Fin M) (q : Fin N) : shapeCast ⟨2, ![M, N]⟩ x h (ix2 r q) = x (ix3 0 r q) := by
  refine shapeCast_apply x h (ix2 r q) (ix3 0 r q) ?_
  rw [Shape.rowMajor_val_three, Shape.rowMajor_val_two]
  show (0 * M + r.val) * N + q.val = r.val * N + q.val
  rw [Nat.zero_mul, Nat.zero_add]

/-- A block with two leading unit axes more. -/
theorem wrap {α : Type} (x : (⟨2, ![M, N]⟩ : Shape).Idx → α) (h : (⟨2, ![M, N]⟩ : Shape).ShapeCasts ⟨4, ![1, 1, M, N]⟩)
    (j : (⟨4, ![1, 1, M, N]⟩ : Shape).Idx) : shapeCast ⟨4, ![1, 1, M, N]⟩ x h j = x (ix2 (j 2) (j 3)) := by
  refine shapeCast_apply x h j (ix2 (j 2) (j 3)) ?_
  have h0 : (j 0).val < 1 := (j 0).isLt
  have h1 : (j 1).val < 1 := (j 1).isLt
  rw [Shape.rowMajor_val_two, Shape.rowMajor_val_four]
  show (j 2).val * N + (j 3).val = (((j 0).val * 1 + (j 1).val) * M + (j 2).val) * N + (j 3).val
  rw [show (j 0).val * 1 + (j 1).val = 0 by omega, Nat.zero_mul, Nat.zero_add]

/-- Rows by a part of a weight that comes with a leading unit axis. -/
theorem rows (a : FVec Ideal ⟨2, ![M, K]⟩ φ₁) (b : FVec Ideal ⟨3, ![1, K, N]⟩ φ₂)
    (h : (⟨3, ![1, K, N]⟩ : Shape).ShapeCasts ⟨2, ![K, N]⟩) (j : (⟨2, ![M, N]⟩ : Shape).Idx) :
    matmul (DotDims.plain M K N) none a (shapeCast ⟨2, ![K, N]⟩ b h) (constant (F := Ideal) ⟨2, ![M, N]⟩ .f32 0x00000000#32) j
      = ∑ k : Fin K, a (ix2 (j 0) k) * b (ix3 0 k (j 1)) :=
  (nn a _ j).trans (Finset.sum_congr rfl fun k _ => congrArg _ (drop b h k (j 1)))

/-- A sum of products, every product taken the other way round. -/
theorem swapped (f g : Fin K → EReal) : ∑ k, f k * g k = ∑ k, g k * f k := Finset.sum_congr rfl fun _ _ => mul_comm _ _

end Cert.Product

end
-- ==== Proof.Projections.lean ====
/- The step's four projections in the forward pass: the array each call leaves is the product the reference takes. Every
   grid point leaves one finished block, so an entry of the array is one block's product, read at that block's place. -/
module

public import proofs.«01_k».proof.Proof.Gen.MmInIdeal.Value
public import proofs.«01_k».proof.Proof.Gen.MmOutIdeal.Value
public import proofs.«01_k».proof.Proof.Gen.MmUpIdeal.Value
public import proofs.«01_k».proof.Proof.Gen.MmDownIdeal.Value
public import proofs.«01_k».proof.Proof.Gen.RefMmInIdeal.Read
public import proofs.«01_k».proof.Proof.Gen.RefMmOutIdeal.Read
public import proofs.«01_k».proof.Proof.Gen.RefMmUpIdeal.Read
public import proofs.«01_k».proof.Proof.Gen.RefMmDownIdeal.Read
public import proofs.«01_k».proof.Proof.Product

@[expose] public section

set_option maxRecDepth 16384

noncomputable section

open scoped BigOperators
open Idealize.ShloMosaic Idealize.ShloMosaic.TcCoe Cert.Product

namespace Cert.CallMmIn

open Cert.MmInIdeal Cert.MmInIdeal.Gen Cert.RefMmInIdeal.Read

/-- What a grid point leaves in the result's block. -/
theorem tile (a : Vec Ideal S512x2048 .bf16) (b : Vec Ideal S1x2048x768 .bf16) (j : S512x768.Idx) :
    out0_2 (F := Ideal) a b j = ∑ k : Fin 2048, a (ix2 (j 0) k) * b (ix3 0 k (j 1)) := by
  unfold out0_2
  rw [View.canon_cons_unit_zero zero2, View.ld_unit_zero zero2, View.ld_unit_zero zero3]
  exact rows a b _ j

variable (m : (ℓ : Loc nD τ sig) → Buf (Elt Ideal) ℓ) (c : Dev nD)

/-- The blocks a grid point reads and writes. -/
theorem index : ∀ t : Fin cfg0.N,
    (win0_0.index t 0 = t.val % 4 ∧ win0_0.index t 1 = 0)
    ∧ (win0_1.index t 0 = t.val / 4 ∧ win0_1.index t 1 = 0 ∧ win0_1.index t 2 = 0)
    ∧ (win0_2.index t 0 = t.val % 4 ∧ win0_2.index t 1 = t.val / 4) :=
  (by decide +kernel : ∀ t : Fin grid0.N, _)

/-- The array the call leaves is the reference's. -/
theorem final : (dats m 0 c).arrAt 2 cfg0.N = val_main_v4 (F := Ideal) (V m c main_arg0) (V m c main_arg1) := by
  refine (dats m 0 c).arrAt_eq_of_cover 2 (val_main_v4 (F := Ideal) (V m c main_arg0) (V m c main_arg1)) (fun t _ => ?_)
    (Pipeline.Window.Covers.cover win0_2 (by decide +kernel) (Memref.isWhole_whole _))
  obtain ⟨⟨a0, a1⟩, ⟨b0, b1, b2⟩, e0, e1⟩ := index t
  have ht : t.val < 16 := Nat.lt_of_lt_of_eq t.isLt N_0
  rw [Value.flushed2 m c t]
  funext j
  refine (tile _ _ _).trans ?_
  rw [View.read_apply, val_main_v4_apply]
  refine Finset.sum_congr rfl fun k _ => congrArg₂ (· * ·) ?_ ?_
  · rw [val_main_v2_apply]
    blk_ext! [iblk, V, a0, a1, e0, e1]
  · rw [val_main_v3_apply, val_main_v1_apply, val_main_v0_apply]
    blk_ext! [iblk, V, b0, b1, b2, e0, e1]

end Cert.CallMmIn

namespace Cert.CallMmOut

open Cert.MmOutIdeal Cert.MmOutIdeal.Gen Cert.RefMmOutIdeal.Read

/-- What a grid point leaves in the result's block. -/
theorem tile (a : Vec Ideal S512x2048 .bf16) (b : Vec Ideal S1x2048x1024 .bf16) (j : S512x1024.Idx) :
    out0_2 (F := Ideal) a b j = ∑ k : Fin 2048, a (ix2 (j 0) k) * b (ix3 0 k (j 1)) := by
  unfold out0_2
  rw [View.canon_cons_unit_zero zero2, View.ld_unit_zero zero2, View.ld_unit_zero zero3]
  exact rows a b _ j

variable (m : (ℓ : Loc nD τ sig) → Buf (Elt Ideal) ℓ) (c : Dev nD)

/-- The blocks a grid point reads and writes. -/
theorem index : ∀ t : Fin cfg0.N,
    (win0_0.index t 0 = t.val % 4 ∧ win0_0.index t 1 = 0)
    ∧ (win0_1.index t 0 = 0 ∧ win0_1.index t 1 = 0 ∧ win0_1.index t 2 = t.val / 4)
    ∧ (win0_2.index t 0 = t.val % 4 ∧ win0_2.index t 1 = t.val / 4) :=
  (by decide +kernel : ∀ t : Fin grid0.N, _)

/-- The array the call leaves is the reference's. -/
theorem final : (dats m 0 c).arrAt 2 cfg0.N = val_main_v4 (F := Ideal) (V m c main_arg0) (V m c main_arg1) := by
  refine (dats m 0 c).arrAt_eq_of_cover 2 (val_main_v4 (F := Ideal) (V m c main_arg0) (V m c main_arg1)) (fun t _ => ?_)
    (Pipeline.Window.Covers.cover win0_2 (by decide +kernel) (Memref.isWhole_whole _))
  obtain ⟨⟨a0, a1⟩, ⟨b0, b1, b2⟩, e0, e1⟩ := index t
  have ht : t.val < 8 := Nat.lt_of_lt_of_eq t.isLt N_0
  rw [Value.flushed2 m c t]
  funext j
  refine (tile _ _ _).trans ?_
  rw [View.read_apply, val_main_v4_apply]
  refine Finset.sum_congr rfl fun k _ => congrArg₂ (· * ·) ?_ ?_
  · rw [val_main_v2_apply]
    blk_ext! [iblk, V, a0, a1, e0, e1]
  · rw [val_main_v3_apply, val_main_v1_apply, val_main_v0_apply]
    blk_ext! [iblk, V, b0, b1, b2, e0, e1]

end Cert.CallMmOut

namespace Cert.CallMmUp

open Cert.MmUpIdeal Cert.MmUpIdeal.Gen Cert.RefMmUpIdeal.Read

/-- What a grid point leaves in the result's block. -/
theorem tile (a : Vec Ideal S512x2048 .bf16) (b : Vec Ideal S1x2048x1408 .bf16) (j : S512x1408.Idx) :
    out0_2 (F := Ideal) a b j = ∑ k : Fin 2048, a (ix2 (j 0) k) * b (ix3 0 k (j 1)) := by
  unfold out0_2
  rw [View.canon_cons_unit_zero zero2, View.ld_unit_zero zero2, View.ld_unit_zero zero3]
  exact rows a b _ j

variable (m : (ℓ : Loc nD τ sig) → Buf (Elt Ideal) ℓ) (c : Dev nD)

/-- The blocks a grid point reads and writes. -/
theorem index : ∀ t : Fin cfg0.N,
    (win0_0.index t 0 = t.val % 4 ∧ win0_0.index t 1 = 0)
    ∧ (win0_1.index t 0 = t.val / 8 ∧ win0_1.index t 1 = 0 ∧ win0_1.index t 2 = t.val / 4 % 2)
    ∧ (win0_2.index t 0 = t.val % 4 ∧ win0_2.index t 1 = t.val / 4) :=
  (by decide +kernel : ∀ t : Fin grid0.N, _)

/-- The array the call leaves is the reference's. -/
theorem final : (dats m 0 c).arrAt 2 cfg0.N = val_main_v4 (F := Ideal) (V m c main_arg0) (V m c main_arg1) := by
  refine (dats m 0 c).arrAt_eq_of_cover 2 (val_main_v4 (F := Ideal) (V m c main_arg0) (V m c main_arg1)) (fun t _ => ?_)
    (Pipeline.Window.Covers.cover win0_2 (by decide +kernel) (Memref.isWhole_whole _))
  obtain ⟨⟨a0, a1⟩, ⟨b0, b1, b2⟩, e0, e1⟩ := index t
  have ht : t.val < 32 := Nat.lt_of_lt_of_eq t.isLt N_0
  rw [Value.flushed2 m c t]
  funext j
  refine (tile _ _ _).trans ?_
  rw [View.read_apply, val_main_v4_apply]
  refine Finset.sum_congr rfl fun k _ => congrArg₂ (· * ·) ?_ ?_
  · rw [val_main_v2_apply]
    blk_ext! [iblk, V, a0, a1, e0, e1]
  · rw [val_main_v3_apply, val_main_v1_apply, val_main_v0_apply]
    blk_ext! [iblk, V, b0, b1, b2, e0, e1]

end Cert.CallMmUp

namespace Cert.CallMmDown

open Cert.MmDownIdeal Cert.MmDownIdeal.Gen Cert.RefMmDownIdeal.Read

/-- What a grid point leaves in the result's block. -/
theorem tile (a : Vec Ideal S512x5632 .bf16) (b : Vec Ideal S1x5632x1024 .bf16) (j : S512x1024.Idx) :
    out0_2 (F := Ideal) a b j = ∑ k : Fin 5632, a (ix2 (j 0) k) * b (ix3 0 k (j 1)) := by
  unfold out0_2
  rw [View.canon_cons_unit_zero zero2, View.ld_unit_zero zero2, View.ld_unit_zero zero3]
  exact rows a b _ j

variable (m : (ℓ : Loc nD τ sig) → Buf (Elt Ideal) ℓ) (c : Dev nD)

/-- The blocks a grid point reads and writes. -/
theorem index : ∀ t : Fin cfg0.N,
    (win0_0.index t 0 = t.val % 4 ∧ win0_0.index t 1 = 0)
    ∧ (win0_1.index t 0 = 0 ∧ win0_1.index t 1 = 0 ∧ win0_1.index t 2 = t.val / 4)
    ∧ (win0_2.index t 0 = t.val % 4 ∧ win0_2.index t 1 = t.val / 4) :=
  (by decide +kernel : ∀ t : Fin grid0.N, _)

/-- The array the call leaves is the reference's. -/
theorem final : (dats m 0 c).arrAt 2 cfg0.N = val_main_v4 (F := Ideal) (V m c main_arg0) (V m c main_arg1) := by
  refine (dats m 0 c).arrAt_eq_of_cover 2 (val_main_v4 (F := Ideal) (V m c main_arg0) (V m c main_arg1)) (fun t _ => ?_)
    (Pipeline.Window.Covers.cover win0_2 (by decide +kernel) (Memref.isWhole_whole _))
  obtain ⟨⟨a0, a1⟩, ⟨b0, b1, b2⟩, e0, e1⟩ := index t
  have ht : t.val < 8 := Nat.lt_of_lt_of_eq t.isLt N_0
  rw [Value.flushed2 m c t]
  funext j
  refine (tile _ _ _).trans ?_
  rw [View.read_apply, val_main_v4_apply]
  refine Finset.sum_congr rfl fun k _ => congrArg₂ (· * ·) ?_ ?_
  · rw [val_main_v2_apply]
    blk_ext! [iblk, V, a0, a1, e0, e1]
  · rw [val_main_v3_apply, val_main_v1_apply, val_main_v0_apply]
    blk_ext! [iblk, V, b0, b1, b2, e0, e1]

end Cert.CallMmDown

end
-- ==== Proof.DAct.lean ====
/- The call `d_act`: the array it leaves is the gradient of the down projection in its first argument. -/
module

public import proofs.«01_k».proof.Proof.Gen.DActIdeal.Value
public import proofs.«01_k».proof.Proof.Gen.RefDActIdeal.Read
public import proofs.«01_k».proof.Proof.Product

@[expose] public section

set_option maxRecDepth 16384

noncomputable section

open scoped BigOperators
open Idealize.ShloMosaic Idealize.ShloMosaic.TcCoe Cert.Product

namespace Cert.CallDAct

open Cert.DActIdeal Cert.DActIdeal.Gen Cert.RefDActIdeal.Read

/-- What a grid point leaves in the result's block. -/
theorem tile (a : Vec Ideal S512x2048 .bf16) (b : Vec Ideal S1x1408x2048 .bf16) (j : S512x1408.Idx) :
    out0_2 (F := Ideal) a b j = ∑ k : Fin 2048, a (ix2 (j 0) k) * b (ix3 0 (j 1) k) := by
  unfold out0_2
  rw [View.canon_cons_unit_zero zero2, View.ld_unit_zero zero2, View.ld_unit_zero zero3]
  exact (nt a _ j).trans (Finset.sum_congr rfl fun k _ => congrArg _ (drop b _ (j 1) k))

variable (m : (ℓ : Loc nD τ sig) → Buf (Elt Ideal) ℓ) (c : Dev nD)

/-- The blocks a grid point reads and writes. -/
theorem index : ∀ t : Fin cfg0.N,
    (win0_0.index t 0 = t.val % 4 ∧ win0_0.index t 1 = 0)
    ∧ (win0_1.index t 0 = 0 ∧ win0_1.index t 1 = t.val / 4 ∧ win0_1.index t 2 = 0)
    ∧ (win0_2.index t 0 = t.val % 4 ∧ win0_2.index t 1 = t.val / 4) :=
  (by decide +kernel : ∀ t : Fin grid0.N, _)

/-- The array the call leaves is the reference's. -/
theorem final : (dats m 0 c).arrAt 2 cfg0.N = val_main_v6 (F := Ideal) (V m c main_arg0) (V m c main_arg1) := by
  refine (dats m 0 c).arrAt_eq_of_cover 2 (val_main_v6 (F := Ideal) (V m c main_arg0) (V m c main_arg1)) (fun t _ => ?_)
    (Pipeline.Window.Covers.cover win0_2 (by decide +kernel) (Memref.isWhole_whole _))
  obtain ⟨⟨a0, a1⟩, ⟨b0, b1, b2⟩, e0, e1⟩ := index t
  have ht : t.val < 16 := Nat.lt_of_lt_of_eq t.isLt N_0
  rw [Value.flushed2 m c t]
  funext j
  refine (tile _ _ _).trans ?_
  rw [View.read_apply, val_main_v6_apply]
  refine Finset.sum_congr rfl fun k _ => congrArg₂ (· * ·) ?_ ?_
  · rw [val_main_v4_apply]
    blk_ext! [iblk, V, a0, a1, e0, e1]
  · rw [val_main_v3_apply, val_main_v1_apply, val_main_v0_apply]
    blk_ext! [iblk, V, b0, b1, b2, e0, e1]

end Cert.CallDAct

end
-- ==== Proof.DYcat.lean ====
/- The call `d_ycat`: the array it leaves is the gradient of the output projection in its first argument. The call's third
   operand only orders it after another call: nothing reads it. -/
module

public import proofs.«01_k».proof.Proof.Gen.DYcatIdeal.Value
public import proofs.«01_k».proof.Proof.Gen.RefDYcatIdeal.Read
public import proofs.«01_k».proof.Proof.Product

@[expose] public section

set_option maxRecDepth 16384

noncomputable section

open scoped BigOperators
open Idealize.ShloMosaic Idealize.ShloMosaic.TcCoe Cert.Product

namespace Cert.CallDYcat

open Cert.DYcatIdeal Cert.DYcatIdeal.Gen Cert.RefDYcatIdeal.Read

/-- What a grid point leaves in the result's block. -/
theorem tile (c : Dev nD) (i : grid0.Coords) (m0 : Memref sig .tc .vmem S512x2048 .bf16) (h0 : m0.IsWhole)
    (m1 : Memref sig .tc .vmem S1x1024x2048 .bf16) (h1 : m1.IsWhole) (m2 : Memref sig .tc .vmem S512x1024 .f32) (h2 : m2.IsWhole)
    (a : Vec Ideal S512x2048 .bf16) (b : Vec Ideal S1x1024x2048 .bf16) (j : S512x1024.Idx) :
    out0_A_2 (F := Ideal) c i m0 h0 m1 h1 m2 h2 a b j = ∑ k : Fin 2048, a (ix2 (j 0) k) * b (ix3 0 (j 1) k) := by
  unfold out0_A_2
  rw [View.read_writes_eq_canon _ _ _ (cover0_A_2 c i m0 h0 m1 h1 m2 h2 a b)]
  unfold kernelRun0_A
  dsimp only
  rw [View.canon_unit_zero zero2, View.readAt_eq_ld, View.readAt_eq_ld, h0.read_unread, h1.read_unread,
    View.ld_unit_zero zero2, View.ld_unit_zero zero3]
  exact (nt a _ j).trans (Finset.sum_congr rfl fun k _ => congrArg _ (drop b _ (j 1) k))

variable (m : (ℓ : Loc nD τ sig) → Buf (Elt Ideal) ℓ) (c : Dev nD)

/-- The blocks a grid point reads and writes. -/
theorem index : ∀ t : Fin cfg0.N,
    (win0_0.index t 0 = t.val % 4 ∧ win0_0.index t 1 = 0)
    ∧ (win0_1.index t 0 = 0 ∧ win0_1.index t 1 = t.val / 4 ∧ win0_1.index t 2 = 0)
    ∧ (win0_2.index t 0 = t.val % 4 ∧ win0_2.index t 1 = t.val / 4) :=
  (by decide +kernel : ∀ t : Fin grid0.N, _)

/-- The array the call leaves is the reference's. -/
theorem final : (dats m 0 c).arrAt 2 cfg0.N = val_main_v6 (F := Ideal) (V m c main_arg0) (V m c main_arg1) := by
  refine (dats m 0 c).arrAt_eq_of_cover 2 (val_main_v6 (F := Ideal) (V m c main_arg0) (V m c main_arg1)) (fun t _ => ?_)
    (Pipeline.Window.Covers.cover win0_2 (by decide +kernel) (Memref.isWhole_whole _))
  obtain ⟨⟨a0, a1⟩, ⟨b0, b1, b2⟩, e0, e1⟩ := index t
  have ht : t.val < 8 := Nat.lt_of_lt_of_eq t.isLt N_0
  rw [Value.flushed2_A m c t]
  funext j
  refine (tile _ _ _ _ _ _ _ _ _ _ _).trans ?_
  rw [View.read_apply, val_main_v6_apply]
  refine Finset.sum_congr rfl fun k _ => congrArg₂ (· * ·) ?_ ?_
  · rw [val_main_v4_apply]
    blk_ext! [iblk, V, a0, a1, e0, e1]
  · rw [val_main_v3_apply, val_main_v1_apply, val_main_v0_apply]
    blk_ext! [iblk, V, b0, b1, b2, e0, e1]

end Cert.CallDYcat

end
-- ==== Proof.DH1.lean ====
/- The call `dh1`: the array it leaves is the gradient of the input projection in its first argument. A block of the result
   is summed over four grid points, each adding the product over a quarter of the columns. -/
module

public import proofs.«01_k».proof.Proof.Gen.DH1Ideal.Value
public import proofs.«01_k».proof.Proof.Gen.RefDH1Ideal.Read
public import proofs.«01_k».proof.Proof.Product

@[expose] public section

set_option maxRecDepth 16384

noncomputable section

open scoped BigOperators
open Idealize.ShloMosaic Idealize.ShloMosaic.TcCoe Cert.Product

namespace Cert.CallDH1

open Cert.DH1Ideal Cert.DH1Ideal.Gen Cert.RefDH1Ideal.Read

/-- The product of two blocks, added to what the sum held. -/
theorem pay (a : Vec Ideal S512x768 .bf16) (b : Vec Ideal S1x2048x768 .bf16) (s : Vec Ideal S512x2048 .f32)
    (j : S512x2048.Idx) :
    k0_pay2 (F := Ideal) a b s j = s j + ∑ k : Fin 768, a (ix2 (j 0) k) * b (ix3 0 (j 1) k) := by
  unfold k0_pay2
  rw [shapeCast_self]
  exact congrArg (s j + ·) ((nt a _ j).trans (Finset.sum_congr rfl fun k _ => congrArg _ (drop b _ (j 1) k)))

/-- The sum starts at zero. -/
theorem start (j : S512x2048.Idx) : k0_pay1 (F := Ideal) j = 0 := by
  unfold k0_pay1
  rw [shapeCast_self]
  exact Ideal.ofBits_zero_f32

section Points

variable (c : Dev nD) (i : grid0.Coords) (m0 : Memref sig .tc .vmem S512x768 .bf16) (h0 : m0.IsWhole)
  (m1 : Memref sig .tc .vmem S1x2048x768 .bf16) (h1 : m1.IsWhole) (m2 : Memref sig .tc .vmem S512x2048 .f32) (h2 : m2.IsWhole)
  (m3 : Memref sig .tc .vmem S512x2048 .f32) (h3 : m3.IsWhole)
  (a : Vec Ideal S512x768 .bf16) (b : Vec Ideal S1x2048x768 .bf16) (s : Vec Ideal S512x2048 .f32)

theorem sumA (c0 : cond0_0 i) (c1 : ¬cond0_1 i) :
    sout0_A_0 (F := Ideal) c i m0 h0 m1 h1 m2 h2 m3 h3 c0 c1 a b = k0_pay2 a b (k0_pay1 (F := Ideal)) := by
  unfold sout0_A_0
  rw [View.read_writes_eq_canon _ _ _ (scover0_A_0 c i m0 h0 m1 h1 m2 h2 m3 h3 c0 c1 a b)]
  unfold kernelRun0_A
  dsimp only
  sl_unfold_words
  rw [View.canon_cons_unit_zero (S := S512x2048) zero2, View.readCov_unit_zero (S := S512x2048) _ zero2]
  simp only [View.readAt_eq_ld, h0.read_unread, h1.read_unread, View.ld_unit_zero (S := S512x768) zero2,
    View.ld_unit_zero (S := S1x2048x768) zero3]

theorem sumB (c0 : ¬cond0_0 i) (c1 : ¬cond0_1 i) :
    sout0_B_0 (F := Ideal) c i m0 h0 m1 h1 m2 h2 m3 h3 c0 c1 a b s = k0_pay2 a b s := by
  unfold sout0_B_0
  rw [View.read_writes_eq_canon _ _ _ (scover0_B_0 c i m0 h0 m1 h1 m2 h2 m3 h3 c0 c1 a b s)]
  unfold kernelRun0_B
  dsimp only
  rw [View.canon_unit_zero zero2]
  simp only [View.readAt_eq_ld, h0.read_unread, h1.read_unread, h3.read_unread,
    View.ld_unit_zero (S := S512x768) zero2, View.ld_unit_zero (S := S1x2048x768) zero3, View.ld_unit_zero (S := S512x2048) zero2]

theorem sumC (c0 : ¬cond0_0 i) (c1 : cond0_1 i) :
    sout0_C_0 (F := Ideal) c i m0 h0 m1 h1 m2 h2 m3 h3 c0 c1 a b s = k0_pay2 a b s := by
  unfold sout0_C_0
  rw [View.read_writes_eq_canon _ _ _ (scover0_C_0 c i m0 h0 m1 h1 m2 h2 m3 h3 c0 c1 a b s)]
  unfold kernelRun0_C
  dsimp only
  sl_unfold_words
  rw [View.canon_unit_zero zero2]
  simp only [View.readAt_eq_ld, h0.read_unread, h1.read_unread, h3.read_unread,
    View.ld_unit_zero (S := S512x768) zero2, View.ld_unit_zero (S := S1x2048x768) zero3, View.ld_unit_zero (S := S512x2048) zero2]

theorem outC (c0 : ¬cond0_0 i) (c1 : cond0_1 i) :
    out0_C_2 (F := Ideal) c i m0 h0 m1 h1 m2 h2 m3 h3 c0 c1 a b s = k0_pay2 a b s := by
  unfold out0_C_2
  rw [View.read_writes_eq_canon _ _ _ (cover0_C_2 c i m0 h0 m1 h1 m2 h2 m3 h3 c0 c1 a b s)]
  unfold kernelRun0_C
  dsimp only
  sl_unfold_words
  rw [View.canon_unit_zero zero2, View.readCov_unit_zero (S := S512x2048) _ zero2]
  simp only [View.readAt_eq_ld, h0.read_unread, h1.read_unread, h3.read_unread,
    View.ld_unit_zero (S := S512x768) zero2, View.ld_unit_zero (S := S1x2048x768) zero3, View.ld_unit_zero (S := S512x2048) zero2]

end Points

variable (m : (ℓ : Loc nD τ sig) → Buf (Elt Ideal) ℓ) (c : Dev nD)

/-- The product of two blocks at one entry. -/
def prod (a : Vec Ideal S512x768 .bf16) (b : Vec Ideal S1x2048x768 .bf16) (j : S512x2048.Idx) : EReal :=
  ∑ k : Fin 768, a (ix2 (j 0) k) * b (ix3 0 (j 1) k)

/-- What grid point `n` adds to the sum. -/
def part (n : Nat) (j : S512x2048.Idx) : EReal :=
  if h : n < cfg0.N then prod (iblk m c 0 ⟨n, h⟩) (iblk m c 1 ⟨n, h⟩) j else 0

theorem first (n : Nat) (h : n < cfg0.N) (hn : n % 4 = 0) (s : Vec Ideal S512x2048 .f32) (j : S512x2048.Idx) :
    Value.scAt0_0 m c n h s j = 0 + part m c n j := by
  unfold Value.scAt0_0 part
  rw [dif_pos hn, dif_neg (by omega), dif_pos h, sumA, pay, start]
  rfl

theorem next (n : Nat) (h : n < cfg0.N) (hn : ¬n % 4 = 0) (s : Vec Ideal S512x2048 .f32) (j : S512x2048.Idx) :
    Value.scAt0_0 m c n h s j = s j + part m c n j := by
  unfold Value.scAt0_0 part
  rw [dif_neg hn, dif_pos h]
  by_cases h3 : n % 4 = 3
  · rw [dif_pos h3, sumC, pay]
    rfl
  · rw [dif_neg h3, sumB, pay]
    rfl

/-- At the last of the four points the result's block is the whole sum. -/
theorem block (t : Fin cfg0.N) (ht : t.val % 4 = 3) (j : S512x2048.Idx) :
    (outsAt0 m c t.val t.isLt).1 j = ∑ s : Fin 4, part m c (4 * (t.val / 4) + s.val) j := by
  have same : (outsAt0 m c t.val t.isLt).1 = (outsAt0 m c t.val t.isLt).2 := by
    rw [outsAt0_C m c t (by omega) ht]
    dsimp only
    rw [outC, sumC]
  rw [same, Value.soutsAt0_0_eq m c t,
    Pipeline.accAt_add_apply _ _ (fun _ => 0) (part m c) (4 * (t.val / 4)) 3
      (fun h i => first m c _ h (by omega) _ i) (fun n h s i h1 h2 => next m c n h (by omega) s i) _ (by omega) _ j,
    zero_add, ht, Finset.sum_range]

/-- The blocks a grid point reads and writes. -/
theorem index : ∀ t : Fin cfg0.N,
    (win0_0.index t 0 = t.val / 4 ∧ win0_0.index t 1 = t.val % 4)
    ∧ (win0_1.index t 0 = t.val % 4 ∧ win0_1.index t 1 = 0 ∧ win0_1.index t 2 = 0)
    ∧ (win0_2.index t 0 = t.val / 4 ∧ win0_2.index t 1 = 0) :=
  (by decide +kernel : ∀ t : Fin grid0.N, _)

/-- The array the call leaves is the reference's. -/
theorem final : (dats m 0 c).arrAt 2 cfg0.N = val_main_v6 (F := Ideal) (V m c main_arg0) (V m c main_arg1) := by
  refine (dats m 0 c).arrAt_eq_of_cover 2 (val_main_v6 (F := Ideal) (V m c main_arg0) (V m c main_arg1)) (fun t hf => ?_)
    (Pipeline.Window.Covers.cover win0_2 (by decide +kernel) (Memref.isWhole_whole _))
  obtain ⟨-, -, e0, e1⟩ := index t
  have ht : t.val < 16 := Nat.lt_of_lt_of_eq t.isLt N_0
  have h3 : t.val % 4 = 3 := (flush0_2 t).mp hf
  rw [Value.flushed2 m c t]
  funext j
  have hb (s : Fin 4) : 4 * (t.val / 4) + s.val < cfg0.N := by
    have hN : cfg0.N = 16 := N_0
    omega
  refine (block m c t h3 j).trans ((Finset.sum_congr rfl fun s _ => dif_pos (hb s)).trans ?_)
  rw [View.read_apply, val_main_v6_apply]
  refine Fin.sum_mul_add_congr fun s k hl => ?_
  obtain ⟨⟨a0, a1⟩, ⟨b0, b1, b2⟩, -⟩ := index ⟨4 * (t.val / 4) + s.val, hb s⟩
  refine congrArg₂ (· * ·) ?_ ?_
  · rw [val_main_v4_apply]
    blk_ext! [iblk, V, a0, a1, e0, e1]
  · rw [val_main_v3_apply, val_main_v1_apply, val_main_v0_apply]
    blk_ext! [iblk, V, b0, b1, b2, e0, e1]

end Cert.CallDH1

end
-- ==== Proof.DH2.lean ====
/- The call `dh2`: the array it leaves is the gradient of the up projection in its first argument. A block of the result is
   summed over four grid points, each adding the product over a quarter of the columns. The call's third operand only orders
   it after another call: nothing reads it. -/
module

public import proofs.«01_k».proof.Proof.Gen.DH2Ideal.Value
public import proofs.«01_k».proof.Proof.Gen.RefDH2Ideal.Read
public import proofs.«01_k».proof.Proof.Product

@[expose] public section

set_option maxRecDepth 16384

noncomputable section

open scoped BigOperators
open Idealize.ShloMosaic Idealize.ShloMosaic.TcCoe Cert.Product

namespace Cert.CallDH2

open Cert.DH2Ideal Cert.DH2Ideal.Gen Cert.RefDH2Ideal.Read

/-- The product of two blocks, added to what the sum held. -/
theorem pay (a : Vec Ideal S1x512x2816 .bf16) (b : Vec Ideal S1x2048x2816 .bf16) (s : Vec Ideal S512x2048 .f32)
    (j : S512x2048.Idx) :
    k0_pay2 (F := Ideal) a b s j = s j + ∑ k : Fin 2816, a (ix3 0 (j 0) k) * b (ix3 0 (j 1) k) := by
  unfold k0_pay2
  rw [shapeCast_self]
  refine congrArg (s j + ·) ((nt _ _ j).trans (Finset.sum_congr rfl fun k _ => congrArg₂ (· * ·) ?_ ?_))
  · exact drop a _ (j 0) k
  · exact drop b _ (j 1) k

/-- The sum starts at zero. -/
theorem start (j : S512x2048.Idx) : k0_pay1 (F := Ideal) j = 0 := by
  unfold k0_pay1
  rw [shapeCast_self]
  exact Ideal.ofBits_zero_f32

section Points

variable (c : Dev nD) (i : grid0.Coords) (m0 : Memref sig .tc .vmem S1x512x2816 .bf16) (h0 : m0.IsWhole)
  (m1 : Memref sig .tc .vmem S1x2048x2816 .bf16) (h1 : m1.IsWhole) (m2 : Memref sig .tc .vmem S512x2048 .f32) (h2 : m2.IsWhole)
  (m3 : Memref sig .tc .vmem S512x2048 .f32) (h3 : m3.IsWhole)
  (a : Vec Ideal S1x512x2816 .bf16) (b : Vec Ideal S1x2048x2816 .bf16) (s : Vec Ideal S512x2048 .f32)

theorem sumA (c0 : cond0_0 i) (c1 : ¬cond0_1 i) :
    sout0_A_0 (F := Ideal) c i m0 h0 m1 h1 m2 h2 m3 h3 c0 c1 a b = k0_pay2 a b (k0_pay1 (F := Ideal)) := by
  unfold sout0_A_0
  rw [View.read_writes_eq_canon _ _ _ (scover0_A_0 c i m0 h0 m1 h1 m2 h2 m3 h3 c0 c1 a b)]
  unfold kernelRun0_A
  dsimp only
  sl_unfold_words
  rw [View.canon_cons_unit_zero (S := S512x2048) zero2, View.readCov_unit_zero (S := S512x2048) _ zero2]
  simp only [View.readAt_eq_ld, h0.read_unread, h1.read_unread, View.ld_unit_zero (S := S1x512x2816) zero3,
    View.ld_unit_zero (S := S1x2048x2816) zero3]

theorem sumB (c0 : ¬cond0_0 i) (c1 : ¬cond0_1 i) :
    sout0_B_0 (F := Ideal) c i m0 h0 m1 h1 m2 h2 m3 h3 c0 c1 a b s = k0_pay2 a b s := by
  unfold sout0_B_0
  rw [View.read_writes_eq_canon _ _ _ (scover0_B_0 c i m0 h0 m1 h1 m2 h2 m3 h3 c0 c1 a b s)]
  unfold kernelRun0_B
  dsimp only
  rw [View.canon_unit_zero zero2]
  simp only [View.readAt_eq_ld, h0.read_unread, h1.read_unread, h3.read_unread,
    View.ld_unit_zero (S := S1x512x2816) zero3, View.ld_unit_zero (S := S1x2048x2816) zero3, View.ld_unit_zero (S := S512x2048) zero2]

theorem sumC (c0 : ¬cond0_0 i) (c1 : cond0_1 i) :
    sout0_C_0 (F := Ideal) c i m0 h0 m1 h1 m2 h2 m3 h3 c0 c1 a b s = k0_pay2 a b s := by
  unfold sout0_C_0
  rw [View.read_writes_eq_canon _ _ _ (scover0_C_0 c i m0 h0 m1 h1 m2 h2 m3 h3 c0 c1 a b s)]
  unfold kernelRun0_C
  dsimp only
  sl_unfold_words
  rw [View.canon_unit_zero zero2]
  simp only [View.readAt_eq_ld, h0.read_unread, h1.read_unread, h3.read_unread,
    View.ld_unit_zero (S := S1x512x2816) zero3, View.ld_unit_zero (S := S1x2048x2816) zero3, View.ld_unit_zero (S := S512x2048) zero2]

theorem outC (c0 : ¬cond0_0 i) (c1 : cond0_1 i) :
    out0_C_2 (F := Ideal) c i m0 h0 m1 h1 m2 h2 m3 h3 c0 c1 a b s = k0_pay2 a b s := by
  unfold out0_C_2
  rw [View.read_writes_eq_canon _ _ _ (cover0_C_2 c i m0 h0 m1 h1 m2 h2 m3 h3 c0 c1 a b s)]
  unfold kernelRun0_C
  dsimp only
  sl_unfold_words
  rw [View.canon_unit_zero zero2, View.readCov_unit_zero (S := S512x2048) _ zero2]
  simp only [View.readAt_eq_ld, h0.read_unread, h1.read_unread, h3.read_unread,
    View.ld_unit_zero (S := S1x512x2816) zero3, View.ld_unit_zero (S := S1x2048x2816) zero3, View.ld_unit_zero (S := S512x2048) zero2]

end Points

variable (m : (ℓ : Loc nD τ sig) → Buf (Elt Ideal) ℓ) (c : Dev nD)

/-- The product of two blocks at one entry. -/
def prod (a : Vec Ideal S1x512x2816 .bf16) (b : Vec Ideal S1x2048x2816 .bf16) (j : S512x2048.Idx) : EReal :=
  ∑ k : Fin 2816, a (ix3 0 (j 0) k) * b (ix3 0 (j 1) k)

/-- What grid point `n` adds to the sum. -/
def part (n : Nat) (j : S512x2048.Idx) : EReal :=
  if h : n < cfg0.N then prod (iblk m c 0 ⟨n, h⟩) (iblk m c 1 ⟨n, h⟩) j else 0

theorem first (n : Nat) (h : n < cfg0.N) (hn : n % 4 = 0) (s : Vec Ideal S512x2048 .f32) (j : S512x2048.Idx) :
    Value.scAt0_0 m c n h s j = 0 + part m c n j := by
  unfold Value.scAt0_0 part
  rw [dif_pos hn, dif_neg (by omega), dif_pos h, sumA, pay, start]
  rfl

theorem next (n : Nat) (h : n < cfg0.N) (hn : ¬n % 4 = 0) (s : Vec Ideal S512x2048 .f32) (j : S512x2048.Idx) :
    Value.scAt0_0 m c n h s j = s j + part m c n j := by
  unfold Value.scAt0_0 part
  rw [dif_neg hn, dif_pos h]
  by_cases h3 : n % 4 = 3
  · rw [dif_pos h3, sumC, pay]
    rfl
  · rw [dif_neg h3, sumB, pay]
    rfl

/-- At the last of the four points the result's block is the whole sum. -/
theorem block (t : Fin cfg0.N) (ht : t.val % 4 = 3) (j : S512x2048.Idx) :
    (outsAt0 m c t.val t.isLt).1 j = ∑ s : Fin 4, part m c (4 * (t.val / 4) + s.val) j := by
  have same : (outsAt0 m c t.val t.isLt).1 = (outsAt0 m c t.val t.isLt).2 := by
    rw [outsAt0_C m c t (by omega) ht]
    dsimp only
    rw [outC, sumC]
  rw [same, Value.soutsAt0_0_eq m c t,
    Pipeline.accAt_add_apply _ _ (fun _ => 0) (part m c) (4 * (t.val / 4)) 3
      (fun h i => first m c _ h (by omega) _ i) (fun n h s i h1 h2 => next m c n h (by omega) s i) _ (by omega) _ j,
    zero_add, ht, Finset.sum_range]

/-- The blocks a grid point reads and writes. -/
theorem index : ∀ t : Fin cfg0.N,
    (win0_0.index t 0 = t.val % 4 / 2 ∧ win0_0.index t 1 = t.val / 4 ∧ win0_0.index t 2 = t.val % 2)
    ∧ (win0_1.index t 0 = t.val % 4 ∧ win0_1.index t 1 = 0 ∧ win0_1.index t 2 = 0)
    ∧ (win0_2.index t 0 = t.val / 4 ∧ win0_2.index t 1 = 0) :=
  (by decide +kernel : ∀ t : Fin grid0.N, _)

/-- The array the call leaves is the reference's. -/
theorem final : (dats m 0 c).arrAt 2 cfg0.N = val_main_v8 (F := Ideal) (V m c main_arg0) (V m c main_arg1) := by
  refine (dats m 0 c).arrAt_eq_of_cover 2 (val_main_v8 (F := Ideal) (V m c main_arg0) (V m c main_arg1)) (fun t hf => ?_)
    (Pipeline.Window.Covers.cover win0_2 (by decide +kernel) (Memref.isWhole_whole _))
  obtain ⟨-, -, e0, e1⟩ := index t
  have ht : t.val < 16 := Nat.lt_of_lt_of_eq t.isLt N_0
  have h3 : t.val % 4 = 3 := (flush0_2 t).mp hf
  rw [Value.flushed2 m c t]
  funext j
  have hb (s : Fin 4) : 4 * (t.val / 4) + s.val < cfg0.N := by
    have hN : cfg0.N = 16 := N_0
    omega
  refine (block m c t h3 j).trans ((Finset.sum_congr rfl fun s _ => dif_pos (hb s)).trans ?_)
  rw [View.read_apply, val_main_v8_apply]
  refine Fin.sum_mul_add_congr fun s k hl => ?_
  obtain ⟨⟨a0, a1, a2⟩, ⟨b0, b1, b2⟩, -⟩ := index ⟨4 * (t.val / 4) + s.val, hb s⟩
  refine congrArg₂ (· * ·) ?_ ?_
  · rw [val_main_v6_apply, val_main_v1_apply, val_main_v0_apply]
    blk_ext! [iblk, V, a0, a1, a2, e0, e1]
  · rw [val_main_v5_apply, val_main_v3_apply, val_main_v2_apply]
    blk_ext! [iblk, V, b0, b1, b2, e0, e1]

end Cert.CallDH2

end
-- ==== Proof.WeightGrads.lean ====
/- The four gradients in the weights: the array each call leaves is the reference's gradient, in the layout the step keeps
   (the half of the rows, the part, the rest). Every grid point leaves one finished block. The reference multiplies in the
   other order. -/
module

public import proofs.«01_k».proof.Proof.Gen.GwDownIdeal.Value
public import proofs.«01_k».proof.Proof.Gen.GwUpIdeal.Value
public import proofs.«01_k».proof.Proof.Gen.GwOutIdeal.Value
public import proofs.«01_k».proof.Proof.Gen.GwInIdeal.Value
public import proofs.«01_k».proof.Proof.Gen.RefGwDownIdeal.Read
public import proofs.«01_k».proof.Proof.Gen.RefGwUpIdeal.Read
public import proofs.«01_k».proof.Proof.Gen.RefGwOutIdeal.Read
public import proofs.«01_k».proof.Proof.Gen.RefGwInIdeal.Read
public import proofs.«01_k».proof.Proof.Product

@[expose] public section

set_option maxRecDepth 16384

noncomputable section

open scoped BigOperators
open Idealize.ShloMosaic Idealize.ShloMosaic.TcCoe Cert.Product

namespace Cert.CallGwDown

open Cert.GwDownIdeal Cert.GwDownIdeal.Gen Cert.RefGwDownIdeal.Read

/-- What a grid point leaves in the result's block. -/
theorem tile (a : Vec Ideal S2048x1408 .bf16) (b : Vec Ideal S2048x1024 .bf16) (j : S1x1x1408x1024.Idx) :
    out0_2 (F := Ideal) a b j = ∑ k : Fin 2048, a (ix2 k (j 2)) * b (ix2 k (j 3)) := by
  unfold out0_2
  rw [View.canon_cons_unit_zero zero4, View.ld_unit_zero zero2, View.ld_unit_zero zero2]
  unfold k0_pay1
  refine (wrap _ _ j).trans ?_
  exact tn (φ₁ := .bf16) (φ₂ := .bf16) a b (ix2 (j 2) (j 3))

/-- An entry of the reference's gradient. -/
theorem gradient (x0 : Vec Ideal S2048x5632 .bf16) (x1 : Vec Ideal S2048x2048 .bf16) (i : S2x4x1408x1024.Idx) :
    val_main_v8 (F := Ideal) x0 x1 i = (∑ k : Fin 2048, x0 (ridx_main_v4 (idx_main_v5 (idx_main_v6 (idx_main_v7 i))) k)
      * x1 (lidx_main_v4 (idx_main_v5 (idx_main_v6 (idx_main_v7 i))) k) : EReal) := by
  rw [val_main_v8_apply, val_main_v7_apply, val_main_v6_apply, val_main_v5_apply, val_main_v4_apply]
  exact swapped _ _

variable (m : (ℓ : Loc nD τ sig) → Buf (Elt Ideal) ℓ) (c : Dev nD)

/-- The blocks a grid point reads and writes. -/
theorem index : ∀ t : Fin cfg0.N,
    (win0_0.index t 0 = 0 ∧ win0_0.index t 1 = t.val % 4)
    ∧ (win0_1.index t 0 = 0 ∧ win0_1.index t 1 = t.val / 4)
    ∧ (win0_2.index t 0 = t.val / 4 ∧ win0_2.index t 1 = t.val % 4 ∧ win0_2.index t 2 = 0 ∧ win0_2.index t 3 = 0) :=
  (by decide +kernel : ∀ t : Fin grid0.N, _)

/-- The array the call leaves is the reference's. -/
theorem final : (dats m 0 c).arrAt 2 cfg0.N = val_main_v8 (F := Ideal) (V m c main_arg0) (V m c main_arg1) := by
  refine (dats m 0 c).arrAt_eq_of_cover 2 (val_main_v8 (F := Ideal) (V m c main_arg0) (V m c main_arg1)) (fun t _ => ?_)
    (Pipeline.Window.Covers.cover win0_2 (by decide +kernel) (Memref.isWhole_whole _))
  obtain ⟨⟨a0, a1⟩, ⟨b0, b1⟩, e0, e1, e2, e3⟩ := index t
  have ht : t.val < 8 := Nat.lt_of_lt_of_eq t.isLt N_0
  rw [Value.flushed2 m c t]
  funext j
  refine (tile _ _ _).trans ?_
  rw [View.read_apply, gradient]
  refine Finset.sum_congr rfl fun k _ => congrArg₂ (· * ·) ?_ ?_
  · blk_ext! [iblk, V, a0, a1, e0, e1, e2, e3]
  · blk_ext! [iblk, V, b0, b1, e0, e1, e2, e3]

end Cert.CallGwDown

namespace Cert.CallGwOut

open Cert.GwOutIdeal Cert.GwOutIdeal.Gen Cert.RefGwOutIdeal.Read

/-- What a grid point leaves in the result's block. -/
theorem tile (a : Vec Ideal S2048x512 .bf16) (b : Vec Ideal S2048x1024 .bf16) (j : S1x1x512x1024.Idx) :
    out0_2 (F := Ideal) a b j = ∑ k : Fin 2048, a (ix2 k (j 2)) * b (ix2 k (j 3)) := by
  unfold out0_2
  rw [View.canon_cons_unit_zero zero4, View.ld_unit_zero zero2, View.ld_unit_zero zero2]
  unfold k0_pay1
  refine (wrap _ _ j).trans ?_
  exact tn (φ₁ := .bf16) (φ₂ := .bf16) a b (ix2 (j 2) (j 3))

/-- An entry of the reference's gradient. -/
theorem gradient (x0 : Vec Ideal S2048x2048 .bf16) (x1 : Vec Ideal S2048x2048 .bf16) (i : S2x4x512x1024.Idx) :
    val_main_v8 (F := Ideal) x0 x1 i = (∑ k : Fin 2048, x0 (ridx_main_v4 (idx_main_v5 (idx_main_v6 (idx_main_v7 i))) k)
      * x1 (lidx_main_v4 (idx_main_v5 (idx_main_v6 (idx_main_v7 i))) k) : EReal) := by
  rw [val_main_v8_apply, val_main_v7_apply, val_main_v6_apply, val_main_v5_apply, val_main_v4_apply]
  exact swapped _ _

variable (m : (ℓ : Loc nD τ sig) → Buf (Elt Ideal) ℓ) (c : Dev nD)

/-- The blocks a grid point reads and writes. -/
theorem index : ∀ t : Fin cfg0.N,
    (win0_0.index t 0 = 0 ∧ win0_0.index t 1 = t.val % 4)
    ∧ (win0_1.index t 0 = 0 ∧ win0_1.index t 1 = t.val / 4)
    ∧ (win0_2.index t 0 = t.val / 4 ∧ win0_2.index t 1 = t.val % 4 ∧ win0_2.index t 2 = 0 ∧ win0_2.index t 3 = 0) :=
  (by decide +kernel : ∀ t : Fin grid0.N, _)

/-- The array the call leaves is the reference's. -/
theorem final : (dats m 0 c).arrAt 2 cfg0.N = val_main_v8 (F := Ideal) (V m c main_arg0) (V m c main_arg1) := by
  refine (dats m 0 c).arrAt_eq_of_cover 2 (val_main_v8 (F := Ideal) (V m c main_arg0) (V m c main_arg1)) (fun t _ => ?_)
    (Pipeline.Window.Covers.cover win0_2 (by decide +kernel) (Memref.isWhole_whole _))
  obtain ⟨⟨a0, a1⟩, ⟨b0, b1⟩, e0, e1, e2, e3⟩ := index t
  have ht : t.val < 8 := Nat.lt_of_lt_of_eq t.isLt N_0
  rw [Value.flushed2 m c t]
  funext j
  refine (tile _ _ _).trans ?_
  rw [View.read_apply, gradient]
  refine Finset.sum_congr rfl fun k _ => congrArg₂ (· * ·) ?_ ?_
  · blk_ext! [iblk, V, a0, a1, e0, e1, e2, e3]
  · blk_ext! [iblk, V, b0, b1, e0, e1, e2, e3]

end Cert.CallGwOut

namespace Cert.CallGwIn

open Cert.GwInIdeal Cert.GwInIdeal.Gen Cert.RefGwInIdeal.Read

/-- What a grid point leaves in the result's block. -/
theorem tile (a : Vec Ideal S2048x1024 .bf16) (b : Vec Ideal S2048x768 .bf16) (j : S1x1x1024x768.Idx) :
    out0_2 (F := Ideal) a b j = ∑ k : Fin 2048, a (ix2 k (j 2)) * b (ix2 k (j 3)) := by
  unfold out0_2
  rw [View.canon_cons_unit_zero zero4, View.ld_unit_zero zero2, View.ld_unit_zero zero2]
  unfold k0_pay1
  refine (wrap _ _ j).trans ?_
  exact tn (φ₁ := .bf16) (φ₂ := .bf16) a b (ix2 (j 2) (j 3))

/-- An entry of the reference's gradient. -/
theorem gradient (x0 : Vec Ideal S2048x2048 .bf16) (x1 : Vec Ideal S2048x3072 .bf16) (i : S2x4x1024x768.Idx) :
    val_main_v8 (F := Ideal) x0 x1 i = (∑ k : Fin 2048, x0 (ridx_main_v4 (idx_main_v5 (idx_main_v6 (idx_main_v7 i))) k)
      * x1 (lidx_main_v4 (idx_main_v5 (idx_main_v6 (idx_main_v7 i))) k) : EReal) := by
  rw [val_main_v8_apply, val_main_v7_apply, val_main_v6_apply, val_main_v5_apply, val_main_v4_apply]
  exact swapped _ _

variable (m : (ℓ : Loc nD τ sig) → Buf (Elt Ideal) ℓ) (c : Dev nD)

/-- The blocks a grid point reads and writes. -/
theorem index : ∀ t : Fin cfg0.N,
    (win0_0.index t 0 = 0 ∧ win0_0.index t 1 = t.val % 2)
    ∧ (win0_1.index t 0 = 0 ∧ win0_1.index t 1 = t.val / 2)
    ∧ (win0_2.index t 0 = t.val % 2 ∧ win0_2.index t 1 = t.val / 2 ∧ win0_2.index t 2 = 0 ∧ win0_2.index t 3 = 0) :=
  (by decide +kernel : ∀ t : Fin grid0.N, _)

/-- The array the call leaves is the reference's. -/
theorem final : (dats m 0 c).arrAt 2 cfg0.N = val_main_v8 (F := Ideal) (V m c main_arg0) (V m c main_arg1) := by
  refine (dats m 0 c).arrAt_eq_of_cover 2 (val_main_v8 (F := Ideal) (V m c main_arg0) (V m c main_arg1)) (fun t _ => ?_)
    (Pipeline.Window.Covers.cover win0_2 (by decide +kernel) (Memref.isWhole_whole _))
  obtain ⟨⟨a0, a1⟩, ⟨b0, b1⟩, e0, e1, e2, e3⟩ := index t
  have ht : t.val < 8 := Nat.lt_of_lt_of_eq t.isLt N_0
  rw [Value.flushed2 m c t]
  funext j
  refine (tile _ _ _).trans ?_
  rw [View.read_apply, gradient]
  refine Finset.sum_congr rfl fun k _ => congrArg₂ (· * ·) ?_ ?_
  · blk_ext! [iblk, V, a0, a1, e0, e1, e2, e3]
  · blk_ext! [iblk, V, b0, b1, e0, e1, e2, e3]

end Cert.CallGwIn

namespace Cert.CallGwUp

open Cert.GwUpIdeal Cert.GwUpIdeal.Gen Cert.RefGwUpIdeal.Read

/-- What a grid point leaves in the result's block. -/
theorem tile (a : Vec Ideal S2048x1024 .bf16) (b : Vec Ideal S1x2048x1408 .bf16) (j : S1x1x1024x1408.Idx) :
    out0_2 (F := Ideal) a b j = ∑ k : Fin 2048, a (ix2 k (j 2)) * b (ix3 0 k (j 3)) := by
  unfold out0_2
  rw [View.canon_cons_unit_zero zero4, View.ld_unit_zero zero2, View.ld_unit_zero zero3]
  unfold k0_pay1
  refine (wrap _ _ j).trans ?_
  exact ((tn (φ₁ := .bf16) (φ₂ := .bf16) a _ (ix2 (j 2) (j 3))).trans (Finset.sum_congr rfl fun k _ => congrArg _ (drop b _ k (j 3))))

/-- An entry of the reference's gradient. -/
theorem gradient (x0 : Vec Ideal S2048x2048 .bf16) (x1 : Vec Ideal S2x2048x5632 .bf16) (i : S2x4x1024x2816.Idx) :
    val_main_v10 (F := Ideal) x0 x1 i = (∑ k : Fin 2048, x0 (ridx_main_v6 (idx_main_v7 (idx_main_v8 (idx_main_v9 i))) k)
      * x1 (idx_main_v0 (idx_main_v1 (lidx_main_v6 (idx_main_v7 (idx_main_v8 (idx_main_v9 i))) k))) : EReal) := by
  rw [val_main_v10_apply, val_main_v9_apply, val_main_v8_apply, val_main_v7_apply, val_main_v6_apply]
  exact (swapped _ _).trans (Finset.sum_congr rfl fun k _ => by rw [val_main_v3_apply, val_main_v1_apply, val_main_v0_apply, val_main_v4_apply]; rfl)

variable (m : (ℓ : Loc nD τ sig) → Buf (Elt Ideal) ℓ) (c : Dev nD)

/-- The blocks a grid point reads and writes. -/
theorem index : ∀ t : Fin cfg0.N,
    (win0_0.index t 0 = 0 ∧ win0_0.index t 1 = t.val % 2)
    ∧ (win0_1.index t 0 = t.val / 8 ∧ win0_1.index t 1 = 0 ∧ win0_1.index t 2 = t.val / 2 % 4)
    ∧ (win0_2.index t 0 = t.val % 2 ∧ win0_2.index t 1 = t.val / 4 ∧ win0_2.index t 2 = 0 ∧ win0_2.index t 3 = t.val / 2 % 2) :=
  (by decide +kernel : ∀ t : Fin grid0.N, _)

/-- The column of the up product a result's entry stands for, and its part and place in the cotangent's layout. -/
theorem column (t k r q : ℕ) (ht : t < 16) (hq : q < 1408) :
    (k * 11264 + ((r * 4 + t / 4) * 2816 + (t / 2 % 2 * 1408 + q)) % 11264) / 5632 % 2 = t / 8
    ∧ (k * 11264 + ((r * 4 + t / 4) * 2816 + (t / 2 % 2 * 1408 + q)) % 11264) % 5632 = t / 2 % 4 * 1408 + q := by
  have e : ((r * 4 + t / 4) * 2816 + (t / 2 % 2 * 1408 + q)) % 11264 = t / 8 * 5632 + (t / 2 % 4 * 1408 + q) := by omega
  rw [e]
  omega

/-- The array the call leaves is the reference's. -/
theorem final : (dats m 0 c).arrAt 2 cfg0.N = val_main_v10 (F := Ideal) (V m c main_arg0) (V m c main_arg1) := by
  refine (dats m 0 c).arrAt_eq_of_cover 2 (val_main_v10 (F := Ideal) (V m c main_arg0) (V m c main_arg1)) (fun t _ => ?_)
    (Pipeline.Window.Covers.cover win0_2 (by decide +kernel) (Memref.isWhole_whole _))
  obtain ⟨⟨a0, a1⟩, ⟨b0, b1, b2⟩, e0, e1, e2, e3⟩ := index t
  have ht : t.val < 16 := Nat.lt_of_lt_of_eq t.isLt N_0
  rw [Value.flushed2 m c t]
  funext j
  refine (tile _ _ _).trans ?_
  rw [View.read_apply, gradient]
  refine Finset.sum_congr rfl fun k _ => congrArg₂ (· * ·) ?_ ?_
  · blk_ext! [iblk, V, a0, a1, e0, e1, e2, e3]
  · blk_ext! [iblk, V, b0, b1, b2, e0, e1, e2, e3]
    · exact ((column t.val k.val _ _ ht hb3).1).symm
    · exact ((column t.val k.val _ _ ht hb3).2).symm

end Cert.CallGwUp

end
-- ==== Proof.Runs.lean ====
/- Facts about a program that is known to end with named arrays and with its arguments kept, for any program: an array may be
   named by anything equal to it; some of what is known may be dropped; and a program without semaphores also ends with every
   counter at zero. -/
module

public import Idealize.ShloMosaic.Lib.Quiescent

@[expose] public section

noncomputable section

open Idealize.ShloMosaic Idealize.ShloMosaic.TcCoe Idealize.SL.Sem

namespace Cert.Runs

variable {nD : ℕ} {τ : Topo} {sig : RefSig} {Val : EltTy → Type} {Λ : Labels}
  {defs : Defs nD τ sig Val Λ} {p : (c : Thread nD τ) → Prog (TpuEff nD τ sig Val Λ c.2) PUnit} {s : MemSt nD τ sig Val}
  {T : Dev nD → Type} {x : PUnit × MemSt nD τ sig Val → (c : Dev nD) → T c} {K : PUnit × MemSt nD τ sig Val → Dev nD → Prop}
  {a b : (c : Dev nD) → T c}

/-- The array a program ends with, under another name. -/
theorem ends (h : θ_run defs p s (fun r => ∀ c, x r c = a c ∧ K r c)) (e : ∀ c, a c = b c) :
    θ_run defs p s (fun r => ∀ c, x r c = b c ∧ K r c) :=
  (θ_run defs p s).mono (fun _ h c => ⟨(h c).1.trans (e c), (h c).2⟩) h

/-- What is known besides the first array. -/
theorem rest (h : θ_run defs p s (fun r => ∀ c, x r c = a c ∧ K r c)) : θ_run defs p s (fun r => ∀ c, K r c) :=
  (θ_run defs p s).mono (fun _ h c => (h c).2) h

section Four

variable {T₁ T₂ T₃ : Dev nD → Type} {x₁ : PUnit × MemSt nD τ sig Val → (c : Dev nD) → T₁ c}
  {x₂ : PUnit × MemSt nD τ sig Val → (c : Dev nD) → T₂ c} {x₃ : PUnit × MemSt nD τ sig Val → (c : Dev nD) → T₃ c}
  {a₁ b₁ : (c : Dev nD) → T₁ c} {a₂ b₂ : (c : Dev nD) → T₂ c} {a₃ b₃ : (c : Dev nD) → T₃ c}

/-- The four arrays a program ends with, under other names. -/
theorem ends_four (h : θ_run defs p s (fun r => ∀ c, x r c = a c ∧ x₁ r c = a₁ c ∧ x₂ r c = a₂ c ∧ x₃ r c = a₃ c ∧ K r c))
    (e : ∀ c, a c = b c ∧ a₁ c = b₁ c ∧ a₂ c = b₂ c ∧ a₃ c = b₃ c) :
    θ_run defs p s (fun r => ∀ c, x r c = b c ∧ x₁ r c = b₁ c ∧ x₂ r c = b₂ c ∧ x₃ r c = b₃ c ∧ K r c) :=
  (θ_run defs p s).mono (fun _ h c => ⟨(h c).1.trans (e c).1, (h c).2.1.trans (e c).2.1, (h c).2.2.1.trans (e c).2.2.1,
    (h c).2.2.2.1.trans (e c).2.2.2, (h c).2.2.2.2⟩) h

end Four

/-- A function of equal arguments, where the function's value and the other side are known by name. -/
theorem reads {α β γ : Type} (f : α → β → γ) {x x' : α} {y y' : β} {z w : γ} (n : z = f x y) (hx : x = x') (hy : y = y')
    (e : w = f x' y') : z = w :=
  n.trans ((congrArg₂ f hx hy).trans e.symm)

/-- A program without semaphores keeps what it keeps and leaves every counter at zero. -/
theorem keeps (h : θ_run defs p s (fun r => ∀ c, x r c = a c ∧ K r c)) (no : sig.nSem + sig.nDmaSem = 0) :
    θ_run defs p s (fun r => (∀ c, K r c) ∧ r.2.sem = fun _ => 0) :=
  (θ_run defs p s).mono (fun r h => ⟨fun c => (h c).2, sem_eq_zero_of_no_sems no r.2⟩) h

end Cert.Runs

end
-- ==== Proof.Calls.lean ====
/- The twelve product calls end with their references' arrays: each is the two general facts about runs, applied to what is
   known of that call. -/
module

public import proofs.«01_k».proof.Defs
public import proofs.«01_k».proof.Proof.Projections
public import proofs.«01_k».proof.Proof.DAct
public import proofs.«01_k».proof.Proof.DYcat
public import proofs.«01_k».proof.Proof.DH1
public import proofs.«01_k».proof.Proof.DH2
public import proofs.«01_k».proof.Proof.WeightGrads
public import proofs.«01_k».proof.Proof.Runs
public import proofs.«01_k».proof.Proof.Gen.RefMmInIdeal.Run
public import proofs.«01_k».proof.Proof.Gen.RefMmOutIdeal.Run
public import proofs.«01_k».proof.Proof.Gen.RefMmUpIdeal.Run
public import proofs.«01_k».proof.Proof.Gen.RefMmDownIdeal.Run
public import proofs.«01_k».proof.Proof.Gen.RefDActIdeal.Run
public import proofs.«01_k».proof.Proof.Gen.RefDYcatIdeal.Run
public import proofs.«01_k».proof.Proof.Gen.RefDH1Ideal.Run
public import proofs.«01_k».proof.Proof.Gen.RefDH2Ideal.Run
public import proofs.«01_k».proof.Proof.Gen.RefGwInIdeal.Run
public import proofs.«01_k».proof.Proof.Gen.RefGwOutIdeal.Run
public import proofs.«01_k».proof.Proof.Gen.RefGwUpIdeal.Run
public import proofs.«01_k».proof.Proof.Gen.RefGwDownIdeal.Run

@[expose] public section

set_option maxRecDepth 16384

noncomputable section

open Idealize.ShloMosaic Idealize.ShloMosaic.TcCoe Cert.Runs

namespace Cert

theorem CallMmIn.equal : algebraic_MmInIdeal_RefMmInIdeal := fun m g m' g' _ e =>
  ⟨_, MmInIdeal.Value.run_blocks m g, ends (RefMmInIdeal.Value.run (F := Ideal) m' g') fun c =>
    reads _ (RefMmInIdeal.Read.val_main_v4_eq _ _) (e c).1 (e c).2 (CallMmIn.final m c)⟩

theorem CallMmOut.equal : algebraic_MmOutIdeal_RefMmOutIdeal := fun m g m' g' _ e =>
  ⟨_, MmOutIdeal.Value.run_blocks m g, ends (RefMmOutIdeal.Value.run (F := Ideal) m' g') fun c =>
    reads _ (RefMmOutIdeal.Read.val_main_v4_eq _ _) (e c).1 (e c).2 (CallMmOut.final m c)⟩

theorem CallMmUp.equal : algebraic_MmUpIdeal_RefMmUpIdeal := fun m g m' g' _ e =>
  ⟨_, MmUpIdeal.Value.run_blocks m g, ends (RefMmUpIdeal.Value.run (F := Ideal) m' g') fun c =>
    reads _ (RefMmUpIdeal.Read.val_main_v4_eq _ _) (e c).1 (e c).2 (CallMmUp.final m c)⟩

theorem CallMmDown.equal : algebraic_MmDownIdeal_RefMmDownIdeal := fun m g m' g' _ e =>
  ⟨_, MmDownIdeal.Value.run_blocks m g, ends (RefMmDownIdeal.Value.run (F := Ideal) m' g') fun c =>
    reads _ (RefMmDownIdeal.Read.val_main_v4_eq _ _) (e c).1 (e c).2 (CallMmDown.final m c)⟩

theorem CallDAct.equal : algebraic_DActIdeal_RefDActIdeal := fun m g m' g' _ e =>
  ⟨_, DActIdeal.Value.run_blocks m g, ends (RefDActIdeal.Value.run (F := Ideal) m' g') fun c =>
    reads _ (RefDActIdeal.Read.val_main_v6_eq _ _) (e c).1 (e c).2 (CallDAct.final m c)⟩

theorem CallGwDown.equal : algebraic_GwDownIdeal_RefGwDownIdeal := fun m g m' g' _ e =>
  ⟨_, GwDownIdeal.Value.run_blocks m g, ends (RefGwDownIdeal.Value.run (F := Ideal) m' g') fun c =>
    reads _ (RefGwDownIdeal.Read.val_main_v8_eq _ _) (e c).1 (e c).2 (CallGwDown.final m c)⟩

theorem CallDH2.equal : algebraic_DH2Ideal_RefDH2Ideal := fun m g m' g' _ e =>
  ⟨_, DH2Ideal.Value.run_blocks m g, ends (RefDH2Ideal.Value.run (F := Ideal) m' g') fun c =>
    reads _ (RefDH2Ideal.Read.val_main_v8_eq _ _) (e c).1 (e c).2.1 (CallDH2.final m c)⟩

theorem CallGwUp.equal : algebraic_GwUpIdeal_RefGwUpIdeal := fun m g m' g' _ e =>
  ⟨_, GwUpIdeal.Value.run_blocks m g, ends (RefGwUpIdeal.Value.run (F := Ideal) m' g') fun c =>
    reads _ (RefGwUpIdeal.Read.val_main_v10_eq _ _) (e c).1 (e c).2 (CallGwUp.final m c)⟩

theorem CallDYcat.equal : algebraic_DYcatIdeal_RefDYcatIdeal := fun m g m' g' _ e =>
  ⟨_, DYcatIdeal.Value.run_blocks m g, ends (RefDYcatIdeal.Value.run (F := Ideal) m' g') fun c =>
    reads _ (RefDYcatIdeal.Read.val_main_v6_eq _ _) (e c).1 (e c).2.1 (CallDYcat.final m c)⟩

theorem CallGwOut.equal : algebraic_GwOutIdeal_RefGwOutIdeal := fun m g m' g' _ e =>
  ⟨_, GwOutIdeal.Value.run_blocks m g, ends (RefGwOutIdeal.Value.run (F := Ideal) m' g') fun c =>
    reads _ (RefGwOutIdeal.Read.val_main_v8_eq _ _) (e c).1 (e c).2 (CallGwOut.final m c)⟩

theorem CallDH1.equal : algebraic_DH1Ideal_RefDH1Ideal := fun m g m' g' _ e =>
  ⟨_, DH1Ideal.Value.run_blocks m g, ends (RefDH1Ideal.Value.run (F := Ideal) m' g') fun c =>
    reads _ (RefDH1Ideal.Read.val_main_v6_eq _ _) (e c).1 (e c).2 (CallDH1.final m c)⟩

theorem CallGwIn.equal : algebraic_GwInIdeal_RefGwInIdeal := fun m g m' g' _ e =>
  ⟨_, GwInIdeal.Value.run_blocks m g, ends (RefGwInIdeal.Value.run (F := Ideal) m' g') fun c =>
    reads _ (RefGwInIdeal.Read.val_main_v8_eq _ _) (e c).1 (e c).2 (CallGwIn.final m c)⟩

end Cert

end
-- ==== Proof.Adam.lean ====
/- The optimiser's step at one entry, and the two calls that apply it to a matrix whose gradient lies in one piece: each
   grid point copies its block of the gradient and leaves the step's three results for its blocks. -/
module

public import proofs.«01_k».proof.Proof.Gen.AdamInIdeal.Value
public import proofs.«01_k».proof.Proof.Gen.AdamUpIdeal.Value
public import proofs.«01_k».proof.Proof.Gen.RefAdamInIdeal.Read
public import proofs.«01_k».proof.Proof.Gen.RefAdamUpIdeal.Read
public import proofs.«01_k».proof.Proof.Product

@[expose] public section

set_option maxRecDepth 16384

noncomputable section

open Idealize.ShloMosaic Idealize.ShloMosaic.TcCoe Cert.Product

namespace Cert.Adam

/-- A single-precision constant's value. -/
abbrev num (b : BitVec 32) : Ideal .f32 := FloatOps.ofBits .f32 b

/-- The first moment after a step with gradient `g`. -/
def mean (g m : Ideal .f32) : Ideal .f32 :=
  FloatOps.addf (FloatOps.mulf (num 0x3F666666#32) m) (FloatOps.mulf (num 0x3DCCCCCD#32) g)

/-- The second moment after a step with gradient `g`. -/
def spread (g v : Ideal .f32) : Ideal .f32 :=
  FloatOps.addf (FloatOps.mulf (num 0x3F7FBE77#32) v) (FloatOps.mulf (num 0x3A83126F#32) (FloatOps.mulf g g))

/-- The change of the weight `w` in a step with gradient `g`. -/
def change (w g m v : Ideal .f32) : Ideal .f32 :=
  FloatOps.mulf (num 0xBA83126F#32) (FloatOps.addf
    (FloatOps.divf (FloatOps.divf (mean g m) (num 0x3F26BD02#32))
      (FloatOps.addf (FloatOps.sqrt (FloatOps.divf (spread g v) (num 0x3C231ACC#32))) (num 0x322BCC77#32)))
    (FloatOps.mulf (num 0x3C23D70A#32) w))

/-- The gradient of a step of the weights `w`, the change and the two moments, over any set of places. -/
def Step {I : Type} (w g m v g' d m' v' : I → Ideal .f32) : Prop :=
  g' = g ∧ (d = fun i => change (w i) (g i) (m i) (v i)) ∧ (m' = fun i => mean (g i) (m i)) ∧ v' = fun i => spread (g i) (v i)

section

variable {I J : Type} {w g m v g' d m' v' : I → Ideal .f32}

/-- A step of a block is, entry by entry, the step of the matrix at the entry's place. -/
theorem Step.of_block {W G M V : J → Ideal .f32} {i : I} {j : J} (h : Step w g m v g' d m' v')
    (e : w i = W j ∧ g i = G j ∧ m i = M j ∧ v i = V j) :
    g' i = G j ∧ d i = change (W j) (G j) (M j) (V j) ∧ m' i = mean (G j) (M j) ∧ v' i = spread (G j) (V j) := by
  obtain ⟨rfl, rfl, rfl, rfl⟩ := h
  obtain ⟨e0, e1, e2, e3⟩ := e
  dsimp only
  rw [e0, e1, e2, e3]
  exact ⟨rfl, rfl, rfl, rfl⟩

/-- Two steps from equal arguments have equal results. -/
theorem Step.unique {W G M V G' D M' V' : I → Ideal .f32} (h : Step w g m v g' d m' v') (H : Step W G M V G' D M' V')
    (e : w = W ∧ g = G ∧ m = M ∧ v = V) : g' = G' ∧ d = D ∧ m' = M' ∧ v' = V' := by
  obtain ⟨rfl, rfl, rfl, rfl⟩ := h
  obtain ⟨rfl, rfl, rfl, rfl⟩ := H
  obtain ⟨rfl, rfl, rfl, rfl⟩ := e
  exact ⟨rfl, rfl, rfl, rfl⟩

end

end Cert.Adam

namespace Cert.CallAdamIn

open Cert.AdamInIdeal Cert.AdamInIdeal.Gen Cert.RefAdamInIdeal.Read Cert.Adam

/-- A grid point steps its block. -/
theorem tile (w g m v : Vec Ideal S256x768 .f32) : Step w g m v (out0_4 (F := Ideal) w g m v) (out0_5 (F := Ideal) w g m v)
    (out0_6 (F := Ideal) w g m v) (out0_7 (F := Ideal) w g m v) := by
  unfold out0_4 out0_5 out0_6 out0_7
  refine ⟨?_, ?_, ?_, ?_⟩ <;> (rw [View.canon_unit_zero zero2]; repeat rw [View.ld_unit_zero zero2])
  all_goals rfl

/-- The reference steps the matrix. -/
theorem reference (w g m v : Vec Ideal S2048x768 .f32) :
    Step w g m v g (val_main_v23 (F := Ideal) w g m v) (val_main_v4 (F := Ideal) g m) (val_main_v10 (F := Ideal) g v) :=
  ⟨rfl, rfl, rfl, rfl⟩

variable (m : (ℓ : Loc nD τ sig) → Buf (Elt Ideal) ℓ) (c : Dev nD)

/-- Each grid point has 256 of the 2048 rows. -/
theorem index : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = t.val ∧ win0_4.index t 1 = 0) :=
  (by decide +kernel : ∀ t : Fin grid0.N, _)

/-- The entries a grid point reads are those at the places it writes. -/
theorem entries (t : Fin cfg0.N) (j : S256x768.Idx) :
    iblk m c 0 t j = V m c main_arg0 (((cfg0.win 4).blk t).view.emb j)
    ∧ iblk m c 1 t j = V m c main_arg1 (((cfg0.win 4).blk t).view.emb j)
    ∧ iblk m c 2 t j = V m c main_arg2 (((cfg0.win 4).blk t).view.emb j)
    ∧ iblk m c 3 t j = V m c main_arg3 (((cfg0.win 4).blk t).view.emb j) := by
  obtain ⟨⟨a0, a1⟩, ⟨b0, b1⟩, ⟨d0, d1⟩, ⟨f0, f1⟩, e0, e1⟩ := index t
  exact ⟨by blk_ext! [iblk, V, a0, a1, e0, e1], by blk_ext! [iblk, V, b0, b1, e0, e1],
    by blk_ext! [iblk, V, d0, d1, e0, e1], by blk_ext! [iblk, V, f0, f1, e0, e1]⟩

/-- The call steps the matrix. -/
theorem final : Step (V m c main_arg0) (V m c main_arg1) (V m c main_arg2) (V m c main_arg3) ((dats m 0 c).arrAt 4 cfg0.N)
    ((dats m 0 c).arrAt 5 cfg0.N) ((dats m 0 c).arrAt 6 cfg0.N) ((dats m 0 c).arrAt 7 cfg0.N) := by
  have s (t : Fin cfg0.N) (j : S256x768.Idx) := (tile ..).of_block (entries m c t j)
  exact ⟨(dats m 0 c).arrAt_eq_of_cover 4 _ (fun t _ => (Value.flushed4 m c t).trans (funext fun j => (s t j).1))
      (Pipeline.Window.Covers.cover win0_4 (by decide +kernel) (Memref.isWhole_whole _)),
    (dats m 0 c).arrAt_eq_of_cover 5 _ (fun t _ => (Value.flushed5 m c t).trans (funext fun j => (s t j).2.1))
      (Pipeline.Window.Covers.cover win0_5 (by decide +kernel) (Memref.isWhole_whole _)),
    (dats m 0 c).arrAt_eq_of_cover 6 _ (fun t _ => (Value.flushed6 m c t).trans (funext fun j => (s t j).2.2.1))
      (Pipeline.Window.Covers.cover win0_6 (by decide +kernel) (Memref.isWhole_whole _)),
    (dats m 0 c).arrAt_eq_of_cover 7 _ (fun t _ => (Value.flushed7 m c t).trans (funext fun j => (s t j).2.2.2))
      (Pipeline.Window.Covers.cover win0_7 (by decide +kernel) (Memref.isWhole_whole _))⟩

end Cert.CallAdamIn

namespace Cert.CallAdamUp

open Cert.AdamUpIdeal Cert.AdamUpIdeal.Gen Cert.RefAdamUpIdeal.Read Cert.Adam

/-- A grid point steps its block. -/
theorem tile (w g m v : Vec Ideal S64x2816 .f32) : Step w g m v (out0_4 (F := Ideal) w g m v) (out0_5 (F := Ideal) w g m v)
    (out0_6 (F := Ideal) w g m v) (out0_7 (F := Ideal) w g m v) := by
  unfold out0_4 out0_5 out0_6 out0_7
  refine ⟨?_, ?_, ?_, ?_⟩ <;> (rw [View.canon_unit_zero zero2]; repeat rw [View.ld_unit_zero zero2])
  all_goals rfl

/-- The reference steps the matrix. -/
theorem reference (w g m v : Vec Ideal S2048x2816 .f32) :
    Step w g m v g (val_main_v23 (F := Ideal) w g m v) (val_main_v4 (F := Ideal) g m) (val_main_v10 (F := Ideal) g v) :=
  ⟨rfl, rfl, rfl, rfl⟩

variable (m : (ℓ : Loc nD τ sig) → Buf (Elt Ideal) ℓ) (c : Dev nD)

/-- Each grid point has 64 of the 2048 rows. -/
theorem index : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = t.val ∧ win0_4.index t 1 = 0) :=
  (by decide +kernel : ∀ t : Fin grid0.N, _)

/-- The entries a grid point reads are those at the places it writes. -/
theorem entries (t : Fin cfg0.N) (j : S64x2816.Idx) :
    iblk m c 0 t j = V m c main_arg0 (((cfg0.win 4).blk t).view.emb j)
    ∧ iblk m c 1 t j = V m c main_arg1 (((cfg0.win 4).blk t).view.emb j)
    ∧ iblk m c 2 t j = V m c main_arg2 (((cfg0.win 4).blk t).view.emb j)
    ∧ iblk m c 3 t j = V m c main_arg3 (((cfg0.win 4).blk t).view.emb j) := by
  obtain ⟨⟨a0, a1⟩, ⟨b0, b1⟩, ⟨d0, d1⟩, ⟨f0, f1⟩, e0, e1⟩ := index t
  exact ⟨by blk_ext! [iblk, V, a0, a1, e0, e1], by blk_ext! [iblk, V, b0, b1, e0, e1],
    by blk_ext! [iblk, V, d0, d1, e0, e1], by blk_ext! [iblk, V, f0, f1, e0, e1]⟩

/-- The call steps the matrix. -/
theorem final : Step (V m c main_arg0) (V m c main_arg1) (V m c main_arg2) (V m c main_arg3) ((dats m 0 c).arrAt 4 cfg0.N)
    ((dats m 0 c).arrAt 5 cfg0.N) ((dats m 0 c).arrAt 6 cfg0.N) ((dats m 0 c).arrAt 7 cfg0.N) := by
  have s (t : Fin cfg0.N) (j : S64x2816.Idx) := (tile ..).of_block (entries m c t j)
  exact ⟨(dats m 0 c).arrAt_eq_of_cover 4 _ (fun t _ => (Value.flushed4 m c t).trans (funext fun j => (s t j).1))
      (Pipeline.Window.Covers.cover win0_4 (by decide +kernel) (Memref.isWhole_whole _)),
    (dats m 0 c).arrAt_eq_of_cover 5 _ (fun t _ => (Value.flushed5 m c t).trans (funext fun j => (s t j).2.1))
      (Pipeline.Window.Covers.cover win0_5 (by decide +kernel) (Memref.isWhole_whole _)),
    (dats m 0 c).arrAt_eq_of_cover 6 _ (fun t _ => (Value.flushed6 m c t).trans (funext fun j => (s t j).2.2.1))
      (Pipeline.Window.Covers.cover win0_6 (by decide +kernel) (Memref.isWhole_whole _)),
    (dats m 0 c).arrAt_eq_of_cover 7 _ (fun t _ => (Value.flushed7 m c t).trans (funext fun j => (s t j).2.2.2))
      (Pipeline.Window.Covers.cover win0_7 (by decide +kernel) (Memref.isWhole_whole _))⟩

end Cert.CallAdamUp

end
-- ==== Proof.AdamHalves.lean ====
/- The two optimiser calls whose gradient arrives as two halves of the columns: as for a gradient in one piece, where a grid
   point reads the gradient from the half its columns lie in. -/
module

public import proofs.«01_k».proof.Proof.Gen.AdamOutIdeal.Value
public import proofs.«01_k».proof.Proof.Gen.AdamDownIdeal.Value
public import proofs.«01_k».proof.Proof.Gen.RefAdamOutIdeal.Read
public import proofs.«01_k».proof.Proof.Gen.RefAdamDownIdeal.Read
public import proofs.«01_k».proof.Proof.Adam

@[expose] public section

set_option maxRecDepth 16384

noncomputable section

open Idealize.ShloMosaic Idealize.ShloMosaic.TcCoe Cert.Product

namespace Cert.Adam

/-- A block of a half, without its leading axis of one. -/
abbrev flat {M N : Nat} (g : Vec Ideal ⟨3, ![1, M, N]⟩ .f32) : Vec Ideal ⟨2, ![M, N]⟩ .f32 := fun j => g (ix3 0 (j 0) (j 1))

/-- The reshape that drops the leading axis gives that block. -/
theorem flat_eq {M N : Nat} (g : Vec Ideal ⟨3, ![1, M, N]⟩ .f32)
    (h : (⟨3, ![1, M, N]⟩ : Shape).ShapeCasts ⟨2, ![M, N]⟩) : shapeCast ⟨2, ![M, N]⟩ g h = flat g :=
  funext fun j => (congrArg _ (eq_ix2 j)).trans (drop g h (j 0) (j 1))

end Cert.Adam

namespace Cert.CallAdamOut

open Cert.AdamOutIdeal Cert.AdamOutIdeal.Gen Cert.RefAdamOutIdeal.Read Cert.Adam

/-- A grid point steps its block. -/
theorem tile (w m v : Vec Ideal S256x1024 .f32) (g : Vec Ideal S1x256x1024 .f32) :
    Step w (flat g) m v (out0_4 (F := Ideal) w g m v) (out0_5 (F := Ideal) w g m v) (out0_6 (F := Ideal) w g m v)
      (out0_7 (F := Ideal) w g m v) := by
  have e : k0_pay1 (F := Ideal) g = flat g := flat_eq g _
  rw [← e]
  unfold out0_4 out0_5 out0_6 out0_7
  refine ⟨?_, ?_, ?_, ?_⟩ <;>
    (rw [View.canon_unit_zero zero2]; repeat first | rw [View.ld_unit_zero zero2] | rw [View.ld_unit_zero zero3])
  all_goals rfl

/-- The reference puts the two halves side by side and steps the matrix. -/
theorem reference (w m v : Vec Ideal S512x2048 .f32) (g : Vec Ideal S2x512x1024 .f32) :
    Step w (val_main_v1 (F := Ideal) g) m v (val_main_v1 (F := Ideal) g) (val_main_v25 (F := Ideal) w g m v)
      (val_main_v6 (F := Ideal) g m) (val_main_v12 (F := Ideal) g v) :=
  ⟨rfl, rfl, rfl, rfl⟩

variable (m : (ℓ : Loc nD τ sig) → Buf (Elt Ideal) ℓ) (c : Dev nD)

/-- Two grid points share 256 of the 512 rows, each with the columns of one half. -/
theorem index : ∀ t : Fin cfg0.N,
    (win0_0.index t 0 = t.val / 2 ∧ win0_0.index t 1 = t.val % 2)
    ∧ (win0_1.index t 0 = t.val % 2 ∧ win0_1.index t 1 = t.val / 2 ∧ win0_1.index t 2 = 0)
    ∧ (win0_2.index t 0 = t.val / 2 ∧ win0_2.index t 1 = t.val % 2)
    ∧ (win0_3.index t 0 = t.val / 2 ∧ win0_3.index t 1 = t.val % 2)
    ∧ (win0_4.index t 0 = t.val / 2 ∧ win0_4.index t 1 = t.val % 2) :=
  (by decide +kernel : ∀ t : Fin grid0.N, _)

/-- The entries a grid point reads are those at the places it writes. -/
theorem entries (t : Fin cfg0.N) (j : S256x1024.Idx) :
    iblk m c 0 t j = V m c main_arg0 (((cfg0.win 4).blk t).view.emb j)
    ∧ flat (iblk m c 1 t) j = val_main_v1 (F := Ideal) (V m c main_arg1) (((cfg0.win 4).blk t).view.emb j)
    ∧ iblk m c 2 t j = V m c main_arg2 (((cfg0.win 4).blk t).view.emb j)
    ∧ iblk m c 3 t j = V m c main_arg3 (((cfg0.win 4).blk t).view.emb j) := by
  obtain ⟨⟨a0, a1⟩, ⟨b0, b1, b2⟩, ⟨d0, d1⟩, ⟨f0, f1⟩, e0, e1⟩ := index t
  refine ⟨by blk_ext! [iblk, V, a0, a1, e0, e1], ?_, by blk_ext! [iblk, V, d0, d1, e0, e1],
    by blk_ext! [iblk, V, f0, f1, e0, e1]⟩
  rw [val_main_v1_apply, val_main_v0_apply]
  unfold flat
  blk_ext! [iblk, V, b0, b1, b2, e0, e1]

/-- The call steps the matrix. -/
theorem final : Step (V m c main_arg0) (val_main_v1 (F := Ideal) (V m c main_arg1)) (V m c main_arg2) (V m c main_arg3)
    ((dats m 0 c).arrAt 4 cfg0.N) ((dats m 0 c).arrAt 5 cfg0.N) ((dats m 0 c).arrAt 6 cfg0.N) ((dats m 0 c).arrAt 7 cfg0.N) := by
  have s (t : Fin cfg0.N) (j : S256x1024.Idx) := (tile ..).of_block (entries m c t j)
  exact ⟨(dats m 0 c).arrAt_eq_of_cover 4 _ (fun t _ => (Value.flushed4 m c t).trans (funext fun j => (s t j).1))
      (Pipeline.Window.Covers.cover win0_4 (by decide +kernel) (Memref.isWhole_whole _)),
    (dats m 0 c).arrAt_eq_of_cover 5 _ (fun t _ => (Value.flushed5 m c t).trans (funext fun j => (s t j).2.1))
      (Pipeline.Window.Covers.cover win0_5 (by decide +kernel) (Memref.isWhole_whole _)),
    (dats m 0 c).arrAt_eq_of_cover 6 _ (fun t _ => (Value.flushed6 m c t).trans (funext fun j => (s t j).2.2.1))
      (Pipeline.Window.Covers.cover win0_6 (by decide +kernel) (Memref.isWhole_whole _)),
    (dats m 0 c).arrAt_eq_of_cover 7 _ (fun t _ => (Value.flushed7 m c t).trans (funext fun j => (s t j).2.2.2))
      (Pipeline.Window.Covers.cover win0_7 (by decide +kernel) (Memref.isWhole_whole _))⟩

end Cert.CallAdamOut

namespace Cert.CallAdamDown

open Cert.AdamDownIdeal Cert.AdamDownIdeal.Gen Cert.RefAdamDownIdeal.Read Cert.Adam

/-- A grid point steps its block. -/
theorem tile (w m v : Vec Ideal S176x1024 .f32) (g : Vec Ideal S1x176x1024 .f32) :
    Step w (flat g) m v (out0_4 (F := Ideal) w g m v) (out0_5 (F := Ideal) w g m v) (out0_6 (F := Ideal) w g m v)
      (out0_7 (F := Ideal) w g m v) := by
  have e : k0_pay1 (F := Ideal) g = flat g := flat_eq g _
  rw [← e]
  unfold out0_4 out0_5 out0_6 out0_7
  refine ⟨?_, ?_, ?_, ?_⟩ <;>
    (rw [View.canon_unit_zero zero2]; repeat first | rw [View.ld_unit_zero zero2] | rw [View.ld_unit_zero zero3])
  all_goals rfl

/-- The reference puts the two halves side by side and steps the matrix. -/
theorem reference (w m v : Vec Ideal S1408x2048 .f32) (g : Vec Ideal S2x1408x1024 .f32) :
    Step w (val_main_v1 (F := Ideal) g) m v (val_main_v1 (F := Ideal) g) (val_main_v25 (F := Ideal) w g m v)
      (val_main_v6 (F := Ideal) g m) (val_main_v12 (F := Ideal) g v) :=
  ⟨rfl, rfl, rfl, rfl⟩

variable (m : (ℓ : Loc nD τ sig) → Buf (Elt Ideal) ℓ) (c : Dev nD)

/-- Two grid points share 176 of the 1408 rows, each with the columns of one half. -/
theorem index : ∀ t : Fin cfg0.N,
    (win0_0.index t 0 = t.val / 2 ∧ win0_0.index t 1 = t.val % 2)
    ∧ (win0_1.index t 0 = t.val % 2 ∧ win0_1.index t 1 = t.val / 2 ∧ win0_1.index t 2 = 0)
    ∧ (win0_2.index t 0 = t.val / 2 ∧ win0_2.index t 1 = t.val % 2)
    ∧ (win0_3.index t 0 = t.val / 2 ∧ win0_3.index t 1 = t.val % 2)
    ∧ (win0_4.index t 0 = t.val / 2 ∧ win0_4.index t 1 = t.val % 2) :=
  (by decide +kernel : ∀ t : Fin grid0.N, _)

/-- The entries a grid point reads are those at the places it writes. -/
theorem entries (t : Fin cfg0.N) (j : S176x1024.Idx) :
    iblk m c 0 t j = V m c main_arg0 (((cfg0.win 4).blk t).view.emb j)
    ∧ flat (iblk m c 1 t) j = val_main_v1 (F := Ideal) (V m c main_arg1) (((cfg0.win 4).blk t).view.emb j)
    ∧ iblk m c 2 t j = V m c main_arg2 (((cfg0.win 4).blk t).view.emb j)
    ∧ iblk m c 3 t j = V m c main_arg3 (((cfg0.win 4).blk t).view.emb j) := by
  obtain ⟨⟨a0, a1⟩, ⟨b0, b1, b2⟩, ⟨d0, d1⟩, ⟨f0, f1⟩, e0, e1⟩ := index t
  refine ⟨by blk_ext! [iblk, V, a0, a1, e0, e1], ?_, by blk_ext! [iblk, V, d0, d1, e0, e1],
    by blk_ext! [iblk, V, f0, f1, e0, e1]⟩
  rw [val_main_v1_apply, val_main_v0_apply]
  unfold flat
  blk_ext! [iblk, V, b0, b1, b2, e0, e1]

/-- The call steps the matrix. -/
theorem final : Step (V m c main_arg0) (val_main_v1 (F := Ideal) (V m c main_arg1)) (V m c main_arg2) (V m c main_arg3)
    ((dats m 0 c).arrAt 4 cfg0.N) ((dats m 0 c).arrAt 5 cfg0.N) ((dats m 0 c).arrAt 6 cfg0.N) ((dats m 0 c).arrAt 7 cfg0.N) := by
  have s (t : Fin cfg0.N) (j : S176x1024.Idx) := (tile ..).of_block (entries m c t j)
  exact ⟨(dats m 0 c).arrAt_eq_of_cover 4 _ (fun t _ => (Value.flushed4 m c t).trans (funext fun j => (s t j).1))
      (Pipeline.Window.Covers.cover win0_4 (by decide +kernel) (Memref.isWhole_whole _)),
    (dats m 0 c).arrAt_eq_of_cover 5 _ (fun t _ => (Value.flushed5 m c t).trans (funext fun j => (s t j).2.1))
      (Pipeline.Window.Covers.cover win0_5 (by decide +kernel) (Memref.isWhole_whole _)),
    (dats m 0 c).arrAt_eq_of_cover 6 _ (fun t _ => (Value.flushed6 m c t).trans (funext fun j => (s t j).2.2.1))
      (Pipeline.Window.Covers.cover win0_6 (by decide +kernel) (Memref.isWhole_whole _)),
    (dats m 0 c).arrAt_eq_of_cover 7 _ (fun t _ => (Value.flushed7 m c t).trans (funext fun j => (s t j).2.2.2))
      (Pipeline.Window.Covers.cover win0_7 (by decide +kernel) (Memref.isWhole_whole _))⟩

end Cert.CallAdamDown

end
-- ==== Proof.Wada.lean ====
/- The call that forms the conditioning weights' gradient and steps them: the gradient is a sum over the eight rows of the
   batch, which the kernel writes out term by term, and the step is the optimiser's. -/
module

public import proofs.«01_k».proof.Proof.Gen.WadaIdeal.Frame
public import proofs.«01_k».proof.Proof.Gen.RefWadaIdeal.Read
public import proofs.«01_k».proof.Proof.Adam

@[expose] public section

set_option maxRecDepth 16384

noncomputable section

open scoped BigOperators
open Idealize.ShloMosaic Idealize.ShloMosaic.TcCoe Idealize.SL.Sem Cert.Product

namespace Cert.CallWada

open Cert.WadaIdeal Cert.WadaIdeal.Gen Cert.RefWadaIdeal.Read Cert.Adam

/-- The activation of the conditioning, as the kernel writes it. -/
def silu (x : Ideal .f32) : Ideal .f32 :=
  FloatOps.mulf x (FloatOps.divf (num 0x3F800000#32)
    (FloatOps.addf (num 0x3F800000#32) (FloatOps.exp (FloatOps.subf (num 0x00000000#32) x))))

/-- The reference's activation negates where the kernel subtracts from zero. -/
theorem silu_reference (x : Vec Ideal S8x2048 .f32) (i : S8x2048.Idx) : val_main_v0 (F := Ideal) x i = silu (x i) := by
  have e : (FloatOps.subf (num 0x00000000#32) (x i) : Ideal .f32) = FloatOps.hostNegf (x i) := by
    show (Ideal.ofBits .f32 0x00000000#32 - x i : EReal) = -(x i)
    rw [Ideal.ofBits_zero_f32]
    exact zero_sub _
  unfold silu
  rw [e]
  rfl

/-- A column of the block, repeated along the rows. -/
theorem column (x : Vec Ideal S256x8 .f32) (n : Nat) (hn : n < 8) (h : S256x8.Slices ![0, n] S256x1) (j : S256x1024.Idx) :
    broadcastTo S256x1024 (extractStridedSlice S256x1 ![0, n] x h) broadcasts_S256x1_S256x1024 j = x (ix2 (j 0) ⟨n, hn⟩) := by
  refine (broadcastTo_apply _ _ j (ix2 (j 0) 0) fun b => ?_).trans (extractStridedSlice_apply _ x h _ _ fun b => ?_)
  · match b with
    | ⟨0, _⟩ => rfl
    | ⟨1, _⟩ => rfl
  · match b with
    | ⟨0, _⟩ => exact (Nat.zero_add _).symm
    | ⟨1, _⟩ => rfl

/-- A row of the other block, repeated along the columns. -/
theorem row (x : Vec Ideal S8x1024 .f32) (n : Nat) (hn : n < 8) (h : S8x1024.Slices ![n, 0] S1x1024) (j : S256x1024.Idx) :
    broadcastTo S256x1024 (extractStridedSlice S1x1024 ![n, 0] x h) broadcasts_S1x1024_S256x1024 j = x (ix2 ⟨n, hn⟩ (j 1)) := by
  refine (broadcastTo_apply _ _ j (ix2 0 (j 1)) fun b => ?_).trans (extractStridedSlice_apply _ x h _ _ fun b => ?_)
  · match b with
    | ⟨0, _⟩ => rfl
    | ⟨1, _⟩ => rfl
  · match b with
    | ⟨0, _⟩ => rfl
    | ⟨1, _⟩ => exact (Nat.zero_add _).symm

/-- The kernel's activation at an entry. -/
theorem silu_kernel (a : Vec Ideal S256x8 .f32) (p : S256x8.Idx) : k0_pay1 (F := Ideal) a p = silu (a p) := by
  unfold k0_pay1
  rw [shapeCast_self]
  rfl

/-- The product of a column of the activation and a row of the conditioning's gradient. -/
theorem term (a : Vec Ideal S256x8 .f32) (d : Vec Ideal S8x1024 .f32) (n : Nat) (hn : n < 8) (h : S256x8.Slices ![0, n] S256x1)
    (h' : S8x1024.Slices ![n, 0] S1x1024) (j : S256x1024.Idx) :
    mulf (F := Ideal) (φ := .f32) (broadcastTo S256x1024 (extractStridedSlice S256x1 ![0, n] (k0_pay1 (F := Ideal) a) h) broadcasts_S256x1_S256x1024)
      (broadcastTo S256x1024 (extractStridedSlice S1x1024 ![n, 0] d h') broadcasts_S1x1024_S256x1024) j
      = (silu (a (ix2 (j 0) ⟨n, hn⟩)) * d (ix2 ⟨n, hn⟩ (j 1)) : EReal) :=
  congrArg₂ (fun x y : EReal => x * y) ((column _ n hn h j).trans (silu_kernel a _)) (row d n hn h' j)

/-- The gradient a grid point forms at an entry of its block. -/
theorem gradient (a : Vec Ideal S256x8 .f32) (d : Vec Ideal S8x1024 .f32) (w m v : Vec Ideal S256x1024 .f32) (j : S256x1024.Idx) :
    out0_5 (F := Ideal) a d w m v j = (∑ k : Fin 8, silu (a (ix2 (j 0) k)) * d (ix2 k (j 1)) : EReal) := by
  unfold_out out0_5
  rw [View.canon_unit_zero zero2, View.ld_unit_zero zero2, View.ld_unit_zero zero2, Fin.sum_univ_eight]
  have s (x y x' y' : EReal) (h : x = x') (h' : y = y') : x + y = x' + y' := congrArg₂ (· + ·) h h'
  exact s _ _ _ _ (s _ _ _ _ (s _ _ _ _ (s _ _ _ _ (s _ _ _ _ (s _ _ _ _ (s _ _ _ _ (term a d 0 (by decide) _ _ j)
    (term a d 1 (by decide) _ _ j)) (term a d 2 (by decide) _ _ j)) (term a d 3 (by decide) _ _ j))
    (term a d 4 (by decide) _ _ j)) (term a d 5 (by decide) _ _ j)) (term a d 6 (by decide) _ _ j)) (term a d 7 (by decide) _ _ j)

/-- A grid point steps its block with the gradient it forms. -/
theorem tile (a : Vec Ideal S256x8 .f32) (d : Vec Ideal S8x1024 .f32) (w m v : Vec Ideal S256x1024 .f32) :
    Step w (out0_5 (F := Ideal) a d w m v) m v (out0_5 (F := Ideal) a d w m v) (out0_6 (F := Ideal) a d w m v)
      (out0_7 (F := Ideal) a d w m v) (out0_8 (F := Ideal) a d w m v) := by
  unfold out0_5 out0_6 out0_7 out0_8
  refine ⟨rfl, ?_, ?_, ?_⟩
  all_goals rw [View.canon_unit_zero zero2, View.canon_unit_zero zero2]
  · rw [View.ld_unit_zero (X := w) zero2, View.ld_unit_zero (X := m) zero2, View.ld_unit_zero (X := v) zero2]
    rfl
  · rw [View.ld_unit_zero (X := m) zero2]
    rfl
  · rw [View.ld_unit_zero (X := v) zero2]
    rfl

/-- The reference steps the matrix with the gradient it forms. -/
theorem reference (a : Vec Ideal S8x2048 .f32) (d : Vec Ideal S8x3072 .f32) (w m v : Vec Ideal S2048x3072 .f32) :
    Step w (val_main_v3 (F := Ideal) a d) m v (val_main_v3 (F := Ideal) a d) (val_main_v27 (F := Ideal) a d w m v)
      (val_main_v8 (F := Ideal) a d m) (val_main_v14 (F := Ideal) a d v) :=
  ⟨rfl, rfl, rfl, rfl⟩

/-- The reference's gradient at an entry. -/
theorem gradient_reference (a : Vec Ideal S8x2048 .f32) (d : Vec Ideal S8x3072 .f32) (i : S2048x3072.Idx) :
    val_main_v3 (F := Ideal) a d i = (∑ k : Fin 8, silu (a (ix2 k (i 0))) * d (ix2 k (i 1)) : EReal) := by
  rw [val_main_v3_apply, val_main_v2_apply]
  refine Finset.sum_congr rfl fun k _ => (mul_comm (G := EReal) _ _).trans (congrArg₂ (· * ·) ?_ (congrArg d ?_))
  · rw [silu_reference]
    exact congrArg silu (congrArg a (funext fun b => match b with
      | ⟨0, _⟩ => rfl
      | ⟨1, _⟩ => rfl))
  · exact funext fun b => match b with
      | ⟨0, _⟩ => rfl
      | ⟨1, _⟩ => rfl

variable (m : (ℓ : Loc nD τ sig) → Buf (Elt Ideal) ℓ) (c : Dev nD)

/-- The call is handed the conditioning with its axes exchanged. -/
theorem turned (r : Fin 2048) (k : Fin 8) : V m c main_v0 (ix2 r k) = V m c main_arg0 (ix2 k r) := by
  rw [V_main_arg0]
  unfold V
  simp only [hostOps0, List.flatten_cons, List.flatten_nil, List.append_nil, List.cons_append, List.nil_append]
  after_results
  exact transpose_apply [1, 0] _ transposes_S8x2048_S2048x8_1_0 (ix2 r k) (ix2 k r) (fun b => match b with
    | ⟨0, _⟩ => rfl
    | ⟨1, _⟩ => rfl)

/-- The blocks a grid point reads and writes. -/
theorem index : ∀ t : Fin cfg0.N,
    (win0_0.index t 0 = t.val / 3 ∧ win0_0.index t 1 = 0) ∧ (win0_1.index t 0 = 0 ∧ win0_1.index t 1 = t.val % 3)
    ∧ (win0_2.index t 0 = t.val / 3 ∧ win0_2.index t 1 = t.val % 3)
    ∧ (win0_3.index t 0 = t.val / 3 ∧ win0_3.index t 1 = t.val % 3)
    ∧ (win0_4.index t 0 = t.val / 3 ∧ win0_4.index t 1 = t.val % 3)
    ∧ (win0_5.index t 0 = t.val / 3 ∧ win0_5.index t 1 = t.val % 3) :=
  (by decide +kernel : ∀ t : Fin grid0.N, _)

/-- The gradient a grid point forms is the reference's at the places it writes, and the other entries are those there. -/
theorem entries (t : Fin cfg0.N) (j : S256x1024.Idx) :
    iblk m c 2 t j = V m c main_arg2 (((cfg0.win 5).blk t).view.emb j)
    ∧ out0_5 (F := Ideal) (iblk m c 0 t) (iblk m c 1 t) (iblk m c 2 t) (iblk m c 3 t) (iblk m c 4 t) j
      = val_main_v3 (F := Ideal) (V m c main_arg0) (V m c main_arg1) (((cfg0.win 5).blk t).view.emb j)
    ∧ iblk m c 3 t j = V m c main_arg3 (((cfg0.win 5).blk t).view.emb j)
    ∧ iblk m c 4 t j = V m c main_arg4 (((cfg0.win 5).blk t).view.emb j) := by
  obtain ⟨⟨a0, a1⟩, ⟨b0, b1⟩, ⟨d0, d1⟩, ⟨f0, f1⟩, ⟨g0, g1⟩, e0, e1⟩ := index t
  refine ⟨by blk_ext! [iblk, d0, d1, e0, e1], ?_, by blk_ext! [iblk, f0, f1, e0, e1], by blk_ext! [iblk, g0, g1, e0, e1]⟩
  rw [gradient, gradient_reference]
  refine Finset.sum_congr rfl fun k _ => congrArg₂ (· * ·) (congrArg silu ?_) ?_
  · refine Eq.trans ?_ (turned m c _ k)
    blk_ext! [iblk, a0, a1, e0, e1]
  · blk_ext! [iblk, b0, b1, e0, e1]

/-- The call steps the matrix. -/
theorem final : Step (V m c main_arg2) (val_main_v3 (F := Ideal) (V m c main_arg0) (V m c main_arg1)) (V m c main_arg3)
    (V m c main_arg4) ((dats m 0 c).arrAt 5 cfg0.N) ((dats m 0 c).arrAt 6 cfg0.N) ((dats m 0 c).arrAt 7 cfg0.N)
    ((dats m 0 c).arrAt 8 cfg0.N) := by
  have s (t : Fin cfg0.N) (j : S256x1024.Idx) := (tile ..).of_block (entries m c t j)
  refine ⟨(dats m 0 c).arrAt_eq_of_cover 5 _ (fun t _ => ?_)
      (Pipeline.Window.Covers.cover win0_5 (by decide +kernel) (Memref.isWhole_whole _)),
    (dats m 0 c).arrAt_eq_of_cover 6 _ (fun t _ => ?_)
      (Pipeline.Window.Covers.cover win0_6 (by decide +kernel) (Memref.isWhole_whole _)),
    (dats m 0 c).arrAt_eq_of_cover 7 _ (fun t _ => ?_)
      (Pipeline.Window.Covers.cover win0_7 (by decide +kernel) (Memref.isWhole_whole _)),
    (dats m 0 c).arrAt_eq_of_cover 8 _ (fun t _ => ?_)
      (Pipeline.Window.Covers.cover win0_8 (by decide +kernel) (Memref.isWhole_whole _))⟩
  · exact (congrArg ((cfg0.win 5).cut (grid0.coords t)) (after0_5 m c t)).trans (funext fun j => (s t j).1)
  · exact (congrArg ((cfg0.win 6).cut (grid0.coords t)) (after0_6 m c t)).trans (funext fun j => (s t j).2.1)
  · exact (congrArg ((cfg0.win 7).cut (grid0.coords t)) (after0_7 m c t)).trans (funext fun j => (s t j).2.2.1)
  · exact (congrArg ((cfg0.win 8).cut (grid0.coords t)) (after0_8 m c t)).trans (funext fun j => (s t j).2.2.2)

/-- The call ends with those four arrays and keeps its arguments. -/
theorem run (g : Dev nD → PrngReg) : θ_run defs (onTc (τ := τ) (main (F := Ideal))) ⟨m, fun _ => 0, g⟩ fun r => ∀ c : Dev nD,
      r.2.mem ((c : Thread nD τ).loc main_v1_0) = (dats m 0 c).arrAt 5 cfg0.N
      ∧ r.2.mem ((c : Thread nD τ).loc main_v1_1) = (dats m 0 c).arrAt 6 cfg0.N
      ∧ r.2.mem ((c : Thread nD τ).loc main_v1_2) = (dats m 0 c).arrAt 7 cfg0.N
      ∧ r.2.mem ((c : Thread nD τ).loc main_v1_3) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  refine (θ_run defs _ _).mono (fun r h c => ?_) (run_main m g)
  have kept (w : Fin 9) (hw) := ((h c).1 w).trans (((dats m 0 c).arrAt_in w hw _).trans (A_eq m c w))
  exact ⟨(h c).1 5, (h c).1 6, (h c).1 7, (h c).1 8,
    ((h c).2 main_arg0 (Pipeline.mem_restRefs_of main_arg0 (by decide) (by decide))).trans (V_main_arg0 m c),
    (kept 1 rfl).trans (V_main_arg1 m c), (kept 2 rfl).trans (V_main_arg2 m c), (kept 3 rfl).trans (V_main_arg3 m c),
    (kept 4 rfl).trans (V_main_arg4 m c)⟩

end Cert.CallWada

end
-- ==== Proof.Steps.lean ====
/- The five calls that step weights end with their references' arrays. -/
module

public import proofs.«01_k».proof.Defs
public import proofs.«01_k».proof.Proof.AdamHalves
public import proofs.«01_k».proof.Proof.Wada
public import proofs.«01_k».proof.Proof.Runs
public import proofs.«01_k».proof.Proof.Gen.RefAdamInIdeal.Run
public import proofs.«01_k».proof.Proof.Gen.RefAdamUpIdeal.Run
public import proofs.«01_k».proof.Proof.Gen.RefAdamOutIdeal.Run
public import proofs.«01_k».proof.Proof.Gen.RefAdamDownIdeal.Run
public import proofs.«01_k».proof.Proof.Gen.RefWadaIdeal.Run

@[expose] public section

set_option maxRecDepth 16384

noncomputable section

open Idealize.ShloMosaic Idealize.ShloMosaic.TcCoe Cert.Runs

namespace Cert

theorem CallAdamIn.equal : algebraic_AdamInIdeal_RefAdamInIdeal := fun m g m' g' _ e =>
  ⟨_, _, _, _, AdamInIdeal.Value.run_blocks m g, ends_four (RefAdamInIdeal.Value.run (F := Ideal) m' g') fun c =>
    (CallAdamIn.reference ..).unique (CallAdamIn.final m c) (e c)⟩

theorem CallAdamUp.equal : algebraic_AdamUpIdeal_RefAdamUpIdeal := fun m g m' g' _ e =>
  ⟨_, _, _, _, AdamUpIdeal.Value.run_blocks m g, ends_four (RefAdamUpIdeal.Value.run (F := Ideal) m' g') fun c =>
    (CallAdamUp.reference ..).unique (CallAdamUp.final m c) (e c)⟩

theorem CallAdamOut.equal : algebraic_AdamOutIdeal_RefAdamOutIdeal := fun m g m' g' _ e =>
  ⟨_, _, _, _, AdamOutIdeal.Value.run_blocks m g, ends_four (RefAdamOutIdeal.Value.run (F := Ideal) m' g') fun c =>
    (CallAdamOut.reference ..).unique (CallAdamOut.final m c)
      ⟨(e c).1, congrArg (RefAdamOutIdeal.Read.val_main_v1 (F := Ideal)) (e c).2.1, (e c).2.2⟩⟩

theorem CallAdamDown.equal : algebraic_AdamDownIdeal_RefAdamDownIdeal := fun m g m' g' _ e =>
  ⟨_, _, _, _, AdamDownIdeal.Value.run_blocks m g, ends_four (RefAdamDownIdeal.Value.run (F := Ideal) m' g') fun c =>
    (CallAdamDown.reference ..).unique (CallAdamDown.final m c)
      ⟨(e c).1, congrArg (RefAdamDownIdeal.Read.val_main_v1 (F := Ideal)) (e c).2.1, (e c).2.2⟩⟩

theorem CallWada.equal : algebraic_WadaIdeal_RefWadaIdeal := fun m g m' g' _ e =>
  ⟨_, _, _, _, CallWada.run m g, ends_four (RefWadaIdeal.Value.run (F := Ideal) m' g') fun c => by
    have f := CallWada.final m c
    rw [WadaIdeal.Gen.V_main_arg0, WadaIdeal.Gen.V_main_arg1, WadaIdeal.Gen.V_main_arg2, WadaIdeal.Gen.V_main_arg3,
      WadaIdeal.Gen.V_main_arg4] at f
    obtain ⟨e0, e1, e2, e3, e4⟩ := e c
    exact (CallWada.reference ..).unique f ⟨e2, congrArg₂ (RefWadaIdeal.Read.val_main_v3 (F := Ideal)) e0 e1, e3, e4⟩⟩

end Cert

end
-- ==== Proof.lean ====
/- What is claimed of the kernel and its reference, put together from the modules beside this one: that each
   program runs, keeps its arguments and ends with every semaphore counter at zero; that the two constants named
   are the ones written; and that, where every argument but the columns passed through is finite, kernel and
   reference end with the same five arrays over the extended reals. The same, with no condition on the arguments, of the
   step's twelve product calls and of the five calls that step weights. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.MmIn
public import proofs.«01_k».proof.Proof.Gen.MmIn.Frame
public import proofs.«01_k».proof.Proof.Gen.MmInIdeal.Value
public import proofs.«01_k».proof.Proof.Gen.MmInIdeal.Frame
public import proofs.«01_k».proof.Proof.Gen.RefMmInIdeal.Run
public import proofs.«01_k».proof.Proof.Gen.RefMmInIdeal.Read
public import proofs.«01_k».proof.Proof.Gen.MmOut
public import proofs.«01_k».proof.Proof.Gen.MmOut.Frame
public import proofs.«01_k».proof.Proof.Gen.MmOutIdeal.Value
public import proofs.«01_k».proof.Proof.Gen.MmOutIdeal.Frame
public import proofs.«01_k».proof.Proof.Gen.RefMmOutIdeal.Run
public import proofs.«01_k».proof.Proof.Gen.RefMmOutIdeal.Read
public import proofs.«01_k».proof.Proof.Gen.MmUp
public import proofs.«01_k».proof.Proof.Gen.MmUp.Frame
public import proofs.«01_k».proof.Proof.Gen.MmUpIdeal.Value
public import proofs.«01_k».proof.Proof.Gen.MmUpIdeal.Frame
public import proofs.«01_k».proof.Proof.Gen.RefMmUpIdeal.Run
public import proofs.«01_k».proof.Proof.Gen.RefMmUpIdeal.Read
public import proofs.«01_k».proof.Proof.Gen.MmDown
public import proofs.«01_k».proof.Proof.Gen.MmDown.Frame
public import proofs.«01_k».proof.Proof.Gen.MmDownIdeal.Value
public import proofs.«01_k».proof.Proof.Gen.MmDownIdeal.Frame
public import proofs.«01_k».proof.Proof.Gen.RefMmDownIdeal.Run
public import proofs.«01_k».proof.Proof.Gen.RefMmDownIdeal.Read
public import proofs.«01_k».proof.Proof.Gen.DAct
public import proofs.«01_k».proof.Proof.Gen.DAct.Frame
public import proofs.«01_k».proof.Proof.Gen.DActIdeal.Value
public import proofs.«01_k».proof.Proof.Gen.DActIdeal.Frame
public import proofs.«01_k».proof.Proof.Gen.RefDActIdeal.Run
public import proofs.«01_k».proof.Proof.Gen.RefDActIdeal.Read
public import proofs.«01_k».proof.Proof.Gen.GwDown
public import proofs.«01_k».proof.Proof.Gen.GwDown.Frame
public import proofs.«01_k».proof.Proof.Gen.GwDownIdeal.Value
public import proofs.«01_k».proof.Proof.Gen.GwDownIdeal.Frame
public import proofs.«01_k».proof.Proof.Gen.RefGwDownIdeal.Run
public import proofs.«01_k».proof.Proof.Gen.RefGwDownIdeal.Read
public import proofs.«01_k».proof.Proof.Gen.DH2
public import proofs.«01_k».proof.Proof.Gen.DH2.Frame
public import proofs.«01_k».proof.Proof.Gen.DH2Ideal.Value
public import proofs.«01_k».proof.Proof.Gen.DH2Ideal.Frame
public import proofs.«01_k».proof.Proof.Gen.RefDH2Ideal.Run
public import proofs.«01_k».proof.Proof.Gen.RefDH2Ideal.Read
public import proofs.«01_k».proof.Proof.Gen.GwUp
public import proofs.«01_k».proof.Proof.Gen.GwUp.Frame
public import proofs.«01_k».proof.Proof.Gen.GwUpIdeal.Value
public import proofs.«01_k».proof.Proof.Gen.GwUpIdeal.Frame
public import proofs.«01_k».proof.Proof.Gen.RefGwUpIdeal.Run
public import proofs.«01_k».proof.Proof.Gen.RefGwUpIdeal.Read
public import proofs.«01_k».proof.Proof.Gen.DYcat
public import proofs.«01_k».proof.Proof.Gen.DYcat.Frame
public import proofs.«01_k».proof.Proof.Gen.DYcatIdeal.Value
public import proofs.«01_k».proof.Proof.Gen.DYcatIdeal.Frame
public import proofs.«01_k».proof.Proof.Gen.RefDYcatIdeal.Run
public import proofs.«01_k».proof.Proof.Gen.RefDYcatIdeal.Read
public import proofs.«01_k».proof.Proof.Gen.GwOut
public import proofs.«01_k».proof.Proof.Gen.GwOut.Frame
public import proofs.«01_k».proof.Proof.Gen.GwOutIdeal.Value
public import proofs.«01_k».proof.Proof.Gen.GwOutIdeal.Frame
public import proofs.«01_k».proof.Proof.Gen.RefGwOutIdeal.Run
public import proofs.«01_k».proof.Proof.Gen.RefGwOutIdeal.Read
public import proofs.«01_k».proof.Proof.Gen.DH1
public import proofs.«01_k».proof.Proof.Gen.DH1.Frame
public import proofs.«01_k».proof.Proof.Gen.DH1Ideal.Value
public import proofs.«01_k».proof.Proof.Gen.DH1Ideal.Frame
public import proofs.«01_k».proof.Proof.Gen.RefDH1Ideal.Run
public import proofs.«01_k».proof.Proof.Gen.RefDH1Ideal.Read
public import proofs.«01_k».proof.Proof.Gen.GwIn
public import proofs.«01_k».proof.Proof.Gen.GwIn.Frame
public import proofs.«01_k».proof.Proof.Gen.GwInIdeal.Value
public import proofs.«01_k».proof.Proof.Gen.GwInIdeal.Frame
public import proofs.«01_k».proof.Proof.Gen.RefGwInIdeal.Run
public import proofs.«01_k».proof.Proof.Gen.RefGwInIdeal.Read
public import proofs.«01_k».proof.Proof.Gen.Wada
public import proofs.«01_k».proof.Proof.Gen.Wada.Frame
public import proofs.«01_k».proof.Proof.Gen.WadaIdeal.Frame
public import proofs.«01_k».proof.Proof.Gen.RefWadaIdeal.Run
public import proofs.«01_k».proof.Proof.Gen.RefWadaIdeal.Read
public import proofs.«01_k».proof.Proof.Gen.AdamIn
public import proofs.«01_k».proof.Proof.Gen.AdamIn.Frame
public import proofs.«01_k».proof.Proof.Gen.AdamInIdeal.Value
public import proofs.«01_k».proof.Proof.Gen.AdamInIdeal.Frame
public import proofs.«01_k».proof.Proof.Gen.RefAdamInIdeal.Run
public import proofs.«01_k».proof.Proof.Gen.RefAdamInIdeal.Read
public import proofs.«01_k».proof.Proof.Gen.AdamUp
public import proofs.«01_k».proof.Proof.Gen.AdamUp.Frame
public import proofs.«01_k».proof.Proof.Gen.AdamUpIdeal.Value
public import proofs.«01_k».proof.Proof.Gen.AdamUpIdeal.Frame
public import proofs.«01_k».proof.Proof.Gen.RefAdamUpIdeal.Run
public import proofs.«01_k».proof.Proof.Gen.RefAdamUpIdeal.Read
public import proofs.«01_k».proof.Proof.Gen.AdamOut
public import proofs.«01_k».proof.Proof.Gen.AdamOut.Frame
public import proofs.«01_k».proof.Proof.Gen.AdamOutIdeal.Value
public import proofs.«01_k».proof.Proof.Gen.AdamOutIdeal.Frame
public import proofs.«01_k».proof.Proof.Gen.RefAdamOutIdeal.Run
public import proofs.«01_k».proof.Proof.Gen.RefAdamOutIdeal.Read
public import proofs.«01_k».proof.Proof.Gen.AdamDown
public import proofs.«01_k».proof.Proof.Gen.AdamDown.Frame
public import proofs.«01_k».proof.Proof.Gen.AdamDownIdeal.Value
public import proofs.«01_k».proof.Proof.Gen.AdamDownIdeal.Frame
public import proofs.«01_k».proof.Proof.Gen.RefAdamDownIdeal.Run
public import proofs.«01_k».proof.Proof.Gen.RefAdamDownIdeal.Read
public import proofs.«01_k».proof.Proof.Host
public import proofs.«01_k».proof.Proof.Finite
public import proofs.«01_k».proof.Proof.Final
public import proofs.«01_k».proof.Proof.Calls
public import proofs.«01_k».proof.Proof.Steps
public import Idealize.ShloMosaic.Lib.Quiescent

@[expose] public section

set_option maxRecDepth 16384

noncomputable section

namespace Cert.Proof

open Idealize.ShloMosaic Idealize.ShloMosaic.StableHlo Idealize.ShloMosaic.TcCoe Idealize.SL.Sem
open Cert.Forms Cert.Gate Cert.Fold Cert.Ref Cert.Runs

/-- The shapes the precondition's operations take. -/
theorem finite_facts : Cert.Pre_finite.Facts where
  bcast_S_S2048x3072 := by decide
  reducesTo_S2048x3072_S_d0_1 := by decide
  h_S_ := by decide
  bcast_S_S2048x1024 := by decide
  reducesTo_S2048x1024_S_d0_1 := by decide
  bcast_S_S1x1024 := by decide
  reducesTo_S1x1024_S_d0_1 := by decide
  bcast_S_S8x128x128 := by decide
  reducesTo_S8x128x128_S_d0_1_2 := by decide
  bcast_S_S8x128 := by decide
  reducesTo_S8x128_S_d0_1 := by decide

/-- The reference runs and keeps its arguments; it has no semaphore. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0) :=
  (θ_run Cert.ReferenceIdeal.defs _ _).mono
    (fun r h => ⟨fun c => (h c).2.2.2.2.2, sem_eq_zero_of_no_sems (by decide) r.2⟩)
    (Cert.ReferenceIdeal.Value.run (F := Ideal) m g)

/-- The two named constants. -/
theorem constants : Cert.preserves_Kernel_KernelIdeal :=
  ⟨IdealRules.named_const.statement Cert.KernelIdeal.κ "gelu_a" .f32 0x3D372713#32 ((8943 / 200000 : ℝ) : EReal) rfl,
    IdealRules.named_const.statement Cert.KernelIdeal.κ "gelu_3a" .f32 0x3E095D4F#32 ((26829 / 200000 : ℝ) : EReal) rfl⟩

/-- The kernel's five arrays and the reference's, from the same finite arguments. -/
theorem same (m : (ℓ : Loc Cert.KernelIdeal.nD Cert.KernelIdeal.τ Cert.KernelIdeal.sig) → Buf (Elt Ideal) ℓ)
    (c : Dev Cert.KernelIdeal.nD)
    (h : haveI := finite_facts; Cert.Pre_finite.fn (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) = fun _ => 1#1) :
    Cert.ReferenceIdeal.Read.val_main_v154 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
      = (Cert.KernelIdeal.Gen.dats m 0 c).arrAt 8 Cert.KernelIdeal.cfg0.N
    ∧ Cert.ReferenceIdeal.Read.val_main_v100 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg5))
      = (Cert.KernelIdeal.Gen.dats m 0 c).arrAt 9 Cert.KernelIdeal.cfg0.N
    ∧ Cert.ReferenceIdeal.Read.val_main_v97 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg5))
      = (Cert.KernelIdeal.Gen.dats m 0 c).arrAt 10 Cert.KernelIdeal.cfg0.N
    ∧ Cert.ReferenceIdeal.Read.val_main_v92 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
      = (Cert.KernelIdeal.Gen.dats m 0 c).arrAt 11 Cert.KernelIdeal.cfg0.N
    ∧ Cert.ReferenceIdeal.Read.val_main_v155 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
      = (Cert.KernelIdeal.Gen.dats m 0 c).arrAt 12 Cert.KernelIdeal.cfg0.N := by
  haveI := finite_facts
  obtain ⟨⟨z, h0⟩, ⟨dy, h1⟩, ⟨g, h3⟩, ⟨b, h4⟩, ⟨w, h5⟩, ⟨s, h6⟩⟩ := Cert.Finite.reals _ _ _ _ _ _ _ h
  have H := found m c h0 h1 h3 h4 h5 h6
  rw [final8 H, final9 H, final10 H, final11 H, final12 H, h0, h1, h3, h4, h5, h6]
  let E : Data := ⟨z, dy, g, b, w, s⟩
  exact ⟨res154 E _, res100 E, res97 E, res92 E, res155 E⟩

/-- Kernel and reference end with the same arrays. -/
theorem equal : haveI := finite_facts; Cert.algebraic_KernelIdeal_ReferenceIdeal_pre_finite := by
  haveI := finite_facts
  intro m g m' g' hpre hargs
  refine ⟨fun c => (Cert.KernelIdeal.Gen.dats m 0 c).arrAt 8 Cert.KernelIdeal.cfg0.N,
    fun c => (Cert.KernelIdeal.Gen.dats m 0 c).arrAt 9 Cert.KernelIdeal.cfg0.N,
    fun c => (Cert.KernelIdeal.Gen.dats m 0 c).arrAt 10 Cert.KernelIdeal.cfg0.N,
    fun c => (Cert.KernelIdeal.Gen.dats m 0 c).arrAt 11 Cert.KernelIdeal.cfg0.N,
    fun c => (Cert.KernelIdeal.Gen.dats m 0 c).arrAt 12 Cert.KernelIdeal.cfg0.N,
    Cert.KernelIdeal.Value.run_blocks m g, ?_⟩
  refine (θ_run Cert.ReferenceIdeal.defs _ _).mono (fun r h c => ?_) (Cert.ReferenceIdeal.Value.run (F := Ideal) m' g')
  obtain ⟨h154, h100, h97, h92, h155, hk⟩ := h c
  obtain ⟨e0, e1, e2, e3, e4, e5, e6⟩ := hargs c
  obtain ⟨k154, k100, k97, k92, k155⟩ := same m c (hpre c)
  have r154 := h154.trans (Cert.ReferenceIdeal.Read.val_main_v154_eq (launchContents m' c))
  have r100 := h100.trans (Cert.ReferenceIdeal.Read.val_main_v100_eq (launchContents m' c))
  have r97 := h97.trans (Cert.ReferenceIdeal.Read.val_main_v97_eq (launchContents m' c))
  have r92 := h92.trans (Cert.ReferenceIdeal.Read.val_main_v92_eq (launchContents m' c))
  have r155 := h155.trans (Cert.ReferenceIdeal.Read.val_main_v155_eq (launchContents m' c))
  have l0 : launchContents m' c (Proc.devRef .tc Cert.ReferenceIdeal.main_arg0) = m ((c.tc : Thread Cert.KernelIdeal.nD Cert.KernelIdeal.τ).loc Cert.KernelIdeal.main_arg0) := e0
  have l1 : launchContents m' c (Proc.devRef .tc Cert.ReferenceIdeal.main_arg1) = m ((c.tc : Thread Cert.KernelIdeal.nD Cert.KernelIdeal.τ).loc Cert.KernelIdeal.main_arg1) := e1
  have l2 : launchContents m' c (Proc.devRef .tc Cert.ReferenceIdeal.main_arg2) = m ((c.tc : Thread Cert.KernelIdeal.nD Cert.KernelIdeal.τ).loc Cert.KernelIdeal.main_arg2) := e2
  have l3 : launchContents m' c (Proc.devRef .tc Cert.ReferenceIdeal.main_arg3) = m ((c.tc : Thread Cert.KernelIdeal.nD Cert.KernelIdeal.τ).loc Cert.KernelIdeal.main_arg3) := e3
  have l4 : launchContents m' c (Proc.devRef .tc Cert.ReferenceIdeal.main_arg4) = m ((c.tc : Thread Cert.KernelIdeal.nD Cert.KernelIdeal.τ).loc Cert.KernelIdeal.main_arg4) := e4
  have l5 : launchContents m' c (Proc.devRef .tc Cert.ReferenceIdeal.main_arg5) = m ((c.tc : Thread Cert.KernelIdeal.nD Cert.KernelIdeal.τ).loc Cert.KernelIdeal.main_arg5) := e5
  have l6 : launchContents m' c (Proc.devRef .tc Cert.ReferenceIdeal.main_arg6) = m ((c.tc : Thread Cert.KernelIdeal.nD Cert.KernelIdeal.τ).loc Cert.KernelIdeal.main_arg6) := e6
  rw [l0, l1, l2, l3, l4, l5, l6] at r154
  rw [l0, l1, l5] at r100
  rw [l0, l1, l5] at r97
  rw [l0, l1, l3, l4] at r92
  rw [l0, l1] at r155
  exact ⟨r154.trans k154, r100.trans k100, r97.trans k97, r92.trans k92, r155.trans k155, hk⟩

theorem claim : Cert.Claim :=
  ⟨Cert.Kernel.Gen.facts, Cert.KernelIdeal.Gen.facts, Cert.ReferenceIdeal.Gen.facts,
    Cert.MmIn.Gen.facts, Cert.MmInIdeal.Gen.facts, Cert.RefMmInIdeal.Gen.facts,
    Cert.MmOut.Gen.facts, Cert.MmOutIdeal.Gen.facts, Cert.RefMmOutIdeal.Gen.facts,
    Cert.MmUp.Gen.facts, Cert.MmUpIdeal.Gen.facts, Cert.RefMmUpIdeal.Gen.facts,
    Cert.MmDown.Gen.facts, Cert.MmDownIdeal.Gen.facts, Cert.RefMmDownIdeal.Gen.facts,
    Cert.DAct.Gen.facts, Cert.DActIdeal.Gen.facts, Cert.RefDActIdeal.Gen.facts,
    Cert.GwDown.Gen.facts, Cert.GwDownIdeal.Gen.facts, Cert.RefGwDownIdeal.Gen.facts,
    Cert.DH2.Gen.facts, Cert.DH2Ideal.Gen.facts, Cert.RefDH2Ideal.Gen.facts,
    Cert.GwUp.Gen.facts, Cert.GwUpIdeal.Gen.facts, Cert.RefGwUpIdeal.Gen.facts,
    Cert.DYcat.Gen.facts, Cert.DYcatIdeal.Gen.facts, Cert.RefDYcatIdeal.Gen.facts,
    Cert.GwOut.Gen.facts, Cert.GwOutIdeal.Gen.facts, Cert.RefGwOutIdeal.Gen.facts,
    Cert.DH1.Gen.facts, Cert.DH1Ideal.Gen.facts, Cert.RefDH1Ideal.Gen.facts,
    Cert.GwIn.Gen.facts, Cert.GwInIdeal.Gen.facts, Cert.RefGwInIdeal.Gen.facts,
    Cert.Wada.Gen.facts, Cert.WadaIdeal.Gen.facts, Cert.RefWadaIdeal.Gen.facts,
    Cert.AdamIn.Gen.facts, Cert.AdamInIdeal.Gen.facts, Cert.RefAdamInIdeal.Gen.facts,
    Cert.AdamUp.Gen.facts, Cert.AdamUpIdeal.Gen.facts, Cert.RefAdamUpIdeal.Gen.facts,
    Cert.AdamOut.Gen.facts, Cert.AdamOutIdeal.Gen.facts, Cert.RefAdamOutIdeal.Gen.facts,
    Cert.AdamDown.Gen.facts, Cert.AdamDownIdeal.Gen.facts, Cert.RefAdamDownIdeal.Gen.facts,
    finite_facts,
    fun m g _ => Cert.Kernel.Gen.frame m g,
    fun m g _ => Cert.KernelIdeal.Gen.frame m g,
    fun m g _ => Cert.KernelIdeal.Gen.frame m g,
    fun m g _ => frame_reference m g,
    fun m g _ => frame_reference m g,
    fun m g _ => Cert.MmIn.Gen.frame m g, fun m g _ => Cert.MmInIdeal.Gen.frame m g,
    fun m g _ => keeps (Cert.RefMmInIdeal.Value.run m g) (by decide),
    fun m g _ => Cert.MmOut.Gen.frame m g, fun m g _ => Cert.MmOutIdeal.Gen.frame m g,
    fun m g _ => keeps (Cert.RefMmOutIdeal.Value.run m g) (by decide),
    fun m g _ => Cert.MmUp.Gen.frame m g, fun m g _ => Cert.MmUpIdeal.Gen.frame m g,
    fun m g _ => keeps (Cert.RefMmUpIdeal.Value.run m g) (by decide),
    fun m g _ => Cert.MmDown.Gen.frame m g, fun m g _ => Cert.MmDownIdeal.Gen.frame m g,
    fun m g _ => keeps (Cert.RefMmDownIdeal.Value.run m g) (by decide),
    fun m g _ => Cert.DAct.Gen.frame m g, fun m g _ => Cert.DActIdeal.Gen.frame m g,
    fun m g _ => keeps (Cert.RefDActIdeal.Value.run m g) (by decide),
    fun m g _ => Cert.GwDown.Gen.frame m g, fun m g _ => Cert.GwDownIdeal.Gen.frame m g,
    fun m g _ => keeps (Cert.RefGwDownIdeal.Value.run m g) (by decide),
    fun m g _ => Cert.DH2.Gen.frame m g, fun m g _ => Cert.DH2Ideal.Gen.frame m g,
    fun m g _ => keeps (Cert.RefDH2Ideal.Value.run m g) (by decide),
    fun m g _ => Cert.GwUp.Gen.frame m g, fun m g _ => Cert.GwUpIdeal.Gen.frame m g,
    fun m g _ => keeps (Cert.RefGwUpIdeal.Value.run m g) (by decide),
    fun m g _ => Cert.DYcat.Gen.frame m g, fun m g _ => Cert.DYcatIdeal.Gen.frame m g,
    fun m g _ => keeps (Cert.RefDYcatIdeal.Value.run m g) (by decide),
    fun m g _ => Cert.GwOut.Gen.frame m g, fun m g _ => Cert.GwOutIdeal.Gen.frame m g,
    fun m g _ => keeps (Cert.RefGwOutIdeal.Value.run m g) (by decide),
    fun m g _ => Cert.DH1.Gen.frame m g, fun m g _ => Cert.DH1Ideal.Gen.frame m g,
    fun m g _ => keeps (Cert.RefDH1Ideal.Value.run m g) (by decide),
    fun m g _ => Cert.GwIn.Gen.frame m g, fun m g _ => Cert.GwInIdeal.Gen.frame m g,
    fun m g _ => keeps (Cert.RefGwInIdeal.Value.run m g) (by decide),
    fun m g _ => Cert.Wada.Gen.frame m g, fun m g _ => Cert.WadaIdeal.Gen.frame m g,
    fun m g _ => keeps (rest (rest (rest (Cert.RefWadaIdeal.Value.run m g)))) (by decide),
    fun m g _ => Cert.AdamIn.Gen.frame m g, fun m g _ => Cert.AdamInIdeal.Gen.frame m g,
    fun m g _ => keeps (rest (rest (rest (Cert.RefAdamInIdeal.Value.run m g)))) (by decide),
    fun m g _ => Cert.AdamUp.Gen.frame m g, fun m g _ => Cert.AdamUpIdeal.Gen.frame m g,
    fun m g _ => keeps (rest (rest (rest (Cert.RefAdamUpIdeal.Value.run m g)))) (by decide),
    fun m g _ => Cert.AdamOut.Gen.frame m g, fun m g _ => Cert.AdamOutIdeal.Gen.frame m g,
    fun m g _ => keeps (rest (rest (rest (Cert.RefAdamOutIdeal.Value.run m g)))) (by decide),
    fun m g _ => Cert.AdamDown.Gen.frame m g, fun m g _ => Cert.AdamDownIdeal.Gen.frame m g,
    fun m g _ => keeps (rest (rest (rest (Cert.RefAdamDownIdeal.Value.run m g)))) (by decide),
    constants,
    equal,
    trivial, Cert.CallMmIn.equal,
    trivial, Cert.CallMmOut.equal,
    trivial, Cert.CallMmUp.equal,
    trivial, Cert.CallMmDown.equal,
    trivial, Cert.CallDAct.equal,
    trivial, Cert.CallGwDown.equal,
    trivial, Cert.CallDH2.equal,
    trivial, Cert.CallGwUp.equal,
    trivial, Cert.CallDYcat.equal,
    trivial, Cert.CallGwOut.equal,
    trivial, Cert.CallDH1.equal,
    trivial, Cert.CallGwIn.equal,
    trivial, Cert.CallWada.equal,
    trivial, Cert.CallAdamIn.equal,
    trivial, Cert.CallAdamUp.equal,
    trivial, Cert.CallAdamOut.equal,
    trivial, Cert.CallAdamDown.equal⟩

end Cert.Proof

end
